-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_v123) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v137) = v1 c
          ∧ r.2.mem ((c.tc : Thread Cert.Reference3Ideal.nD Cert.Reference3Ideal.τ).loc Cert.Reference3Ideal.main_v138) = v2 c
          ∧ r.2.mem ((c.tc : Thread Cert.Reference3Ideal.nD Cert.Reference3Ideal.τ).loc Cert.Reference3Ideal.main_v139) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S1x128x8x64x64 : Shape := ⟨5, ![1, 128, 8, 64, 64]⟩
abbrev S128x512 : Shape := ⟨2, ![128, 512]⟩
abbrev S512x128 : Shape := ⟨2, ![512, 128]⟩
abbrev S1x512x128 : Shape := ⟨3, ![1, 512, 128]⟩
abbrev S6x512x128 : Shape := ⟨3, ![6, 512, 128]⟩
abbrev S128x8x64x64 : Shape := ⟨4, ![128, 8, 64, 64]⟩
abbrev S8x64x64x128 : Shape := ⟨4, ![8, 64, 64, 128]⟩
abbrev S6x8x64x128 : Shape := ⟨4, ![6, 8, 64, 128]⟩
abbrev S8x64x128 : Shape := ⟨3, ![8, 64, 128]⟩
abbrev S3x1x64x64x128 : Shape := ⟨5, ![3, 1, 64, 64, 128]⟩
abbrev S3 : Shape := ⟨1, ![3]⟩
abbrev S2x6x1x64x128 : Shape := ⟨5, ![2, 6, 1, 64, 128]⟩
abbrev S2 : Shape := ⟨1, ![2]⟩
abbrev S2x1x1x64x128 : Shape := ⟨5, ![2, 1, 1, 64, 128]⟩
abbrev S2x1x64x64x128 : Shape := ⟨5, ![2, 1, 64, 64, 128]⟩
abbrev S2x1x64x128 : Shape := ⟨4, ![2, 1, 64, 128]⟩
abbrev S1 : Shape := ⟨1, ![1]⟩
abbrev S_ : Shape := ⟨0, ![]⟩
abbrev S1x1x64x64x128 : Shape := ⟨5, ![1, 1, 64, 64, 128]⟩
abbrev S1x64x64x128 : Shape := ⟨4, ![1, 64, 64, 128]⟩
abbrev S1x6x1x64x128 : Shape := ⟨5, ![1, 6, 1, 64, 128]⟩
abbrev S6x1x64x128 : Shape := ⟨4, ![6, 1, 64, 128]⟩
abbrev S1x1x1x64x128 : Shape := ⟨5, ![1, 1, 1, 64, 128]⟩
abbrev S1x1x64x128 : Shape := ⟨4, ![1, 1, 64, 128]⟩
abbrev S64x128 : Shape := ⟨2, ![64, 128]⟩
abbrev S1x1x1x128 : Shape := ⟨4, ![1, 1, 1, 128]⟩
abbrev S1x128 : Shape := ⟨2, ![1, 128]⟩
abbrev S128 : Shape := ⟨1, ![128]⟩
abbrev S1x64x128 : Shape := ⟨3, ![1, 64, 128]⟩
abbrev S1x1x128 : Shape := ⟨3, ![1, 1, 128]⟩

abbrev nBuf : Space → Nat
  | .hbm => 25
  | .vmem => 5
  | .smem => 0
  | _ => 0

abbrev bufTy : (tb : Table) → Fin (tcTables nBuf tb) → BufTy
  | .hbm, ⟨0, _⟩ => ⟨S1x128x8x64x64, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S1x512x128, .f32⟩
  | .hbm, ⟨14, _⟩ => ⟨S1x512x128, .f32⟩
  | .hbm, ⟨15, _⟩ => ⟨S1x512x128, .f32⟩
  | .hbm, ⟨16, _⟩ => ⟨S1x512x128, .f32⟩
  | .hbm, ⟨17, _⟩ => ⟨S1x512x128, .f32⟩
  | .hbm, ⟨18, _⟩ => ⟨S1x512x128, .f32⟩
  | .hbm, ⟨19, _⟩ => ⟨S6x512x128, .f32⟩
  | .hbm, ⟨20, _⟩ => ⟨S128x8x64x64, .f32⟩
  | .hbm, ⟨21, _⟩ => ⟨S8x64x64x128, .f32⟩
  | .hbm, ⟨22, _⟩ => ⟨S6x8x64x128, .f32⟩
  | .hbm, ⟨23, _⟩ => ⟨S8x64x64x128, .f32⟩
  | .hbm, ⟨24, _⟩ => ⟨S8x64x128, .f32⟩
  | .local _ .vmem, ⟨0, _⟩ => ⟨S3x1x64x64x128, .f32⟩
  | .local _ .vmem, ⟨1, _⟩ => ⟨S2x6x1x64x128, .f32⟩
  | .local _ .vmem, ⟨2, _⟩ => ⟨S2x1x1x64x128, .f32⟩
  | .local _ .vmem, ⟨3, _⟩ => ⟨S2x1x64x64x128, .f32⟩
  | .local _ .vmem, ⟨4, _⟩ => ⟨S2x1x64x128, .f32⟩
  | _, _ => ⟨S1x128x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_36_r0 : BitVec 32 := 0#32
  let c3_i32_r0 : BitVec 32 := 3#32
  let v35_r0 : BitVec 32 := Scalar.remui c0_i32_36_r0 c3_i32_r0
  ![v35_r0.toNat]
def k0_off2 : Fin 5 → Nat :=
  let c0_i32_36_r0 : BitVec 32 := 0#32
  let c3_i32_r0 : BitVec 32 := 3#32
  let v35_r0 : BitVec 32 := Scalar.remui c0_i32_36_r0 c3_i32_r0
  let c0_i32_37_r0 : BitVec 32 := 0#32
  let c0_i32_38_r0 : BitVec 32 := 0#32
  let c0_i32_39_r0 : BitVec 32 := 0#32
  let c0_i32_40_r0 : BitVec 32 := 0#32
  ![v35_r0.toNat, 0, 0, 0, 0]
def k0_off3 : Fin 1 → Nat :=
  let c0_i32_47_r0 : BitVec 32 := 0#32
  let c2_i32_r0 : BitVec 32 := 2#32
  let v42_r0 : BitVec 32 := Scalar.remui c0_i32_47_r0 c2_i32_r0
  ![v42_r0.toNat]
def k0_off4 : Fin 5 → Nat :=
  let c0_i32_47_r0 : BitVec 32 := 0#32
  let c2_i32_r0 : BitVec 32 := 2#32
  let v42_r0 : BitVec 32 := Scalar.remui c0_i32_47_r0 c2_i32_r0
  let c0_i32_48_r0 : BitVec 32 := 0#32
  let c0_i32_49_r0 : BitVec 32 := 0#32
  let c0_i32_50_r0 : BitVec 32 := 0#32
  let c0_i32_51_r0 : BitVec 32 := 0#32
  ![v42_r0.toNat, 0, 0, 0, 0]
def k0_off5 : Fin 5 → Nat :=
  let c0_i32_58_r0 : BitVec 32 := 0#32
  let c2_i32_59_r0 : BitVec 32 := 2#32
  let v49_r0 : BitVec 32 := Scalar.remui c0_i32_58_r0 c2_i32_59_r0
  let c0_i32_60_r0 : BitVec 32 := 0#32
  let c0_i32_61_r0 : BitVec 32 := 0#32
  let c0_i32_62_r0 : BitVec 32 := 0#32
  let c0_i32_63_r0 : BitVec 32 := 0#32
  ![v49_r0.toNat, 0, 0, 0, 0]
def k0_cond1 : BitVec 1 :=
  let true_70_r0 : BitVec 1 := 1#1
  let true_10_r0 : BitVec 1 := 1#1
  let c1_i32_r0 : BitVec 32 := 1#32
  let c0_i32_11_r0 : BitVec 32 := 0#32
  let v12_r0 : BitVec 32 := Scalar.select true_10_r0 c1_i32_r0 c0_i32_11_r0
  let c1_i32_12_r0 : BitVec 32 := 1#32
  let v13_r0 : BitVec 1 := Scalar.cmpi .eq v12_r0 c1_i32_12_r0
  let c1_i32_15_r0 : BitVec 32 := 1#32
  let c0_i32_14_r0 : BitVec 32 := 0#32
  let v15_r0 : BitVec 32 := Scalar.select v13_r0 c1_i32_15_r0 c0_i32_14_r0
  let c8_i32_r0 : BitVec 32 := 8#32
  let v16_r0 : BitVec 1 := Scalar.cmpi .eq v15_r0 c8_i32_r0
  let c0_i32_16_r0 : BitVec 32 := 0#32
  let v17_r0 : BitVec 32 := Scalar.select v16_r0 c0_i32_16_r0 v15_r0
  let c0_i32_17_r0 : BitVec 32 := 0#32
  let v18_r0 : BitVec 32 := Scalar.addi v17_r0 c0_i32_17_r0
  let c0_i32_69_r0 : BitVec 32 := 0#32
  let v56_r0 : BitVec 1 := Scalar.cmpi .ne v18_r0 c0_i32_69_r0
  let v57_r0 : BitVec 1 := Scalar.andi true_70_r0 v56_r0
  let true_71_r0 : BitVec 1 := 1#1
  let v58_r0 : BitVec 1 := Scalar.andi v57_r0 true_71_r0
  let v59_r0 : BitVec 32 := Scalar.extui v58_r0
  let c0_i32_72_r0 : BitVec 32 := 0#32
  let v60_r0 : BitVec 1 := Scalar.cmpi .ne v59_r0 c0_i32_72_r0
  v60_r0

def k0_off6 : Fin 1 → Nat :=
  let c0_i32_45_r0 : BitVec 32 := 0#32
  let c1_i32_46_r0 : BitVec 32 := 1#32
  let v41_r0 : BitVec 32 := Scalar.addi c0_i32_45_r0 c1_i32_46_r0
  let c3_i32_147_r0 : BitVec 32 := 3#32
  let v120_r0 : BitVec 32 := Scalar.remui v41_r0 c3_i32_147_r0
  ![v120_r0.toNat]
def k0_off7 : Fin 5 → Nat :=
  let c0_i32_45_r0 : BitVec 32 := 0#32
  let c1_i32_46_r0 : BitVec 32 := 1#32
  let v41_r0 : BitVec 32 := Scalar.addi c0_i32_45_r0 c1_i32_46_r0
  let c3_i32_147_r0 : BitVec 32 := 3#32
  let v120_r0 : BitVec 32 := Scalar.remui v41_r0 c3_i32_147_r0
  let c0_i32_149_r0 : BitVec 32 := 0#32
  let c0_i32_150_r0 : BitVec 32 := 0#32
  let c0_i32_151_r0 : BitVec 32 := 0#32
  let c0_i32_152_r0 : BitVec 32 := 0#32
  ![v120_r0.toNat, 0, 0, 0, 0]
def k0_off8 : Fin 4 → Nat :=
  let c1_i32_148_r0 : BitVec 32 := 1#32
  let true_10_r0 : BitVec 1 := 1#1
  let c1_i32_r0 : BitVec 32 := 1#32
  let c0_i32_11_r0 : BitVec 32 := 0#32
  let v12_r0 : BitVec 32 := Scalar.select true_10_r0 c1_i32_r0 c0_i32_11_r0
  let c1_i32_12_r0 : BitVec 32 := 1#32
  let v13_r0 : BitVec 1 := Scalar.cmpi .eq v12_r0 c1_i32_12_r0
  let c1_i32_15_r0 : BitVec 32 := 1#32
  let c0_i32_14_r0 : BitVec 32 := 0#32
  let v15_r0 : BitVec 32 := Scalar.select v13_r0 c1_i32_15_r0 c0_i32_14_r0
  let c8_i32_r0 : BitVec 32 := 8#32
  let v16_r0 : BitVec 1 := Scalar.cmpi .eq v15_r0 c8_i32_r0
  let c0_i32_16_r0 : BitVec 32 := 0#32
  let v17_r0 : BitVec 32 := Scalar.select v16_r0 c0_i32_16_r0 v15_r0
  let c0_i32_17_r0 : BitVec 32 := 0#32
  let v18_r0 : BitVec 32 := Scalar.addi v17_r0 c0_i32_17_r0
  let v121_r0 : BitVec 32 := Scalar.muli c1_i32_148_r0 v18_r0
  let c0_i32_153_r0 : BitVec 32 := 0#32
  let c0_i32_154_r0 : BitVec 32 := 0#32
  let c0_i32_155_r0 : BitVec 32 := 0#32
  ![v121_r0.toNat, 0, 0, 0]
@[reducible] def k0_t1_loop : Scf.Loop 32 :=
  let c0_i32_83_r0 : BitVec 32 := 0#32
  let c8_i32_84_r0 : BitVec 32 := 8#32
  let v63_r0 : BitVec 32 := Scalar.addi c0_i32_83_r0 c8_i32_84_r0
  let c1_i32_85_r0 : BitVec 32 := 1#32
  ⟨c0_i32_83_r0, v63_r0, c1_i32_85_r0⟩
def k0_off9 (arg5_r0 : BitVec 32) : Fin 1 → Nat :=
  let c3_i32_2285_r0 : BitVec 32 := 3#32
  let v2314_r0 : BitVec 32 := Scalar.remui arg5_r0 c3_i32_2285_r0
  ![v2314_r0.toNat]
def k0_cond2 (k0_t1 : Fin k0_t1_loop.trips) (arg15_r0 : BitVec 32) : BitVec 1 :=
  let true_159_r0 : BitVec 1 := 1#1
  let c1_i32_161_r0 : BitVec 32 := 1#32
  let c0_i32_160_r0 : BitVec 32 := 0#32
  let v131_r0 : BitVec 32 := Scalar.select true_159_r0 c1_i32_161_r0 c0_i32_160_r0
  let c1_i32_162_r0 : BitVec 32 := 1#32
  let v132_r0 : BitVec 1 := Scalar.cmpi .eq v131_r0 c1_i32_162_r0
  let c1_i32_164_r0 : BitVec 32 := 1#32
  let v134_r0 : BitVec 32 := Scalar.addi arg15_r0 c1_i32_164_r0
  let v135_r0 : BitVec 32 := Scalar.select v132_r0 v134_r0 arg15_r0
  let c8_i32_165_r0 : BitVec 32 := 8#32
  let v136_r0 : BitVec 1 := Scalar.cmpi .eq v135_r0 c8_i32_165_r0
  let c0_i32_166_r0 : BitVec 32 := 0#32
  let v137_r0 : BitVec 32 := Scalar.select v136_r0 c0_i32_166_r0 v135_r0
  let c0_i32_167_r0 : BitVec 32 := 0#32
  let v138_r0 : BitVec 32 := Scalar.addi v137_r0 c0_i32_167_r0
  let true_168_r0 : BitVec 1 := 1#1
  let c1_i32_170_r0 : BitVec 32 := 1#32
  let c0_i32_169_r0 : BitVec 32 := 0#32
  let v139_r0 : BitVec 32 := Scalar.select true_168_r0 c1_i32_170_r0 c0_i32_169_r0
  let c1_i32_171_r0 : BitVec 32 := 1#32
  let v140_r0 : BitVec 1 := Scalar.cmpi .eq v139_r0 c1_i32_171_r0
  let c1_i32_173_r0 : BitVec 32 := 1#32
  let v142_r0 : BitVec 32 := Scalar.addi v137_r0 c1_i32_173_r0
  let v143_r0 : BitVec 32 := Scalar.select v140_r0 v142_r0 v137_r0
  let c8_i32_174_r0 : BitVec 32 := 8#32
  let v144_r0 : BitVec 1 := Scalar.cmpi .eq v143_r0 c8_i32_174_r0
  let c0_i32_175_r0 : BitVec 32 := 0#32
  let v145_r0 : BitVec 32 := Scalar.select v144_r0 c0_i32_175_r0 v143_r0
  let c0_i32_176_r0 : BitVec 32 := 0#32
  let v146_r0 : BitVec 32 := Scalar.addi v145_r0 c0_i32_176_r0
  let v155_r0 : BitVec 1 := Scalar.cmpi .ne v138_r0 v146_r0
  let c0_i32_83_r0 : BitVec 32 := 0#32
  let c1_i32_85_r0 : BitVec 32 := 1#32
  let arg4_r0 : BitVec 32 := Scf.iv c0_i32_83_r0 c1_i32_85_r0 k0_t1
  let c6_i32_r0 : BitVec 32 := 6#32
  let v156_r0 : BitVec 1 := Scalar.cmpi .sge arg4_r0 c6_i32_r0
  let true_186_r0 : BitVec 1 := 1#1
  let v157_r0 : BitVec 1 := Scalar.xori v156_r0 true_186_r0
  let v158_r0 : BitVec 1 := Scalar.andi v155_r0 v157_r0
  let true_187_r0 : BitVec 1 := 1#1
  let v159_r0 : BitVec 1 := Scalar.andi v158_r0 true_187_r0
  let v160_r0 : BitVec 32 := Scalar.extui v159_r0
  let c0_i32_188_r0 : BitVec 32 := 0#32
  let v161_r0 : BitVec 1 := Scalar.cmpi .ne v160_r0 c0_i32_188_r0
  v161_r0

def k0_off10 (arg5_r0 : BitVec 32) : Fin 5 → Nat :=
  let c3_i32_2285_r0 : BitVec 32 := 3#32
  let v2314_r0 : BitVec 32 := Scalar.remui arg5_r0 c3_i32_2285_r0
  let c0_i32_2287_r0 : BitVec 32 := 0#32
  let c0_i32_2288_r0 : BitVec 32 := 0#32
  let c0_i32_2289_r0 : BitVec 32 := 0#32
  let c0_i32_2290_r0 : BitVec 32 := 0#32
  ![v2314_r0.toNat, 0, 0, 0, 0]
def k0_off11 (arg15_r0 : BitVec 32) : Fin 4 → Nat :=
  let c1_i32_2286_r0 : BitVec 32 := 1#32
  let true_168_r0 : BitVec 1 := 1#1
  let c1_i32_170_r0 : BitVec 32 := 1#32
  let c0_i32_169_r0 : BitVec 32 := 0#32
  let v139_r0 : BitVec 32 := Scalar.select true_168_r0 c1_i32_170_r0 c0_i32_169_r0
  let c1_i32_171_r0 : BitVec 32 := 1#32
  let v140_r0 : BitVec 1 := Scalar.cmpi .eq v139_r0 c1_i32_171_r0
  let true_159_r0 : BitVec 1 := 1#1
  let c1_i32_161_r0 : BitVec 32 := 1#32
  let c0_i32_160_r0 : BitVec 32 := 0#32
  let v131_r0 : BitVec 32 := Scalar.select true_159_r0 c1_i32_161_r0 c0_i32_160_r0
  let c1_i32_162_r0 : BitVec 32 := 1#32
  let v132_r0 : BitVec 1 := Scalar.cmpi .eq v131_r0 c1_i32_162_r0
  let c1_i32_164_r0 : BitVec 32 := 1#32
  let v134_r0 : BitVec 32 := Scalar.addi arg15_r0 c1_i32_164_r0
  let v135_r0 : BitVec 32 := Scalar.select v132_r0 v134_r0 arg15_r0
  let c8_i32_165_r0 : BitVec 32 := 8#32
  let v136_r0 : BitVec 1 := Scalar.cmpi .eq v135_r0 c8_i32_165_r0
  let c0_i32_166_r0 : BitVec 32 := 0#32
  let v137_r0 : BitVec 32 := Scalar.select v136_r0 c0_i32_166_r0 v135_r0
  let c1_i32_173_r0 : BitVec 32 := 1#32
  let v142_r0 : BitVec 32 := Scalar.addi v137_r0 c1_i32_173_r0
  let v143_r0 : BitVec 32 := Scalar.select v140_r0 v142_r0 v137_r0
  let c8_i32_174_r0 : BitVec 32 := 8#32
  let v144_r0 : BitVec 1 := Scalar.cmpi .eq v143_r0 c8_i32_174_r0
  let c0_i32_175_r0 : BitVec 32 := 0#32
  let v145_r0 : BitVec 32 := Scalar.select v144_r0 c0_i32_175_r0 v143_r0
  let c0_i32_176_r0 : BitVec 32 := 0#32
  let v146_r0 : BitVec 32 := Scalar.addi v145_r0 c0_i32_176_r0
  let v2315_r0 : BitVec 32 := Scalar.muli c1_i32_2286_r0 v146_r0
  let c0_i32_2291_r0 : BitVec 32 := 0#32
  let c0_i32_2292_r0 : BitVec 32 := 0#32
  let c0_i32_2293_r0 : BitVec 32 := 0#32
  ![v2315_r0.toNat, 0, 0, 0]
def k0_off12 (arg7_r0 : BitVec 32) : Fin 1 → Nat :=
  let c2_i32_2285_r0 : BitVec 32 := 2#32
  let v2314_r0 : BitVec 32 := Scalar.remui arg7_r0 c2_i32_2285_r0
  ![v2314_r0.toNat]
def k0_cond3 (k0_t1 : Fin k0_t1_loop.trips) (arg15_r0 : BitVec 32) : BitVec 1 :=
  let c0_i32_149_r0 : BitVec 32 := 0#32
  let v122_r0 : BitVec 32 := Scalar.addi arg15_r0 c0_i32_149_r0
  let true_159_r0 : BitVec 1 := 1#1
  let c1_i32_161_r0 : BitVec 32 := 1#32
  let c0_i32_160_r0 : BitVec 32 := 0#32
  let v131_r0 : BitVec 32 := Scalar.select true_159_r0 c1_i32_161_r0 c0_i32_160_r0
  let c1_i32_162_r0 : BitVec 32 := 1#32
  let v132_r0 : BitVec 1 := Scalar.cmpi .eq v131_r0 c1_i32_162_r0
  let c1_i32_164_r0 : BitVec 32 := 1#32
  let v134_r0 : BitVec 32 := Scalar.addi arg15_r0 c1_i32_164_r0
  let v135_r0 : BitVec 32 := Scalar.select v132_r0 v134_r0 arg15_r0
  let c8_i32_165_r0 : BitVec 32 := 8#32
  let v136_r0 : BitVec 1 := Scalar.cmpi .eq v135_r0 c8_i32_165_r0
  let c0_i32_166_r0 : BitVec 32 := 0#32
  let v137_r0 : BitVec 32 := Scalar.select v136_r0 c0_i32_166_r0 v135_r0
  let c0_i32_167_r0 : BitVec 32 := 0#32
  let v138_r0 : BitVec 32 := Scalar.addi v137_r0 c0_i32_167_r0
  let v165_r0 : BitVec 1 := Scalar.cmpi .ne v122_r0 v138_r0
  let c0_i32_83_r0 : BitVec 32 := 0#32
  let c1_i32_85_r0 : BitVec 32 := 1#32
  let arg4_r0 : BitVec 32 := Scf.iv c0_i32_83_r0 c1_i32_85_r0 k0_t1
  let c7_i32_191_r0 : BitVec 32 := 7#32
  let v166_r0 : BitVec 1 := Scalar.cmpi .sge arg4_r0 c7_i32_191_r0
  let true_192_r0 : BitVec 1 := 1#1
  let v167_r0 : BitVec 1 := Scalar.xori v166_r0 true_192_r0
  let v168_r0 : BitVec 1 := Scalar.andi v165_r0 v167_r0
  let true_193_r0 : BitVec 1 := 1#1
  let v169_r0 : BitVec 1 := Scalar.andi v168_r0 true_193_r0
  let v170_r0 : BitVec 32 := Scalar.extui v169_r0
  let c0_i32_194_r0 : BitVec 32 := 0#32
  let v171_r0 : BitVec 1 := Scalar.cmpi .ne v170_r0 c0_i32_194_r0
  v171_r0

def k0_off13 (arg7_r0 : BitVec 32) : Fin 5 → Nat :=
  let c2_i32_2285_r0 : BitVec 32 := 2#32
  let v2314_r0 : BitVec 32 := Scalar.remui arg7_r0 c2_i32_2285_r0
  let c0_i32_2287_r0 : BitVec 32 := 0#32
  let c0_i32_2288_r0 : BitVec 32 := 0#32
  let c0_i32_2289_r0 : BitVec 32 := 0#32
  let c0_i32_2290_r0 : BitVec 32 := 0#32
  ![v2314_r0.toNat, 0, 0, 0, 0]
def k0_off14 (arg15_r0 : BitVec 32) : Fin 4 → Nat :=
  let c0_i32_2291_r0 : BitVec 32 := 0#32
  let c1_i32_2286_r0 : BitVec 32 := 1#32
  let true_159_r0 : BitVec 1 := 1#1
  let c1_i32_161_r0 : BitVec 32 := 1#32
  let c0_i32_160_r0 : BitVec 32 := 0#32
  let v131_r0 : BitVec 32 := Scalar.select true_159_r0 c1_i32_161_r0 c0_i32_160_r0
  let c1_i32_162_r0 : BitVec 32 := 1#32
  let v132_r0 : BitVec 1 := Scalar.cmpi .eq v131_r0 c1_i32_162_r0
  let c1_i32_164_r0 : BitVec 32 := 1#32
  let v134_r0 : BitVec 32 := Scalar.addi arg15_r0 c1_i32_164_r0
  let v135_r0 : BitVec 32 := Scalar.select v132_r0 v134_r0 arg15_r0
  let c8_i32_165_r0 : BitVec 32 := 8#32
  let v136_r0 : BitVec 1 := Scalar.cmpi .eq v135_r0 c8_i32_165_r0
  let c0_i32_166_r0 : BitVec 32 := 0#32
  let v137_r0 : BitVec 32 := Scalar.select v136_r0 c0_i32_166_r0 v135_r0
  let c0_i32_167_r0 : BitVec 32 := 0#32
  let v138_r0 : BitVec 32 := Scalar.addi v137_r0 c0_i32_167_r0
  let v2315_r0 : BitVec 32 := Scalar.muli c1_i32_2286_r0 v138_r0
  let c0_i32_2292_r0 : BitVec 32 := 0#32
  let c0_i32_2293_r0 : BitVec 32 := 0#32
  ![0, v2315_r0.toNat, 0, 0]
def k0_off15 (arg9_r0 : BitVec 32) : Fin 1 → Nat :=
  let c2_i32_2285_r0 : BitVec 32 := 2#32
  let v2314_r0 : BitVec 32 := Scalar.remui arg9_r0 c2_i32_2285_r0
  ![v2314_r0.toNat]
def k0_cond4 (k0_t1 : Fin k0_t1_loop.trips) (arg15_r0 : BitVec 32) : BitVec 1 :=
  let c0_i32_149_r0 : BitVec 32 := 0#32
  let v122_r0 : BitVec 32 := Scalar.addi arg15_r0 c0_i32_149_r0
  let true_159_r0 : BitVec 1 := 1#1
  let c1_i32_161_r0 : BitVec 32 := 1#32
  let c0_i32_160_r0 : BitVec 32 := 0#32
  let v131_r0 : BitVec 32 := Scalar.select true_159_r0 c1_i32_161_r0 c0_i32_160_r0
  let c1_i32_162_r0 : BitVec 32 := 1#32
  let v132_r0 : BitVec 1 := Scalar.cmpi .eq v131_r0 c1_i32_162_r0
  let c1_i32_164_r0 : BitVec 32 := 1#32
  let v134_r0 : BitVec 32 := Scalar.addi arg15_r0 c1_i32_164_r0
  let v135_r0 : BitVec 32 := Scalar.select v132_r0 v134_r0 arg15_r0
  let c8_i32_165_r0 : BitVec 32 := 8#32
  let v136_r0 : BitVec 1 := Scalar.cmpi .eq v135_r0 c8_i32_165_r0
  let c0_i32_166_r0 : BitVec 32 := 0#32
  let v137_r0 : BitVec 32 := Scalar.select v136_r0 c0_i32_166_r0 v135_r0
  let c0_i32_167_r0 : BitVec 32 := 0#32
  let v138_r0 : BitVec 32 := Scalar.addi v137_r0 c0_i32_167_r0
  let v175_r0 : BitVec 1 := Scalar.cmpi .ne v122_r0 v138_r0
  let c0_i32_83_r0 : BitVec 32 := 0#32
  let c1_i32_85_r0 : BitVec 32 := 1#32
  let arg4_r0 : BitVec 32 := Scf.iv c0_i32_83_r0 c1_i32_85_r0 k0_t1
  let c7_i32_197_r0 : BitVec 32 := 7#32
  let v176_r0 : BitVec 1 := Scalar.cmpi .sge arg4_r0 c7_i32_197_r0
  let true_198_r0 : BitVec 1 := 1#1
  let v177_r0 : BitVec 1 := Scalar.xori v176_r0 true_198_r0
  let v178_r0 : BitVec 1 := Scalar.andi v175_r0 v177_r0
  let true_199_r0 : BitVec 1 := 1#1
  let v179_r0 : BitVec 1 := Scalar.andi v178_r0 true_199_r0
  let v180_r0 : BitVec 32 := Scalar.extui v179_r0
  let c0_i32_200_r0 : BitVec 32 := 0#32
  let v181_r0 : BitVec 1 := Scalar.cmpi .ne v180_r0 c0_i32_200_r0
  v181_r0

def k0_off16 (arg9_r0 : BitVec 32) : Fin 5 → Nat :=
  let c2_i32_2285_r0 : BitVec 32 := 2#32
  let v2314_r0 : BitVec 32 := Scalar.remui arg9_r0 c2_i32_2285_r0
  let c0_i32_2287_r0 : BitVec 32 := 0#32
  let c0_i32_2288_r0 : BitVec 32 := 0#32
  let c0_i32_2289_r0 : BitVec 32 := 0#32
  let c0_i32_2290_r0 : BitVec 32 := 0#32
  ![v2314_r0.toNat, 0, 0, 0, 0]
def k0_off17 (arg15_r0 : BitVec 32) : Fin 4 → Nat :=
  let c5_i32_2291_r0 : BitVec 32 := 5#32
  let c1_i32_2286_r0 : BitVec 32 := 1#32
  let true_159_r0 : BitVec 1 := 1#1
  let c1_i32_161_r0 : BitVec 32 := 1#32
  let c0_i32_160_r0 : BitVec 32 := 0#32
  let v131_r0 : BitVec 32 := Scalar.select true_159_r0 c1_i32_161_r0 c0_i32_160_r0
  let c1_i32_162_r0 : BitVec 32 := 1#32
  let v132_r0 : BitVec 1 := Scalar.cmpi .eq v131_r0 c1_i32_162_r0
  let c1_i32_164_r0 : BitVec 32 := 1#32
  let v134_r0 : BitVec 32 := Scalar.addi arg15_r0 c1_i32_164_r0
  let v135_r0 : BitVec 32 := Scalar.select v132_r0 v134_r0 arg15_r0
  let c8_i32_165_r0 : BitVec 32 := 8#32
  let v136_r0 : BitVec 1 := Scalar.cmpi .eq v135_r0 c8_i32_165_r0
  let c0_i32_166_r0 : BitVec 32 := 0#32
  let v137_r0 : BitVec 32 := Scalar.select v136_r0 c0_i32_166_r0 v135_r0
  let c0_i32_167_r0 : BitVec 32 := 0#32
  let v138_r0 : BitVec 32 := Scalar.addi v137_r0 c0_i32_167_r0
  let v2315_r0 : BitVec 32 := Scalar.muli c1_i32_2286_r0 v138_r0
  let c0_i32_2292_r0 : BitVec 32 := 0#32
  let c0_i32_2293_r0 : BitVec 32 := 0#32
  ![5, v2315_r0.toNat, 0, 0]
def k0_off18 (arg6_r0 : BitVec 32) : Fin 1 → Nat :=
  let c3_i32_2286_r0 : BitVec 32 := 3#32
  let v2315_r0 : BitVec 32 := Scalar.remui arg6_r0 c3_i32_2286_r0
  ![v2315_r0.toNat]
def k0_cond5 (k0_t1 : Fin k0_t1_loop.trips) (arg15_r0 : BitVec 32) : BitVec 1 :=
  let c0_i32_149_r0 : BitVec 32 := 0#32
  let v122_r0 : BitVec 32 := Scalar.addi arg15_r0 c0_i32_149_r0
  let true_150_r0 : BitVec 1 := 1#1
  let c_m1_i32_152_r0 : BitVec 32 := 4294967295#32
  let c0_i32_151_r0 : BitVec 32 := 0#32
  let v123_r0 : BitVec 32 := Scalar.select true_150_r0 c_m1_i32_152_r0 c0_i32_151_r0
  let c_m1_i32_153_r0 : BitVec 32 := 4294967295#32
  let v124_r0 : BitVec 1 := Scalar.cmpi .eq v123_r0 c_m1_i32_153_r0
  let c1_i32_155_r0 : BitVec 32 := 1#32
  let v126_r0 : BitVec 32 := Scalar.subi arg15_r0 c1_i32_155_r0
  let v127_r0 : BitVec 32 := Scalar.select v124_r0 v126_r0 arg15_r0
  let c_m1_i32_156_r0 : BitVec 32 := 4294967295#32
  let v128_r0 : BitVec 1 := Scalar.cmpi .eq v127_r0 c_m1_i32_156_r0
  let c7_i32_157_r0 : BitVec 32 := 7#32
  let v129_r0 : BitVec 32 := Scalar.select v128_r0 c7_i32_157_r0 v127_r0
  let c0_i32_158_r0 : BitVec 32 := 0#32
  let v130_r0 : BitVec 32 := Scalar.addi v129_r0 c0_i32_158_r0
  let v193_r0 : BitVec 1 := Scalar.cmpi .ne v122_r0 v130_r0
  let c0_i32_83_r0 : BitVec 32 := 0#32
  let c1_i32_85_r0 : BitVec 32 := 1#32
  let arg4_r0 : BitVec 32 := Scf.iv c0_i32_83_r0 c1_i32_85_r0 k0_t1
  let c0_i32_147_r0 : BitVec 32 := 0#32
  let v120_r0 : BitVec 1 := Scalar.cmpi .eq arg4_r0 c0_i32_147_r0
  let v194_r0 : BitVec 1 := Scalar.ori v193_r0 v120_r0
  let c0_i32_207_r0 : BitVec 32 := 0#32
  let v195_r0 : BitVec 1 := Scalar.cmpi .sge arg4_r0 c0_i32_207_r0
  let v196_r0 : BitVec 1 := Scalar.andi v194_r0 v195_r0
  let v197_r0 : BitVec 32 := Scalar.extui v196_r0
  let c0_i32_208_r0 : BitVec 32 := 0#32
  let v198_r0 : BitVec 1 := Scalar.cmpi .ne v197_r0 c0_i32_208_r0
  v198_r0

def k0_off19 (arg6_r0 : BitVec 32) : Fin 5 → Nat :=
  let c3_i32_2286_r0 : BitVec 32 := 3#32
  let v2315_r0 : BitVec 32 := Scalar.remui arg6_r0 c3_i32_2286_r0
  let c0_i32_2287_r0 : BitVec 32 := 0#32
  let c0_i32_2288_r0 : BitVec 32 := 0#32
  let c0_i32_2289_r0 : BitVec 32 := 0#32
  let c0_i32_2290_r0 : BitVec 32 := 0#32
  ![v2315_r0.toNat, 0, 0, 0, 0]
def k0_off20 (arg15_r0 : BitVec 32) : Fin 4 → Nat :=
  let c1_i32_2285_r0 : BitVec 32 := 1#32
  let c0_i32_149_r0 : BitVec 32 := 0#32
  let v122_r0 : BitVec 32 := Scalar.addi arg15_r0 c0_i32_149_r0
  let v2314_r0 : BitVec 32 := Scalar.muli c1_i32_2285_r0 v122_r0
  let c0_i32_2291_r0 : BitVec 32 := 0#32
  let c0_i32_2292_r0 : BitVec 32 := 0#32
  let c0_i32_2293_r0 : BitVec 32 := 0#32
  ![v2314_r0.toNat, 0, 0, 0]
def k0_off21 (arg8_r0 : BitVec 32) : Fin 1 → Nat :=
  let c2_i32_2286_r0 : BitVec 32 := 2#32
  let v2315_r0 : BitVec 32 := Scalar.remui arg8_r0 c2_i32_2286_r0
  ![v2315_r0.toNat]
def k0_cond6 (k0_t1 : Fin k0_t1_loop.trips) (arg15_r0 : BitVec 32) : BitVec 1 :=
  let c0_i32_149_r0 : BitVec 32 := 0#32
  let v122_r0 : BitVec 32 := Scalar.addi arg15_r0 c0_i32_149_r0
  let true_150_r0 : BitVec 1 := 1#1
  let c_m1_i32_152_r0 : BitVec 32 := 4294967295#32
  let c0_i32_151_r0 : BitVec 32 := 0#32
  let v123_r0 : BitVec 32 := Scalar.select true_150_r0 c_m1_i32_152_r0 c0_i32_151_r0
  let c_m1_i32_153_r0 : BitVec 32 := 4294967295#32
  let v124_r0 : BitVec 1 := Scalar.cmpi .eq v123_r0 c_m1_i32_153_r0
  let c1_i32_155_r0 : BitVec 32 := 1#32
  let v126_r0 : BitVec 32 := Scalar.subi arg15_r0 c1_i32_155_r0
  let v127_r0 : BitVec 32 := Scalar.select v124_r0 v126_r0 arg15_r0
  let c_m1_i32_156_r0 : BitVec 32 := 4294967295#32
  let v128_r0 : BitVec 1 := Scalar.cmpi .eq v127_r0 c_m1_i32_156_r0
  let c7_i32_157_r0 : BitVec 32 := 7#32
  let v129_r0 : BitVec 32 := Scalar.select v128_r0 c7_i32_157_r0 v127_r0
  let c0_i32_158_r0 : BitVec 32 := 0#32
  let v130_r0 : BitVec 32 := Scalar.addi v129_r0 c0_i32_158_r0
  let v199_r0 : BitVec 1 := Scalar.cmpi .ne v122_r0 v130_r0
  let c0_i32_83_r0 : BitVec 32 := 0#32
  let c1_i32_85_r0 : BitVec 32 := 1#32
  let arg4_r0 : BitVec 32 := Scf.iv c0_i32_83_r0 c1_i32_85_r0 k0_t1
  let c0_i32_147_r0 : BitVec 32 := 0#32
  let v120_r0 : BitVec 1 := Scalar.cmpi .eq arg4_r0 c0_i32_147_r0
  let v200_r0 : BitVec 1 := Scalar.ori v199_r0 v120_r0
  let c0_i32_209_r0 : BitVec 32 := 0#32
  let v201_r0 : BitVec 1 := Scalar.cmpi .sge arg4_r0 c0_i32_209_r0
  let v202_r0 : BitVec 1 := Scalar.andi v200_r0 v201_r0
  let v203_r0 : BitVec 32 := Scalar.extui v202_r0
  let c0_i32_210_r0 : BitVec 32 := 0#32
  let v204_r0 : BitVec 1 := Scalar.cmpi .ne v203_r0 c0_i32_210_r0
  v204_r0

def k0_off22 (arg8_r0 : BitVec 32) : Fin 5 → Nat :=
  let c2_i32_2286_r0 : BitVec 32 := 2#32
  let v2315_r0 : BitVec 32 := Scalar.remui arg8_r0 c2_i32_2286_r0
  let c0_i32_2287_r0 : BitVec 32 := 0#32
  let c0_i32_2288_r0 : BitVec 32 := 0#32
  let c0_i32_2289_r0 : BitVec 32 := 0#32
  let c0_i32_2290_r0 : BitVec 32 := 0#32
  ![v2315_r0.toNat, 0, 0, 0, 0]
def k0_off23 (arg15_r0 : BitVec 32) : Fin 4 → Nat :=
  let c0_i32_2291_r0 : BitVec 32 := 0#32
  let c1_i32_2285_r0 : BitVec 32 := 1#32
  let c0_i32_149_r0 : BitVec 32 := 0#32
  let v122_r0 : BitVec 32 := Scalar.addi arg15_r0 c0_i32_149_r0
  let v2314_r0 : BitVec 32 := Scalar.muli c1_i32_2285_r0 v122_r0
  let c0_i32_2292_r0 : BitVec 32 := 0#32
  let c0_i32_2293_r0 : BitVec 32 := 0#32
  ![0, v2314_r0.toNat, 0, 0]
def k0_off24 (arg10_r0 : BitVec 32) : Fin 1 → Nat :=
  let c2_i32_2286_r0 : BitVec 32 := 2#32
  let v2315_r0 : BitVec 32 := Scalar.remui arg10_r0 c2_i32_2286_r0
  ![v2315_r0.toNat]
def k0_cond7 (k0_t1 : Fin k0_t1_loop.trips) (arg15_r0 : BitVec 32) : BitVec 1 :=
  let c0_i32_149_r0 : BitVec 32 := 0#32
  let v122_r0 : BitVec 32 := Scalar.addi arg15_r0 c0_i32_149_r0
  let true_150_r0 : BitVec 1 := 1#1
  let c_m1_i32_152_r0 : BitVec 32 := 4294967295#32
  let c0_i32_151_r0 : BitVec 32 := 0#32
  let v123_r0 : BitVec 32 := Scalar.select true_150_r0 c_m1_i32_152_r0 c0_i32_151_r0
  let c_m1_i32_153_r0 : BitVec 32 := 4294967295#32
  let v124_r0 : BitVec 1 := Scalar.cmpi .eq v123_r0 c_m1_i32_153_r0
  let c1_i32_155_r0 : BitVec 32 := 1#32
  let v126_r0 : BitVec 32 := Scalar.subi arg15_r0 c1_i32_155_r0
  let v127_r0 : BitVec 32 := Scalar.select v124_r0 v126_r0 arg15_r0
  let c_m1_i32_156_r0 : BitVec 32 := 4294967295#32
  let v128_r0 : BitVec 1 := Scalar.cmpi .eq v127_r0 c_m1_i32_156_r0
  let c7_i32_157_r0 : BitVec 32 := 7#32
  let v129_r0 : BitVec 32 := Scalar.select v128_r0 c7_i32_157_r0 v127_r0
  let c0_i32_158_r0 : BitVec 32 := 0#32
  let v130_r0 : BitVec 32 := Scalar.addi v129_r0 c0_i32_158_r0
  let v205_r0 : BitVec 1 := Scalar.cmpi .ne v122_r0 v130_r0
  let c0_i32_83_r0 : BitVec 32 := 0#32
  let c1_i32_85_r0 : BitVec 32 := 1#32
  let arg4_r0 : BitVec 32 := Scf.iv c0_i32_83_r0 c1_i32_85_r0 k0_t1
  let c0_i32_147_r0 : BitVec 32 := 0#32
  let v120_r0 : BitVec 1 := Scalar.cmpi .eq arg4_r0 c0_i32_147_r0
  let v206_r0 : BitVec 1 := Scalar.ori v205_r0 v120_r0
  let c0_i32_211_r0 : BitVec 32 := 0#32
  let v207_r0 : BitVec 1 := Scalar.cmpi .sge arg4_r0 c0_i32_211_r0
  let v208_r0 : BitVec 1 := Scalar.andi v206_r0 v207_r0
  let v209_r0 : BitVec 32 := Scalar.extui v208_r0
  let c0_i32_212_r0 : BitVec 32 := 0#32
  let v210_r0 : BitVec 1 := Scalar.cmpi .ne v209_r0 c0_i32_212_r0
  v210_r0

def k0_off25 (arg10_r0 : BitVec 32) : Fin 5 → Nat :=
  let c2_i32_2286_r0 : BitVec 32 := 2#32
  let v2315_r0 : BitVec 32 := Scalar.remui arg10_r0 c2_i32_2286_r0
  let c0_i32_2287_r0 : BitVec 32 := 0#32
  let c0_i32_2288_r0 : BitVec 32 := 0#32
  let c0_i32_2289_r0 : BitVec 32 := 0#32
  let c0_i32_2290_r0 : BitVec 32 := 0#32
  ![v2315_r0.toNat, 0, 0, 0, 0]
def k0_off26 (arg15_r0 : BitVec 32) : Fin 4 → Nat :=
  let c5_i32_2291_r0 : BitVec 32 := 5#32
  let c1_i32_2285_r0 : BitVec 32 := 1#32
  let c0_i32_149_r0 : BitVec 32 := 0#32
  let v122_r0 : BitVec 32 := Scalar.addi arg15_r0 c0_i32_149_r0
  let v2314_r0 : BitVec 32 := Scalar.muli c1_i32_2285_r0 v122_r0
  let c0_i32_2292_r0 : BitVec 32 := 0#32
  let c0_i32_2293_r0 : BitVec 32 := 0#32
  ![5, v2314_r0.toNat, 0, 0]
def k0_off27 (arg8_r0 : BitVec 32) : Fin 5 → Nat :=
  let c2_i32_218_r0 : BitVec 32 := 2#32
  let v224_r0 : BitVec 32 := Scalar.remui arg8_r0 c2_i32_218_r0
  let c0_i32_222_r0 : BitVec 32 := 0#32
  let c0_i32_223_r0 : BitVec 32 := 0#32
  let c0_i32_224_r0 : BitVec 32 := 0#32
  let c0_i32_225_r0 : BitVec 32 := 0#32
  ![v224_r0.toNat, 0, 0, 0, 0]

def k0_chk2 (arg8_r0 : BitVec 32) : Prop :=
  (∀ a, (k0_off27 arg8_r0) a + S1x6x1x64x128.size a ≤ S2x6x1x64x128.size a)
theorem k0_off27_inb : ∀ (arg8_r0 : BitVec 32) (k0_hw2 : k0_chk2 arg8_r0), ∀ a, (k0_off27 arg8_r0) a + S1x6x1x64x128.size a ≤ S2x6x1x64x128.size a := fun arg8_r0 k0_hw2 => k0_hw2

def k0_off28 (arg6_r0 : BitVec 32) : Fin 5 → Nat :=
  let c3_i32_217_r0 : BitVec 32 := 3#32
  let v223_r0 : BitVec 32 := Scalar.remui arg6_r0 c3_i32_217_r0
  let c0_i32_257_r0 : BitVec 32 := 0#32
  let c0_i32_258_r0 : BitVec 32 := 0#32
  let c0_i32_259_r0 : BitVec 32 := 0#32
  let c0_i32_260_r0 : BitVec 32 := 0#32
  ![v223_r0.toNat, 0, 0, 0, 0]

def k0_off29 (arg10_r0 : BitVec 32) : Fin 5 → Nat :=
  let c2_i32_219_r0 : BitVec 32 := 2#32
  let v225_r0 : BitVec 32 := Scalar.remui arg10_r0 c2_i32_219_r0
  let c0_i32_265_r0 : BitVec 32 := 0#32
  let c0_i32_266_r0 : BitVec 32 := 0#32
  let c0_i32_267_r0 : BitVec 32 := 0#32
  let c0_i32_268_r0 : BitVec 32 := 0#32
  ![v225_r0.toNat, 0, 0, 0, 0]

def k0_off30 (arg13_r0 : BitVec 32) : Fin 4 → Nat :=
  let c2_i32_221_r0 : BitVec 32 := 2#32
  let v227_r0 : BitVec 32 := Scalar.remui arg13_r0 c2_i32_221_r0
  let c0_i32_274_r0 : BitVec 32 := 0#32
  let c0_i32_275_r0 : BitVec 32 := 0#32
  let c0_i32_276_r0 : BitVec 32 := 0#32
  ![v227_r0.toNat, 0, 0, 0]

def k0_off31 (arg11_r0 : BitVec 32) : Fin 5 → Nat :=
  let c2_i32_220_r0 : BitVec 32 := 2#32
  let v226_r0 : BitVec 32 := Scalar.remui arg11_r0 c2_i32_220_r0
  let c0_i32_280_r0 : BitVec 32 := 0#32
  let c0_i32_281_r0 : BitVec 32 := 0#32
  let c0_i32_282_r0 : BitVec 32 := 0#32
  let c0_i32_283_r0 : BitVec 32 := 0#32
  ![v226_r0.toNat, 0, 0, 0, 0]

def k0_chk6 (arg11_r0 : BitVec 32) : Prop :=
  (∀ a, (k0_off31 arg11_r0) a + S1x1x64x64x128.size a ≤ S2x1x64x64x128.size a)
theorem k0_off31_inb : ∀ (arg11_r0 : BitVec 32) (k0_hw6 : k0_chk6 arg11_r0), ∀ a, (k0_off31 arg11_r0) a + S1x1x64x64x128.size a ≤ S2x1x64x64x128.size a := fun arg11_r0 k0_hw6 => k0_hw6

def k0_off32 (arg6_r0 : BitVec 32) : Fin 5 → Nat :=
  let c3_i32_217_r0 : BitVec 32 := 3#32
  let v223_r0 : BitVec 32 := Scalar.remui arg6_r0 c3_i32_217_r0
  let c0_i32_288_r0 : BitVec 32 := 0#32
  let c0_i32_289_r0 : BitVec 32 := 0#32
  let c0_i32_290_r0 : BitVec 32 := 0#32
  let c0_i32_291_r0 : BitVec 32 := 0#32
  ![v223_r0.toNat, 0, 0, 0, 0]

def k0_chk3 (arg6_r0 : BitVec 32) : Prop :=
  (∀ a, (k0_off28 arg6_r0) a + S1x1x64x64x128.size a ≤ S3x1x64x64x128.size a) ∧
  (∀ a, (k0_off32 arg6_r0) a + S1x1x64x64x128.size a ≤ S3x1x64x64x128.size a)
theorem k0_off28_inb : ∀ (arg6_r0 : BitVec 32) (k0_hw3 : k0_chk3 arg6_r0), ∀ a, (k0_off28 arg6_r0) a + S1x1x64x64x128.size a ≤ S3x1x64x64x128.size a := fun arg6_r0 k0_hw3 => k0_hw3.1
theorem k0_off32_inb : ∀ (arg6_r0 : BitVec 32) (k0_hw3 : k0_chk3 arg6_r0), ∀ a, (k0_off32 arg6_r0) a + S1x1x64x64x128.size a ≤ S3x1x64x64x128.size a := fun arg6_r0 k0_hw3 => k0_hw3.2

def k0_off33 (arg10_r0 : BitVec 32) : Fin 5 → Nat :=
  let c2_i32_219_r0 : BitVec 32 := 2#32
  let v225_r0 : BitVec 32 := Scalar.remui arg10_r0 c2_i32_219_r0
  let c0_i32_296_r0 : BitVec 32 := 0#32
  let c0_i32_297_r0 : BitVec 32 := 0#32
  let c0_i32_298_r0 : BitVec 32 := 0#32
  let c0_i32_299_r0 : BitVec 32 := 0#32
  ![v225_r0.toNat, 0, 0, 0, 0]

def k0_chk4 (arg10_r0 : BitVec 32) : Prop :=
  (∀ a, (k0_off29 arg10_r0) a + S1x1x1x64x128.size a ≤ S2x1x1x64x128.size a) ∧
  (∀ a, (k0_off33 arg10_r0) a + S1x1x1x64x128.size a ≤ S2x1x1x64x128.size a)
theorem k0_off29_inb : ∀ (arg10_r0 : BitVec 32) (k0_hw4 : k0_chk4 arg10_r0), ∀ a, (k0_off29 arg10_r0) a + S1x1x1x64x128.size a ≤ S2x1x1x64x128.size a := fun arg10_r0 k0_hw4 => k0_hw4.1
theorem k0_off33_inb : ∀ (arg10_r0 : BitVec 32) (k0_hw4 : k0_chk4 arg10_r0), ∀ a, (k0_off33 arg10_r0) a + S1x1x1x64x128.size a ≤ S2x1x1x64x128.size a := fun arg10_r0 k0_hw4 => k0_hw4.2

def k0_off34 (arg13_r0 : BitVec 32) : Fin 4 → Nat :=
  let c2_i32_221_r0 : BitVec 32 := 2#32
  let v227_r0 : BitVec 32 := Scalar.remui arg13_r0 c2_i32_221_r0
  let c0_i32_306_r0 : BitVec 32 := 0#32
  let c0_i32_307_r0 : BitVec 32 := 0#32
  let c0_i32_308_r0 : BitVec 32 := 0#32
  ![v227_r0.toNat, 0, 0, 0]

def k0_chk5 (arg13_r0 : BitVec 32) : Prop :=
  (∀ a, (k0_off30 arg13_r0) a + S1x1x64x128.size a ≤ S2x1x64x128.size a) ∧
  (∀ a, (k0_off34 arg13_r0) a + S1x1x64x128.size a ≤ S2x1x64x128.size a)
theorem k0_off30_inb : ∀ (arg13_r0 : BitVec 32) (k0_hw5 : k0_chk5 arg13_r0), ∀ a, (k0_off30 arg13_r0) a + S1x1x64x128.size a ≤ S2x1x64x128.size a := fun arg13_r0 k0_hw5 => k0_hw5.1
theorem k0_off34_inb : ∀ (arg13_r0 : BitVec 32) (k0_hw5 : k0_chk5 arg13_r0), ∀ a, (k0_off34 arg13_r0) a + S1x1x64x128.size a ≤ S2x1x64x128.size a := fun arg13_r0 k0_hw5 => k0_hw5.2

def k0_off35 (arg11_r0 : BitVec 32) : Fin 1 → Nat :=
  let c2_i32_2285_r0 : BitVec 32 := 2#32
  let v2314_r0 : BitVec 32 := Scalar.remui arg11_r0 c2_i32_2285_r0
  ![v2314_r0.toNat]
def k0_cond13 (k0_t1 : Fin k0_t1_loop.trips) (arg15_r0 : BitVec 32) : BitVec 1 :=
  let c0_i32_149_r0 : BitVec 32 := 0#32
  let v122_r0 : BitVec 32 := Scalar.addi arg15_r0 c0_i32_149_r0
  let true_159_r0 : BitVec 1 := 1#1
  let c1_i32_161_r0 : BitVec 32 := 1#32
  let c0_i32_160_r0 : BitVec 32 := 0#32
  let v131_r0 : BitVec 32 := Scalar.select true_159_r0 c1_i32_161_r0 c0_i32_160_r0
  let c1_i32_162_r0 : BitVec 32 := 1#32
  let v132_r0 : BitVec 1 := Scalar.cmpi .eq v131_r0 c1_i32_162_r0
  let c1_i32_164_r0 : BitVec 32 := 1#32
  let v134_r0 : BitVec 32 := Scalar.addi arg15_r0 c1_i32_164_r0
  let v135_r0 : BitVec 32 := Scalar.select v132_r0 v134_r0 arg15_r0
  let c8_i32_165_r0 : BitVec 32 := 8#32
  let v136_r0 : BitVec 1 := Scalar.cmpi .eq v135_r0 c8_i32_165_r0
  let c0_i32_166_r0 : BitVec 32 := 0#32
  let v137_r0 : BitVec 32 := Scalar.select v136_r0 c0_i32_166_r0 v135_r0
  let c0_i32_167_r0 : BitVec 32 := 0#32
  let v138_r0 : BitVec 32 := Scalar.addi v137_r0 c0_i32_167_r0
  let v2247_r0 : BitVec 1 := Scalar.cmpi .ne v122_r0 v138_r0
  let c0_i32_83_r0 : BitVec 32 := 0#32
  let c1_i32_85_r0 : BitVec 32 := 1#32
  let arg4_r0 : BitVec 32 := Scf.iv c0_i32_83_r0 c1_i32_85_r0 k0_t1
  let c7_i32_148_r0 : BitVec 32 := 7#32
  let v121_r0 : BitVec 1 := Scalar.cmpi .eq arg4_r0 c7_i32_148_r0
  let v2248_r0 : BitVec 1 := Scalar.ori v2247_r0 v121_r0
  let v2249_r0 : BitVec 32 := Scalar.extui v2248_r0
  let c0_i32_2250_r0 : BitVec 32 := 0#32
  let v2250_r0 : BitVec 1 := Scalar.cmpi .ne v2249_r0 c0_i32_2250_r0
  v2250_r0

def k0_off36 (arg15_r0 : BitVec 32) : Fin 4 → Nat :=
  let c1_i32_2286_r0 : BitVec 32 := 1#32
  let c0_i32_149_r0 : BitVec 32 := 0#32
  let v122_r0 : BitVec 32 := Scalar.addi arg15_r0 c0_i32_149_r0
  let v2315_r0 : BitVec 32 := Scalar.muli c1_i32_2286_r0 v122_r0
  let c0_i32_2287_r0 : BitVec 32 := 0#32
  let c0_i32_2288_r0 : BitVec 32 := 0#32
  let c0_i32_2289_r0 : BitVec 32 := 0#32
  ![v2315_r0.toNat, 0, 0, 0]
def k0_off37 (arg11_r0 : BitVec 32) : Fin 5 → Nat :=
  let c2_i32_2285_r0 : BitVec 32 := 2#32
  let v2314_r0 : BitVec 32 := Scalar.remui arg11_r0 c2_i32_2285_r0
  let c0_i32_2290_r0 : BitVec 32 := 0#32
  let c0_i32_2291_r0 : BitVec 32 := 0#32
  let c0_i32_2292_r0 : BitVec 32 := 0#32
  let c0_i32_2293_r0 : BitVec 32 := 0#32
  ![v2314_r0.toNat, 0, 0, 0, 0]
def k0_off38 (arg13_r0 : BitVec 32) : Fin 1 → Nat :=
  let c2_i32_2285_r0 : BitVec 32 := 2#32
  let v2314_r0 : BitVec 32 := Scalar.remui arg13_r0 c2_i32_2285_r0
  ![v2314_r0.toNat]
def k0_cond14 (k0_t1 : Fin k0_t1_loop.trips) (arg15_r0 : BitVec 32) : BitVec 1 :=
  let c0_i32_149_r0 : BitVec 32 := 0#32
  let v122_r0 : BitVec 32 := Scalar.addi arg15_r0 c0_i32_149_r0
  let true_159_r0 : BitVec 1 := 1#1
  let c1_i32_161_r0 : BitVec 32 := 1#32
  let c0_i32_160_r0 : BitVec 32 := 0#32
  let v131_r0 : BitVec 32 := Scalar.select true_159_r0 c1_i32_161_r0 c0_i32_160_r0
  let c1_i32_162_r0 : BitVec 32 := 1#32
  let v132_r0 : BitVec 1 := Scalar.cmpi .eq v131_r0 c1_i32_162_r0
  let c1_i32_164_r0 : BitVec 32 := 1#32
  let v134_r0 : BitVec 32 := Scalar.addi arg15_r0 c1_i32_164_r0
  let v135_r0 : BitVec 32 := Scalar.select v132_r0 v134_r0 arg15_r0
  let c8_i32_165_r0 : BitVec 32 := 8#32
  let v136_r0 : BitVec 1 := Scalar.cmpi .eq v135_r0 c8_i32_165_r0
  let c0_i32_166_r0 : BitVec 32 := 0#32
  let v137_r0 : BitVec 32 := Scalar.select v136_r0 c0_i32_166_r0 v135_r0
  let c0_i32_167_r0 : BitVec 32 := 0#32
  let v138_r0 : BitVec 32 := Scalar.addi v137_r0 c0_i32_167_r0
  let v2254_r0 : BitVec 1 := Scalar.cmpi .ne v122_r0 v138_r0
  let c0_i32_83_r0 : BitVec 32 := 0#32
  let c1_i32_85_r0 : BitVec 32 := 1#32
  let arg4_r0 : BitVec 32 := Scf.iv c0_i32_83_r0 c1_i32_85_r0 k0_t1
  let c7_i32_148_r0 : BitVec 32 := 7#32
  let v121_r0 : BitVec 1 := Scalar.cmpi .eq arg4_r0 c7_i32_148_r0
  let v2255_r0 : BitVec 1 := Scalar.ori v2254_r0 v121_r0
  let v2256_r0 : BitVec 32 := Scalar.extui v2255_r0
  let c0_i32_2253_r0 : BitVec 32 := 0#32
  let v2257_r0 : BitVec 1 := Scalar.cmpi .ne v2256_r0 c0_i32_2253_r0
  v2257_r0

def k0_off39 (arg15_r0 : BitVec 32) : Fin 3 → Nat :=
  let c1_i32_2286_r0 : BitVec 32 := 1#32
  let c0_i32_149_r0 : BitVec 32 := 0#32
  let v122_r0 : BitVec 32 := Scalar.addi arg15_r0 c0_i32_149_r0
  let v2315_r0 : BitVec 32 := Scalar.muli c1_i32_2286_r0 v122_r0
  let c0_i32_2287_r0 : BitVec 32 := 0#32
  let c0_i32_2288_r0 : BitVec 32 := 0#32
  ![v2315_r0.toNat, 0, 0]
def k0_off40 (arg13_r0 : BitVec 32) : Fin 4 → Nat :=
  let c2_i32_2285_r0 : BitVec 32 := 2#32
  let v2314_r0 : BitVec 32 := Scalar.remui arg13_r0 c2_i32_2285_r0
  let c0_i32_2289_r0 : BitVec 32 := 0#32
  let c0_i32_2290_r0 : BitVec 32 := 0#32
  let c0_i32_2291_r0 : BitVec 32 := 0#32
  ![v2314_r0.toNat, 0, 0, 0]
def k0_off41 (arg12_r0 : BitVec 32) : Fin 1 → Nat :=
  let c2_i32_2285_r0 : BitVec 32 := 2#32
  let v2314_r0 : BitVec 32 := Scalar.remui arg12_r0 c2_i32_2285_r0
  ![v2314_r0.toNat]
def k0_cond18 (k0_t1 : Fin k0_t1_loop.trips) (arg15_r0 : BitVec 32) : BitVec 1 :=
  let c0_i32_149_r0 : BitVec 32 := 0#32
  let v122_r0 : BitVec 32 := Scalar.addi arg15_r0 c0_i32_149_r0
  let true_150_r0 : BitVec 1 := 1#1
  let c_m1_i32_152_r0 : BitVec 32 := 4294967295#32
  let c0_i32_151_r0 : BitVec 32 := 0#32
  let v123_r0 : BitVec 32 := Scalar.select true_150_r0 c_m1_i32_152_r0 c0_i32_151_r0
  let c_m1_i32_153_r0 : BitVec 32 := 4294967295#32
  let v124_r0 : BitVec 1 := Scalar.cmpi .eq v123_r0 c_m1_i32_153_r0
  let c1_i32_155_r0 : BitVec 32 := 1#32
  let v126_r0 : BitVec 32 := Scalar.subi arg15_r0 c1_i32_155_r0
  let v127_r0 : BitVec 32 := Scalar.select v124_r0 v126_r0 arg15_r0
  let c_m1_i32_156_r0 : BitVec 32 := 4294967295#32
  let v128_r0 : BitVec 1 := Scalar.cmpi .eq v127_r0 c_m1_i32_156_r0
  let c7_i32_157_r0 : BitVec 32 := 7#32
  let v129_r0 : BitVec 32 := Scalar.select v128_r0 c7_i32_157_r0 v127_r0
  let c0_i32_158_r0 : BitVec 32 := 0#32
  let v130_r0 : BitVec 32 := Scalar.addi v129_r0 c0_i32_158_r0
  let v2279_r0 : BitVec 1 := Scalar.cmpi .ne v122_r0 v130_r0
  let c0_i32_83_r0 : BitVec 32 := 0#32
  let c1_i32_85_r0 : BitVec 32 := 1#32
  let arg4_r0 : BitVec 32 := Scf.iv c0_i32_83_r0 c1_i32_85_r0 k0_t1
  let c0_i32_147_r0 : BitVec 32 := 0#32
  let v120_r0 : BitVec 1 := Scalar.cmpi .eq arg4_r0 c0_i32_147_r0
  let true_2265_r0 : BitVec 1 := 1#1
  let v2280_r0 : BitVec 1 := Scalar.xori v120_r0 true_2265_r0
  let v2281_r0 : BitVec 1 := Scalar.andi v2279_r0 v2280_r0
  let v2282_r0 : BitVec 32 := Scalar.extui v2281_r0
  let c0_i32_2266_r0 : BitVec 32 := 0#32
  let v2283_r0 : BitVec 1 := Scalar.cmpi .ne v2282_r0 c0_i32_2266_r0
  v2283_r0

def k0_off42 (arg15_r0 : BitVec 32) : Fin 4 → Nat :=
  let c1_i32_2286_r0 : BitVec 32 := 1#32
  let true_150_r0 : BitVec 1 := 1#1
  let c_m1_i32_152_r0 : BitVec 32 := 4294967295#32
  let c0_i32_151_r0 : BitVec 32 := 0#32
  let v123_r0 : BitVec 32 := Scalar.select true_150_r0 c_m1_i32_152_r0 c0_i32_151_r0
  let c_m1_i32_153_r0 : BitVec 32 := 4294967295#32
  let v124_r0 : BitVec 1 := Scalar.cmpi .eq v123_r0 c_m1_i32_153_r0
  let c1_i32_155_r0 : BitVec 32 := 1#32
  let v126_r0 : BitVec 32 := Scalar.subi arg15_r0 c1_i32_155_r0
  let v127_r0 : BitVec 32 := Scalar.select v124_r0 v126_r0 arg15_r0
  let c_m1_i32_156_r0 : BitVec 32 := 4294967295#32
  let v128_r0 : BitVec 1 := Scalar.cmpi .eq v127_r0 c_m1_i32_156_r0
  let c7_i32_157_r0 : BitVec 32 := 7#32
  let v129_r0 : BitVec 32 := Scalar.select v128_r0 c7_i32_157_r0 v127_r0
  let c0_i32_158_r0 : BitVec 32 := 0#32
  let v130_r0 : BitVec 32 := Scalar.addi v129_r0 c0_i32_158_r0
  let v2315_r0 : BitVec 32 := Scalar.muli c1_i32_2286_r0 v130_r0
  let c0_i32_2287_r0 : BitVec 32 := 0#32
  let c0_i32_2288_r0 : BitVec 32 := 0#32
  let c0_i32_2289_r0 : BitVec 32 := 0#32
  ![v2315_r0.toNat, 0, 0, 0]
def k0_off43 (arg12_r0 : BitVec 32) : Fin 5 → Nat :=
  let c2_i32_2285_r0 : BitVec 32 := 2#32
  let v2314_r0 : BitVec 32 := Scalar.remui arg12_r0 c2_i32_2285_r0
  let c0_i32_2290_r0 : BitVec 32 := 0#32
  let c0_i32_2291_r0 : BitVec 32 := 0#32
  let c0_i32_2292_r0 : BitVec 32 := 0#32
  let c0_i32_2293_r0 : BitVec 32 := 0#32
  ![v2314_r0.toNat, 0, 0, 0, 0]
def k0_off44 (arg14_r0 : BitVec 32) : Fin 1 → Nat :=
  let c2_i32_2285_r0 : BitVec 32 := 2#32
  let v2314_r0 : BitVec 32 := Scalar.remui arg14_r0 c2_i32_2285_r0
  ![v2314_r0.toNat]
def k0_cond19 (k0_t1 : Fin k0_t1_loop.trips) (arg15_r0 : BitVec 32) : BitVec 1 :=
  let c0_i32_149_r0 : BitVec 32 := 0#32
  let v122_r0 : BitVec 32 := Scalar.addi arg15_r0 c0_i32_149_r0
  let true_150_r0 : BitVec 1 := 1#1
  let c_m1_i32_152_r0 : BitVec 32 := 4294967295#32
  let c0_i32_151_r0 : BitVec 32 := 0#32
  let v123_r0 : BitVec 32 := Scalar.select true_150_r0 c_m1_i32_152_r0 c0_i32_151_r0
  let c_m1_i32_153_r0 : BitVec 32 := 4294967295#32
  let v124_r0 : BitVec 1 := Scalar.cmpi .eq v123_r0 c_m1_i32_153_r0
  let c1_i32_155_r0 : BitVec 32 := 1#32
  let v126_r0 : BitVec 32 := Scalar.subi arg15_r0 c1_i32_155_r0
  let v127_r0 : BitVec 32 := Scalar.select v124_r0 v126_r0 arg15_r0
  let c_m1_i32_156_r0 : BitVec 32 := 4294967295#32
  let v128_r0 : BitVec 1 := Scalar.cmpi .eq v127_r0 c_m1_i32_156_r0
  let c7_i32_157_r0 : BitVec 32 := 7#32
  let v129_r0 : BitVec 32 := Scalar.select v128_r0 c7_i32_157_r0 v127_r0
  let c0_i32_158_r0 : BitVec 32 := 0#32
  let v130_r0 : BitVec 32 := Scalar.addi v129_r0 c0_i32_158_r0
  let v2287_r0 : BitVec 1 := Scalar.cmpi .ne v122_r0 v130_r0
  let c0_i32_83_r0 : BitVec 32 := 0#32
  let c1_i32_85_r0 : BitVec 32 := 1#32
  let arg4_r0 : BitVec 32 := Scf.iv c0_i32_83_r0 c1_i32_85_r0 k0_t1
  let c0_i32_147_r0 : BitVec 32 := 0#32
  let v120_r0 : BitVec 1 := Scalar.cmpi .eq arg4_r0 c0_i32_147_r0
  let true_2269_r0 : BitVec 1 := 1#1
  let v2288_r0 : BitVec 1 := Scalar.xori v120_r0 true_2269_r0
  let v2289_r0 : BitVec 1 := Scalar.andi v2287_r0 v2288_r0
  let v2290_r0 : BitVec 32 := Scalar.extui v2289_r0
  let c0_i32_2270_r0 : BitVec 32 := 0#32
  let v2291_r0 : BitVec 1 := Scalar.cmpi .ne v2290_r0 c0_i32_2270_r0
  v2291_r0

def k0_off45 (arg15_r0 : BitVec 32) : Fin 3 → Nat :=
  let c1_i32_2286_r0 : BitVec 32 := 1#32
  let true_150_r0 : BitVec 1 := 1#1
  let c_m1_i32_152_r0 : BitVec 32 := 4294967295#32
  let c0_i32_151_r0 : BitVec 32 := 0#32
  let v123_r0 : BitVec 32 := Scalar.select true_150_r0 c_m1_i32_152_r0 c0_i32_151_r0
  let c_m1_i32_153_r0 : BitVec 32 := 4294967295#32
  let v124_r0 : BitVec 1 := Scalar.cmpi .eq v123_r0 c_m1_i32_153_r0
  let c1_i32_155_r0 : BitVec 32 := 1#32
  let v126_r0 : BitVec 32 := Scalar.subi arg15_r0 c1_i32_155_r0
  let v127_r0 : BitVec 32 := Scalar.select v124_r0 v126_r0 arg15_r0
  let c_m1_i32_156_r0 : BitVec 32 := 4294967295#32
  let v128_r0 : BitVec 1 := Scalar.cmpi .eq v127_r0 c_m1_i32_156_r0
  let c7_i32_157_r0 : BitVec 32 := 7#32
  let v129_r0 : BitVec 32 := Scalar.select v128_r0 c7_i32_157_r0 v127_r0
  let c0_i32_158_r0 : BitVec 32 := 0#32
  let v130_r0 : BitVec 32 := Scalar.addi v129_r0 c0_i32_158_r0
  let v2315_r0 : BitVec 32 := Scalar.muli c1_i32_2286_r0 v130_r0
  let c0_i32_2287_r0 : BitVec 32 := 0#32
  let c0_i32_2288_r0 : BitVec 32 := 0#32
  ![v2315_r0.toNat, 0, 0]
def k0_off46 (arg14_r0 : BitVec 32) : Fin 4 → Nat :=
  let c2_i32_2285_r0 : BitVec 32 := 2#32
  let v2314_r0 : BitVec 32 := Scalar.remui arg14_r0 c2_i32_2285_r0
  let c0_i32_2289_r0 : BitVec 32 := 0#32
  let c0_i32_2290_r0 : BitVec 32 := 0#32
  let c0_i32_2291_r0 : BitVec 32 := 0#32
  ![v2314_r0.toNat, 0, 0, 0]

def k0_chk1 (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) : Prop :=
  (∀ (k0_h2 : k0_cond2 k0_t1 arg15_r0 = 1#1), ∀ a, (k0_off9 arg5_r0) a + S1.size a ≤ S3.size a) ∧
  (∀ (k0_h2 : k0_cond2 k0_t1 arg15_r0 = 1#1), ∀ a, (k0_off10 arg5_r0) a + S1x1x64x64x128.size a ≤ S3x1x64x64x128.size a) ∧
  (∀ (k0_h2 : k0_cond2 k0_t1 arg15_r0 = 1#1), ∀ a, (k0_off11 arg15_r0) a + S1x64x64x128.size a ≤ S8x64x64x128.size a) ∧
  (∀ (k0_h3 : k0_cond3 k0_t1 arg15_r0 = 1#1), ∀ a, (k0_off12 arg7_r0) a + S1.size a ≤ S2.size a) ∧
  (∀ (k0_h3 : k0_cond3 k0_t1 arg15_r0 = 1#1), ∀ a, (k0_off13 arg7_r0) a + S1x6x1x64x128.size a ≤ S2x6x1x64x128.size a) ∧
  (∀ (k0_h3 : k0_cond3 k0_t1 arg15_r0 = 1#1), ∀ a, (k0_off14 arg15_r0) a + S6x1x64x128.size a ≤ S6x8x64x128.size a) ∧
  (∀ (k0_h4 : k0_cond4 k0_t1 arg15_r0 = 1#1), ∀ a, (k0_off15 arg9_r0) a + S1.size a ≤ S2.size a) ∧
  (∀ (k0_h4 : k0_cond4 k0_t1 arg15_r0 = 1#1), ∀ a, (k0_off16 arg9_r0) a + S1x1x1x64x128.size a ≤ S2x1x1x64x128.size a) ∧
  (∀ (k0_h4 : k0_cond4 k0_t1 arg15_r0 = 1#1), ∀ a, (k0_off17 arg15_r0) a + S1x1x64x128.size a ≤ S6x8x64x128.size a) ∧
  (∀ (k0_h5 : k0_cond5 k0_t1 arg15_r0 = 1#1), ∀ a, (k0_off18 arg6_r0) a + S1.size a ≤ S3.size a) ∧
  (∀ (k0_h5 : k0_cond5 k0_t1 arg15_r0 = 1#1), ∀ a, (k0_off19 arg6_r0) a + S1x1x64x64x128.size a ≤ S3x1x64x64x128.size a) ∧
  (∀ (k0_h5 : k0_cond5 k0_t1 arg15_r0 = 1#1), ∀ a, (k0_off20 arg15_r0) a + S1x64x64x128.size a ≤ S8x64x64x128.size a) ∧
  (∀ (k0_h6 : k0_cond6 k0_t1 arg15_r0 = 1#1), ∀ a, (k0_off21 arg8_r0) a + S1.size a ≤ S2.size a) ∧
  (∀ (k0_h6 : k0_cond6 k0_t1 arg15_r0 = 1#1), ∀ a, (k0_off22 arg8_r0) a + S1x6x1x64x128.size a ≤ S2x6x1x64x128.size a) ∧
  (∀ (k0_h6 : k0_cond6 k0_t1 arg15_r0 = 1#1), ∀ a, (k0_off23 arg15_r0) a + S6x1x64x128.size a ≤ S6x8x64x128.size a) ∧
  (∀ (k0_h7 : k0_cond7 k0_t1 arg15_r0 = 1#1), ∀ a, (k0_off24 arg10_r0) a + S1.size a ≤ S2.size a) ∧
  (∀ (k0_h7 : k0_cond7 k0_t1 arg15_r0 = 1#1), ∀ a, (k0_off25 arg10_r0) a + S1x1x1x64x128.size a ≤ S2x1x1x64x128.size a) ∧
  (∀ (k0_h7 : k0_cond7 k0_t1 arg15_r0 = 1#1), ∀ a, (k0_off26 arg15_r0) a + S1x1x64x128.size a ≤ S6x8x64x128.size a) ∧
  (∀ (k0_h13 : k0_cond13 k0_t1 arg15_r0 = 1#1), ∀ a, (k0_off35 arg11_r0) a + S1.size a ≤ S2.size a) ∧
  (∀ (k0_h13 : k0_cond13 k0_t1 arg15_r0 = 1#1), ∀ a, (k0_off36 arg15_r0) a + S1x64x64x128.size a ≤ S8x64x64x128.size a) ∧
  (∀ (k0_h13 : k0_cond13 k0_t1 arg15_r0 = 1#1), ∀ a, (k0_off37 arg11_r0) a + S1x1x64x64x128.size a ≤ S2x1x64x64x128.size a) ∧
  (∀ (k0_h14 : k0_cond14 k0_t1 arg15_r0 = 1#1), ∀ a, (k0_off38 arg13_r0) a + S1.size a ≤ S2.size a) ∧
  (∀ (k0_h14 : k0_cond14 k0_t1 arg15_r0 = 1#1), ∀ a, (k0_off39 arg15_r0) a + S1x64x128.size a ≤ S8x64x128.size a) ∧
  (∀ (k0_h14 : k0_cond14 k0_t1 arg15_r0 = 1#1), ∀ a, (k0_off40 arg13_r0) a + S1x1x64x128.size a ≤ S2x1x64x128.size a) ∧
  (∀ (k0_h18 : k0_cond18 k0_t1 arg15_r0 = 1#1), ∀ a, (k0_off41 arg12_r0) a + S1.size a ≤ S2.size a) ∧
  (∀ (k0_h18 : k0_cond18 k0_t1 arg15_r0 = 1#1), ∀ a, (k0_off42 arg15_r0) a + S1x64x64x128.size a ≤ S8x64x64x128.size a) ∧
  (∀ (k0_h18 : k0_cond18 k0_t1 arg15_r0 = 1#1), ∀ a, (k0_off43 arg12_r0) a + S1x1x64x64x128.size a ≤ S2x1x64x64x128.size a) ∧
  (∀ (k0_h19 : k0_cond19 k0_t1 arg15_r0 = 1#1), ∀ a, (k0_off44 arg14_r0) a + S1.size a ≤ S2.size a) ∧
  (∀ (k0_h19 : k0_cond19 k0_t1 arg15_r0 = 1#1), ∀ a, (k0_off45 arg15_r0) a + S1x64x128.size a ≤ S8x64x128.size a) ∧
  (∀ (k0_h19 : k0_cond19 k0_t1 arg15_r0 = 1#1), ∀ a, (k0_off46 arg14_r0) a + S1x1x64x128.size a ≤ S2x1x64x128.size a)
theorem k0_off9_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h2 : k0_cond2 k0_t1 arg15_r0 = 1#1), ∀ a, (k0_off9 arg5_r0) a + S1.size a ≤ S3.size a := fun k0_t1 arg5_r0 arg6_r0 arg7_r0 arg8_r0 arg9_r0 arg10_r0 arg11_r0 arg12_r0 arg13_r0 arg14_r0 arg15_r0 k0_hw1 k0_h2 => k0_hw1.1 k0_h2
theorem k0_off10_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h2 : k0_cond2 k0_t1 arg15_r0 = 1#1), ∀ a, (k0_off10 arg5_r0) a + S1x1x64x64x128.size a ≤ S3x1x64x64x128.size a := fun k0_t1 arg5_r0 arg6_r0 arg7_r0 arg8_r0 arg9_r0 arg10_r0 arg11_r0 arg12_r0 arg13_r0 arg14_r0 arg15_r0 k0_hw1 k0_h2 => k0_hw1.2.1 k0_h2
theorem k0_off11_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h2 : k0_cond2 k0_t1 arg15_r0 = 1#1), ∀ a, (k0_off11 arg15_r0) a + S1x64x64x128.size a ≤ S8x64x64x128.size a := fun k0_t1 arg5_r0 arg6_r0 arg7_r0 arg8_r0 arg9_r0 arg10_r0 arg11_r0 arg12_r0 arg13_r0 arg14_r0 arg15_r0 k0_hw1 k0_h2 => k0_hw1.2.2.1 k0_h2
theorem k0_off12_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h3 : k0_cond3 k0_t1 arg15_r0 = 1#1), ∀ a, (k0_off12 arg7_r0) a + S1.size a ≤ S2.size a := fun k0_t1 arg5_r0 arg6_r0 arg7_r0 arg8_r0 arg9_r0 arg10_r0 arg11_r0 arg12_r0 arg13_r0 arg14_r0 arg15_r0 k0_hw1 k0_h3 => k0_hw1.2.2.2.1 k0_h3
theorem k0_off13_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h3 : k0_cond3 k0_t1 arg15_r0 = 1#1), ∀ a, (k0_off13 arg7_r0) a + S1x6x1x64x128.size a ≤ S2x6x1x64x128.size a := fun k0_t1 arg5_r0 arg6_r0 arg7_r0 arg8_r0 arg9_r0 arg10_r0 arg11_r0 arg12_r0 arg13_r0 arg14_r0 arg15_r0 k0_hw1 k0_h3 => k0_hw1.2.2.2.2.1 k0_h3
theorem k0_off14_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h3 : k0_cond3 k0_t1 arg15_r0 = 1#1), ∀ a, (k0_off14 arg15_r0) a + S6x1x64x128.size a ≤ S6x8x64x128.size a := fun k0_t1 arg5_r0 arg6_r0 arg7_r0 arg8_r0 arg9_r0 arg10_r0 arg11_r0 arg12_r0 arg13_r0 arg14_r0 arg15_r0 k0_hw1 k0_h3 => k0_hw1.2.2.2.2.2.1 k0_h3
theorem k0_off15_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h4 : k0_cond4 k0_t1 arg15_r0 = 1#1), ∀ a, (k0_off15 arg9_r0) a + S1.size a ≤ S2.size a := fun k0_t1 arg5_r0 arg6_r0 arg7_r0 arg8_r0 arg9_r0 arg10_r0 arg11_r0 arg12_r0 arg13_r0 arg14_r0 arg15_r0 k0_hw1 k0_h4 => k0_hw1.2.2.2.2.2.2.1 k0_h4
theorem k0_off16_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h4 : k0_cond4 k0_t1 arg15_r0 = 1#1), ∀ a, (k0_off16 arg9_r0) a + S1x1x1x64x128.size a ≤ S2x1x1x64x128.size a := fun k0_t1 arg5_r0 arg6_r0 arg7_r0 arg8_r0 arg9_r0 arg10_r0 arg11_r0 arg12_r0 arg13_r0 arg14_r0 arg15_r0 k0_hw1 k0_h4 => k0_hw1.2.2.2.2.2.2.2.1 k0_h4
theorem k0_off17_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h4 : k0_cond4 k0_t1 arg15_r0 = 1#1), ∀ a, (k0_off17 arg15_r0) a + S1x1x64x128.size a ≤ S6x8x64x128.size a := fun k0_t1 arg5_r0 arg6_r0 arg7_r0 arg8_r0 arg9_r0 arg10_r0 arg11_r0 arg12_r0 arg13_r0 arg14_r0 arg15_r0 k0_hw1 k0_h4 => k0_hw1.2.2.2.2.2.2.2.2.1 k0_h4
theorem k0_off18_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h5 : k0_cond5 k0_t1 arg15_r0 = 1#1), ∀ a, (k0_off18 arg6_r0) a + S1.size a ≤ S3.size a := fun k0_t1 arg5_r0 arg6_r0 arg7_r0 arg8_r0 arg9_r0 arg10_r0 arg11_r0 arg12_r0 arg13_r0 arg14_r0 arg15_r0 k0_hw1 k0_h5 => k0_hw1.2.2.2.2.2.2.2.2.2.1 k0_h5
theorem k0_off19_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h5 : k0_cond5 k0_t1 arg15_r0 = 1#1), ∀ a, (k0_off19 arg6_r0) a + S1x1x64x64x128.size a ≤ S3x1x64x64x128.size a := fun k0_t1 arg5_r0 arg6_r0 arg7_r0 arg8_r0 arg9_r0 arg10_r0 arg11_r0 arg12_r0 arg13_r0 arg14_r0 arg15_r0 k0_hw1 k0_h5 => k0_hw1.2.2.2.2.2.2.2.2.2.2.1 k0_h5
theorem k0_off20_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h5 : k0_cond5 k0_t1 arg15_r0 = 1#1), ∀ a, (k0_off20 arg15_r0) a + S1x64x64x128.size a ≤ S8x64x64x128.size a := fun k0_t1 arg5_r0 arg6_r0 arg7_r0 arg8_r0 arg9_r0 arg10_r0 arg11_r0 arg12_r0 arg13_r0 arg14_r0 arg15_r0 k0_hw1 k0_h5 => k0_hw1.2.2.2.2.2.2.2.2.2.2.2.1 k0_h5
theorem k0_off21_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h6 : k0_cond6 k0_t1 arg15_r0 = 1#1), ∀ a, (k0_off21 arg8_r0) a + S1.size a ≤ S2.size a := fun k0_t1 arg5_r0 arg6_r0 arg7_r0 arg8_r0 arg9_r0 arg10_r0 arg11_r0 arg12_r0 arg13_r0 arg14_r0 arg15_r0 k0_hw1 k0_h6 => k0_hw1.2.2.2.2.2.2.2.2.2.2.2.2.1 k0_h6
theorem k0_off22_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h6 : k0_cond6 k0_t1 arg15_r0 = 1#1), ∀ a, (k0_off22 arg8_r0) a + S1x6x1x64x128.size a ≤ S2x6x1x64x128.size a := fun k0_t1 arg5_r0 arg6_r0 arg7_r0 arg8_r0 arg9_r0 arg10_r0 arg11_r0 arg12_r0 arg13_r0 arg14_r0 arg15_r0 k0_hw1 k0_h6 => k0_hw1.2.2.2.2.2.2.2.2.2.2.2.2.2.1 k0_h6
theorem k0_off23_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h6 : k0_cond6 k0_t1 arg15_r0 = 1#1), ∀ a, (k0_off23 arg15_r0) a + S6x1x64x128.size a ≤ S6x8x64x128.size a := fun k0_t1 arg5_r0 arg6_r0 arg7_r0 arg8_r0 arg9_r0 arg10_r0 arg11_r0 arg12_r0 arg13_r0 arg14_r0 arg15_r0 k0_hw1 k0_h6 => k0_hw1.2.2.2.2.2.2.2.2.2.2.2.2.2.2.1 k0_h6
theorem k0_off24_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h7 : k0_cond7 k0_t1 arg15_r0 = 1#1), ∀ a, (k0_off24 arg10_r0) a + S1.size a ≤ S2.size a := fun k0_t1 arg5_r0 arg6_r0 arg7_r0 arg8_r0 arg9_r0 arg10_r0 arg11_r0 arg12_r0 arg13_r0 arg14_r0 arg15_r0 k0_hw1 k0_h7 => k0_hw1.2.2.2.2.2.2.2.2.2.2.2.2.2.2.2.1 k0_h7
theorem k0_off25_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h7 : k0_cond7 k0_t1 arg15_r0 = 1#1), ∀ a, (k0_off25 arg10_r0) a + S1x1x1x64x128.size a ≤ S2x1x1x64x128.size a := fun k0_t1 arg5_r0 arg6_r0 arg7_r0 arg8_r0 arg9_r0 arg10_r0 arg11_r0 arg12_r0 arg13_r0 arg14_r0 arg15_r0 k0_hw1 k0_h7 => k0_hw1.2.2.2.2.2.2.2.2.2.2.2.2.2.2.2.2.1 k0_h7
theorem k0_off26_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h7 : k0_cond7 k0_t1 arg15_r0 = 1#1), ∀ a, (k0_off26 arg15_r0) a + S1x1x64x128.size a ≤ S6x8x64x128.size a := fun k0_t1 arg5_r0 arg6_r0 arg7_r0 arg8_r0 arg9_r0 arg10_r0 arg11_r0 arg12_r0 arg13_r0 arg14_r0 arg15_r0 k0_hw1 k0_h7 => k0_hw1.2.2.2.2.2.2.2.2.2.2.2.2.2.2.2.2.2.1 k0_h7
theorem k0_off35_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h13 : k0_cond13 k0_t1 arg15_r0 = 1#1), ∀ a, (k0_off35 arg11_r0) a + S1.size a ≤ S2.size a := fun k0_t1 arg5_r0 arg6_r0 arg7_r0 arg8_r0 arg9_r0 arg10_r0 arg11_r0 arg12_r0 arg13_r0 arg14_r0 arg15_r0 k0_hw1 k0_h13 => k0_hw1.2.2.2.2.2.2.2.2.2.2.2.2.2.2.2.2.2.2.1 k0_h13
theorem k0_off36_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h13 : k0_cond13 k0_t1 arg15_r0 = 1#1), ∀ a, (k0_off36 arg15_r0) a + S1x64x64x128.size a ≤ S8x64x64x128.size a := fun k0_t1 arg5_r0 arg6_r0 arg7_r0 arg8_r0 arg9_r0 arg10_r0 arg11_r0 arg12_r0 arg13_r0 arg14_r0 arg15_r0 k0_hw1 k0_h13 => k0_hw1.2.2.2.2.2.2.2.2.2.2.2.2.2.2.2.2.2.2.2.1 k0_h13
theorem k0_off37_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h13 : k0_cond13 k0_t1 arg15_r0 = 1#1), ∀ a, (k0_off37 arg11_r0) a + S1x1x64x64x128.size a ≤ S2x1x64x64x128.size a := fun k0_t1 arg5_r0 arg6_r0 arg7_r0 arg8_r0 arg9_r0 arg10_r0 arg11_r0 arg12_r0 arg13_r0 arg14_r0 arg15_r0 k0_hw1 k0_h13 => k0_hw1.2.2.2.2.2.2.2.2.2.2.2.2.2.2.2.2.2.2.2.2.1 k0_h13
theorem k0_off38_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h14 : k0_cond14 k0_t1 arg15_r0 = 1#1), ∀ a, (k0_off38 arg13_r0) a + S1.size a ≤ S2.size a := fun k0_t1 arg5_r0 arg6_r0 arg7_r0 arg8_r0 arg9_r0 arg10_r0 arg11_r0 arg12_r0 arg13_r0 arg14_r0 arg15_r0 k0_hw1 k0_h14 => k0_hw1.2.2.2.2.2.2.2.2.2.2.2.2.2.2.2.2.2.2.2.2.2.1 k0_h14
theorem k0_off39_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h14 : k0_cond14 k0_t1 arg15_r0 = 1#1), ∀ a, (k0_off39 arg15_r0) a + S1x64x128.size a ≤ S8x64x128.size a := fun k0_t1 arg5_r0 arg6_r0 arg7_r0 arg8_r0 arg9_r0 arg10_r0 arg11_r0 arg12_r0 arg13_r0 arg14_r0 arg15_r0 k0_hw1 k0_h14 => k0_hw1.2.2.2.2.2.2.2.2.2.2.2.2.2.2.2.2.2.2.2.2.2.2.1 k0_h14
theorem k0_off40_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h14 : k0_cond14 k0_t1 arg15_r0 = 1#1), ∀ a, (k0_off40 arg13_r0) a + S1x1x64x128.size a ≤ S2x1x64x128.size a := fun k0_t1 arg5_r0 arg6_r0 arg7_r0 arg8_r0 arg9_r0 arg10_r0 arg11_r0 arg12_r0 arg13_r0 arg14_r0 arg15_r0 k0_hw1 k0_h14 => k0_hw1.2.2.2.2.2.2.2.2.2.2.2.2.2.2.2.2.2.2.2.2.2.2.2.1 k0_h14
theorem k0_off41_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h18 : k0_cond18 k0_t1 arg15_r0 = 1#1), ∀ a, (k0_off41 arg12_r0) a + S1.size a ≤ S2.size a := fun k0_t1 arg5_r0 arg6_r0 arg7_r0 arg8_r0 arg9_r0 arg10_r0 arg11_r0 arg12_r0 arg13_r0 arg14_r0 arg15_r0 k0_hw1 k0_h18 => k0_hw1.2.2.2.2.2.2.2.2.2.2.2.2.2.2.2.2.2.2.2.2.2.2.2.2.1 k0_h18
theorem k0_off42_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h18 : k0_cond18 k0_t1 arg15_r0 = 1#1), ∀ a, (k0_off42 arg15_r0) a + S1x64x64x128.size a ≤ S8x64x64x128.size a := fun k0_t1 arg5_r0 arg6_r0 arg7_r0 arg8_r0 arg9_r0 arg10_r0 arg11_r0 arg12_r0 arg13_r0 arg14_r0 arg15_r0 k0_hw1 k0_h18 => k0_hw1.2.2.2.2.2.2.2.2.2.2.2.2.2.2.2.2.2.2.2.2.2.2.2.2.2.1 k0_h18
theorem k0_off43_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h18 : k0_cond18 k0_t1 arg15_r0 = 1#1), ∀ a, (k0_off43 arg12_r0) a + S1x1x64x64x128.size a ≤ S2x1x64x64x128.size a := fun k0_t1 arg5_r0 arg6_r0 arg7_r0 arg8_r0 arg9_r0 arg10_r0 arg11_r0 arg12_r0 arg13_r0 arg14_r0 arg15_r0 k0_hw1 k0_h18 => k0_hw1.2.2.2.2.2.2.2.2.2.2.2.2.2.2.2.2.2.2.2.2.2.2.2.2.2.2.1 k0_h18
theorem k0_off44_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h19 : k0_cond19 k0_t1 arg15_r0 = 1#1), ∀ a, (k0_off44 arg14_r0) a + S1.size a ≤ S2.size a := fun k0_t1 arg5_r0 arg6_r0 arg7_r0 arg8_r0 arg9_r0 arg10_r0 arg11_r0 arg12_r0 arg13_r0 arg14_r0 arg15_r0 k0_hw1 k0_h19 => k0_hw1.2.2.2.2.2.2.2.2.2.2.2.2.2.2.2.2.2.2.2.2.2.2.2.2.2.2.2.1 k0_h19
theorem k0_off45_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h19 : k0_cond19 k0_t1 arg15_r0 = 1#1), ∀ a, (k0_off45 arg15_r0) a + S1x64x128.size a ≤ S8x64x128.size a := fun k0_t1 arg5_r0 arg6_r0 arg7_r0 arg8_r0 arg9_r0 arg10_r0 arg11_r0 arg12_r0 arg13_r0 arg14_r0 arg15_r0 k0_hw1 k0_h19 => k0_hw1.2.2.2.2.2.2.2.2.2.2.2.2.2.2.2.2.2.2.2.2.2.2.2.2.2.2.2.2.1 k0_h19
theorem k0_off46_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg5_r0 arg6_r0 arg7_r0 arg8_r0 arg9_r0 arg10_r0 arg11_r0 arg12_r0 arg13_r0 arg14_r0 arg15_r0), ∀ (k0_h19 : k0_cond19 k0_t1 arg15_r0 = 1#1), ∀ a, (k0_off46 arg14_r0) a + S1x1x64x128.size a ≤ S2x1x64x128.size a := fun k0_t1 arg5_r0 arg6_r0 arg7_r0 arg8_r0 arg9_r0 arg10_r0 arg11_r0 arg12_r0 arg13_r0 arg14_r0 arg15_r0 k0_hw1 k0_h19 => k0_hw1.2.2.2.2.2.2.2.2.2.2.2.2.2.2.2.2.2.2.2.2.2.2.2.2.2.2.2.2.2 k0_h19

def k0_off47 (v64_7_r0 : BitVec 32) : Fin 1 → Nat :=
  let c2_i32_131_r0 : BitVec 32 := 2#32
  let v106_r0 : BitVec 32 := Scalar.remui v64_7_r0 c2_i32_131_r0
  ![v106_r0.toNat]

def k0_off48 (v64_11_r0 : BitVec 32) (v64_10_r0 : BitVec 32) : Fin 4 → Nat :=
  let c1_i32_132_r0 : BitVec 32 := 1#32
  let true_88_r0 : BitVec 1 := 1#1
  let c1_i32_87_r0 : BitVec 32 := 1#32
  let v65_r0 : BitVec 32 := Scalar.subi v64_11_r0 c1_i32_87_r0
  let v66_r0 : BitVec 32 := Scalar.select true_88_r0 v65_r0 v64_11_r0
  let c_m1_i32_89_r0 : BitVec 32 := 4294967295#32
  let v67_r0 : BitVec 1 := Scalar.cmpi .eq v66_r0 c_m1_i32_89_r0
  let c1_i32_91_r0 : BitVec 32 := 1#32
  let v69_r0 : BitVec 32 := Scalar.subi v64_10_r0 c1_i32_91_r0
  let v70_r0 : BitVec 32 := Scalar.select v67_r0 v69_r0 v64_10_r0
  let c_m1_i32_92_r0 : BitVec 32 := 4294967295#32
  let v71_r0 : BitVec 1 := Scalar.cmpi .eq v70_r0 c_m1_i32_92_r0
  let c7_i32_93_r0 : BitVec 32 := 7#32
  let v72_r0 : BitVec 32 := Scalar.select v71_r0 c7_i32_93_r0 v70_r0
  let c0_i32_94_r0 : BitVec 32 := 0#32
  let v73_r0 : BitVec 32 := Scalar.addi v72_r0 c0_i32_94_r0
  let v107_r0 : BitVec 32 := Scalar.muli c1_i32_132_r0 v73_r0
  let c0_i32_133_r0 : BitVec 32 := 0#32
  let c0_i32_134_r0 : BitVec 32 := 0#32
  let c0_i32_135_r0 : BitVec 32 := 0#32
  ![v107_r0.toNat, 0, 0, 0]

def k0_off49 (v64_7_r0 : BitVec 32) : Fin 5 → Nat :=
  let c2_i32_131_r0 : BitVec 32 := 2#32
  let v106_r0 : BitVec 32 := Scalar.remui v64_7_r0 c2_i32_131_r0
  let c0_i32_136_r0 : BitVec 32 := 0#32
  let c0_i32_137_r0 : BitVec 32 := 0#32
  let c0_i32_138_r0 : BitVec 32 := 0#32
  let c0_i32_139_r0 : BitVec 32 := 0#32
  ![v106_r0.toNat, 0, 0, 0, 0]

def k0_chk7 (v64_7_r0 : BitVec 32) : Prop :=
  (∀ a, (k0_off47 v64_7_r0) a + S1.size a ≤ S2.size a) ∧
  (∀ a, (k0_off49 v64_7_r0) a + S1x1x64x64x128.size a ≤ S2x1x64x64x128.size a)
theorem k0_off47_inb : ∀ (v64_7_r0 : BitVec 32) (k0_hw7 : k0_chk7 v64_7_r0), ∀ a, (k0_off47 v64_7_r0) a + S1.size a ≤ S2.size a := fun v64_7_r0 k0_hw7 => k0_hw7.1
theorem k0_off49_inb : ∀ (v64_7_r0 : BitVec 32) (k0_hw7 : k0_chk7 v64_7_r0), ∀ a, (k0_off49 v64_7_r0) a + S1x1x64x64x128.size a ≤ S2x1x64x64x128.size a := fun v64_7_r0 k0_hw7 => k0_hw7.2

def k0_off50 (v64_9_r0 : BitVec 32) : Fin 1 → Nat :=
  let c2_i32_140_r0 : BitVec 32 := 2#32
  let v113_r0 : BitVec 32 := Scalar.remui v64_9_r0 c2_i32_140_r0
  ![v113_r0.toNat]

def k0_off51 (v64_11_r0 : BitVec 32) (v64_10_r0 : BitVec 32) : Fin 3 → Nat :=
  let c1_i32_141_r0 : BitVec 32 := 1#32
  let true_88_r0 : BitVec 1 := 1#1
  let c1_i32_87_r0 : BitVec 32 := 1#32
  let v65_r0 : BitVec 32 := Scalar.subi v64_11_r0 c1_i32_87_r0
  let v66_r0 : BitVec 32 := Scalar.select true_88_r0 v65_r0 v64_11_r0
  let c_m1_i32_89_r0 : BitVec 32 := 4294967295#32
  let v67_r0 : BitVec 1 := Scalar.cmpi .eq v66_r0 c_m1_i32_89_r0
  let c1_i32_91_r0 : BitVec 32 := 1#32
  let v69_r0 : BitVec 32 := Scalar.subi v64_10_r0 c1_i32_91_r0
  let v70_r0 : BitVec 32 := Scalar.select v67_r0 v69_r0 v64_10_r0
  let c_m1_i32_92_r0 : BitVec 32 := 4294967295#32
  let v71_r0 : BitVec 1 := Scalar.cmpi .eq v70_r0 c_m1_i32_92_r0
  let c7_i32_93_r0 : BitVec 32 := 7#32
  let v72_r0 : BitVec 32 := Scalar.select v71_r0 c7_i32_93_r0 v70_r0
  let c0_i32_94_r0 : BitVec 32 := 0#32
  let v73_r0 : BitVec 32 := Scalar.addi v72_r0 c0_i32_94_r0
  let v114_r0 : BitVec 32 := Scalar.muli c1_i32_141_r0 v73_r0
  let c0_i32_142_r0 : BitVec 32 := 0#32
  let c0_i32_143_r0 : BitVec 32 := 0#32
  ![v114_r0.toNat, 0, 0]

def k0_chk8 (v64_11_r0 : BitVec 32) (v64_10_r0 : BitVec 32) : Prop :=
  (∀ a, (k0_off48 v64_11_r0 v64_10_r0) a + S1x64x64x128.size a ≤ S8x64x64x128.size a) ∧
  (∀ a, (k0_off51 v64_11_r0 v64_10_r0) a + S1x64x128.size a ≤ S8x64x128.size a)
theorem k0_off48_inb : ∀ (v64_11_r0 : BitVec 32) (v64_10_r0 : BitVec 32) (k0_hw8 : k0_chk8 v64_11_r0 v64_10_r0), ∀ a, (k0_off48 v64_11_r0 v64_10_r0) a + S1x64x64x128.size a ≤ S8x64x64x128.size a := fun v64_11_r0 v64_10_r0 k0_hw8 => k0_hw8.1
theorem k0_off51_inb : ∀ (v64_11_r0 : BitVec 32) (v64_10_r0 : BitVec 32) (k0_hw8 : k0_chk8 v64_11_r0 v64_10_r0), ∀ a, (k0_off51 v64_11_r0 v64_10_r0) a + S1x64x128.size a ≤ S8x64x128.size a := fun v64_11_r0 v64_10_r0 k0_hw8 => k0_hw8.2

def k0_off52 (v64_9_r0 : BitVec 32) : Fin 4 → Nat :=
  let c2_i32_140_r0 : BitVec 32 := 2#32
  let v113_r0 : BitVec 32 := Scalar.remui v64_9_r0 c2_i32_140_r0
  let c0_i32_144_r0 : BitVec 32 := 0#32
  let c0_i32_145_r0 : BitVec 32 := 0#32
  let c0_i32_146_r0 : BitVec 32 := 0#32
  ![v113_r0.toNat, 0, 0, 0]

def k0_chk9 (v64_9_r0 : BitVec 32) : Prop :=
  (∀ a, (k0_off50 v64_9_r0) a + S1.size a ≤ S2.size a) ∧
  (∀ a, (k0_off52 v64_9_r0) a + S1x1x64x128.size a ≤ S2x1x64x128.size a)
theorem k0_off50_inb : ∀ (v64_9_r0 : BitVec 32) (k0_hw9 : k0_chk9 v64_9_r0), ∀ a, (k0_off50 v64_9_r0) a + S1.size a ≤ S2.size a := fun v64_9_r0 k0_hw9 => k0_hw9.1
theorem k0_off52_inb : ∀ (v64_9_r0 : BitVec 32) (k0_hw9 : k0_chk9 v64_9_r0), ∀ a, (k0_off52 v64_9_r0) a + S1x1x64x128.size a ≤ S2x1x64x128.size a := fun v64_9_r0 k0_hw9 => k0_hw9.2
-- ==== ReferenceIdeal.lean ====
abbrev S1x128x8x64x64 : Shape := ⟨5, ![1, 128, 8, 64, 64]⟩
abbrev S128x512 : Shape := ⟨2, ![128, 512]⟩
abbrev S128x8x64 : Shape := ⟨3, ![128, 8, 64]⟩
abbrev S128x8x64x64 : Shape := ⟨4, ![128, 8, 64, 64]⟩
abbrev S128x8x1x64 : Shape := ⟨4, ![128, 8, 1, 64]⟩
abbrev S128x8x64x1 : Shape := ⟨4, ![128, 8, 64, 1]⟩
abbrev S8x64x64x128 : Shape := ⟨4, ![8, 64, 64, 128]⟩
abbrev S8x64x128 : Shape := ⟨3, ![8, 64, 128]⟩

abbrev nBuf : Space → Nat
  | .hbm => 33
  | .vmem => 0
  | .smem => 0
  | _ => 0

abbrev bufTy : (tb : Table) → Fin (tcTables nBuf tb) → BufTy
  | .hbm, ⟨0, _⟩ => ⟨S1x128x8x64x64, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x8x64, .f32⟩
  | .hbm, ⟨8, _⟩ => ⟨S128x8x64, .f32⟩
  | .hbm, ⟨9, _⟩ => ⟨S128x8x64, .f32⟩
  | .hbm, ⟨10, _⟩ => ⟨S128x8x64, .f32⟩
  | .hbm, ⟨11, _⟩ => ⟨S128x8x64, .f32⟩
  | .hbm, ⟨12, _⟩ => ⟨S128x8x64, .f32⟩
  | .hbm, ⟨13, _⟩ => ⟨S128x8x64x64, .f32⟩
  | .hbm, ⟨14, _⟩ => ⟨S128x8x64, .f32⟩
  | .hbm, ⟨15, _⟩ => ⟨S128x8x1x64, .f32⟩
  | .hbm, ⟨16, _⟩ => ⟨S128x8x64x64, .f32⟩
  | .hbm, ⟨17, _⟩ => ⟨S128x8x64x64, .f32⟩
  | .hbm, ⟨18, _⟩ => ⟨S128x8x64x1, .f32⟩
  | .hbm, ⟨19, _⟩ => ⟨S128x8x1x64, .f32⟩
  | .hbm, ⟨20, _⟩ => ⟨S128x8x64x64, .f32⟩
  | .hbm, ⟨21, _⟩ => ⟨S128x8x64x64, .f32⟩
  | .hbm, ⟨22, _⟩ => ⟨S128x8x64x64, .f32⟩
  | .hbm, ⟨23, _⟩ => ⟨S128x8x64x64, .f32⟩
  | .hbm, ⟨24, _⟩ => ⟨S128x8x64x1, .f32⟩
  | .hbm, ⟨25, _⟩ => ⟨S128x8x1x64, .f32⟩
  | .hbm, ⟨26, _⟩ => ⟨S128x8x64x64, .f32⟩
  | .hbm, ⟨27, _⟩ => ⟨S128x8x64x64, .f32⟩
  | .hbm, ⟨28, _⟩ => ⟨S128x8x64x64, .f32⟩
  | .hbm, ⟨29, _⟩ => ⟨S128x8x64x64, .f32⟩
  | .hbm, ⟨30, _⟩ => ⟨S128x8x64, .f32⟩
  | .hbm, ⟨31, _⟩ => ⟨S8x64x64x128, .f32⟩
  | .hbm, ⟨32, _⟩ => ⟨S8x64x128, .f32⟩
  | _, _ => ⟨S1x128x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S128x1x1024 : Shape := ⟨3, ![128, 1, 1024]⟩
abbrev S128x512 : Shape := ⟨2, ![128, 512]⟩
abbrev S512x128 : Shape := ⟨2, ![512, 128]⟩
abbrev S1x8x64 : Shape := ⟨3, ![1, 8, 64]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S16384x512 : Shape := ⟨2, ![16384, 512]⟩
abbrev S1x128x512 : Shape := ⟨3, ![1, 128, 512]⟩
abbrev S5x128x512 : Shape := ⟨3, ![5, 128, 512]⟩
abbrev S8x64 : Shape := ⟨2, ![8, 64]⟩
abbrev S512 : Shape := ⟨1, ![512]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S1024x1024 : Shape := ⟨2, ![1024, 1024]⟩
abbrev S1024x4096 : Shape := ⟨2, ![1024, 4096]⟩
abbrev S4096x1024 : Shape := ⟨2, ![4096, 1024]⟩
abbrev S1024x512 : Shape := ⟨2, ![1024, 512]⟩
abbrev S512x1024 : Shape := ⟨2, ![512, 1024]⟩
abbrev S1024x1 : Shape := ⟨2, ![1024, 1]⟩
abbrev S128x256 : Shape := ⟨2, ![128, 256]⟩
abbrev S128x1024 : Shape := ⟨2, ![128, 1024]⟩
abbrev S128 : Shape := ⟨1, ![128]⟩
abbrev S128x1 : Shape := ⟨2, ![128, 1]⟩

abbrev nBuf : Space → Nat
  | .hbm => 59
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S128x1x1024, .f32⟩
  | .hbm, ⟨4, _⟩ => ⟨S128x512, .f32⟩
  | .hbm, ⟨5, _⟩ => ⟨S512x128, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .f32⟩
  | .hbm, ⟨11, _⟩ => ⟨S1x8x64, .f32⟩
  | .hbm, ⟨12, _⟩ => ⟨S1x512, .f32⟩
  | .hbm, ⟨13, _⟩ => ⟨S1x512, .f32⟩
  | .hbm, ⟨14, _⟩ => ⟨S1x1024x1024, .f32⟩
  | .hbm, ⟨15, _⟩ => ⟨S1x1024, .f32⟩
  | .hbm, ⟨16, _⟩ => ⟨S1x1024x4096, .f32⟩
  | .hbm, ⟨17, _⟩ => ⟨S1x4096x1024, .f32⟩
  | .hbm, ⟨18, _⟩ => ⟨S1024, .f32⟩
  | .hbm, ⟨19, _⟩ => ⟨S16384x1024, .f32⟩
  | .hbm, ⟨20, _⟩ => ⟨S8x2048x512, .bf16⟩
  | .hbm, ⟨21, _⟩ => ⟨S16384x512, .bf16⟩
  | .hbm, ⟨22, _⟩ => ⟨S8x2048x512, .bf16⟩
  | .hbm, ⟨23, _⟩ => ⟨S16384x512, .bf16⟩
  | .hbm, ⟨24, _⟩ => ⟨S128x512, .bf16⟩
  | .hbm, ⟨25, _⟩ => ⟨S1x128x512, .f32⟩
  | .hbm, ⟨26, _⟩ => ⟨S1x128x512, .f32⟩
  | .hbm, ⟨27, _⟩ => ⟨S1x128x512, .f32⟩
  | .hbm, ⟨28, _⟩ => ⟨S1x128x512, .f32⟩
  | .hbm, ⟨29, _⟩ => ⟨S1x128x512, .f32⟩
  | .hbm, ⟨30, _⟩ => ⟨S5x128x512, .f32⟩
  | .hbm, ⟨31, _⟩ => ⟨S8x64, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S4, .i32⟩
  | .hbm, ⟨38, _⟩ => ⟨S4x1, .i32⟩
  | .hbm, ⟨39, _⟩ => ⟨S1x4, .i32⟩
  | .hbm, ⟨40, _⟩ => ⟨S4x4, .i32⟩
  | .hbm, ⟨41, _⟩ => ⟨S4x4, .i32⟩
  | .hbm, ⟨42, _⟩ => ⟨S4x4, .i1⟩
  | .hbm, ⟨43, _⟩ => ⟨S4x4, .f32⟩
  | .hbm, ⟨44, _⟩ => ⟨S4x1x4x1, .f32⟩
  | .hbm, ⟨45, _⟩ => ⟨S4x64x4x64, .f32⟩
  | .hbm, ⟨46, _⟩ => ⟨S256x256, .f32⟩
  | .hbm, ⟨47, _⟩ => ⟨S256x256, .bf16⟩
  | .hbm, ⟨48, _⟩ => ⟨S1024x1024, .f32⟩
  | .hbm, ⟨49, _⟩ => ⟨S1024x1024, .bf16⟩
  | .hbm, ⟨50, _⟩ => ⟨S1024, .f32⟩
  | .hbm, ⟨51, _⟩ => ⟨S1x1024, .f32⟩
  | .hbm, ⟨52, _⟩ => ⟨S1024x4096, .f32⟩
  | .hbm, ⟨53, _⟩ => ⟨S1024x4096, .bf16⟩
  | .hbm, ⟨54, _⟩ => ⟨S4096x1024, .f32⟩
  | .hbm, ⟨55, _⟩ => ⟨S4096x1024, .bf16⟩
  | .hbm, ⟨56, _⟩ => ⟨S1x1024, .f32⟩
  | .hbm, ⟨57, _⟩ => ⟨S16384x1024, .f32⟩
  | .hbm, ⟨58, _⟩ => ⟨S128x1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S128x1x1024, .f32⟩
  | .local _ .vmem, ⟨7, _⟩ => ⟨S128x512, .bf16⟩
  | .local _ .vmem, ⟨8, _⟩ => ⟨S512x128, .f32⟩
  | .local _ .vmem, ⟨9, _⟩ => ⟨S5x128x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x256, .bf16⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S128x1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v4 : BitVec 1 := Scalar.cmpi .slt arg0 c16_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c16_i32_3 : BitVec 32 := 16#32
  let v7 : BitVec 1 := Scalar.cmpi .eq arg0 c16_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S128x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S8x2048x1024 : Shape := ⟨3, ![8, 2048, 1024]⟩
abbrev S8x2048x512 : Shape := ⟨3, ![8, 2048, 512]⟩
abbrev S128x1x1024 : Shape := ⟨3, ![128, 1, 1024]⟩
abbrev S128x512 : Shape := ⟨2, ![128, 512]⟩
abbrev S512x128 : Shape := ⟨2, ![512, 128]⟩
abbrev S1x8x64 : Shape := ⟨3, ![1, 8, 64]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S128x1x8x64 : Shape := ⟨4, ![128, 1, 8, 64]⟩
abbrev S_ : Shape := ⟨0, ![]⟩
abbrev S128x1x8 : Shape := ⟨3, ![128, 1, 8]⟩
abbrev S128x1x8x1 : Shape := ⟨4, ![128, 1, 8, 1]⟩
abbrev S128x1x512 : Shape := ⟨3, ![128, 1, 512]⟩
abbrev S512 : Shape := ⟨1, ![512]⟩
abbrev S1x1x512 : Shape := ⟨3, ![1, 1, 512]⟩
abbrev S8x64 : Shape := ⟨2, ![8, 64]⟩
abbrev S1x1x8x64 : Shape := ⟨4, ![1, 1, 8, 64]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S4096x1024 : Shape := ⟨2, ![4096, 1024]⟩
abbrev S16384x1024 : Shape := ⟨2, ![16384, 1024]⟩
abbrev S128x1 : Shape := ⟨2, ![128, 1]⟩
abbrev S128x1x1 : Shape := ⟨3, ![128, 1, 1]⟩
abbrev S128x1x4096 : Shape := ⟨3, ![128, 1, 4096]⟩

abbrev nBuf : Space → Nat
  | .hbm => 165
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x512, .f32⟩
  | 3 => ⟨S128x1x1024, .f32⟩
  | 4 => ⟨S128x512, .f32⟩
  | 5 => ⟨S512x128, .f32⟩
  | 6 => ⟨S128x512, .f32⟩
  | 7 => ⟨S128x512, .f32⟩
  | 8 => ⟨S128x512, .f32⟩
  | 9 => ⟨S128x512, .f32⟩
  | 10 => ⟨S128x512, .f32⟩
  | 11 => ⟨S1x8x64, .f32⟩
  | 12 => ⟨S1x512, .f32⟩
  | 13 => ⟨S1x512, .f32⟩
  | 14 => ⟨S1x1024x1024, .f32⟩
  | 15 => ⟨S1x1024, .f32⟩
  | 16 => ⟨S1x1024x4096, .f32⟩
  | 17 => ⟨S1x4096x1024, .f32⟩
  | 18 => ⟨S1024, .f32⟩
  | 19 => ⟨S128x512, .f32⟩
  | 20 => ⟨S128x512, .f32⟩
  | 21 => ⟨S128x1x8x64, .f32⟩
  | 22 => ⟨S_, .f32⟩
  | 23 => ⟨S128x1x8, .f32⟩
  | 24 => ⟨S128x1x8x1, .f32⟩
  | 25 => ⟨S_, .f32⟩
  | 26 => ⟨S128x1x8x1, .f32⟩
  | 27 => ⟨S128x1x8x1, .f32⟩
  | 28 => ⟨S128x1x8x64, .f32⟩
  | 29 => ⟨S128x1x8x64, .f32⟩
  | 30 => ⟨S128x1x8x64, .f32⟩
  | 31 => ⟨S_, .f32⟩
  | 32 => ⟨S128x1x8, .f32⟩
  | 33 => ⟨S128x1x8x1, .f32⟩
  | 34 => ⟨S_, .f32⟩
  | 35 => ⟨S128x1x8x1, .f32⟩
  | 36 => ⟨S128x1x8x1, .f32⟩
  | 37 => ⟨S128x1x8x64, .f32⟩
  | 38 => ⟨S128x1x8x64, .f32⟩
  | 39 => ⟨S_, .f32⟩
  | 40 => ⟨S128x1x8x1, .f32⟩
  | 41 => ⟨S128x1x8x1, .f32⟩
  | 42 => ⟨S128x1x8x1, .f32⟩
  | 43 => ⟨S128x1x8x64, .f32⟩
  | 44 => ⟨S128x1x8x64, .f32⟩
  | 45 => ⟨S128x1x512, .f32⟩
  | 46 => ⟨S512, .f32⟩
  | 47 => ⟨S1x1x512, .f32⟩
  | 48 => ⟨S128x1x512, .f32⟩
  | 49 => ⟨S128x1x512, .f32⟩
  | 50 => ⟨S512, .f32⟩
  | 51 => ⟨S1x1x512, .f32⟩
  | 52 => ⟨S128x1x512, .f32⟩
  | 53 => ⟨S128x1x512, .f32⟩
  | 54 => ⟨S128x1x8x64, .f32⟩
  | 55 => ⟨S128x1x8x64, .f32⟩
  | 56 => ⟨S128x1x8x64, .f32⟩
  | 57 => ⟨S8x64, .f32⟩
  | 58 => ⟨S1x1x8x64, .f32⟩
  | 59 => ⟨S128x1x8x64, .f32⟩
  | 60 => ⟨S128x1x8x64, .f32⟩
  | 61 => ⟨S_, .f32⟩
  | 62 => ⟨S128x1x8, .f32⟩
  | 63 => ⟨S128x1x8x1, .f32⟩
  | 64 => ⟨S128x1x8x64, .f32⟩
  | 65 => ⟨S128x1x8x64, .f32⟩
  | 66 => ⟨S128x1x8x64, .f32⟩
  | 67 => ⟨S128x1x512, .f32⟩
  | 68 => ⟨S128x1x512, .f32⟩
  | 69 => ⟨S128x1x512, .f32⟩
  | 70 => ⟨S128x1x512, .f32⟩
  | 71 => ⟨S8x2048x1024, .f32⟩
  | 72 => ⟨S1024x1024, .f32⟩
  | 73 => ⟨S8x2048x1024, .f32⟩
  | 74 => ⟨S8x2048x1024, .f32⟩
  | 75 => ⟨S1024, .f32⟩
  | 76 => ⟨S8x2048x1024, .f32⟩
  | 77 => ⟨S_, .f32⟩
  | 78 => ⟨S8x2048, .f32⟩
  | 79 => ⟨S8x2048x1, .f32⟩
  | 80 => ⟨S_, .f32⟩
  | 81 => ⟨S8x2048x1, .f32⟩
  | 82 => ⟨S8x2048x1, .f32⟩
  | 83 => ⟨S_, .f32⟩
  | 84 => ⟨S8x2048x1, .f32⟩
  | 85 => ⟨S8x2048x1, .f32⟩
  | 86 => ⟨S8x2048x1, .f32⟩
  | 87 => ⟨S8x2048x1024, .f32⟩
  | 88 => ⟨S8x2048x1024, .f32⟩
  | 89 => ⟨S1x1x1024, .f32⟩
  | 90 => ⟨S8x2048x1024, .f32⟩
  | 91 => ⟨S8x2048x1024, .f32⟩
  | 92 => ⟨S1024x4096, .f32⟩
  | 93 => ⟨S8x2048x4096, .f32⟩
  | 94 => ⟨S_, .f32⟩
  | 95 => ⟨S8x2048x4096, .f32⟩
  | 96 => ⟨S8x2048x4096, .f32⟩
  | 97 => ⟨S8x2048x4096, .f32⟩
  | 98 => ⟨S4096x1024, .f32⟩
  | 99 => ⟨S8x2048x1024, .f32⟩
  | 100 => ⟨S8x2048x1024, .f32⟩
  | 101 => ⟨S8x2048x1024, .f32⟩
  | 102 => ⟨S_, .f32⟩
  | 103 => ⟨S8x2048, .f32⟩
  | 104 => ⟨S8x2048x1, .f32⟩
  | 105 => ⟨S_, .f32⟩
  | 106 => ⟨S8x2048x1, .f32⟩
  | 107 => ⟨S8x2048x1, .f32⟩
  | 108 => ⟨S_, .f32⟩
  | 109 => ⟨S8x2048x1, .f32⟩
  | 110 => ⟨S8x2048x1, .f32⟩
  | 111 => ⟨S8x2048x1, .f32⟩
  | 112 => ⟨S8x2048x1024, .f32⟩
  | 113 => ⟨S8x2048x1024, .f32⟩
  | 114 => ⟨S1x1x1024, .f32⟩
  | 115 => ⟨S8x2048x1024, .f32⟩
  | 116 => ⟨S8x2048x1024, .f32⟩
  | 117 => ⟨S16384x1024, .f32⟩
  | 118 => ⟨S128x1x512, .f32⟩
  | 119 => ⟨S128x1x1024, .f32⟩
  | 120 => ⟨S1024x1024, .f32⟩
  | 121 => ⟨S128x1x1024, .f32⟩
  | 122 => ⟨S128x1x1024, .f32⟩
  | 123 => ⟨S1024, .f32⟩
  | 124 => ⟨S128x1x1024, .f32⟩
  | 125 => ⟨S_, .f32⟩
  | 126 => ⟨S128x1, .f32⟩
  | 127 => ⟨S128x1x1, .f32⟩
  | _ => ⟨S8x2048x1024, .f32⟩

abbrev hbmTy0_1 (i : Nat) : BufTy := match i % 128 with
  | 0 => ⟨S_, .f32⟩
  | 1 => ⟨S128x1x1, .f32⟩
  | 2 => ⟨S128x1x1, .f32⟩
  | 3 => ⟨S_, .f32⟩
  | 4 => ⟨S128x1x1, .f32⟩
  | 5 => ⟨S128x1x1, .f32⟩
  | 6 => ⟨S128x1x1, .f32⟩
  | 7 => ⟨S128x1x1024, .f32⟩
  | 8 => ⟨S128x1x1024, .f32⟩
  | 9 => ⟨S1x1x1024, .f32⟩
  | 10 => ⟨S128x1x1024, .f32⟩
  | 11 => ⟨S128x1x1024, .f32⟩
  | 12 => ⟨S1024x4096, .f32⟩
  | 13 => ⟨S128x1x4096, .f32⟩
  | 14 => ⟨S_, .f32⟩
  | 15 => ⟨S128x1x4096, .f32⟩
  | 16 => ⟨S128x1x4096, .f32⟩
  | 17 => ⟨S128x1x4096, .f32⟩
  | 18 => ⟨S4096x1024, .f32⟩
  | 19 => ⟨S128x1x1024, .f32⟩
  | 20 => ⟨S128x1x1024, .f32⟩
  | 21 => ⟨S128x1x1024, .f32⟩
  | 22 => ⟨S_, .f32⟩
  | 23 => ⟨S128x1, .f32⟩
  | 24 => ⟨S128x1x1, .f32⟩
  | 25 => ⟨S_, .f32⟩
  | 26 => ⟨S128x1x1, .f32⟩
  | 27 => ⟨S128x1x1, .f32⟩
  | 28 => ⟨S_, .f32⟩
  | 29 => ⟨S128x1x1, .f32⟩
  | 30 => ⟨S128x1x1, .f32⟩
  | 31 => ⟨S128x1x1, .f32⟩
  | 32 => ⟨S128x1x1024, .f32⟩
  | 33 => ⟨S128x1x1024, .f32⟩
  | 34 => ⟨S1x1x1024, .f32⟩
  | 35 => ⟨S128x1x1024, .f32⟩
  | 36 => ⟨S128x1x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call0_cst : Ref sig .tc := ⟨.hbm, 94, rfl⟩
abbrev main_call0_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_8 : Ref sig .tc := ⟨.hbm, 102, rfl⟩
abbrev main_v72 : Ref sig .tc := ⟨.hbm, 103, rfl⟩
abbrev main_v73 : Ref sig .tc := ⟨.hbm, 104, rfl⟩
abbrev main_cst_9 : Ref sig .tc := ⟨.hbm, 105, rfl⟩
abbrev main_v74 : Ref sig .tc := ⟨.hbm, 106, rfl⟩
abbrev main_v75 : Ref sig .tc := ⟨.hbm, 107, rfl⟩
abbrev main_cst_10 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_11 : Ref sig .tc := ⟨.hbm, 125, rfl⟩
abbrev main_v92 : Ref sig .tc := ⟨.hbm, 126, rfl⟩
abbrev main_v93 : Ref sig .tc := ⟨.hbm, 127, rfl⟩
abbrev main_cst_12 : Ref sig .tc := ⟨.hbm, 128, rfl⟩
abbrev main_v94 : Ref sig .tc := ⟨.hbm, 129, rfl⟩
abbrev main_v95 : Ref sig .tc := ⟨.hbm, 130, rfl⟩
abbrev main_cst_13 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_call1_cst : Ref sig .tc := ⟨.hbm, 142, rfl⟩
abbrev main_call1_v0 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_14 : Ref sig .tc := ⟨.hbm, 150, rfl⟩
abbrev main_v112 : Ref sig .tc := ⟨.hbm, 151, rfl⟩
abbrev main_v113 : Ref sig .tc := ⟨.hbm, 152, rfl⟩
abbrev main_cst_15 : Ref sig .tc := ⟨.hbm, 153, rfl⟩
abbrev main_v114 : Ref sig .tc := ⟨.hbm, 154, rfl⟩
abbrev main_v115 : Ref sig .tc := ⟨.hbm, 155, rfl⟩
abbrev main_cst_16 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩

abbrev nD : Nat := 1
abbrev τ : Topo := Topo.v7x

variable {F : FTy → Type} [FloatOps F]
-- ==== Kernel3.lean ====
abbrev S8x2048x1024 : Shape := ⟨3, ![8, 2048, 1024]⟩
abbrev S1x1024 : Shape := ⟨2, ![1, 1024]⟩
abbrev S1x1024x2304 : Shape := ⟨3, ![1, 1024, 2304]⟩
abbrev S1x1792 : Shape := ⟨2, ![1, 1792]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x2304 : Shape := ⟨2, ![1024, 2304]⟩
abbrev S4x128x128 : Shape := ⟨3, ![4, 128, 128]⟩
abbrev S512 : Shape := ⟨1, ![512]⟩
abbrev S1792 : Shape := ⟨1, ![1792]⟩
abbrev S1024x1024 : Shape := ⟨2, ![1024, 1024]⟩
abbrev S1024x4096 : Shape := ⟨2, ![1024, 4096]⟩
abbrev S4096x1024 : Shape := ⟨2, ![4096, 1024]⟩
abbrev S8x2048x1792 : Shape := ⟨3, ![8, 2048, 1792]⟩
abbrev S8x2048x512 : Shape := ⟨3, ![8, 2048, 512]⟩
abbrev S8x1x1792 : Shape := ⟨3, ![8, 1, 1792]⟩
abbrev S8x16x512 : Shape := ⟨3, ![8, 16, 512]⟩
abbrev S64x1024 : Shape := ⟨2, ![64, 1024]⟩
abbrev S64x4096 : Shape := ⟨2, ![64, 4096]⟩
abbrev S256x1024 : Shape := ⟨2, ![256, 1024]⟩
abbrev S1x1024x1792 : Shape := ⟨3, ![1, 1024, 1792]⟩
abbrev S1x1024x512 : Shape := ⟨3, ![1, 1024, 512]⟩
abbrev S1x1x1792 : Shape := ⟨3, ![1, 1, 1792]⟩
abbrev S1x16x512 : Shape := ⟨3, ![1, 16, 512]⟩
abbrev S1040x512 : Shape := ⟨2, ![1040, 512]⟩
abbrev S8x1792 : Shape := ⟨2, ![8, 1792]⟩
abbrev S16x512 : Shape := ⟨2, ![16, 512]⟩
abbrev S1024x1 : Shape := ⟨2, ![1024, 1]⟩
abbrev S1024x512 : Shape := ⟨2, ![1024, 512]⟩
abbrev S1024x1792 : Shape := ⟨2, ![1024, 1792]⟩
abbrev S1040x128 : Shape := ⟨2, ![1040, 128]⟩
abbrev S1024x128 : Shape := ⟨2, ![1024, 128]⟩
abbrev S1x128x128 : Shape := ⟨3, ![1, 128, 128]⟩
abbrev S128x128 : Shape := ⟨2, ![128, 128]⟩

abbrev nBuf : Space → Nat
  | .hbm => 28
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2304, .f32⟩
  | .hbm, ⟨3, _⟩ => ⟨S1x1792, .f32⟩
  | .hbm, ⟨4, _⟩ => ⟨S1x4x128x128, .f32⟩
  | .hbm, ⟨5, _⟩ => ⟨S1x512, .f32⟩
  | .hbm, ⟨6, _⟩ => ⟨S1x1024x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S1x1024, .f32⟩
  | .hbm, ⟨11, _⟩ => ⟨S1024x2304, .f32⟩
  | .hbm, ⟨12, _⟩ => ⟨S4x128x128, .f32⟩
  | .hbm, ⟨13, _⟩ => ⟨S512, .f32⟩
  | .hbm, ⟨14, _⟩ => ⟨S1x512, .f32⟩
  | .hbm, ⟨15, _⟩ => ⟨S1792, .f32⟩
  | .hbm, ⟨16, _⟩ => ⟨S1x1792, .f32⟩
  | .hbm, ⟨17, _⟩ => ⟨S1024x1024, .f32⟩
  | .hbm, ⟨18, _⟩ => ⟨S1024x4096, .f32⟩
  | .hbm, ⟨19, _⟩ => ⟨S4096x1024, .f32⟩
  | .hbm, ⟨20, _⟩ => ⟨S8x2048x1792, .f32⟩
  | .hbm, ⟨21, _⟩ => ⟨S8x2048x512, .bf16⟩
  | .hbm, ⟨22, _⟩ => ⟨S8x1x1792, .f32⟩
  | .hbm, ⟨23, _⟩ => ⟨S8x16x512, .f32⟩
  | .hbm, ⟨24, _⟩ => ⟨S1024x2304, .bf16⟩
  | .hbm, ⟨25, _⟩ => ⟨S1024x1024, .bf16⟩
  | .hbm, ⟨26, _⟩ => ⟨S1024x4096, .bf16⟩
  | .hbm, ⟨27, _⟩ => ⟨S4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2304, .f32⟩
  | .local _ .vmem, ⟨4, _⟩ => ⟨S4x128x128, .f32⟩
  | .local _ .vmem, ⟨5, _⟩ => ⟨S1x512, .f32⟩
  | .local _ .vmem, ⟨6, _⟩ => ⟨S1x1792, .f32⟩
  | .local _ .vmem, ⟨7, _⟩ => ⟨S64x1024, .f32⟩
  | .local _ .vmem, ⟨8, _⟩ => ⟨S64x1024, .f32⟩
  | .local _ .vmem, ⟨9, _⟩ => ⟨S64x4096, .f32⟩
  | .local _ .vmem, ⟨10, _⟩ => ⟨S64x4096, .f32⟩
  | .local _ .vmem, ⟨11, _⟩ => ⟨S256x1024, .f32⟩
  | .local _ .vmem, ⟨12, _⟩ => ⟨S256x1024, .f32⟩
  | .local _ .vmem, ⟨13, _⟩ => ⟨S1x1024x1792, .f32⟩
  | .local _ .vmem, ⟨14, _⟩ => ⟨S1x1024x1792, .f32⟩
  | .local _ .vmem, ⟨15, _⟩ => ⟨S1x1024x512, .bf16⟩
  | .local _ .vmem, ⟨16, _⟩ => ⟨S1x1024x512, .bf16⟩
  | .local _ .vmem, ⟨17, _⟩ => ⟨S1x1x1792, .f32⟩
  | .local _ .vmem, ⟨18, _⟩ => ⟨S1x1x1792, .f32⟩
  | .local _ .vmem, ⟨19, _⟩ => ⟨S1x16x512, .f32⟩
  | .local _ .vmem, ⟨20, _⟩ => ⟨S1x16x512, .f32⟩
  | .local _ .vmem, ⟨21, _⟩ => ⟨S1024x2304, .bf16⟩
  | .local _ .vmem, ⟨22, _⟩ => ⟨S64x1024, .bf16⟩
  | .local _ .vmem, ⟨23, _⟩ => ⟨S64x1024, .bf16⟩
  | .local _ .vmem, ⟨24, _⟩ => ⟨S64x4096, .bf16⟩
  | .local _ .vmem, ⟨25, _⟩ => ⟨S64x4096, .bf16⟩
  | .local _ .vmem, ⟨26, _⟩ => ⟨S256x1024, .bf16⟩
  | .local _ .vmem, ⟨27, _⟩ => ⟨S256x1024, .bf16⟩
  | .local _ .vmem, ⟨28, _⟩ => ⟨S1040x512, .f32⟩
  | .local _ .vmem, ⟨29, _⟩ => ⟨S8x1792, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_v11_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let arg1 : BitVec 32 := BitVec.ofNat 32 (i 1).val
  let c0_i32_11 : BitVec 32 := 0#32
  let v13 : BitVec 1 := Scalar.cmpi .eq arg1 c0_i32_11
  let v14 : BitVec 1 := Scalar.andi v12 v13
  let v15 : BitVec 32 := Scalar.extui v14
  let c0_i32_12 : BitVec 32 := 0#32
  let v16 : BitVec 1 := Scalar.cmpi .ne v15 c0_i32_12
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1792 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x2304 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x2048x1024 : Shape := ⟨3, ![8, 2048, 1024]⟩
abbrev S1x1024 : Shape := ⟨2, ![1, 1024]⟩
abbrev S1x1024x2304 : Shape := ⟨3, ![1, 1024, 2304]⟩
abbrev S1x1792 : Shape := ⟨2, ![1, 1792]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x2304 : Shape := ⟨2, ![1024, 2304]⟩
abbrev S8x2048x2304 : Shape := ⟨3, ![8, 2048, 2304]⟩
abbrev S8x2048x512 : Shape := ⟨3, ![8, 2048, 512]⟩
abbrev S8x2048x1792 : Shape := ⟨3, ![8, 2048, 1792]⟩
abbrev S8x1x1792 : Shape := ⟨3, ![8, 1, 1792]⟩
abbrev S8x2047x1792 : Shape := ⟨3, ![8, 2047, 1792]⟩
abbrev S1792 : Shape := ⟨1, ![1792]⟩
abbrev S1x1x1792 : Shape := ⟨3, ![1, 1, 1792]⟩
abbrev S8x15x512 : Shape := ⟨3, ![8, 15, 512]⟩
abbrev S8x2063x512 : Shape := ⟨3, ![8, 2063, 512]⟩
abbrev S2048 : Shape := ⟨1, ![2048]⟩
abbrev S8x2048x128 : Shape := ⟨3, ![8, 2048, 128]⟩
abbrev S1x2048x1 : Shape := ⟨3, ![1, 2048, 1]⟩
abbrev S8x2048x4x128 : Shape := ⟨4, ![8, 2048, 4, 128]⟩
abbrev S4x128x128 : Shape := ⟨3, ![4, 128, 128]⟩
abbrev S4x128x8x2048 : Shape := ⟨4, ![4, 128, 8, 2048]⟩
abbrev S512 : Shape := ⟨1, ![512]⟩
abbrev S1x1x512 : Shape := ⟨3, ![1, 1, 512]⟩
abbrev S8x16x512 : Shape := ⟨3, ![8, 16, 512]⟩

abbrev nBuf : Space → Nat
  | .hbm => 166
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x2304, .f32⟩
  | 3 => ⟨S1x1792, .f32⟩
  | 4 => ⟨S1x4x128x128, .f32⟩
  | 5 => ⟨S1x512, .f32⟩
  | 6 => ⟨S1x1024x1024, .f32⟩
  | 7 => ⟨S1x1024x4096, .f32⟩
  | 8 => ⟨S1x4096x1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1024, .f32⟩
  | 23 => ⟨S1x1x1024, .f32⟩
  | 24 => ⟨S8x2048x1024, .f32⟩
  | 25 => ⟨S8x2048x1024, .f32⟩
  | 26 => ⟨S1024x2304, .f32⟩
  | 27 => ⟨S8x2048x2304, .f32⟩
  | 28 => ⟨S8x2048x512, .f32⟩
  | 29 => ⟨S8x2048x1792, .f32⟩
  | 30 => ⟨S_, .f32⟩
  | 31 => ⟨S8x1x1792, .f32⟩
  | 32 => ⟨S8x2047x1792, .f32⟩
  | 33 => ⟨S8x2048x1792, .f32⟩
  | 34 => ⟨S8x2048x1792, .f32⟩
  | 35 => ⟨S1792, .f32⟩
  | 36 => ⟨S1x1x1792, .f32⟩
  | 37 => ⟨S8x2048x1792, .f32⟩
  | 38 => ⟨S8x2048x1792, .f32⟩
  | 39 => ⟨S8x2048x1792, .f32⟩
  | 40 => ⟨S_, .f32⟩
  | 41 => ⟨S8x15x512, .f32⟩
  | 42 => ⟨S8x2063x512, .f32⟩
  | 43 => ⟨S2048, .i32⟩
  | 44 => ⟨S8x2048x128, .f32⟩
  | 45 => ⟨S_, .f32⟩
  | 46 => ⟨S8x2048x128, .f32⟩
  | 47 => ⟨S8x2048x128, .f32⟩
  | 48 => ⟨S8x2048x128, .f32⟩
  | 49 => ⟨S8x2048x128, .f32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048, .f32⟩
  | 57 => ⟨S1x2048x1, .f32⟩
  | 58 => ⟨S8x2048x128, .f32⟩
  | 59 => ⟨S8x2048x128, .f32⟩
  | 60 => ⟨S8x2048x128, .f32⟩
  | 61 => ⟨S_, .f32⟩
  | 62 => ⟨S8x2048x128, .f32⟩
  | 63 => ⟨S8x2048x128, .f32⟩
  | 64 => ⟨S8x2048x128, .f32⟩
  | 65 => ⟨S8x2048x128, .f32⟩
  | 66 => ⟨S8x2048x128, .f32⟩
  | 67 => ⟨S8x2048x128, .f32⟩
  | 68 => ⟨S8x2048x128, .f32⟩
  | 69 => ⟨S8x2048x128, .f32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S2048, .f32⟩
  | 77 => ⟨S1x2048x1, .f32⟩
  | 78 => ⟨S8x2048x128, .f32⟩
  | 79 => ⟨S8x2048x128, .f32⟩
  | 80 => ⟨S8x2048x128, .f32⟩
  | 81 => ⟨S_, .f32⟩
  | 82 => ⟨S8x2048x128, .f32⟩
  | 83 => ⟨S8x2048x128, .f32⟩
  | 84 => ⟨S8x2048x128, .f32⟩
  | 85 => ⟨S8x2048x128, .f32⟩
  | 86 => ⟨S8x2048x128, .f32⟩
  | 87 => ⟨S8x2048x128, .f32⟩
  | 88 => ⟨S8x2048x128, .f32⟩
  | 89 => ⟨S8x2048x128, .f32⟩
  | 90 => ⟨S8x2048x128, .f32⟩
  | 91 => ⟨S8x2048x128, .f32⟩
  | 92 => ⟨S8x2048x128, .f32⟩
  | 93 => ⟨S8x2048x128, .f32⟩
  | 94 => ⟨S8x2048x128, .f32⟩
  | 95 => ⟨S8x2048x128, .f32⟩
  | 96 => ⟨S8x2048x128, .f32⟩
  | 97 => ⟨S8x2048x128, .f32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S2048, .f32⟩
  | 105 => ⟨S1x2048x1, .f32⟩
  | 106 => ⟨S8x2048x128, .f32⟩
  | 107 => ⟨S8x2048x128, .f32⟩
  | 108 => ⟨S8x2048x128, .f32⟩
  | 109 => ⟨S_, .f32⟩
  | 110 => ⟨S8x2048x128, .f32⟩
  | 111 => ⟨S8x2048x128, .f32⟩
  | 112 => ⟨S8x2048x128, .f32⟩
  | 113 => ⟨S8x2048x128, .f32⟩
  | 114 => ⟨S8x2048x128, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S8x2048x128, .f32⟩
  | 121 => ⟨S8x2048x128, .f32⟩
  | 122 => ⟨S8x2048x128, .f32⟩
  | 123 => ⟨S8x2048x128, .f32⟩
  | 124 => ⟨S8x2048x128, .f32⟩
  | 125 => ⟨S8x2048x128, .f32⟩
  | 126 => ⟨S8x2048x128, .f32⟩
  | 127 => ⟨S8x2048x128, .f32⟩
  | _ => ⟨S8x2048x1024, .f32⟩

abbrev hbmTy0_1 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S8x2048x128, .f32⟩
  | 5 => ⟨S8x2048x128, .f32⟩
  | 6 => ⟨S8x2048x128, .f32⟩
  | 7 => ⟨S8x2048x128, .f32⟩
  | 8 => ⟨S8x2048x128, .f32⟩
  | 9 => ⟨S8x2048x128, .f32⟩
  | 10 => ⟨S8x2048x128, .f32⟩
  | 11 => ⟨S8x2048x128, .f32⟩
  | 12 => ⟨S8x2048x128, .f32⟩
  | 13 => ⟨S8x2048x128, .f32⟩
  | 14 => ⟨S_, .i32⟩
  | 15 => ⟨S2048, .i32⟩
  | 16 => ⟨S2048, .i32⟩
  | 17 => ⟨S_, .i32⟩
  | 18 => ⟨S2048, .i32⟩
  | 19 => ⟨S2048, .i32⟩
  | 20 => ⟨S2048, .f32⟩
  | 21 => ⟨S1x2048x1, .f32⟩
  | 22 => ⟨S8x2048x128, .f32⟩
  | 23 => ⟨S8x2048x128, .f32⟩
  | 24 => ⟨S8x2048x512, .f32⟩
  | 25 => ⟨S8x2048x512, .f32⟩
  | 26 => ⟨S8x2048x4x128, .f32⟩
  | 27 => ⟨S4x128x128, .f32⟩
  | 28 => ⟨S4x128x8x2048, .f32⟩
  | 29 => ⟨S8x2048x4x128, .f32⟩
  | 30 => ⟨S8x2048x512, .f32⟩
  | 31 => ⟨S512, .f32⟩
  | 32 => ⟨S1x1x512, .f32⟩
  | 33 => ⟨S8x2048x512, .f32⟩
  | 34 => ⟨S8x2048x512, .f32⟩
  | 35 => ⟨S8x2048x512, .bf16⟩
  | 36 => ⟨S8x1x1792, .f32⟩
  | 37 => ⟨S8x16x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_c_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_10 : Ref sig .tc := ⟨.hbm, 98, rfl⟩
abbrev main_v77 : Ref sig .tc := ⟨.hbm, 99, rfl⟩
abbrev main_v78 : Ref sig .tc := ⟨.hbm, 100, rfl⟩
abbrev main_c_11 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_12 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_c_13 : Ref sig .tc := ⟨.hbm, 142, rfl⟩
abbrev main_v118 : Ref sig .tc := ⟨.hbm, 143, rfl⟩
abbrev main_v119 : Ref sig .tc := ⟨.hbm, 144, rfl⟩
abbrev main_c_14 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩

abbrev nD : Nat := 1
abbrev τ : Topo := Topo.v7x

variable {F : FTy → Type} [FloatOps F]
-- ==== Proof.Slots.lean ====
/-
  The decode kernel's buffers by slot and block. Three read rings (the state, three slots, two blocks ahead; the six
  vectors and, of these, the value vector once more, two slots, one block ahead) and two write rings (the new state and
  the output, two slots, drained one block later). Each ring's slots, its semaphores and the blocks of the arrays it
  copies from or to, by number; and what a slot is in each of its states.
-/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Ring.Trips
public import Idealize.ShloMosaic.Lib.Ring.WriteBehind
public import Idealize.ShloMosaic.Lib.Pipeline.Routed
public import Idealize.ShloMosaic.Lib.Tactic

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UC sig nD τ) ℕ

/-! ## Slots, blocks and semaphores by number -/

theorem sslot_inb (s : Fin 3) : ∀ a, (![s.val, 0, 0, 0, 0] : Fin 5 → Nat) a + S1x1x64x64x128.size a ≤ S3x1x64x64x128.size a := by
  revert s; decide
theorem tslot_inb (s : Fin 2) : ∀ a, (![s.val, 0, 0, 0, 0] : Fin 5 → Nat) a + S1x6x1x64x128.size a ≤ S2x6x1x64x128.size a := by
  revert s; decide
theorem vslot_inb (s : Fin 2) : ∀ a, (![s.val, 0, 0, 0, 0] : Fin 5 → Nat) a + S1x1x1x64x128.size a ≤ S2x1x1x64x128.size a := by
  revert s; decide
theorem oslot_inb (s : Fin 2) : ∀ a, (![s.val, 0, 0, 0, 0] : Fin 5 → Nat) a + S1x1x64x64x128.size a ≤ S2x1x64x64x128.size a := by
  revert s; decide
theorem yslot_inb (s : Fin 2) : ∀ a, (![s.val, 0, 0, 0] : Fin 4 → Nat) a + S1x1x64x128.size a ≤ S2x1x64x128.size a := by
  revert s; decide
theorem sblk_inb (b : Fin 8) : ∀ a, (![b.val, 0, 0, 0] : Fin 4 → Nat) a + S1x64x64x128.size a ≤ S8x64x64x128.size a := by
  revert b; decide
theorem tblk_inb (b : Fin 8) : ∀ a, (![0, b.val, 0, 0] : Fin 4 → Nat) a + S6x1x64x128.size a ≤ S6x8x64x128.size a := by
  revert b; decide
theorem vblk_inb (b : Fin 8) : ∀ a, (![5, b.val, 0, 0] : Fin 4 → Nat) a + S1x1x64x128.size a ≤ S6x8x64x128.size a := by
  revert b; decide
theorem yblk_inb (b : Fin 8) : ∀ a, (![b.val, 0, 0] : Fin 3 → Nat) a + S1x64x128.size a ≤ S8x64x128.size a := by
  revert b; decide
theorem cell3_inb (s : Fin 3) : ∀ a, (![s.val] : Fin 1 → Nat) a + S1.size a ≤ S3.size a := by
  revert s; decide
theorem cell2_inb (s : Fin 2) : ∀ a, (![s.val] : Fin 1 → Nat) a + S1.size a ≤ S2.size a := by
  revert s; decide

/-- Slot `s` of the state ring; -/
def sslot (s : Fin 3) : Memref sig .tc .vmem S1x64x64x128 .f32 :=
  ((Memref.whole cc0_scoped0).slice (Rect.unit (s := S3x1x64x64x128) ![s.val, 0, 0, 0, 0] S1x1x64x64x128.size (sslot_inb s)) (fun _ => rfl)).squeeze S1x64x64x128 squeezes_S1x1x64x64x128_S1x64x64x128
/-- of the vectors' ring; -/
def tslot (s : Fin 2) : Memref sig .tc .vmem S6x1x64x128 .f32 :=
  ((Memref.whole cc0_scoped2).slice (Rect.unit (s := S2x6x1x64x128) ![s.val, 0, 0, 0, 0] S1x6x1x64x128.size (tslot_inb s)) (fun _ => rfl)).squeeze S6x1x64x128 squeezes_S1x6x1x64x128_S6x1x64x128
/-- of the value vector's ring; -/
def vslot (s : Fin 2) : Memref sig .tc .vmem S1x1x64x128 .f32 :=
  ((Memref.whole cc0_scoped4).slice (Rect.unit (s := S2x1x1x64x128) ![s.val, 0, 0, 0, 0] S1x1x1x64x128.size (vslot_inb s)) (fun _ => rfl)).squeeze S1x1x64x128 squeezes_S1x1x1x64x128_S1x1x64x128
/-- of the new state's ring; -/
def oslot (s : Fin 2) : Memref sig .tc .vmem S1x64x64x128 .f32 :=
  ((Memref.whole cc0_scoped6).slice (Rect.unit (s := S2x1x64x64x128) ![s.val, 0, 0, 0, 0] S1x1x64x64x128.size (oslot_inb s)) (fun _ => rfl)).squeeze S1x64x64x128 squeezes_S1x1x64x64x128_S1x64x64x128
/-- of the output's ring. -/
def yslot (s : Fin 2) : Memref sig .tc .vmem S1x64x128 .f32 :=
  ((Memref.whole cc0_scoped8).slice (Rect.unit (s := S2x1x64x128) ![s.val, 0, 0, 0] S1x1x64x128.size (yslot_inb s)) (fun _ => rfl)).squeeze S1x64x128 squeezes_S1x1x64x128_S1x64x128

/-- Block `b` of the state; -/
def sblk (b : Fin 8) : Memref sig .tc .hbm S1x64x64x128 .f32 :=
  (Memref.whole main_v14).slice (Rect.unit (s := S8x64x64x128) ![b.val, 0, 0, 0] S1x64x64x128.size (sblk_inb b)) (fun _ => rfl)
/-- of the stacked vectors; -/
def tblk (b : Fin 8) : Memref sig .tc .hbm S6x1x64x128 .f32 :=
  (Memref.whole main_v15).slice (Rect.unit (s := S6x8x64x128) ![0, b.val, 0, 0] S6x1x64x128.size (tblk_inb b)) (fun _ => rfl)
/-- of the value vector among them; -/
def vblk (b : Fin 8) : Memref sig .tc .hbm S1x1x64x128 .f32 :=
  (Memref.whole main_v15).slice (Rect.unit (s := S6x8x64x128) ![5, b.val, 0, 0] S1x1x64x128.size (vblk_inb b)) (fun _ => rfl)
/-- of the new state; -/
def oblk (b : Fin 8) : Memref sig .tc .hbm S1x64x64x128 .f32 :=
  (Memref.whole main_v16_0).slice (Rect.unit (s := S8x64x64x128) ![b.val, 0, 0, 0] S1x64x64x128.size (sblk_inb b)) (fun _ => rfl)
/-- of the output. -/
def yblk (b : Fin 8) : Memref sig .tc .hbm S1x64x128 .f32 :=
  (Memref.whole main_v16_1).slice (Rect.unit (s := S8x64x128) ![b.val, 0, 0] S1x64x128.size (yblk_inb b)) (fun _ => rfl)

/-- Semaphore `s` of each ring. -/
def scell (s : Fin 3) : SemLoc sig := .dma ((cc0_scoped1.slice (Rect.unit (s := S3) ![s.val] S1.size (cell3_inb s))).squeeze S_ squeezes_S1_S_).sem
def tcell (s : Fin 2) : SemLoc sig := .dma ((cc0_scoped3.slice (Rect.unit (s := S2) ![s.val] S1.size (cell2_inb s))).squeeze S_ squeezes_S1_S_).sem
def vcell (s : Fin 2) : SemLoc sig := .dma ((cc0_scoped5.slice (Rect.unit (s := S2) ![s.val] S1.size (cell2_inb s))).squeeze S_ squeezes_S1_S_).sem
def ocell (s : Fin 2) : SemLoc sig := .dma ((cc0_scoped7.slice (Rect.unit (s := S2) ![s.val] S1.size (cell2_inb s))).squeeze S_ squeezes_S1_S_).sem
def ycell (s : Fin 2) : SemLoc sig := .dma ((cc0_scoped9.slice (Rect.unit (s := S2) ![s.val] S1.size (cell2_inb s))).squeeze S_ squeezes_S1_S_).sem

/-! ## What a slot is -/

/-- A memref's elements held outright at some contents; -/
abbrev Some' {sp : Space} {s : Shape} {e : EltTy} (c : Dev nD) (m : Memref sig .tc sp s e) : sProp 𝕄 :=
  iprop(∃ f, m.view.loc (c : Thread nD τ) ↦[m.view.set]{fullShare} f)
/-- at contents that read `G` through it. -/
abbrev Reads {sp : Space} {s : Shape} {e : EltTy} (c : Dev nD) (m : Memref sig .tc sp s e) (G : s.Idx → Elt F e) : sProp 𝕄 :=
  iprop(∃ f, ⌜m.view.read (Elt F) f = G⌝ ∗ (m.view.loc (c : Thread nD τ) ↦[m.view.set]{fullShare} f))

/-- The two operands' contents. -/
abbrev Vs (F : FTy → Type) (c : Dev nD) : Type := Buf (Elt F) ((Memref.whole main_v14).view.loc (c : Thread nD τ))
abbrev Vt (F : FTy → Type) (c : Dev nD) : Type := Buf (Elt F) ((Memref.whole main_v15).view.loc (c : Thread nD τ))

variable (c : Dev nD) (vs : Vs F c) (vt : Vt F c)

/-- A block of the operands. -/
abbrev sdat (b : Fin 8) : S1x64x64x128.Idx → Elt F .f32 := (sblk b).view.read (Elt F) vs
abbrev tdat (b : Fin 8) : S6x1x64x128.Idx → Elt F .f32 := (tblk b).view.read (Elt F) vt
abbrev vdat (b : Fin 8) : S1x1x64x128.Idx → Elt F .f32 := (vblk b).view.read (Elt F) vt

/-- The share of an operand a slot reads it at. -/
abbrev qs (s : Fin 3) : PosShare TreeShare := Ring.shares3 fullShare s
abbrev qt (s : Fin 2) : PosShare TreeShare := if s.val = 0 then fullShare.left.left else fullShare.left.right
abbrev qv (s : Fin 2) : PosShare TreeShare := if s.val = 0 then fullShare.right.left else fullShare.right.right

abbrev shome (s : Fin 3) : sProp 𝕄 := (Memref.whole main_v14).view.loc (c : Thread nD τ) ↦[Finset.univ]{qs s} vs
abbrev thome (s : Fin 2) : sProp 𝕄 := (Memref.whole main_v15).view.loc (c : Thread nD τ) ↦[Finset.univ]{qt s} vt
abbrev vhome (s : Fin 2) : sProp 𝕄 := (Memref.whole main_v15).view.loc (c : Thread nD τ) ↦[Finset.univ]{qv s} vt

/-- A read ring's slot free: its semaphore at zero, the slot at some contents, its share of the operand. -/
def sfree (s : Fin 3) : sProp 𝕄 := iprop(semVal ((c : Thread nD τ), scell s) 0 ∗ Some' c (sslot s) ∗ shome c vs s)
def tfree (s : Fin 2) : sProp 𝕄 := iprop(semVal ((c : Thread nD τ), tcell s) 0 ∗ Some' c (tslot s) ∗ thome c vt s)
def vfree (s : Fin 2) : sProp 𝕄 := iprop(semVal ((c : Thread nD τ), vcell s) 0 ∗ Some' c (vslot s) ∗ vhome c vt s)

/-- In flight with block `b`: the copy, and what is left of the operand's share. -/
def sinfl (s : Fin 3) (b : Fin 8) : sProp 𝕄 :=
  iprop((∃ f, ⌜(sslot s).view.read (Elt F) f = sdat c vs b⌝ ∗ Transfers.Flight (countersEmb (U := Pipeline.UC sig nD τ)) (c : Thread nD τ) (scell s) () 65536
      iprop(((sslot s).view.loc (c : Thread nD τ) ↦[(sslot s).view.set]{fullShare} f)
        ∗ ((Memref.whole main_v14).view.loc (c : Thread nD τ) ↦[(sblk b).view.set]{qs s} vs)))
    ∗ ((Memref.whole main_v14).view.loc (c : Thread nD τ) ↦[Finset.univ \ (sblk b).view.set]{qs s} vs))
def tinfl (s : Fin 2) (b : Fin 8) : sProp 𝕄 :=
  iprop((∃ f, ⌜(tslot s).view.read (Elt F) f = tdat c vt b⌝ ∗ Transfers.Flight (countersEmb (U := Pipeline.UC sig nD τ)) (c : Thread nD τ) (tcell s) () 6144
      iprop(((tslot s).view.loc (c : Thread nD τ) ↦[(tslot s).view.set]{fullShare} f)
        ∗ ((Memref.whole main_v15).view.loc (c : Thread nD τ) ↦[(tblk b).view.set]{qt s} vt)))
    ∗ ((Memref.whole main_v15).view.loc (c : Thread nD τ) ↦[Finset.univ \ (tblk b).view.set]{qt s} vt))
def vinfl (s : Fin 2) (b : Fin 8) : sProp 𝕄 :=
  iprop((∃ f, ⌜(vslot s).view.read (Elt F) f = vdat c vt b⌝ ∗ Transfers.Flight (countersEmb (U := Pipeline.UC sig nD τ)) (c : Thread nD τ) (vcell s) () 1024
      iprop(((vslot s).view.loc (c : Thread nD τ) ↦[(vslot s).view.set]{fullShare} f)
        ∗ ((Memref.whole main_v15).view.loc (c : Thread nD τ) ↦[(vblk b).view.set]{qv s} vt)))
    ∗ ((Memref.whole main_v15).view.loc (c : Thread nD τ) ↦[Finset.univ \ (vblk b).view.set]{qv s} vt))

/-- A write ring's slot free: its semaphore at zero and the slot. -/
def ofree (s : Fin 2) : sProp 𝕄 := iprop(semVal ((c : Thread nD τ), ocell s) 0 ∗ Some' c (oslot s))
def yfree (s : Fin 2) : sProp 𝕄 := iprop(semVal ((c : Thread nD τ), ycell s) 0 ∗ Some' c (yslot s))

/-- A write ring's slot in flight to block `b`, which will read `G`. -/
def oinfl (s : Fin 2) (b : Fin 8) (G : S1x64x64x128.Idx → Elt F .f32) : sProp 𝕄 :=
  iprop(∃ f g, ⌜(oblk b).view.read (Elt F) f = G⌝ ∗ Transfers.Flight (countersEmb (U := Pipeline.UC sig nD τ)) (c : Thread nD τ) (ocell s) () 65536
      iprop(((oblk b).view.loc (c : Thread nD τ) ↦[(oblk b).view.set]{fullShare} f)
        ∗ ((oslot s).view.loc (c : Thread nD τ) ↦[(oslot s).view.set]{fullShare} g)))
def yinfl (s : Fin 2) (b : Fin 8) (G : S1x64x128.Idx → Elt F .f32) : sProp 𝕄 :=
  iprop(∃ f g, ⌜(yblk b).view.read (Elt F) f = G⌝ ∗ Transfers.Flight (countersEmb (U := Pipeline.UC sig nD τ)) (c : Thread nD τ) (ycell s) () 1024
      iprop(((yblk b).view.loc (c : Thread nD τ) ↦[(yblk b).view.set]{fullShare} f)
        ∗ ((yslot s).view.loc (c : Thread nD τ) ↦[(yslot s).view.set]{fullShare} g)))

/-- Landed with block `b`: the semaphore back at zero, the slot reading the block, the share whole again. -/
def sland (s : Fin 3) (b : Fin 8) : sProp 𝕄 := iprop(semVal ((c : Thread nD τ), scell s) 0 ∗ Reads c (sslot s) (sdat c vs b) ∗ shome c vs s)
def tland (s : Fin 2) (b : Fin 8) : sProp 𝕄 := iprop(semVal ((c : Thread nD τ), tcell s) 0 ∗ Reads c (tslot s) (tdat c vt b) ∗ thome c vt s)
def vland (s : Fin 2) (b : Fin 8) : sProp 𝕄 := iprop(semVal ((c : Thread nD τ), vcell s) 0 ∗ Reads c (vslot s) (vdat c vt b) ∗ vhome c vt s)

/-! ## The words the loop carries -/

/-- Before trip `k`: how many blocks of the state, and of the vectors, have been started; -/
abbrev wS (k : ℕ) : BitVec 32 := BitVec.ofNat 32 (min (k + 2) 8)
abbrev wT (k : ℕ) : BitVec 32 := BitVec.ofNat 32 (min (k + 1) 8)
/-- how many are done, of the read rings and of what the write rings have started; and what has been drained; -/
abbrev wK (k : ℕ) : BitVec 32 := BitVec.ofNat 32 k
abbrev wD (k : ℕ) : BitVec 32 := BitVec.ofNat 32 (k - 1)
/-- the block the trip computes. -/
abbrev wI (k : ℕ) : BitVec 32 := BitVec.ofNat 32 (k % 8)

end Cert.KernelIdeal.Decode

end
-- ==== Proof.Parts.lean ====
module

public import proofs.«01_k».proof.Proof.Slots
public import proofs.«01_k».proof.Proof.Gen.KernelIdeal.Skeleton

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UC sig nD τ) ℕ

/-! ## The slots as the body names them, by the carried words -/

abbrev sslotW (w : BitVec 32) (h : k0_chk3 w) : Memref sig .tc .vmem S1x64x64x128 .f32 :=
  ((Memref.whole cc0_scoped0).slice (Rect.unit (s := S3x1x64x64x128) (k0_off28 w) S1x1x64x64x128.size (k0_off28_inb w h)) (fun _ => rfl)).squeeze S1x64x64x128 squeezes_S1x1x64x64x128_S1x64x64x128
abbrev tslotW (w : BitVec 32) (h : k0_chk2 w) : Memref sig .tc .vmem S6x1x64x128 .f32 :=
  ((Memref.whole cc0_scoped2).slice (Rect.unit (s := S2x6x1x64x128) (k0_off27 w) S1x6x1x64x128.size (k0_off27_inb w h)) (fun _ => rfl)).squeeze S6x1x64x128 squeezes_S1x6x1x64x128_S6x1x64x128
abbrev vslotW (w : BitVec 32) (h : k0_chk4 w) : Memref sig .tc .vmem S1x1x64x128 .f32 :=
  ((Memref.whole cc0_scoped4).slice (Rect.unit (s := S2x1x1x64x128) (k0_off29 w) S1x1x1x64x128.size (k0_off29_inb w h)) (fun _ => rfl)).squeeze S1x1x64x128 squeezes_S1x1x1x64x128_S1x1x64x128
abbrev yslotW (w : BitVec 32) (h : k0_chk5 w) : Memref sig .tc .vmem S1x64x128 .f32 :=
  ((Memref.whole cc0_scoped8).slice (Rect.unit (s := S2x1x64x128) (k0_off30 w) S1x1x64x128.size (k0_off30_inb w h)) (fun _ => rfl)).squeeze S1x64x128 squeezes_S1x1x64x128_S1x64x128
abbrev oslotW (w : BitVec 32) (h : k0_chk6 w) : Memref sig .tc .vmem S1x64x64x128 .f32 :=
  ((Memref.whole cc0_scoped6).slice (Rect.unit (s := S2x1x64x64x128) (k0_off31 w) S1x1x64x64x128.size (k0_off31_inb w h)) (fun _ => rfl)).squeeze S1x64x64x128 squeezes_S1x1x64x64x128_S1x64x64x128

/-- The eight trips, one by one. -/
theorem trips_cases {P : Fin k0_t1_loop.trips → Prop} (h0 : P ⟨0, by decide⟩) (h1 : P ⟨1, by decide⟩) (h2 : P ⟨2, by decide⟩)
    (h3 : P ⟨3, by decide⟩) (h4 : P ⟨4, by decide⟩) (h5 : P ⟨5, by decide⟩) (h6 : P ⟨6, by decide⟩) (h7 : P ⟨7, by decide⟩) (k) : P k := by
  obtain ⟨k, hk⟩ := k
  have hk8 : k < 8 := hk
  have h8 : k = 0 ∨ k = 1 ∨ k = 2 ∨ k = 3 ∨ k = 4 ∨ k = 5 ∨ k = 6 ∨ k = 7 := by omega
  rcases h8 with rfl | rfl | rfl | rfl | rfl | rfl | rfl | rfl <;> assumption

/-- A read ring's slot before trip `k`: in flight with block `k` while there is one, free after the last. -/
@[irreducible] def srole (c : Dev nD) (vs : Vs F c) (k : ℕ) : sProp 𝕄 := Ring.roleAt (sfree c vs (Ring.sl 3 k)) (sinfl c vs (Ring.sl 3 k)) k
@[irreducible] def trole (c : Dev nD) (vt : Vt F c) (k : ℕ) : sProp 𝕄 := Ring.roleAt (tfree c vt (Ring.sl 2 k)) (tinfl c vt (Ring.sl 2 k)) k
@[irreducible] def vrole (c : Dev nD) (vt : Vt F c) (k : ℕ) : sProp 𝕄 := Ring.roleAt (vfree c vt (Ring.sl 2 k)) (vinfl c vt (Ring.sl 2 k)) k

/-- What the first starting part returns. -/
abbrev ret2 (a5 a7 arg4 v122 v138 v143 : BitVec 32) (v144 : BitVec 1) : Σ' (_ : BitVec 32) (_ : BitVec 32) (_ : BitVec 1), BitVec 1 :=
  ⟨Scalar.select (Scalar.andi (Scalar.andi (Scalar.cmpi .ne v138 (Scalar.addi (Scalar.select v144 0#32 v143) 0#32)) (Scalar.xori (Scalar.cmpi .sge arg4 6#32) 1#1)) 1#1) (Scalar.addi a5 1#32) a5,
   Scalar.select (Scalar.andi (Scalar.andi (Scalar.cmpi .ne v122 v138) (Scalar.xori (Scalar.cmpi .sge arg4 7#32) 1#1)) 1#1) (Scalar.addi a7 1#32) a7,
   Scalar.cmpi .ne v122 v138, Scalar.xori (Scalar.cmpi .sge arg4 7#32) 1#1⟩

theorem part2_spec (c : Dev nD) (vs : Vs F c) (vt : Vt F c) (k : Fin k0_t1_loop.trips)
    (hw1 : k0_chk1 k (wS k) (wK k) (wT k) (wK k) (wT k) (wK k) (wK k) (wD k) (wK k) (wD k) (wI k))
    (arg4 v122 v138 v143 : BitVec 32) (v144 : BitVec 1) :
    iprop(sfree c vs (Ring.sl 3 (k.val + 2)) ∗ tfree c vt (Ring.sl 2 (k.val + 1)))
    ⊢ (wp frame (wpE defs₀ Variants.none (c : Thread nD τ) none) Set.univ
      (k0_part2 (F := F) (Memref.whole main_v14) (Memref.isWhole_whole _) (Memref.whole main_v15) (Memref.isWhole_whole _) (Memref.whole main_v16_0) (Memref.isWhole_whole _) (Memref.whole main_v16_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 k (wS k) (wK k) (wT k) (wK k) (wT k) (wK k) (wK k) (wD k) (wK k) (wD k) (wI k) hw1 arg4 v122 v138 v143 v144)
      (fun r => iprop(⌜r = ret2 (wS k) (wT k) arg4 v122 v138 v143 v144⌝
        ∗ srole c vs (k.val + 2)
        ∗ trole c vt (k.val + 1))) : sProp 𝕄) := by
  unfold sfree tfree
  revert k
  refine trips_cases ?_ ?_ ?_ ?_ ?_ ?_ ?_ ?_
  all_goals
    intro hw1
    iintro ⟨⟨HSc, ⟨%fs, HS⟩, Hs⟩, ⟨HTc, ⟨%ft, HT⟩, Ht⟩⟩
    sl_exec
    sl_step
    isplitr
    · ipureintro; rfl
    first
      | isplitl [HSc Hs HS]; rotate_left
      | isplitl [HSc Hs]; rotate_left
    rotate_left
    · unfold srole sfree
      first
        | rw [Ring.roleAt_of_lt' _ _ _ (by decide)]
          unfold sinfl
          isplitl [HSc]
          · iexists _
            isplitr
            rotate_left
            · iexact HSc
            · ipureintro
              exact View.read_writes_whole _ _ _
          · iexact Hs
        | rw [Ring.roleAt_of_le _ _ _ (by decide)]
          isplitl [HSc]; · iexact HSc
          isplitl [HS]; · (iexists _; iexact HS)
          iexact Hs
    · unfold trole tfree
      first
        | rw [Ring.roleAt_of_lt' _ _ _ (by decide)]
          unfold tinfl
          isplitl [HTc]
          · iexists _
            isplitr
            rotate_left
            · iexact HTc
            · ipureintro
              exact View.read_writes_whole _ _ _
          · iexact Ht
        | rw [Ring.roleAt_of_le _ _ _ (by decide)]
          isplitl [HTc]; · iexact HTc
          isplitl [HT]; · (iexists _; iexact HT)
          iexact Ht

/-- What the second starting part returns. -/
abbrev ret3 (a9 : BitVec 32) (v175 v177 : BitVec 1) : BitVec 32 :=
  Scalar.select (Scalar.andi (Scalar.andi v175 v177) 1#1) (Scalar.addi a9 1#32) a9

theorem part3_spec (c : Dev nD) (vs : Vs F c) (vt : Vt F c) (k : Fin k0_t1_loop.trips) (W : Waits sig Unit)
    (hw1 : k0_chk1 k (wS k) (wK k) (wT k) (wK k) (wT k) (wK k) (wK k) (wD k) (wK k) (wD k) (wI k))
    (hw4 : k0_chk4 (wK k)) (hw3 : k0_chk3 (wK k)) (hw2 : k0_chk2 (wK k))
    (arg4 : BitVec 32) (v120 : BitVec 1) (v122 v130 v138 : BitVec 32) (v175 v177 : BitVec 1) :
    iprop(vfree c vt (Ring.sl 2 (k.val + 1)) ∗ sinfl c vs (Ring.sl 3 k.val) (Ring.bk 8 k.val) ∗ tinfl c vt (Ring.sl 2 k.val) (Ring.bk 8 k.val)
      ∗ vinfl c vt (Ring.sl 2 k.val) (Ring.bk 8 k.val) ∗ owes (c : Thread nD τ) 0 W)
    ⊢ (wp frame (wpE defs₀ Variants.none (c : Thread nD τ) none) Set.univ
      (k0_part3 (F := F) (Memref.whole main_v14) (Memref.isWhole_whole _) (Memref.whole main_v15) (Memref.isWhole_whole _) (Memref.whole main_v16_0) (Memref.isWhole_whole _) (Memref.whole main_v16_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 k (wS k) (wK k) (wT k) (wK k) (wT k) (wK k) (wK k) (wD k) (wK k) (wD k) (wI k) hw1 arg4 v120 v122 v130 v138 v175 v177)
      (fun r => iprop(⌜r = ret3 (wT k) v175 v177⌝
        ∗ vrole c vt (k.val + 1)
        ∗ (semVal ((c : Thread nD τ), scell (Ring.sl 3 k.val)) 0 ∗ Reads c (sslotW (wK k) hw3) (sdat c vs (Ring.bk 8 k.val)) ∗ shome c vs (Ring.sl 3 k.val))
        ∗ (semVal ((c : Thread nD τ), tcell (Ring.sl 2 k.val)) 0 ∗ Reads c (tslotW (wK k) hw2) (tdat c vt (Ring.bk 8 k.val)) ∗ thome c vt (Ring.sl 2 k.val))
        ∗ (semVal ((c : Thread nD τ), vcell (Ring.sl 2 k.val)) 0 ∗ Reads c (vslotW (wK k) hw4) (vdat c vt (Ring.bk 8 k.val)) ∗ vhome c vt (Ring.sl 2 k.val))
        ∗ ∃ W', owes (c : Thread nD τ) 0 W')) : sProp 𝕄) := by
  unfold vfree sinfl tinfl vinfl
  revert hw1 hw4 hw3 hw2
  revert k
  refine trips_cases ?_ ?_ ?_ ?_ ?_ ?_ ?_ ?_
  all_goals
    intro hw1 hw4 hw3 hw2
    iintro ⟨⟨HVc, ⟨%fv, HV⟩, Hv⟩, ⟨⟨%f1, %h1, HS⟩, Hs⟩, ⟨⟨%f2, %h2, HT⟩, Ht⟩, ⟨⟨%f3, %h3, HU⟩, Hu⟩, HW⟩
    sl_exec
    sl_step
    isplitr
    · ipureintro; rfl
    first
      | isplitl [HVc Hv HV]; rotate_left
      | isplitl [HVc Hv]; rotate_left
    rotate_left
    · unfold vrole vfree vinfl
      first
        | rw [Ring.roleAt_of_lt' _ _ _ (by decide)]
          isplitl [HVc]
          · iexists _
            isplitr
            rotate_left
            · iexact HVc
            · ipureintro
              exact View.read_writes_whole _ _ _
          · iexact Hv
        | rw [Ring.roleAt_of_le _ _ _ (by decide)]
          isplitl [HVc]; · iexact HVc
          isplitl [HV]; · (iexists _; iexact HV)
          iexact Hv
    isplitl [HS HS_dst Hs]
    · isplitl [HS]; · iexact HS
      isplitl [HS_dst]
      · iexists f1
        isplitr; · (ipureintro; exact h1)
        iexact HS_dst
      · iexact Hs
    isplitl [HT HT_dst Ht]
    · isplitl [HT]; · iexact HT
      isplitl [HT_dst]
      · iexists f2
        isplitr; · (ipureintro; exact h2)
        iexact HT_dst
      · iexact Ht
    isplitl [HU HU_dst Hu]
    · isplitl [HU]; · iexact HU
      isplitl [HU_dst]
      · iexists f3
        isplitr; · (ipureintro; exact h3)
        iexact HU_dst
      · iexact Hu
    iexists _; iexact HW

/-- What the part that starts the results' copies returns. -/
abbrev ret75 (a11 a13 : BitVec 32) (v120 v121 : BitVec 1) (v122 v130 v138 : BitVec 32) : Σ' (_ : BitVec 32) (_ : BitVec 32) (_ : BitVec 1), BitVec 32 :=
  ⟨Scalar.select (Scalar.andi (Scalar.ori (Scalar.cmpi .ne v122 v138) v121) 1#1) (Scalar.addi a11 1#32) a11,
   Scalar.select (Scalar.andi (Scalar.ori (Scalar.cmpi .ne v122 v138) v121) 1#1) (Scalar.addi a13 1#32) a13,
   Scalar.andi (Scalar.cmpi .ne v122 v130) (Scalar.xori v120 1#1),
   Scalar.extui (Scalar.andi (Scalar.cmpi .ne v122 v130) (Scalar.xori v120 1#1))⟩

theorem part75_spec (c : Dev nD) (k : Fin k0_t1_loop.trips)
    (hw1 : k0_chk1 k (wS k) (wK k) (wT k) (wK k) (wT k) (wK k) (wK k) (wD k) (wK k) (wD k) (wI k))
    (hw6 : k0_chk6 (wK k)) (hw5 : k0_chk5 (wK k))
    (fo : Buf (Elt F) ((oslotW (wK k) hw6).view.loc (c : Thread nD τ))) (fy : Buf (Elt F) ((yslotW (wK k) hw5).view.loc (c : Thread nD τ)))
    (v120 v121 : BitVec 1) (v122 v130 v138 : BitVec 32) (v2243 v2245 : BitVec 1) :
    iprop(semVal ((c : Thread nD τ), ocell (Ring.sl 2 k.val)) 0 ∗ ((oslotW (wK k) hw6).view.loc (c : Thread nD τ) ↦[(oslotW (wK k) hw6).view.set]{fullShare} fo)
      ∗ Some' c (oblk (Ring.bk 8 k.val))
      ∗ semVal ((c : Thread nD τ), ycell (Ring.sl 2 k.val)) 0 ∗ ((yslotW (wK k) hw5).view.loc (c : Thread nD τ) ↦[(yslotW (wK k) hw5).view.set]{fullShare} fy)
      ∗ Some' c (yblk (Ring.bk 8 k.val)))
    ⊢ (wp frame (wpE defs₀ Variants.none (c : Thread nD τ) none) Set.univ
      (k0_part75 (F := F) (Memref.whole main_v14) (Memref.isWhole_whole _) (Memref.whole main_v15) (Memref.isWhole_whole _) (Memref.whole main_v16_0) (Memref.isWhole_whole _) (Memref.whole main_v16_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 k (wS k) (wK k) (wT k) (wK k) (wT k) (wK k) (wK k) (wD k) (wK k) (wD k) (wI k) hw1 v120 v121 v122 v130 v138 v2243 v2245)
      (fun r => iprop(⌜r = ret75 (wK k) (wK k) v120 v121 v122 v130 v138⌝
        ∗ oinfl c (Ring.sl 2 k.val) (Ring.bk 8 k.val) ((oslotW (wK k) hw6).view.read (Elt F) fo)
        ∗ yinfl c (Ring.sl 2 k.val) (Ring.bk 8 k.val) ((yslotW (wK k) hw5).view.read (Elt F) fy))) : sProp 𝕄) := by
  unfold oinfl yinfl
  revert hw1 hw6 hw5 fo fy
  revert k
  refine trips_cases ?_ ?_ ?_ ?_ ?_ ?_ ?_ ?_
  all_goals
    intro hw1 hw6 hw5 fo fy
    iintro ⟨HOc, HO, ⟨%go, Ho⟩, HYc, HY, ⟨%gy, Hy⟩⟩
    sl_exec
    sl_step
    isplitr
    · ipureintro; rfl
    isplitl [HOc]
    · iexists _, _
      isplitr
      rotate_left
      · iexact HOc
      · ipureintro
        exact View.read_writes_whole _ _ _
    · iexists _, _
      isplitr
      rotate_left
      · iexact HYc
      · ipureintro
        exact View.read_writes_whole _ _ _

end Cert.KernelIdeal.Decode

end
-- ==== Proof.Rows.lean ====
/-
  What one trip of the decode kernel computes: a row of the new state and of the output from the row of the state, the
  vectors and the row of the value vector, and the block of 64 rows the trip stores row by row.
-/
module

public import proofs.«01_k».proof.Proof.Parts

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UC sig nD τ) ℕ

/-- A rectangle of an array, as an array of its own. -/
abbrev win {s : Shape} {α : Type} (X : s.Idx → α) (off size : Fin s.rank → ℕ) (inb : ∀ a, off a + size a ≤ s.size a) : (Rect.unit (s := s) off size inb).shape.Idx → α :=
  fun y => X ((Rect.unit (s := s) off size inb).emb y)

theorem srow_inb (i : Fin 64) : ∀ a, (![0, i.val, 0, 0] : Fin 4 → Nat) a + S1x1x64x128.size a ≤ S1x64x64x128.size a := by
  revert i; decide
theorem vrow_inb (i : Fin 64) : ∀ a, (![0, 0, i.val, 0] : Fin 4 → Nat) a + S1x1x1x128.size a ≤ S1x1x64x128.size a := by
  revert i; decide
theorem yrow_inb (i : Fin 64) : ∀ a, (![0, i.val, 0] : Fin 3 → Nat) a + S1x1x128.size a ≤ S1x64x128.size a := by
  revert i; decide

variable (S : S1x64x64x128.Idx → Elt F .f32) (T : S6x1x64x128.Idx → Elt F .f32) (V : S1x1x64x128.Idx → Elt F .f32)

/-- The five vectors of a block. -/
abbrev vec0 : Vec F S1x1x64x128 .f32 := win T ![0, 0, 0, 0] S1x1x64x128.size inb_S6x1x64x128_S1x1x64x128_0_0_0_0
abbrev vec1 : Vec F S1x1x64x128 .f32 := win T ![1, 0, 0, 0] S1x1x64x128.size inb_S6x1x64x128_S1x1x64x128_1_0_0_0
abbrev vec2 : Vec F S1x1x64x128 .f32 := win T ![2, 0, 0, 0] S1x1x64x128.size inb_S6x1x64x128_S1x1x64x128_2_0_0_0
abbrev vec3 : Vec F S1x1x64x128 .f32 := win T ![3, 0, 0, 0] S1x1x64x128.size inb_S6x1x64x128_S1x1x64x128_3_0_0_0
abbrev vec4 : Vec F S1x1x64x128 .f32 := win T ![4, 0, 0, 0] S1x1x64x128.size inb_S6x1x64x128_S1x1x64x128_4_0_0_0

/-- Row `i` of the new state, `s·w + (Σ s·aa)·bb + v·k`; -/
def newRow (i : Fin 64) : Vec F S1x1x64x128 .f32 :=
  k0_pay11 (k0_pay3 (vec2 T)) (k0_pay4 (vec3 T)) (k0_pay5 (vec4 T)) (k0_pay6 (win S ![0, i.val, 0, 0] S1x1x64x128.size (srow_inb i)))
    (k0_pay7 (win V ![0, 0, i.val, 0] S1x1x1x128.size (vrow_inb i))) (k0_pay8 (k0_pay1 (vec0 T)) (win S ![0, i.val, 0, 0] S1x1x64x128.size (srow_inb i)))
/-- of the output, `Σ s·q`. -/
def outRow (i : Fin 64) : Vec F S1x1x128 .f32 :=
  k0_pay10 (k0_pay9 (k0_pay2 (vec1 T)) (win S ![0, i.val, 0, 0] S1x1x64x128.size (srow_inb i)))

/-- The block of rows of the new state; -/
def newBlk : S1x64x64x128.Idx → Elt F .f32 := fun y => newRow S T V ⟨(y 1).val, (y 1).isLt⟩ (fun a => ⟨(![0, 0, (y 2).val, (y 3).val] : Fin 4 → ℕ) a, by
  revert a; intro a; fin_cases a
  · exact Nat.zero_lt_one
  · exact Nat.zero_lt_one
  · exact (y 2).isLt
  · exact (y 3).isLt⟩)
/-- of the output. -/
def outBlk : S1x64x128.Idx → Elt F .f32 := fun y => outRow S T ⟨(y 1).val, (y 1).isLt⟩ (fun a => ⟨(![0, 0, (y 2).val] : Fin 3 → ℕ) a, by
  revert a; intro a; fin_cases a
  · exact Nat.zero_lt_one
  · exact Nat.zero_lt_one
  · exact (y 2).isLt⟩)

/-- The store of row `i`. -/
def opiece (i : Fin 64) : View.Piece (Elt F) S1x64x64x128 .f32 := ⟨Rect.unit (s := S1x64x64x128) ![0, i.val, 0, 0] S1x1x64x128.size (srow_inb i), newRow S T V i⟩
def ypiece (i : Fin 64) : View.Piece (Elt F) S1x64x128 .f32 := ⟨Rect.unit (s := S1x64x128) ![0, i.val, 0] S1x1x128.size (yrow_inb i), outRow S T i⟩

/-- The trip's stores, the last first. -/
def opieces : List (View.Piece (Elt F) S1x64x64x128 .f32) :=
  [opiece S T V 63, opiece S T V 62, opiece S T V 61, opiece S T V 60, opiece S T V 59, opiece S T V 58, opiece S T V 57, opiece S T V 56,
   opiece S T V 55, opiece S T V 54, opiece S T V 53, opiece S T V 52, opiece S T V 51, opiece S T V 50, opiece S T V 49, opiece S T V 48,
   opiece S T V 47, opiece S T V 46, opiece S T V 45, opiece S T V 44, opiece S T V 43, opiece S T V 42, opiece S T V 41, opiece S T V 40,
   opiece S T V 39, opiece S T V 38, opiece S T V 37, opiece S T V 36, opiece S T V 35, opiece S T V 34, opiece S T V 33, opiece S T V 32,
   opiece S T V 31, opiece S T V 30, opiece S T V 29, opiece S T V 28, opiece S T V 27, opiece S T V 26, opiece S T V 25, opiece S T V 24,
   opiece S T V 23, opiece S T V 22, opiece S T V 21, opiece S T V 20, opiece S T V 19, opiece S T V 18, opiece S T V 17, opiece S T V 16,
   opiece S T V 15, opiece S T V 14, opiece S T V 13, opiece S T V 12, opiece S T V 11, opiece S T V 10, opiece S T V 9, opiece S T V 8,
   opiece S T V 7, opiece S T V 6, opiece S T V 5, opiece S T V 4, opiece S T V 3, opiece S T V 2, opiece S T V 1, opiece S T V 0]
def ypieces : List (View.Piece (Elt F) S1x64x128 .f32) :=
  [ypiece S T 63, ypiece S T 62, ypiece S T 61, ypiece S T 60, ypiece S T 59, ypiece S T 58, ypiece S T 57, ypiece S T 56,
   ypiece S T 55, ypiece S T 54, ypiece S T 53, ypiece S T 52, ypiece S T 51, ypiece S T 50, ypiece S T 49, ypiece S T 48,
   ypiece S T 47, ypiece S T 46, ypiece S T 45, ypiece S T 44, ypiece S T 43, ypiece S T 42, ypiece S T 41, ypiece S T 40,
   ypiece S T 39, ypiece S T 38, ypiece S T 37, ypiece S T 36, ypiece S T 35, ypiece S T 34, ypiece S T 33, ypiece S T 32,
   ypiece S T 31, ypiece S T 30, ypiece S T 29, ypiece S T 28, ypiece S T 27, ypiece S T 26, ypiece S T 25, ypiece S T 24,
   ypiece S T 23, ypiece S T 22, ypiece S T 21, ypiece S T 20, ypiece S T 19, ypiece S T 18, ypiece S T 17, ypiece S T 16,
   ypiece S T 15, ypiece S T 14, ypiece S T 13, ypiece S T 12, ypiece S T 11, ypiece S T 10, ypiece S T 9, ypiece S T 8,
   ypiece S T 7, ypiece S T 6, ypiece S T 5, ypiece S T 4, ypiece S T 3, ypiece S T 2, ypiece S T 1, ypiece S T 0]

theorem opieces_eq : opieces S T V = (List.finRange 64).reverse.map (opiece S T V) := rfl
theorem ypieces_eq : ypieces S T = (List.finRange 64).reverse.map (ypiece S T) := rfl

theorem opiece_apply (i : Fin 64) (x : (opiece S T V i).1.shape.Idx) : (opiece S T V i).2 x = newBlk S T V ((opiece S T V i).1.emb x) := by
  have h1 : (x 1).val = 0 := Nat.lt_one_iff.mp (x 1).isLt
  have hi : (⟨(((opiece S T V i).1.emb x) 1).val, (((opiece S T V i).1.emb x) 1).isLt⟩ : Fin 64) = i := by
    refine Fin.ext ?_
    show i.val + 1 * (x 1).val = i.val
    omega
  unfold newBlk
  rw [hi]
  show newRow S T V i x = _
  refine congrArg (newRow S T V i) (funext fun a => Fin.ext ?_)
  have h0 : (x 0).val = 0 := Nat.lt_one_iff.mp (x 0).isLt
  fin_cases a
  · exact h0
  · exact h1
  · show (x 2).val = 0 + 1 * (x 2).val; omega
  · show (x 3).val = 0 + 1 * (x 3).val; omega
theorem ypiece_apply (i : Fin 64) (x : (ypiece S T i).1.shape.Idx) : (ypiece S T i).2 x = outBlk S T ((ypiece S T i).1.emb x) := by
  have h1 : (x 1).val = 0 := Nat.lt_one_iff.mp (x 1).isLt
  have hi : (⟨(((ypiece S T i).1.emb x) 1).val, (((ypiece S T i).1.emb x) 1).isLt⟩ : Fin 64) = i := by
    refine Fin.ext ?_
    show i.val + 1 * (x 1).val = i.val
    omega
  unfold outBlk
  rw [hi]
  show outRow S T i x = _
  refine congrArg (outRow S T i) (funext fun a => Fin.ext ?_)
  have h0 : (x 0).val = 0 := Nat.lt_one_iff.mp (x 0).isLt
  fin_cases a
  · exact h0
  · exact h1
  · show (x 2).val = 0 + 1 * (x 2).val; omega

/-- After the stores the slot reads the block. -/
theorem read_opieces {sp : Space} (v : View sig .tc sp S1x64x64x128 .f32) (f : v.ty.Contents (Elt F)) :
    v.read (Elt F) (v.writes (Elt F) f (opieces S T V)) = newBlk S T V := by
  funext y
  refine View.read_writes_apply_of_pieces v f (newBlk S T V) _ ?_ y ?_
  · intro p hp x
    rw [opieces_eq] at hp
    obtain ⟨i, -, rfl⟩ := List.mem_map.mp hp
    exact opiece_apply S T V i x
  · refine ⟨opiece S T V ⟨(y 1).val, (y 1).isLt⟩, ?_, ?_⟩
    · rw [opieces_eq]
      exact List.mem_map.mpr ⟨_, List.mem_reverse.mpr (List.mem_finRange _), rfl⟩
    · refine (Rect.mem_set_unit (inb := srow_inb _)).mpr fun a => ?_
      have h0 : (y 0).val < 1 := (y 0).isLt
      fin_cases a
      · exact ⟨Nat.zero_le _, h0⟩
      · exact ⟨le_rfl, Nat.lt_succ_self _⟩
      · exact ⟨Nat.zero_le _, (y 2).isLt⟩
      · exact ⟨Nat.zero_le _, (y 3).isLt⟩
theorem read_ypieces {sp : Space} (v : View sig .tc sp S1x64x128 .f32) (f : v.ty.Contents (Elt F)) :
    v.read (Elt F) (v.writes (Elt F) f (ypieces S T)) = outBlk S T := by
  funext y
  refine View.read_writes_apply_of_pieces v f (outBlk S T) _ ?_ y ?_
  · intro p hp x
    rw [ypieces_eq] at hp
    obtain ⟨i, -, rfl⟩ := List.mem_map.mp hp
    exact ypiece_apply S T i x
  · refine ⟨ypiece S T ⟨(y 1).val, (y 1).isLt⟩, ?_, ?_⟩
    · rw [ypieces_eq]
      exact List.mem_map.mpr ⟨_, List.mem_reverse.mpr (List.mem_finRange _), rfl⟩
    · refine (Rect.mem_set_unit (inb := yrow_inb _)).mpr fun a => ?_
      have h0 : (y 0).val < 1 := (y 0).isLt
      fin_cases a
      · exact ⟨Nat.zero_le _, h0⟩
      · exact ⟨le_rfl, Nat.lt_succ_self _⟩
      · exact ⟨Nat.zero_le _, (y 2).isLt⟩

end Cert.KernelIdeal.Decode

end
-- ==== Proof.Trip.lean ====
/-
  One trip of the decode kernel's loop.
-/
module

public import proofs.«01_k».proof.Proof.Rows

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UC sig nD τ) ℕ

/-- The words before trip `k`. -/
abbrev words (k : ℕ) : BitVec 32 × BitVec 32 × BitVec 32 × BitVec 32 × BitVec 32 × BitVec 32 × BitVec 32 × BitVec 32 × BitVec 32 × BitVec 32 × BitVec 32 × BitVec 32 :=
  (wS k, wK k, wT k, wK k, wT k, wK k, wK k, wD k, wK k, wD k, wI k, 0#32)

theorem chk1_words : ∀ k : Fin k0_t1_loop.trips, k0_chk1 k (wS k) (wK k) (wT k) (wK k) (wT k) (wK k) (wK k) (wD k) (wK k) (wD k) (wI k) := by
  decide +kernel
theorem chk2_words : ∀ k : Fin k0_t1_loop.trips, k0_chk2 (wK k) := by decide +kernel
theorem chk3_words : ∀ k : Fin k0_t1_loop.trips, k0_chk3 (wK k) := by decide +kernel
theorem chk4_words : ∀ k : Fin k0_t1_loop.trips, k0_chk4 (wK k) := by decide +kernel
theorem chk5_words : ∀ k : Fin k0_t1_loop.trips, k0_chk5 (wK k) := by decide +kernel
theorem chk6_words : ∀ k : Fin k0_t1_loop.trips, k0_chk6 (wK k) := by decide +kernel

variable (GO : Fin 8 → S1x64x64x128.Idx → Elt F .f32) (GY : Fin 8 → S1x64x128.Idx → Elt F .f32)

/-- The write rings' slot of the trip before. -/
def oprev (c : Dev nD) (k : ℕ) : sProp 𝕄 := if k = 0 then ofree c (Ring.sl 2 (k + 1)) else oinfl c (Ring.sl 2 (k + 1)) (Ring.bk 8 (k - 1)) (GO (Ring.bk 8 (k - 1)))
def yprev (c : Dev nD) (k : ℕ) : sProp 𝕄 := if k = 0 then yfree c (Ring.sl 2 (k + 1)) else yinfl c (Ring.sl 2 (k + 1)) (Ring.bk 8 (k - 1)) (GY (Ring.bk 8 (k - 1)))

theorem oslot_open (c : Dev nD) (k : Fin k0_t1_loop.trips) (h : k0_chk6 (wK k)) :
    ofree c (Ring.sl 2 k.val) ⊢ (iprop(semVal ((c : Thread nD τ), ocell (Ring.sl 2 k.val)) 0 ∗ Some' c (oslotW (wK k) h)) : sProp 𝕄) := by
  unfold ofree
  revert h
  revert k
  refine trips_cases ?_ ?_ ?_ ?_ ?_ ?_ ?_ ?_ <;> intro h <;> exact .rfl
theorem yslot_open (c : Dev nD) (k : Fin k0_t1_loop.trips) (h : k0_chk5 (wK k)) :
    yfree c (Ring.sl 2 k.val) ⊢ (iprop(semVal ((c : Thread nD τ), ycell (Ring.sl 2 k.val)) 0 ∗ Some' c (yslotW (wK k) h)) : sProp 𝕄) := by
  unfold yfree
  revert h
  revert k
  refine trips_cases ?_ ?_ ?_ ?_ ?_ ?_ ?_ ?_ <;> intro h <;> exact .rfl

/-- The semaphores the drains wait on, as the body names them. -/
abbrev ocellW (w : BitVec 32) (h : ∀ a, (k0_off41 w) a + S1.size a ≤ S2.size a) : SemLoc sig :=
  .dma ((cc0_scoped7.slice (Rect.unit (s := S2) (k0_off41 w) S1.size h)).squeeze S_ squeezes_S1_S_).sem
abbrev ycellW (w : BitVec 32) (h : ∀ a, (k0_off44 w) a + S1.size a ≤ S2.size a) : SemLoc sig :=
  .dma ((cc0_scoped9.slice (Rect.unit (s := S2) (k0_off44 w) S1.size h)).squeeze S_ squeezes_S1_S_).sem

theorem off41_inb_words : ∀ (k : Fin k0_t1_loop.trips) a, (k0_off41 (wD k)) a + S1.size a ≤ S2.size a := by decide +kernel
theorem off44_inb_words : ∀ (k : Fin k0_t1_loop.trips) a, (k0_off44 (wD k)) a + S1.size a ≤ S2.size a := by decide +kernel

theorem ocellW_eq (k : Fin k0_t1_loop.trips) (hk : k.val ≠ 0) : ocellW (wD k) (off41_inb_words k) = ocell (Ring.sl 2 (k.val + 1)) := by
  revert hk
  revert k
  refine trips_cases ?_ ?_ ?_ ?_ ?_ ?_ ?_ ?_ <;> intro hk <;> first | exact absurd rfl hk | rfl
theorem ycellW_eq (k : Fin k0_t1_loop.trips) (hk : k.val ≠ 0) : ycellW (wD k) (off44_inb_words k) = ycell (Ring.sl 2 (k.val + 1)) := by
  revert hk
  revert k
  refine trips_cases ?_ ?_ ?_ ?_ ?_ ?_ ?_ ?_ <;> intro hk <;> first | exact absurd rfl hk | rfl

theorem cond18_pos : ∀ k : Fin k0_t1_loop.trips, k.val ≠ 0 → k0_cond18 k (wI k) = 1#1 := by decide +kernel
theorem cond19_pos : ∀ k : Fin k0_t1_loop.trips, k.val ≠ 0 → k0_cond19 k (wI k) = 1#1 := by decide +kernel
theorem cond18_neg : ∀ k : Fin k0_t1_loop.trips, k.val = 0 → ¬ k0_cond18 k (wI k) = 1#1 := by decide +kernel
theorem cond19_neg : ∀ k : Fin k0_t1_loop.trips, k.val = 0 → ¬ k0_cond19 k (wI k) = 1#1 := by decide +kernel

theorem oprev_first (c : Dev nD) (k : ℕ) (hk : k = 0) : oprev GO c k ⊢ (ofree c (Ring.sl 2 (k + 1)) : sProp 𝕄) := by
  unfold oprev; rw [if_pos hk]
theorem yprev_first (c : Dev nD) (k : ℕ) (hk : k = 0) : yprev GY c k ⊢ (yfree c (Ring.sl 2 (k + 1)) : sProp 𝕄) := by
  unfold yprev; rw [if_pos hk]
theorem oprev_later (c : Dev nD) (k : Fin k0_t1_loop.trips) (hk : k.val ≠ 0) :
    oprev GO c k.val ⊢ (iprop(∃ f g, ⌜(oblk (Ring.bk 8 (k.val - 1))).view.read (Elt F) f = GO (Ring.bk 8 (k.val - 1))⌝
      ∗ Transfers.Flight (countersEmb (U := Pipeline.UC sig nD τ)) (c : Thread nD τ) (ocellW (wD k) (off41_inb_words k)) () 65536
        iprop(((oblk (Ring.bk 8 (k.val - 1))).view.loc (c : Thread nD τ) ↦[(oblk (Ring.bk 8 (k.val - 1))).view.set]{fullShare} f)
          ∗ ((oslot (Ring.sl 2 (k.val + 1))).view.loc (c : Thread nD τ) ↦[(oslot (Ring.sl 2 (k.val + 1))).view.set]{fullShare} g))) : sProp 𝕄) := by
  unfold oprev; rw [if_neg hk, ocellW_eq k hk]; exact .rfl
theorem yprev_later (c : Dev nD) (k : Fin k0_t1_loop.trips) (hk : k.val ≠ 0) :
    yprev GY c k.val ⊢ (iprop(∃ f g, ⌜(yblk (Ring.bk 8 (k.val - 1))).view.read (Elt F) f = GY (Ring.bk 8 (k.val - 1))⌝
      ∗ Transfers.Flight (countersEmb (U := Pipeline.UC sig nD τ)) (c : Thread nD τ) (ycellW (wD k) (off44_inb_words k)) () 1024
        iprop(((yblk (Ring.bk 8 (k.val - 1))).view.loc (c : Thread nD τ) ↦[(yblk (Ring.bk 8 (k.val - 1))).view.set]{fullShare} f)
          ∗ ((yslot (Ring.sl 2 (k.val + 1))).view.loc (c : Thread nD τ) ↦[(yslot (Ring.sl 2 (k.val + 1))).view.set]{fullShare} g))) : sProp 𝕄) := by
  unfold yprev; rw [if_neg hk, ycellW_eq k hk]; exact .rfl

/-- The slots given back, by number. -/
theorem sslot_close (c : Dev nD) (k : Fin k0_t1_loop.trips) (h : k0_chk3 (wK k)) : Some' c (sslotW (wK k) h) ⊢ (Some' c (sslot (Ring.sl 3 k.val)) : sProp 𝕄) := by
  revert h
  revert k
  refine trips_cases ?_ ?_ ?_ ?_ ?_ ?_ ?_ ?_ <;> intro h <;> exact .rfl
theorem tslot_close (c : Dev nD) (k : Fin k0_t1_loop.trips) (h : k0_chk2 (wK k)) : Some' c (tslotW (wK k) h) ⊢ (Some' c (tslot (Ring.sl 2 k.val)) : sProp 𝕄) := by
  revert h
  revert k
  refine trips_cases ?_ ?_ ?_ ?_ ?_ ?_ ?_ ?_ <;> intro h <;> exact .rfl
theorem vslot_close (c : Dev nD) (k : Fin k0_t1_loop.trips) (h : k0_chk4 (wK k)) : Some' c (vslotW (wK k) h) ⊢ (Some' c (vslot (Ring.sl 2 k.val)) : sProp 𝕄) := by
  revert h
  revert k
  refine trips_cases ?_ ?_ ?_ ?_ ?_ ?_ ?_ ?_ <;> intro h <;> exact .rfl

/-- What the trips write to the two results, block by block. -/
def newOf (c : Dev nD) (vs : Vs F c) (vt : Vt F c) (b : Fin 8) : S1x64x64x128.Idx → Elt F .f32 := newBlk (sdat c vs b) (tdat c vt b) (vdat c vt b)
def outOf (c : Dev nD) (vs : Vs F c) (vt : Vt F c) (b : Fin 8) : S1x64x128.Idx → Elt F .f32 := outBlk (sdat c vs b) (tdat c vt b)

/-- The block drained in trip `k`: none in the first. -/
def oback (c : Dev nD) (k : ℕ) : sProp 𝕄 := if k = 0 then iprop(emp) else Reads c (oblk (Ring.bk 8 (k - 1))) (GO (Ring.bk 8 (k - 1)))
def yback (c : Dev nD) (k : ℕ) : sProp 𝕄 := if k = 0 then iprop(emp) else Reads c (yblk (Ring.bk 8 (k - 1))) (GY (Ring.bk 8 (k - 1)))
theorem oback_first (c : Dev nD) (k : ℕ) (hk : k = 0) : (iprop(emp) : sProp 𝕄) ⊢ oback GO c k := by
  unfold oback; rw [if_pos hk]
theorem yback_first (c : Dev nD) (k : ℕ) (hk : k = 0) : (iprop(emp) : sProp 𝕄) ⊢ yback GY c k := by
  unfold yback; rw [if_pos hk]
theorem oback_later (c : Dev nD) (k : ℕ) (hk : k ≠ 0) : (Reads c (oblk (Ring.bk 8 (k - 1))) (GO (Ring.bk 8 (k - 1))) : sProp 𝕄) ⊢ oback GO c k := by
  unfold oback; rw [if_neg hk]
theorem yback_later (c : Dev nD) (k : ℕ) (hk : k ≠ 0) : (Reads c (yblk (Ring.bk 8 (k - 1))) (GY (Ring.bk 8 (k - 1))) : sProp 𝕄) ⊢ yback GY c k := by
  unfold yback; rw [if_neg hk]

set_option maxHeartbeats 4000000 in
theorem trip_body (c : Dev nD) (vs : Vs F c) (vt : Vt F c) (k : Fin k0_t1_loop.trips) (W : Waits sig Unit) (x y z : BitVec 32) :
    iprop((sinfl c vs (Ring.sl 3 k.val) (Ring.bk 8 k.val) ∗ sfree c vs (Ring.sl 3 (k.val + 2)))
      ∗ (tinfl c vt (Ring.sl 2 k.val) (Ring.bk 8 k.val) ∗ tfree c vt (Ring.sl 2 (k.val + 1)))
      ∗ (vinfl c vt (Ring.sl 2 k.val) (Ring.bk 8 k.val) ∗ vfree c vt (Ring.sl 2 (k.val + 1)))
      ∗ (ofree c (Ring.sl 2 k.val) ∗ oprev (newOf c vs vt) c k.val ∗ Some' c (oblk (Ring.bk 8 k.val)))
      ∗ (yfree c (Ring.sl 2 k.val) ∗ yprev (outOf c vs vt) c k.val ∗ Some' c (yblk (Ring.bk 8 k.val)))
      ∗ owes (c : Thread nD τ) 0 W)
    ⊢ (wp frame (wpE defs₀ Variants.none (c : Thread nD τ) none) Set.univ
      (k0_t1_body (F := F) (Memref.whole main_v14) (Memref.isWhole_whole _) (Memref.whole main_v15) (Memref.isWhole_whole _) (Memref.whole main_v16_0) (Memref.isWhole_whole _) (Memref.whole main_v16_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 x y z k (words k))
      (fun r => iprop(⌜r = words (k.val + 1)⌝
        ∗ (srole c vs (k.val + 2) ∗ sfree c vs (Ring.sl 3 k.val))
        ∗ (trole c vt (k.val + 1) ∗ tfree c vt (Ring.sl 2 k.val))
        ∗ (vrole c vt (k.val + 1) ∗ vfree c vt (Ring.sl 2 k.val))
        ∗ (oinfl c (Ring.sl 2 k.val) (Ring.bk 8 k.val) (newOf c vs vt (Ring.bk 8 k.val)) ∗ ofree c (Ring.sl 2 (k.val + 1)) ∗ oback (newOf c vs vt) c k.val)
        ∗ (yinfl c (Ring.sl 2 k.val) (Ring.bk 8 k.val) (outOf c vs vt (Ring.bk 8 k.val)) ∗ yfree c (Ring.sl 2 (k.val + 1)) ∗ yback (outOf c vs vt) c k.val)
        ∗ ∃ W', owes (c : Thread nD τ) 0 W')) : sProp 𝕄) := by
  have hw1 := chk1_words k
  have hw2 := chk2_words k
  have hw3 := chk3_words k
  have hw4 := chk4_words k
  have hw5 := chk5_words k
  have hw6 := chk6_words k
  have hcut2 := part2_spec (F := F) c vs vt k
  have hcut3 := part3_spec (F := F) c vs vt k
  have hcut75 := part75_spec (F := F) c k
  iintro ⟨⟨HS, HS2⟩, ⟨HT, HT1⟩, ⟨HV, HV1⟩, ⟨HO, HOp, ⟨%go, Ho⟩⟩, ⟨HY, HYp, ⟨%gy, Hy⟩⟩, HW⟩
  ihave HO' := oslot_open c k hw6 $$ HO
  icases HO' with ⟨HOc, ⟨%fo, HO⟩⟩
  ihave HY' := yslot_open c k hw5 $$ HY
  icases HY' with ⟨HYc, ⟨%fy, HY⟩⟩
  sl_unfold [k0_t1_body]
  sl_exec
  have hnew := hk0_part75_1.trans (read_opieces ((sslotW (wK k) hw3).view.read (Elt F) fk0_part3_0) ((tslotW (wK k) hw2).view.read (Elt F) fk0_part3_1)
    ((vslotW (wK k) hw4).view.read (Elt F) fk0_part3_2) (oslotW (wK k) hw6).view fo)
  have hout := hk0_part75_3.trans (read_ypieces ((sslotW (wK k) hw3).view.read (Elt F) fk0_part3_0) ((tslotW (wK k) hw2).view.read (Elt F) fk0_part3_1)
    (yslotW (wK k) hw5).view fy)
  clear hk0_part75_1 hk0_part75_3
  rw [hk0_part3_3, hk0_part3_7, hk0_part3_11] at hnew
  rw [hk0_part3_3, hk0_part3_7] at hout
  by_cases hk : k.val = 0
  · have hc18 := cond18_neg k hk
    have hc19 := cond19_neg k hk
    sl_exec
    sl_step
    clear hcut2 hcut3 hcut75
    cases hk0_part2_0
    cases hk0_part3_0
    cases hk0_part75_0
    isplitr
    · ipureintro
      clear * - hk
      revert hk
      revert k
      refine trips_cases ?_ ?_ ?_ ?_ ?_ ?_ ?_ ?_ <;> intro hk <;> first | rfl | exact absurd hk (by decide) | exact absurd rfl hk
    isplitl [Hk0_part2_1 Hk0_part3_2 Hk0_part3_4 Hk0_part3_5]
    · isplitl [Hk0_part2_1]
      · iexact Hk0_part2_1
      unfold sfree
      isplitl [Hk0_part3_2]
      · iexact Hk0_part3_2
      isplitl [Hk0_part3_4]
      · iapply sslot_close c k hw3
        iexists _
        iexact Hk0_part3_4
      · iexact Hk0_part3_5
    isplitl [Hk0_part2_2 Hk0_part3_6 Hk0_part3_8 Hk0_part3_9]
    · isplitl [Hk0_part2_2]
      · iexact Hk0_part2_2
      unfold tfree
      isplitl [Hk0_part3_6]
      · iexact Hk0_part3_6
      isplitl [Hk0_part3_8]
      · iapply tslot_close c k hw2
        iexists _
        iexact Hk0_part3_8
      · iexact Hk0_part3_9
    isplitl [Hk0_part3_1 Hk0_part3_10 Hk0_part3_12 Hk0_part3_13]
    · isplitl [Hk0_part3_1]
      · iexact Hk0_part3_1
      unfold vfree
      isplitl [Hk0_part3_10]
      · iexact Hk0_part3_10
      isplitl [Hk0_part3_12]
      · iapply vslot_close c k hw4
        iexists _
        iexact Hk0_part3_12
      · iexact Hk0_part3_13
    isplitl [Hk0_part75_2 HOp]
    · isplitl [Hk0_part75_2]
      · unfold oinfl
        iexists _, _
        isplitr
        · ipureintro
          exact hnew
        · iexact Hk0_part75_2
      isplitl [HOp]
      · iapply oprev_first (newOf c vs vt) c k.val hk
        iexact HOp
      · iapply oback_first (newOf c vs vt) c k.val hk
        iempintro
    isplitl [Hk0_part75_4 HYp]
    · isplitl [Hk0_part75_4]
      · unfold yinfl
        iexists _, _
        isplitr
        · ipureintro
          exact hout
        · iexact Hk0_part75_4
      isplitl [HYp]
      · iapply yprev_first (outOf c vs vt) c k.val hk
        iexact HYp
      · iapply yback_first (outOf c vs vt) c k.val hk
        iempintro
    iexists _
    iassumption
  · have hc18 := cond18_pos k hk
    have hc19 := cond19_pos k hk
    ihave HOp' := oprev_later (newOf c vs vt) c k hk $$ HOp
    icases HOp' with ⟨%po, %qo, %hpo, HOp⟩
    ihave HYp' := yprev_later (outOf c vs vt) c k hk $$ HYp
    icases HYp' with ⟨%py, %qy, %hpy, HYp⟩
    sl_exec
    sl_step
    clear hcut2 hcut3 hcut75
    cases hk0_part2_0
    cases hk0_part3_0
    cases hk0_part75_0
    isplitr
    · ipureintro
      clear * - hk
      revert hk
      revert k
      refine trips_cases ?_ ?_ ?_ ?_ ?_ ?_ ?_ ?_ <;> intro hk <;> first | rfl | exact absurd hk (by decide) | exact absurd rfl hk
    isplitl [Hk0_part2_1 Hk0_part3_2 Hk0_part3_4 Hk0_part3_5]
    · isplitl [Hk0_part2_1]
      · iexact Hk0_part2_1
      unfold sfree
      isplitl [Hk0_part3_2]
      · iexact Hk0_part3_2
      isplitl [Hk0_part3_4]
      · iapply sslot_close c k hw3
        iexists _
        iexact Hk0_part3_4
      · iexact Hk0_part3_5
    isplitl [Hk0_part2_2 Hk0_part3_6 Hk0_part3_8 Hk0_part3_9]
    · isplitl [Hk0_part2_2]
      · iexact Hk0_part2_2
      unfold tfree
      isplitl [Hk0_part3_6]
      · iexact Hk0_part3_6
      isplitl [Hk0_part3_8]
      · iapply tslot_close c k hw2
        iexists _
        iexact Hk0_part3_8
      · iexact Hk0_part3_9
    isplitl [Hk0_part3_1 Hk0_part3_10 Hk0_part3_12 Hk0_part3_13]
    · isplitl [Hk0_part3_1]
      · iexact Hk0_part3_1
      unfold vfree
      isplitl [Hk0_part3_10]
      · iexact Hk0_part3_10
      isplitl [Hk0_part3_12]
      · iapply vslot_close c k hw4
        iexists _
        iexact Hk0_part3_12
      · iexact Hk0_part3_13
    isplitl [Hk0_part75_2 HOp HOp_src HOp_dst]
    · isplitl [Hk0_part75_2]
      · unfold oinfl
        iexists _, _
        isplitr
        · ipureintro
          exact hnew
        · iexact Hk0_part75_2
      isplitl [HOp HOp_src]
      · unfold ofree
        rw [← ocellW_eq k hk]
        isplitl [HOp]
        · iexact HOp
        · iexists _
          iexact HOp_src
      · iapply oback_later (newOf c vs vt) c k.val hk
        iexists _
        isplitr
        · ipureintro
          exact hpo
        · iexact HOp_dst
    isplitl [Hk0_part75_4 HYp HYp_src HYp_dst]
    · isplitl [Hk0_part75_4]
      · unfold yinfl
        iexists _, _
        isplitr
        · ipureintro
          exact hout
        · iexact Hk0_part75_4
      isplitl [HYp HYp_src]
      · unfold yfree
        rw [← ycellW_eq k hk]
        isplitl [HYp]
        · iexact HYp
        · iexists _
          iexact HYp_src
      · iapply yback_later (outOf c vs vt) c k.val hk
        iexists _
        isplitr
        · ipureintro
          exact hpy
        · iexact HYp_dst
    iexists _
    iassumption

end Cert.KernelIdeal.Decode

end
-- ==== Proof.Loop.lean ====
/-
  The decode kernel's loop: the invariant over its trips and one step.
-/
module

public import proofs.«01_k».proof.Proof.Trip

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UC sig nD τ) ℕ

theorem srole_lt (c : Dev nD) (vs : Vs F c) (k : ℕ) (hk : k < 8) : (srole c vs k : sProp 𝕄) = sinfl c vs (Ring.sl 3 k) (Ring.bk 8 k) := by
  unfold srole; rw [Ring.roleAt_of_lt' _ _ _ hk, Ring.bk_eq_mk hk]
theorem trole_lt (c : Dev nD) (vt : Vt F c) (k : ℕ) (hk : k < 8) : (trole c vt k : sProp 𝕄) = tinfl c vt (Ring.sl 2 k) (Ring.bk 8 k) := by
  unfold trole; rw [Ring.roleAt_of_lt' _ _ _ hk, Ring.bk_eq_mk hk]
theorem vrole_lt (c : Dev nD) (vt : Vt F c) (k : ℕ) (hk : k < 8) : (vrole c vt k : sProp 𝕄) = vinfl c vt (Ring.sl 2 k) (Ring.bk 8 k) := by
  unfold vrole; rw [Ring.roleAt_of_lt' _ _ _ hk, Ring.bk_eq_mk hk]

theorem ahead_take {M : Type} [RA.URA M] (Φ : Fin 8 → sProp M) (k : ℕ) (hk : k < 8) :
    bigSep (Ring.aheadSet (NB := 8) k) Φ = iprop(Φ (Ring.bk 8 k) ∗ bigSep (Ring.aheadSet (NB := 8) (k + 1)) Φ) := by
  rw [Ring.aheadSet_open k hk, Ring.bigSep_put (Ring.bk_not_mem_aheadSet_succ k hk)]

theorem oback_put (c : Dev nD) (G : Fin 8 → S1x64x64x128.Idx → Elt F .f32) (k : ℕ) (hk : k < 8) :
    iprop(oback G c k ∗ bigSep (Ring.behindSet (NB := 8) 1 k) (fun b => Reads c (oblk b) (G b)))
      ⊢ (bigSep (Ring.behindSet (NB := 8) 1 (k + 1)) (fun b => Reads c (oblk b) (G b)) : sProp 𝕄) := by
  unfold oback
  by_cases h : k = 0
  · subst h
    rw [if_pos rfl, Ring.behindSet_boot 1 0 (by decide), Ring.behindSet_boot 1 (0 + 1) (by decide)]
    iintro ⟨-, H⟩
    iexact H
  · rw [if_neg h, Ring.behindSet_close 1 k (by omega) hk, Ring.bigSep_put (Ring.bk_not_mem_behindSet 1 k (by omega) hk)]
theorem yback_put (c : Dev nD) (G : Fin 8 → S1x64x128.Idx → Elt F .f32) (k : ℕ) (hk : k < 8) :
    iprop(yback G c k ∗ bigSep (Ring.behindSet (NB := 8) 1 k) (fun b => Reads c (yblk b) (G b)))
      ⊢ (bigSep (Ring.behindSet (NB := 8) 1 (k + 1)) (fun b => Reads c (yblk b) (G b)) : sProp 𝕄) := by
  unfold yback
  by_cases h : k = 0
  · subst h
    rw [if_pos rfl, Ring.behindSet_boot 1 0 (by decide), Ring.behindSet_boot 1 (0 + 1) (by decide)]
    iintro ⟨-, H⟩
    iexact H
  · rw [if_neg h, Ring.behindSet_close 1 k (by omega) hk, Ring.bigSep_put (Ring.bk_not_mem_behindSet 1 k (by omega) hk)]

/-- Before trip `k`: the words; each read ring with its blocks ahead in flight; each write ring with the block of the trip
    before in flight; the results' blocks ahead at some contents and those behind at what the trips wrote. -/
def inv (c : Dev nD) (vs : Vs F c) (vt : Vt F c) (k : ℕ) (acc : BitVec 32 × BitVec 32 × BitVec 32 × BitVec 32 × BitVec 32 × BitVec 32 × BitVec 32 × BitVec 32 × BitVec 32 × BitVec 32 × BitVec 32 × BitVec 32) : sProp 𝕄 :=
  iprop(⌜acc = words k⌝
    ∗ (srole c vs k ∗ srole c vs (k + 1) ∗ sfree c vs (Ring.sl 3 (k + 2)))
    ∗ (trole c vt k ∗ tfree c vt (Ring.sl 2 (k + 1)))
    ∗ (vrole c vt k ∗ vfree c vt (Ring.sl 2 (k + 1)))
    ∗ (ofree c (Ring.sl 2 k) ∗ oprev (newOf c vs vt) c k ∗ bigSep (Ring.aheadSet (NB := 8) k) (fun b => Some' c (oblk b))
        ∗ bigSep (Ring.behindSet (NB := 8) 1 k) (fun b => Reads c (oblk b) (newOf c vs vt b)))
    ∗ (yfree c (Ring.sl 2 k) ∗ yprev (outOf c vs vt) c k ∗ bigSep (Ring.aheadSet (NB := 8) k) (fun b => Some' c (yblk b))
        ∗ bigSep (Ring.behindSet (NB := 8) 1 k) (fun b => Reads c (yblk b) (outOf c vs vt b)))
    ∗ ∃ W, owes (c : Thread nD τ) 0 W)

theorem oprev_succ (c : Dev nD) (G : Fin 8 → S1x64x64x128.Idx → Elt F .f32) (k : ℕ) :
    (oprev G c (k + 1) : sProp 𝕄) = oinfl c (Ring.sl 2 k) (Ring.bk 8 k) (G (Ring.bk 8 k)) := by
  unfold oprev
  rw [if_neg (Nat.succ_ne_zero k), Ring.sl_succ_add 2 k 1 rfl, Nat.add_sub_cancel]
theorem yprev_succ (c : Dev nD) (G : Fin 8 → S1x64x128.Idx → Elt F .f32) (k : ℕ) :
    (yprev G c (k + 1) : sProp 𝕄) = yinfl c (Ring.sl 2 k) (Ring.bk 8 k) (G (Ring.bk 8 k)) := by
  unfold yprev
  rw [if_neg (Nat.succ_ne_zero k), Ring.sl_succ_add 2 k 1 rfl, Nat.add_sub_cancel]

theorem inv_step (c : Dev nD) (vs : Vs F c) (vt : Vt F c) (x y z : BitVec 32) (k : Fin k0_t1_loop.trips)
    (acc : BitVec 32 × BitVec 32 × BitVec 32 × BitVec 32 × BitVec 32 × BitVec 32 × BitVec 32 × BitVec 32 × BitVec 32 × BitVec 32 × BitVec 32 × BitVec 32) :
    inv c vs vt k.val acc ⊢ (wp frame (wpE defs₀ Variants.none (c : Thread nD τ) none) Set.univ
      (k0_t1_body (F := F) (Memref.whole main_v14) (Memref.isWhole_whole _) (Memref.whole main_v15) (Memref.isWhole_whole _) (Memref.whole main_v16_0) (Memref.isWhole_whole _) (Memref.whole main_v16_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 x y z k acc) (fun r => inv c vs vt (k.val + 1) r) : sProp 𝕄) := by
  have hk : k.val < 8 := k.isLt
  unfold inv
  rw [ahead_take _ k.val hk, ahead_take _ k.val hk, srole_lt c vs k.val hk, trole_lt c vt k.val hk, vrole_lt c vt k.val hk,
    oprev_succ, yprev_succ, Ring.sl_succ_add 3 k.val 2 rfl, Ring.sl_succ_add 2 k.val 1 rfl]
  iintro ⟨%hacc, ⟨HS, HS1, HS2⟩, ⟨HT, HT1⟩, ⟨HV, HV1⟩, ⟨HO, HOp, ⟨Ho, HoA⟩, HoB⟩, ⟨HY, HYp, ⟨Hy, HyA⟩, HyB⟩, ⟨%W, HW⟩⟩
  subst hacc
  iapply (wp_wand_r Idealize.ShloMosaic.frame (wpE (defs₀ (F := F)) Variants.none (c : Thread nD τ) none) Set.univ)
  isplitl [HS HS2 HT HT1 HV HV1 HO HOp Ho HY HYp Hy HW]
  · iapply trip_body c vs vt k W x y z
    isplitl [HS HS2]
    · isplitl [HS] <;> iassumption
    isplitl [HT HT1]
    · isplitl [HT] <;> iassumption
    isplitl [HV HV1]
    · isplitl [HV] <;> iassumption
    isplitl [HO HOp Ho]
    · isplitl [HO]; · iexact HO
      isplitl [HOp] <;> iassumption
    isplitl [HY HYp Hy]
    · isplitl [HY]; · iexact HY
      isplitl [HYp] <;> iassumption
    iexact HW
  · iintro %r ⟨%hr, ⟨HS2, HS⟩, ⟨HT1, HT⟩, ⟨HV1, HV⟩, ⟨HO, HO1, Hob⟩, ⟨HY, HY1, Hyb⟩, HW⟩
    isplitr
    · ipureintro; exact hr
    isplitl [HS1 HS2 HS]
    · isplitl [HS1]; · iexact HS1
      isplitl [HS2]; · iexact HS2
      iexact HS
    isplitl [HT1 HT]
    · isplitl [HT1] <;> iassumption
    isplitl [HV1 HV]
    · isplitl [HV1] <;> iassumption
    isplitl [HO HO1 Hob HoA HoB]
    · isplitl [HO1]; · iexact HO1
      isplitl [HO]; · iexact HO
      isplitl [HoA]; · iexact HoA
      iapply oback_put c (newOf c vs vt) k.val hk
      isplitl [Hob] <;> iassumption
    isplitl [HY HY1 Hyb HyA HyB]
    · isplitl [HY1]; · iexact HY1
      isplitl [HY]; · iexact HY
      isplitl [HyA]; · iexact HyA
      iapply yback_put c (outOf c vs vt) k.val hk
      isplitl [Hyb] <;> iassumption
    iexact HW

/-- The loop's invariant, as the run takes it. -/
@[reducible] def loopInv (c : Dev nD) (vs : Vs F c) (vt : Vt F c) (x y z : BitVec 32)
    (init : BitVec 32 × BitVec 32 × BitVec 32 × BitVec 32 × BitVec 32 × BitVec 32 × BitVec 32 × BitVec 32 × BitVec 32 × BitVec 32 × BitVec 32 × BitVec 32) :
    LoopInvTy_k0_t1 (F := F) Unit ℕ (Pipeline.UC sig nD τ) ℕ Variants.none c none Set.univ (Memref.whole main_v14) (Memref.isWhole_whole _) (Memref.whole main_v15) (Memref.isWhole_whole _) (Memref.whole main_v16_0) (Memref.isWhole_whole _) (Memref.whole main_v16_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 x y z init where
  inv k acc := inv c vs vt k acc
  step k acc := inv_step c vs vt x y z k acc

end Cert.KernelIdeal.Decode

end
-- ==== Proof.Body.lean ====
/-
  The whole decode kernel: from every ring free to every ring free, with every block of the results written.
-/
module

public import proofs.«01_k».proof.Proof.Loop

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UC sig nD τ) ℕ

/-- Every ring free. -/
def rings (c : Dev nD) (vs : Vs F c) (vt : Vt F c) : sProp 𝕄 :=
  iprop((sfree c vs 0 ∗ sfree c vs 1 ∗ sfree c vs 2) ∗ (tfree c vt 0 ∗ tfree c vt 1) ∗ (vfree c vt 0 ∗ vfree c vt 1)
    ∗ (ofree c 0 ∗ ofree c 1) ∗ (yfree c 0 ∗ yfree c 1))

theorem sfree_open (c : Dev nD) (vs : Vs F c) (s : Fin 3) : sfree c vs s ⊢ (iprop(semVal ((c : Thread nD τ), scell s) 0 ∗ Some' c (sslot s) ∗ shome c vs s) : sProp 𝕄) := .rfl
theorem tfree_open (c : Dev nD) (vt : Vt F c) (s : Fin 2) : tfree c vt s ⊢ (iprop(semVal ((c : Thread nD τ), tcell s) 0 ∗ Some' c (tslot s) ∗ thome c vt s) : sProp 𝕄) := .rfl
theorem vfree_open (c : Dev nD) (vt : Vt F c) (s : Fin 2) : vfree c vt s ⊢ (iprop(semVal ((c : Thread nD τ), vcell s) 0 ∗ Some' c (vslot s) ∗ vhome c vt s) : sProp 𝕄) := .rfl
theorem oinfl_open (c : Dev nD) (s : Fin 2) (b : Fin 8) (G : S1x64x64x128.Idx → Elt F .f32) : oinfl c s b G
    ⊢ (iprop(∃ f g, ⌜(oblk b).view.read (Elt F) f = G⌝ ∗ Transfers.Flight (countersEmb (U := Pipeline.UC sig nD τ)) (c : Thread nD τ) (ocell s) () 65536
      iprop(((oblk b).view.loc (c : Thread nD τ) ↦[(oblk b).view.set]{fullShare} f)
        ∗ ((oslot s).view.loc (c : Thread nD τ) ↦[(oslot s).view.set]{fullShare} g))) : sProp 𝕄) := .rfl
theorem yinfl_open (c : Dev nD) (s : Fin 2) (b : Fin 8) (G : S1x64x128.Idx → Elt F .f32) : yinfl c s b G
    ⊢ (iprop(∃ f g, ⌜(yblk b).view.read (Elt F) f = G⌝ ∗ Transfers.Flight (countersEmb (U := Pipeline.UC sig nD τ)) (c : Thread nD τ) (ycell s) () 1024
      iprop(((yblk b).view.loc (c : Thread nD τ) ↦[(yblk b).view.set]{fullShare} f)
        ∗ ((yslot s).view.loc (c : Thread nD τ) ↦[(yslot s).view.set]{fullShare} g))) : sProp 𝕄) := .rfl

/-- The words the loop starts and ends with. -/
abbrev words0 : BitVec 32 × BitVec 32 × BitVec 32 × BitVec 32 × BitVec 32 × BitVec 32 × BitVec 32 × BitVec 32 × BitVec 32 × BitVec 32 × BitVec 32 × BitVec 32 := (2#32, 0#32, 1#32, 0#32, 1#32, 0#32, 0#32, 0#32, 0#32, 0#32, 0#32, 0#32)
abbrev words8 : BitVec 32 × BitVec 32 × BitVec 32 × BitVec 32 × BitVec 32 × BitVec 32 × BitVec 32 × BitVec 32 × BitVec 32 × BitVec 32 × BitVec 32 × BitVec 32 := (8#32, 8#32, 8#32, 8#32, 8#32, 8#32, 8#32, 7#32, 8#32, 7#32, 0#32, 0#32)

theorem inv_start (c : Dev nD) (vs : Vs F c) (vt : Vt F c) :
    iprop((sinfl c vs 0 0 ∗ sinfl c vs 1 1 ∗ sfree c vs 2) ∗ (tinfl c vt 0 0 ∗ tfree c vt 1) ∗ (vinfl c vt 0 0 ∗ vfree c vt 1)
      ∗ (ofree c 0 ∗ ofree c 1 ∗ bigSep Finset.univ (fun b => Some' c (oblk b)))
      ∗ (yfree c 0 ∗ yfree c 1 ∗ bigSep Finset.univ (fun b => Some' c (yblk b))) ∗ ∃ W, owes (c : Thread nD τ) 0 W)
      ⊢ (inv c vs vt 0 words0 : sProp 𝕄) := by
  unfold inv
  rw [srole_lt c vs 0 (by decide), srole_lt c vs (0 + 1) (by decide), trole_lt c vt 0 (by decide), vrole_lt c vt 0 (by decide),
    Ring.aheadSet_zero, Ring.behindSet_boot 1 0 (by decide), bigSep_empty, bigSep_empty]
  unfold oprev yprev
  rw [if_pos rfl, if_pos rfl]
  iintro ⟨⟨HS, HS1, HS2⟩, ⟨HT, HT1⟩, ⟨HV, HV1⟩, ⟨HO, HO1, Ho⟩, ⟨HY, HY1, Hy⟩, HW⟩
  isplitr
  · ipureintro; rfl
  isplitl [HS HS1 HS2]
  · isplitl [HS]; · iexact HS
    isplitl [HS1]; · iexact HS1
    iexact HS2
  isplitl [HT HT1]
  · isplitl [HT]; · iexact HT
    iexact HT1
  isplitl [HV HV1]
  · isplitl [HV]; · iexact HV
    iexact HV1
  isplitl [HO HO1 Ho]
  · isplitl [HO]; · iexact HO
    isplitl [HO1]; · iexact HO1
    isplitl [Ho]; · iexact Ho
    iempintro
  isplitl [HY HY1 Hy]
  · isplitl [HY]; · iexact HY
    isplitl [HY1]; · iexact HY1
    isplitl [Hy]; · iexact Hy
    iempintro
  iexact HW

theorem inv_end (c : Dev nD) (vs : Vs F c) (vt : Vt F c) (acc : BitVec 32 × BitVec 32 × BitVec 32 × BitVec 32 × BitVec 32 × BitVec 32 × BitVec 32 × BitVec 32 × BitVec 32 × BitVec 32 × BitVec 32 × BitVec 32) :
    inv c vs vt 8 acc
      ⊢ (iprop(⌜acc = words8⌝ ∗ (sfree c vs 0 ∗ sfree c vs 1 ∗ sfree c vs 2) ∗ (tfree c vt 0 ∗ tfree c vt 1) ∗ (vfree c vt 0 ∗ vfree c vt 1)
      ∗ (ofree c 0 ∗ oinfl c 1 7 (newOf c vs vt 7) ∗ bigSep (Ring.behindSet (NB := 8) 1 8) (fun b => Reads c (oblk b) (newOf c vs vt b)))
      ∗ (yfree c 0 ∗ yinfl c 1 7 (outOf c vs vt 7) ∗ bigSep (Ring.behindSet (NB := 8) 1 8) (fun b => Reads c (yblk b) (outOf c vs vt b)))
      ∗ ∃ W, owes (c : Thread nD τ) 0 W) : sProp 𝕄) := by
  unfold inv srole trole vrole
  rw [Ring.roleAt_of_le _ _ 8 (by decide), Ring.roleAt_of_le _ _ (8 + 1) (by decide), Ring.roleAt_of_le _ _ 8 (by decide),
    Ring.roleAt_of_le _ _ 8 (by decide), oprev_succ, yprev_succ]
  iintro ⟨%hacc, ⟨HS, HS1, HS2⟩, ⟨HT, HT1⟩, ⟨HV, HV1⟩, ⟨HO, HO1, -, Ho⟩, ⟨HY, HY1, -, Hy⟩, HW⟩
  isplitr
  · ipureintro; exact hacc.trans rfl
  isplitl [HS HS1 HS2]
  · isplitl [HS1]; · iexact HS1
    isplitl [HS2]; · iexact HS2
    iexact HS
  isplitl [HT HT1]
  · isplitl [HT]; · iexact HT
    iexact HT1
  isplitl [HV HV1]
  · isplitl [HV]; · iexact HV
    iexact HV1
  isplitl [HO HO1 Ho]
  · isplitl [HO]; · iexact HO
    isplitl [HO1]; · iexact HO1
    iexact Ho
  isplitl [HY HY1 Hy]
  · isplitl [HY]; · iexact HY
    isplitl [HY1]; · iexact HY1
    iexact Hy
  iexact HW

theorem loop_exit (c : Dev nD) (vs : Vs F c) (vt : Vt F c) (x y z : BitVec 32) (init acc : BitVec 32 × BitVec 32 × BitVec 32 × BitVec 32 × BitVec 32 × BitVec 32 × BitVec 32 × BitVec 32 × BitVec 32 × BitVec 32 × BitVec 32 × BitVec 32) :
    (loopInv c vs vt x y z init).inv (Scf.trips k0_t1_loop.lb k0_t1_loop.ub k0_t1_loop.st) acc ⊢ (inv c vs vt 8 acc : sProp 𝕄) := by
  rw [show Scf.trips k0_t1_loop.lb k0_t1_loop.ub k0_t1_loop.st = 8 from by decide]
  exact .rfl

theorem behind_all {M : Type} [RA.URA M] (Φ : Fin 8 → sProp M) :
    iprop(Φ 7 ∗ bigSep (Ring.behindSet (NB := 8) 1 8) Φ) ⊢ (bigSep Finset.univ Φ : sProp M) := by
  rw [show (Finset.univ : Finset (Fin 8)) = insert 7 (Ring.behindSet (NB := 8) 1 8) by decide, Ring.bigSep_put (by decide)]

set_option maxHeartbeats 4000000 in
theorem kernel_run (c : Dev nD) (vs : Vs F c) (vt : Vt F c) (W : Waits sig Unit) :
    iprop(rings c vs vt
      ∗ bigSep Finset.univ (fun b => Some' c (oblk b)) ∗ bigSep Finset.univ (fun b => Some' c (yblk b)) ∗ owes (c : Thread nD τ) 0 W)
    ⊢ (wp frame (wpE defs₀ Variants.none (c : Thread nD τ) none) Set.univ
      (cc0_decode_state (F := F) (Memref.whole main_v14) (Memref.isWhole_whole _) (Memref.whole main_v15) (Memref.isWhole_whole _) (Memref.whole main_v16_0) (Memref.isWhole_whole _) (Memref.whole main_v16_1) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9)
      (fun _ => iprop(rings c vs vt
        ∗ bigSep Finset.univ (fun b => Reads c (oblk b) (newOf c vs vt b)) ∗ bigSep Finset.univ (fun b => Reads c (yblk b) (outOf c vs vt b))
        ∗ ∃ W', owes (c : Thread nD τ) 0 W')) : sProp 𝕄) := by
  unfold rings
  iintro ⟨⟨⟨HS0, HS1, HS2⟩, ⟨HT0, HT1⟩, ⟨HV0, HV1⟩, ⟨HO0, HO1⟩, ⟨HY0, HY1⟩⟩, Ho, Hy, HW⟩
  ihave HS0 := sfree_open c vs 0 $$ HS0
  icases HS0 with ⟨HS0c, ⟨%fs0, HS0⟩, Hs0⟩
  ihave HS1 := sfree_open c vs 1 $$ HS1
  icases HS1 with ⟨HS1c, ⟨%fs1, HS1⟩, Hs1⟩
  ihave HT0 := tfree_open c vt 0 $$ HT0
  icases HT0 with ⟨HT0c, ⟨%ft0, HT0⟩, Ht0⟩
  ihave HV0 := vfree_open c vt 0 $$ HV0
  icases HV0 with ⟨HV0c, ⟨%fv0, HV0⟩, Hv0⟩
  sl_exec
  ihave HI := inv_start c vs vt $$ [HS0c Hs0 HS1c Hs1 HS2 HT0c Ht0 HT1 HV0c Hv0 HV1 HO0 HO1 Ho HY0 HY1 Hy HW]
  · isplitl [HS0c Hs0 HS1c Hs1 HS2]
    · isplitl [HS0c Hs0]
      · unfold sinfl
        isplitl [HS0c]
        · iexists _
          isplitr
          rotate_left
          · iexact HS0c
          · ipureintro
            exact View.read_writes_whole _ _ _
        · iexact Hs0
      isplitl [HS1c Hs1]
      · unfold sinfl
        isplitl [HS1c]
        · iexists _
          isplitr
          rotate_left
          · iexact HS1c
          · ipureintro
            exact View.read_writes_whole _ _ _
        · iexact Hs1
      · iexact HS2
    isplitl [HT0c Ht0 HT1]
    · isplitl [HT0c Ht0]
      · unfold tinfl
        isplitl [HT0c]
        · iexists _
          isplitr
          rotate_left
          · iexact HT0c
          · ipureintro
            exact View.read_writes_whole _ _ _
        · iexact Ht0
      · iexact HT1
    isplitl [HV0c Hv0 HV1]
    · isplitl [HV0c Hv0]
      · unfold vinfl
        isplitl [HV0c]
        · iexists _
          isplitr
          rotate_left
          · iexact HV0c
          · ipureintro
            exact View.read_writes_whole _ _ _
        · iexact Hv0
      · iexact HV1
    isplitl [HO0 HO1 Ho]
    · isplitl [HO0]; · iexact HO0
      isplitl [HO1]; · iexact HO1
      iexact Ho
    isplitl [HY0 HY1 Hy]
    · isplitl [HY0]; · iexact HY0
      isplitl [HY1]; · iexact HY1
      iexact Hy
    iexists _
    iexact HW
  iapply (exec_loop Idealize.ShloMosaic.frame (wpE (defs₀ (F := F)) Variants.none (c : Thread nD τ) none) Set.univ _ _ _ _ _ _
    (loopInv c vs vt 1#32 1#32 1#32 words0)) $$ HI
  iintro %acc HI
  ihave HI := loop_exit c vs vt 1#32 1#32 1#32 words0 acc $$ HI
  ihave HI := inv_end c vs vt acc $$ HI
  icases HI with ⟨%hacc, HS, HT, HV, ⟨HO0, HO1, Ho⟩, ⟨HY0, HY1, Hy⟩, ⟨%W1, HW⟩⟩
  subst hacc
  ihave HO1 := oinfl_open c 1 7 _ $$ HO1
  icases HO1 with ⟨%po, %qo, %hpo, HO1⟩
  ihave HY1 := yinfl_open c 1 7 _ $$ HY1
  icases HY1 with ⟨%py, %qy, %hpy, HY1⟩
  sl_exec
  sl_step

  isplitl [HS HT HV HO0 HO1 HO1_src HY0 HY1 HY1_src]
  · isplitl [HS]; · iexact HS
    isplitl [HT]; · iexact HT
    isplitl [HV]; · iexact HV
    isplitl [HO0 HO1 HO1_src]
    · isplitl [HO0]; · iexact HO0
      unfold ofree
      isplitl [HO1]; · iexact HO1
      iexists _
      iexact HO1_src
    · isplitl [HY0]; · iexact HY0
      unfold yfree
      isplitl [HY1]; · iexact HY1
      iexists _
      iexact HY1_src
  isplitl [HO1_dst Ho]
  · iapply behind_all (fun b => (Reads c (oblk b) (newOf c vs vt b) : sProp 𝕄))
    isplitl [HO1_dst]
    · iexists _
      isplitr
      · ipureintro; exact hpo
      · iexact HO1_dst
    · iexact Ho
  isplitl [HY1_dst Hy]
  · iapply behind_all (fun b => (Reads c (yblk b) (outOf c vs vt b) : sProp 𝕄))
    isplitl [HY1_dst]
    · iexists _
      isplitr
      · ipureintro; exact hpy
      · iexact HY1_dst
    · iexact Hy
  iexists _
  iassumption

end Cert.KernelIdeal.Decode

end
-- ==== Proof.Split.lean ====
/-
  The decode kernel's buffers whole and by slot: each scoped buffer is its slots, each result its blocks; and the results'
  blocks, written, are the results written.
-/
module

public import proofs.«01_k».proof.Proof.Body

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UC sig nD τ) ℕ

/-! ## The slots' elements -/

/-- The elements of `sslot`. -/
abbrev sslotE (s : Fin 3) : Finset S3x1x64x64x128.Idx := (sslot s).view.set
theorem sslot_set (s : Fin 3) : sslotE s = (Rect.unit (s := S3x1x64x64x128) ![s.val, 0, 0, 0, 0] S1x1x64x64x128.size (sslot_inb s)).set :=
  (View.set_reshape _ _).trans (View.set_slice_whole _ _)
theorem sslot_disjoint (s s' : Fin 3) (h : s ≠ s') : Disjoint (sslotE s) (sslotE s') := by
  rw [sslot_set, sslot_set]
  exact Ring.lead_disjoint (s := S3x1x64x64x128) (0 : Fin 5) 1 (fun s : Fin 3 => ![s.val, 0, 0, 0, 0]) S1x1x64x64x128.size sslot_inb (by decide) (by decide) s s' h
theorem sslot_cover : Finset.univ.biUnion sslotE = Finset.univ := by
  rw [show sslotE = fun s => (Rect.unit (s := S3x1x64x64x128) ![s.val, 0, 0, 0, 0] S1x1x64x64x128.size (sslot_inb s)).set from funext sslot_set]
  exact Ring.lead_cover (s := S3x1x64x64x128) (0 : Fin 5) 1 (fun s : Fin 3 => ![s.val, 0, 0, 0, 0]) S1x1x64x64x128.size sslot_inb (by decide) (by decide) (by decide) (by decide) (by decide)
/-- The elements of `tslot`. -/
abbrev tslotE (s : Fin 2) : Finset S2x6x1x64x128.Idx := (tslot s).view.set
theorem tslot_set (s : Fin 2) : tslotE s = (Rect.unit (s := S2x6x1x64x128) ![s.val, 0, 0, 0, 0] S1x6x1x64x128.size (tslot_inb s)).set :=
  (View.set_reshape _ _).trans (View.set_slice_whole _ _)
theorem tslot_disjoint (s s' : Fin 2) (h : s ≠ s') : Disjoint (tslotE s) (tslotE s') := by
  rw [tslot_set, tslot_set]
  exact Ring.lead_disjoint (s := S2x6x1x64x128) (0 : Fin 5) 1 (fun s : Fin 2 => ![s.val, 0, 0, 0, 0]) S1x6x1x64x128.size tslot_inb (by decide) (by decide) s s' h
theorem tslot_cover : Finset.univ.biUnion tslotE = Finset.univ := by
  rw [show tslotE = fun s => (Rect.unit (s := S2x6x1x64x128) ![s.val, 0, 0, 0, 0] S1x6x1x64x128.size (tslot_inb s)).set from funext tslot_set]
  exact Ring.lead_cover (s := S2x6x1x64x128) (0 : Fin 5) 1 (fun s : Fin 2 => ![s.val, 0, 0, 0, 0]) S1x6x1x64x128.size tslot_inb (by decide) (by decide) (by decide) (by decide) (by decide)
/-- The elements of `vslot`. -/
abbrev vslotE (s : Fin 2) : Finset S2x1x1x64x128.Idx := (vslot s).view.set
theorem vslot_set (s : Fin 2) : vslotE s = (Rect.unit (s := S2x1x1x64x128) ![s.val, 0, 0, 0, 0] S1x1x1x64x128.size (vslot_inb s)).set :=
  (View.set_reshape _ _).trans (View.set_slice_whole _ _)
theorem vslot_disjoint (s s' : Fin 2) (h : s ≠ s') : Disjoint (vslotE s) (vslotE s') := by
  rw [vslot_set, vslot_set]
  exact Ring.lead_disjoint (s := S2x1x1x64x128) (0 : Fin 5) 1 (fun s : Fin 2 => ![s.val, 0, 0, 0, 0]) S1x1x1x64x128.size vslot_inb (by decide) (by decide) s s' h
theorem vslot_cover : Finset.univ.biUnion vslotE = Finset.univ := by
  rw [show vslotE = fun s => (Rect.unit (s := S2x1x1x64x128) ![s.val, 0, 0, 0, 0] S1x1x1x64x128.size (vslot_inb s)).set from funext vslot_set]
  exact Ring.lead_cover (s := S2x1x1x64x128) (0 : Fin 5) 1 (fun s : Fin 2 => ![s.val, 0, 0, 0, 0]) S1x1x1x64x128.size vslot_inb (by decide) (by decide) (by decide) (by decide) (by decide)
/-- The elements of `oslot`. -/
abbrev oslotE (s : Fin 2) : Finset S2x1x64x64x128.Idx := (oslot s).view.set
theorem oslot_set (s : Fin 2) : oslotE s = (Rect.unit (s := S2x1x64x64x128) ![s.val, 0, 0, 0, 0] S1x1x64x64x128.size (oslot_inb s)).set :=
  (View.set_reshape _ _).trans (View.set_slice_whole _ _)
theorem oslot_disjoint (s s' : Fin 2) (h : s ≠ s') : Disjoint (oslotE s) (oslotE s') := by
  rw [oslot_set, oslot_set]
  exact Ring.lead_disjoint (s := S2x1x64x64x128) (0 : Fin 5) 1 (fun s : Fin 2 => ![s.val, 0, 0, 0, 0]) S1x1x64x64x128.size oslot_inb (by decide) (by decide) s s' h
theorem oslot_cover : Finset.univ.biUnion oslotE = Finset.univ := by
  rw [show oslotE = fun s => (Rect.unit (s := S2x1x64x64x128) ![s.val, 0, 0, 0, 0] S1x1x64x64x128.size (oslot_inb s)).set from funext oslot_set]
  exact Ring.lead_cover (s := S2x1x64x64x128) (0 : Fin 5) 1 (fun s : Fin 2 => ![s.val, 0, 0, 0, 0]) S1x1x64x64x128.size oslot_inb (by decide) (by decide) (by decide) (by decide) (by decide)
/-- The elements of `yslot`. -/
abbrev yslotE (s : Fin 2) : Finset S2x1x64x128.Idx := (yslot s).view.set
theorem yslot_set (s : Fin 2) : yslotE s = (Rect.unit (s := S2x1x64x128) ![s.val, 0, 0, 0] S1x1x64x128.size (yslot_inb s)).set :=
  (View.set_reshape _ _).trans (View.set_slice_whole _ _)
theorem yslot_disjoint (s s' : Fin 2) (h : s ≠ s') : Disjoint (yslotE s) (yslotE s') := by
  rw [yslot_set, yslot_set]
  exact Ring.lead_disjoint (s := S2x1x64x128) (0 : Fin 4) 1 (fun s : Fin 2 => ![s.val, 0, 0, 0]) S1x1x64x128.size yslot_inb (by decide) (by decide) s s' h
theorem yslot_cover : Finset.univ.biUnion yslotE = Finset.univ := by
  rw [show yslotE = fun s => (Rect.unit (s := S2x1x64x128) ![s.val, 0, 0, 0] S1x1x64x128.size (yslot_inb s)).set from funext yslot_set]
  exact Ring.lead_cover (s := S2x1x64x128) (0 : Fin 4) 1 (fun s : Fin 2 => ![s.val, 0, 0, 0]) S1x1x64x128.size yslot_inb (by decide) (by decide) (by decide) (by decide) (by decide)
/-- The elements of `oblk`. -/
abbrev oblkE (s : Fin 8) : Finset S8x64x64x128.Idx := (oblk s).view.set
theorem oblk_set (s : Fin 8) : oblkE s = (Rect.unit (s := S8x64x64x128) ![s.val, 0, 0, 0] S1x64x64x128.size (sblk_inb s)).set :=
  View.set_slice_whole _ _
theorem oblk_disjoint (s s' : Fin 8) (h : s ≠ s') : Disjoint (oblkE s) (oblkE s') := by
  rw [oblk_set, oblk_set]
  exact Ring.lead_disjoint (s := S8x64x64x128) (0 : Fin 4) 1 (fun s : Fin 8 => ![s.val, 0, 0, 0]) S1x64x64x128.size sblk_inb (by decide) (by decide) s s' h
theorem oblk_cover : Finset.univ.biUnion oblkE = Finset.univ := by
  rw [show oblkE = fun s => (Rect.unit (s := S8x64x64x128) ![s.val, 0, 0, 0] S1x64x64x128.size (sblk_inb s)).set from funext oblk_set]
  exact Ring.lead_cover (s := S8x64x64x128) (0 : Fin 4) 1 (fun s : Fin 8 => ![s.val, 0, 0, 0]) S1x64x64x128.size sblk_inb (by decide) (by decide) (by decide) (by decide) (by decide)
/-- The elements of `yblk`. -/
abbrev yblkE (s : Fin 8) : Finset S8x64x128.Idx := (yblk s).view.set
theorem yblk_set (s : Fin 8) : yblkE s = (Rect.unit (s := S8x64x128) ![s.val, 0, 0] S1x64x128.size (yblk_inb s)).set :=
  View.set_slice_whole _ _
theorem yblk_disjoint (s s' : Fin 8) (h : s ≠ s') : Disjoint (yblkE s) (yblkE s') := by
  rw [yblk_set, yblk_set]
  exact Ring.lead_disjoint (s := S8x64x128) (0 : Fin 3) 1 (fun s : Fin 8 => ![s.val, 0, 0]) S1x64x128.size yblk_inb (by decide) (by decide) s s' h
theorem yblk_cover : Finset.univ.biUnion yblkE = Finset.univ := by
  rw [show yblkE = fun s => (Rect.unit (s := S8x64x128) ![s.val, 0, 0] S1x64x128.size (yblk_inb s)).set from funext yblk_set]
  exact Ring.lead_cover (s := S8x64x128) (0 : Fin 3) 1 (fun s : Fin 8 => ![s.val, 0, 0]) S1x64x128.size yblk_inb (by decide) (by decide) (by decide) (by decide) (by decide)

/-! ## A scoped buffer whole, and its slots -/

theorem sslot_split (c : Dev nD) : iprop(∃ f : Buf (Elt F) ((c : Thread nD τ).loc cc0_scoped0), ((c : Thread nD τ).loc cc0_scoped0) ↦{fullShare} f) ⊢ (iprop(Some' c (sslot 0) ∗ Some' c (sslot 1) ∗ Some' c (sslot 2)) : sProp 𝕄) :=
  Ring.slots3_split (ℓ := ((c : Thread nD τ).loc cc0_scoped0)) (q := fullShare) sslotE sslot_disjoint sslot_cover (fun f => ((c : Thread nD τ).loc cc0_scoped0) ↦[(sslot 0).view.set]{fullShare} f) (fun f => ((c : Thread nD τ).loc cc0_scoped0) ↦[(sslot 1).view.set]{fullShare} f) (fun f => ((c : Thread nD τ).loc cc0_scoped0) ↦[(sslot 2).view.set]{fullShare} f) (fun _ => rfl) (fun _ => rfl) (fun _ => rfl)
theorem sslot_join (c : Dev nD) : iprop(Some' c (sslot 0) ∗ Some' c (sslot 1) ∗ Some' c (sslot 2)) ⊢ (iprop(∃ f : Buf (Elt F) ((c : Thread nD τ).loc cc0_scoped0), ((c : Thread nD τ).loc cc0_scoped0) ↦{fullShare} f) : sProp 𝕄) :=
  Ring.slots3_join (ℓ := ((c : Thread nD τ).loc cc0_scoped0)) (q := fullShare) sslotE sslot_disjoint sslot_cover (fun f => ((c : Thread nD τ).loc cc0_scoped0) ↦[(sslot 0).view.set]{fullShare} f) (fun f => ((c : Thread nD τ).loc cc0_scoped0) ↦[(sslot 1).view.set]{fullShare} f) (fun f => ((c : Thread nD τ).loc cc0_scoped0) ↦[(sslot 2).view.set]{fullShare} f) (fun _ => rfl) (fun _ => rfl) (fun _ => rfl)
theorem tslot_split (c : Dev nD) : iprop(∃ f : Buf (Elt F) ((c : Thread nD τ).loc cc0_scoped2), ((c : Thread nD τ).loc cc0_scoped2) ↦{fullShare} f) ⊢ (iprop(Some' c (tslot 0) ∗ Some' c (tslot 1)) : sProp 𝕄) :=
  Ring.slots2_split (ℓ := ((c : Thread nD τ).loc cc0_scoped2)) (q := fullShare) tslotE tslot_disjoint tslot_cover (fun f => ((c : Thread nD τ).loc cc0_scoped2) ↦[(tslot 0).view.set]{fullShare} f) (fun f => ((c : Thread nD τ).loc cc0_scoped2) ↦[(tslot 1).view.set]{fullShare} f) (fun _ => rfl) (fun _ => rfl)
theorem tslot_join (c : Dev nD) : iprop(Some' c (tslot 0) ∗ Some' c (tslot 1)) ⊢ (iprop(∃ f : Buf (Elt F) ((c : Thread nD τ).loc cc0_scoped2), ((c : Thread nD τ).loc cc0_scoped2) ↦{fullShare} f) : sProp 𝕄) :=
  Ring.slots2_join (ℓ := ((c : Thread nD τ).loc cc0_scoped2)) (q := fullShare) tslotE tslot_disjoint tslot_cover (fun f => ((c : Thread nD τ).loc cc0_scoped2) ↦[(tslot 0).view.set]{fullShare} f) (fun f => ((c : Thread nD τ).loc cc0_scoped2) ↦[(tslot 1).view.set]{fullShare} f) (fun _ => rfl) (fun _ => rfl)
theorem vslot_split (c : Dev nD) : iprop(∃ f : Buf (Elt F) ((c : Thread nD τ).loc cc0_scoped4), ((c : Thread nD τ).loc cc0_scoped4) ↦{fullShare} f) ⊢ (iprop(Some' c (vslot 0) ∗ Some' c (vslot 1)) : sProp 𝕄) :=
  Ring.slots2_split (ℓ := ((c : Thread nD τ).loc cc0_scoped4)) (q := fullShare) vslotE vslot_disjoint vslot_cover (fun f => ((c : Thread nD τ).loc cc0_scoped4) ↦[(vslot 0).view.set]{fullShare} f) (fun f => ((c : Thread nD τ).loc cc0_scoped4) ↦[(vslot 1).view.set]{fullShare} f) (fun _ => rfl) (fun _ => rfl)
theorem vslot_join (c : Dev nD) : iprop(Some' c (vslot 0) ∗ Some' c (vslot 1)) ⊢ (iprop(∃ f : Buf (Elt F) ((c : Thread nD τ).loc cc0_scoped4), ((c : Thread nD τ).loc cc0_scoped4) ↦{fullShare} f) : sProp 𝕄) :=
  Ring.slots2_join (ℓ := ((c : Thread nD τ).loc cc0_scoped4)) (q := fullShare) vslotE vslot_disjoint vslot_cover (fun f => ((c : Thread nD τ).loc cc0_scoped4) ↦[(vslot 0).view.set]{fullShare} f) (fun f => ((c : Thread nD τ).loc cc0_scoped4) ↦[(vslot 1).view.set]{fullShare} f) (fun _ => rfl) (fun _ => rfl)
theorem oslot_split (c : Dev nD) : iprop(∃ f : Buf (Elt F) ((c : Thread nD τ).loc cc0_scoped6), ((c : Thread nD τ).loc cc0_scoped6) ↦{fullShare} f) ⊢ (iprop(Some' c (oslot 0) ∗ Some' c (oslot 1)) : sProp 𝕄) :=
  Ring.slots2_split (ℓ := ((c : Thread nD τ).loc cc0_scoped6)) (q := fullShare) oslotE oslot_disjoint oslot_cover (fun f => ((c : Thread nD τ).loc cc0_scoped6) ↦[(oslot 0).view.set]{fullShare} f) (fun f => ((c : Thread nD τ).loc cc0_scoped6) ↦[(oslot 1).view.set]{fullShare} f) (fun _ => rfl) (fun _ => rfl)
theorem oslot_join (c : Dev nD) : iprop(Some' c (oslot 0) ∗ Some' c (oslot 1)) ⊢ (iprop(∃ f : Buf (Elt F) ((c : Thread nD τ).loc cc0_scoped6), ((c : Thread nD τ).loc cc0_scoped6) ↦{fullShare} f) : sProp 𝕄) :=
  Ring.slots2_join (ℓ := ((c : Thread nD τ).loc cc0_scoped6)) (q := fullShare) oslotE oslot_disjoint oslot_cover (fun f => ((c : Thread nD τ).loc cc0_scoped6) ↦[(oslot 0).view.set]{fullShare} f) (fun f => ((c : Thread nD τ).loc cc0_scoped6) ↦[(oslot 1).view.set]{fullShare} f) (fun _ => rfl) (fun _ => rfl)
theorem yslot_split (c : Dev nD) : iprop(∃ f : Buf (Elt F) ((c : Thread nD τ).loc cc0_scoped8), ((c : Thread nD τ).loc cc0_scoped8) ↦{fullShare} f) ⊢ (iprop(Some' c (yslot 0) ∗ Some' c (yslot 1)) : sProp 𝕄) :=
  Ring.slots2_split (ℓ := ((c : Thread nD τ).loc cc0_scoped8)) (q := fullShare) yslotE yslot_disjoint yslot_cover (fun f => ((c : Thread nD τ).loc cc0_scoped8) ↦[(yslot 0).view.set]{fullShare} f) (fun f => ((c : Thread nD τ).loc cc0_scoped8) ↦[(yslot 1).view.set]{fullShare} f) (fun _ => rfl) (fun _ => rfl)
theorem yslot_join (c : Dev nD) : iprop(Some' c (yslot 0) ∗ Some' c (yslot 1)) ⊢ (iprop(∃ f : Buf (Elt F) ((c : Thread nD τ).loc cc0_scoped8), ((c : Thread nD τ).loc cc0_scoped8) ↦{fullShare} f) : sProp 𝕄) :=
  Ring.slots2_join (ℓ := ((c : Thread nD τ).loc cc0_scoped8)) (q := fullShare) yslotE yslot_disjoint yslot_cover (fun f => ((c : Thread nD τ).loc cc0_scoped8) ↦[(yslot 0).view.set]{fullShare} f) (fun f => ((c : Thread nD τ).loc cc0_scoped8) ↦[(yslot 1).view.set]{fullShare} f) (fun _ => rfl) (fun _ => rfl)

/-! ## A result whole, and its blocks -/

theorem oblk_split (c : Dev nD) (f : Buf (Elt F) ((c : Thread nD τ).loc main_v16_0)) : (((c : Thread nD τ).loc main_v16_0) ↦{fullShare} f) ⊢ (bigSep Finset.univ (fun b => Some' c (oblk b)) : sProp 𝕄) := by
  refine BIBase.Entails.trans ?_ (Ring.pieces_split (ℓ := ((c : Thread nD τ).loc main_v16_0)) oblkE oblk_disjoint oblk_cover (q := fullShare)
    (fun b f => ((c : Thread nD τ).loc main_v16_0) ↦[(oblk b).view.set]{fullShare} f) (fun _ _ => rfl))
  iintro H
  iexists f
  iexact H

/-- The array whose block `b` is `G b`. -/
def newArr (G : Fin 8 → S1x64x64x128.Idx → Elt F .f32) : S8x64x64x128.Idx → Elt F .f32 := fun y => G ⟨(y 0).val, (y 0).isLt⟩ (fun a => ⟨(![0, (y 1).val, (y 2).val, (y 3).val] : Fin 4 → ℕ) a, by
  revert a; intro a; fin_cases a
  · exact Nat.zero_lt_one
  · exact (y 1).isLt
  · exact (y 2).isLt
  · exact (y 3).isLt⟩)

/-- Index `x` of block `b`, in the whole array. -/
abbrev oblkAt (b : Fin 8) (x : S1x64x64x128.Idx) : S8x64x64x128.Idx := (oblk b).view.emb x

theorem newArr_blk (G : Fin 8 → S1x64x64x128.Idx → Elt F .f32) (b : Fin 8) (x : S1x64x64x128.Idx) : newArr G (oblkAt b x) = G b x := by
  have h0 : (x 0).val = 0 := Nat.lt_one_iff.mp (x 0).isLt
  have hb : (⟨((oblkAt b x) 0).val, ((oblkAt b x) 0).isLt⟩ : Fin 8) = b := by
    refine Fin.ext ?_
    show b.val + 1 * (x 0).val = b.val
    omega
  unfold newArr
  rw [hb]
  refine congrArg (G b) (funext fun a => Fin.ext ?_)
  fin_cases a
  · exact h0.symm
  · show 0 + 1 * (x 1).val = (x 1).val; omega
  · show 0 + 1 * (x 2).val = (x 2).val; omega
  · show 0 + 1 * (x 3).val = (x 3).val; omega

theorem oblk_join (c : Dev nD) (G : Fin 8 → S1x64x64x128.Idx → Elt F .f32) :
    bigSep Finset.univ (fun b => Reads c (oblk b) (G b)) ⊢ (((c : Thread nD τ).loc main_v16_0) ↦{fullShare} (newArr G : Buf (Elt F) ((c : Thread nD τ).loc main_v16_0)) : sProp 𝕄) := by
  refine BIBase.Entails.trans (BI.bigSep_mono (s := Finset.univ) (Ψ := fun b => (((c : Thread nD τ).loc main_v16_0) ↦[(oblk b).view.set]{fullShare} (newArr G : Buf (Elt F) ((c : Thread nD τ).loc main_v16_0)) : sProp 𝕄)) fun b _ => ?_)
    (Entails.of_eq (Ring.pointsTo_blocks (ℓ := ((c : Thread nD τ).loc main_v16_0)) oblkE oblk_disjoint oblk_cover (q := fullShare) (newArr G)).symm)
  show (Reads c (oblk b) (G b) : sProp 𝕄) ⊢ (((c : Thread nD τ).loc main_v16_0) ↦[(oblk b).view.set]{fullShare} (newArr G : Buf (Elt F) ((c : Thread nD τ).loc main_v16_0)) : sProp 𝕄)
  iintro ⟨%f, %hf, H⟩
  iapply (Entails.of_eq (pointsTo_congr (ℓ := ((c : Thread nD τ).loc main_v16_0)) (I := (oblk b).view.set) (f := f) (g := (newArr G : Buf (Elt F) ((c : Thread nD τ).loc main_v16_0))) fun i hi => ?_))
  rotate_left
  · iexact H
  · obtain ⟨x, -, rfl⟩ := Finset.mem_map.mp hi
    exact (congrFun hf x).trans (newArr_blk G b x).symm

theorem yblk_split (c : Dev nD) (f : Buf (Elt F) ((c : Thread nD τ).loc main_v16_1)) : (((c : Thread nD τ).loc main_v16_1) ↦{fullShare} f) ⊢ (bigSep Finset.univ (fun b => Some' c (yblk b)) : sProp 𝕄) := by
  refine BIBase.Entails.trans ?_ (Ring.pieces_split (ℓ := ((c : Thread nD τ).loc main_v16_1)) yblkE yblk_disjoint yblk_cover (q := fullShare)
    (fun b f => ((c : Thread nD τ).loc main_v16_1) ↦[(yblk b).view.set]{fullShare} f) (fun _ _ => rfl))
  iintro H
  iexists f
  iexact H

/-- The array whose block `b` is `G b`. -/
def outArr (G : Fin 8 → S1x64x128.Idx → Elt F .f32) : S8x64x128.Idx → Elt F .f32 := fun y => G ⟨(y 0).val, (y 0).isLt⟩ (fun a => ⟨(![0, (y 1).val, (y 2).val] : Fin 3 → ℕ) a, by
  revert a; intro a; fin_cases a
  · exact Nat.zero_lt_one
  · exact (y 1).isLt
  · exact (y 2).isLt⟩)

/-- Index `x` of block `b`, in the whole array. -/
abbrev yblkAt (b : Fin 8) (x : S1x64x128.Idx) : S8x64x128.Idx := (yblk b).view.emb x

theorem outArr_blk (G : Fin 8 → S1x64x128.Idx → Elt F .f32) (b : Fin 8) (x : S1x64x128.Idx) : outArr G (yblkAt b x) = G b x := by
  have h0 : (x 0).val = 0 := Nat.lt_one_iff.mp (x 0).isLt
  have hb : (⟨((yblkAt b x) 0).val, ((yblkAt b x) 0).isLt⟩ : Fin 8) = b := by
    refine Fin.ext ?_
    show b.val + 1 * (x 0).val = b.val
    omega
  unfold outArr
  rw [hb]
  refine congrArg (G b) (funext fun a => Fin.ext ?_)
  fin_cases a
  · exact h0.symm
  · show 0 + 1 * (x 1).val = (x 1).val; omega
  · show 0 + 1 * (x 2).val = (x 2).val; omega

theorem yblk_join (c : Dev nD) (G : Fin 8 → S1x64x128.Idx → Elt F .f32) :
    bigSep Finset.univ (fun b => Reads c (yblk b) (G b)) ⊢ (((c : Thread nD τ).loc main_v16_1) ↦{fullShare} (outArr G : Buf (Elt F) ((c : Thread nD τ).loc main_v16_1)) : sProp 𝕄) := by
  refine BIBase.Entails.trans (BI.bigSep_mono (s := Finset.univ) (Ψ := fun b => (((c : Thread nD τ).loc main_v16_1) ↦[(yblk b).view.set]{fullShare} (outArr G : Buf (Elt F) ((c : Thread nD τ).loc main_v16_1)) : sProp 𝕄)) fun b _ => ?_)
    (Entails.of_eq (Ring.pointsTo_blocks (ℓ := ((c : Thread nD τ).loc main_v16_1)) yblkE yblk_disjoint yblk_cover (q := fullShare) (outArr G)).symm)
  show (Reads c (yblk b) (G b) : sProp 𝕄) ⊢ (((c : Thread nD τ).loc main_v16_1) ↦[(yblk b).view.set]{fullShare} (outArr G : Buf (Elt F) ((c : Thread nD τ).loc main_v16_1)) : sProp 𝕄)
  iintro ⟨%f, %hf, H⟩
  iapply (Entails.of_eq (pointsTo_congr (ℓ := ((c : Thread nD τ).loc main_v16_1)) (I := (yblk b).view.set) (f := f) (g := (outArr G : Buf (Elt F) ((c : Thread nD τ).loc main_v16_1))) fun i hi => ?_))
  rotate_left
  · iexact H
  · obtain ⟨x, -, rfl⟩ := Finset.mem_map.mp hi
    exact (congrFun hf x).trans (outArr_blk G b x).symm

end Cert.KernelIdeal.Decode

end
-- ==== Proof.Launch.lean ====
/-
  The decode kernel's launch: from the program's memory at rest, its one custom call run to its end. The call is handed
  its two operands and two results whole, its eleven semaphores at zero and its five scoped buffers; these are every ring
  free (`rings`) and the results' blocks, and so again afterwards, the results then holding the blocks' arrays.
-/
module

public import proofs.«01_k».proof.Proof.Split
public import proofs.«01_k».proof.Proof.Gen.KernelIdeal.Frame

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]
variable (m : (ℓ : Loc nD τ sig) → Buf (Elt F) ℓ) (ρ : Dev nD → PrngReg)

local notation "𝕄" => MT nD τ sig Unit (Elt F) ℕ (Pipeline.UC sig nD τ) ℕ

/-! ## The semaphores, the operands and results -/

theorem scell_0 : scell 0 = SemLoc.dma 0 := by decide
theorem scell_1 : scell 1 = SemLoc.dma 1 := by decide
theorem scell_2 : scell 2 = SemLoc.dma 2 := by decide
theorem tcell_0 : tcell 0 = SemLoc.dma 3 := by decide
theorem tcell_1 : tcell 1 = SemLoc.dma 4 := by decide
theorem vcell_0 : vcell 0 = SemLoc.dma 5 := by decide
theorem vcell_1 : vcell 1 = SemLoc.dma 6 := by decide
theorem ocell_0 : ocell 0 = SemLoc.dma 7 := by decide
theorem ocell_1 : ocell 1 = SemLoc.dma 8 := by decide
theorem ycell_0 : ycell 0 = SemLoc.dma 9 := by decide
theorem ycell_1 : ycell 1 = SemLoc.dma 10 := by decide

/-- The kernel's own semaphores. -/
abbrev osem0 : Fin 11 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10] : Fin 11 → SemLoc sig) j
theorem ownSemFacts0 : Pipeline.OwnSemFacts (cfg0.spec) osem0 := by decide
theorem ownSems00_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5, 6, 7, 8, 9, 10] (by decide) (by decide)]; rfl

/-- The operands and the results. -/
def routes : Finset (Ref sig .tc) := {main_v14, main_v15, main_v16_0, main_v16_1}
theorem routes_sub : routes ⊆ Pipeline.restRefs sig (cfg0.spec) := by decide
theorem routed_eq (c : Dev nD) (W : (b : Ref sig .tc) → Buf (Elt F) ((c.tc : Thread nD τ).loc b)) :
    (Pipeline.routed routes c W : sProp 𝕄)
      = iprop((((c : Thread nD τ).loc main_v14) ↦{fullShare} W main_v14) ∗ (((c : Thread nD τ).loc main_v15) ↦{fullShare} W main_v15)
        ∗ (((c : Thread nD τ).loc main_v16_0) ↦{fullShare} W main_v16_0) ∗ (((c : Thread nD τ).loc main_v16_1) ↦{fullShare} W main_v16_1)) := by
  unfold Pipeline.routed
  rw [BI.bigSep_eq_bigSepL_of_eq [main_v14, main_v15, main_v16_0, main_v16_1] (by decide) (by decide)]; rfl

/-! ## The rings, from the buffers whole and back -/

theorem shares_split (c : Dev nD) (vs : Vs F c) : (((c : Thread nD τ).loc main_v14) ↦{fullShare} vs) ⊢ (iprop(shome c vs 0 ∗ shome c vs 1 ∗ shome c vs 2) : sProp 𝕄) :=
  (Ring.pointsTo_thirds fullShare vs).1
theorem shares_join (c : Dev nD) (vs : Vs F c) : iprop(shome c vs 0 ∗ shome c vs 1 ∗ shome c vs 2) ⊢ (((c : Thread nD τ).loc main_v14) ↦{fullShare} vs : sProp 𝕄) :=
  (Ring.pointsTo_thirds fullShare vs).2
theorem quarters_split (c : Dev nD) (vt : Vt F c) : (((c : Thread nD τ).loc main_v15) ↦{fullShare} vt)
    ⊢ (iprop((thome c vt 0 ∗ thome c vt 1) ∗ vhome c vt 0 ∗ vhome c vt 1) : sProp 𝕄) :=
  (pointsTo_share (PosShare.mem_left_op_right fullShare)).1.trans
    (BI.sep_mono (pointsTo_share (PosShare.mem_left_op_right fullShare.left)).1 (pointsTo_share (PosShare.mem_left_op_right fullShare.right)).1)
theorem quarters_join (c : Dev nD) (vt : Vt F c) : iprop((thome c vt 0 ∗ thome c vt 1) ∗ vhome c vt 0 ∗ vhome c vt 1)
    ⊢ (((c : Thread nD τ).loc main_v15) ↦{fullShare} vt : sProp 𝕄) :=
  (BI.sep_mono (pointsTo_share (PosShare.mem_left_op_right fullShare.left)).2 (pointsTo_share (PosShare.mem_left_op_right fullShare.right)).2).trans
    (pointsTo_share (PosShare.mem_left_op_right fullShare)).2

/-- What the call is handed and gives back, the results apart. -/
def held (c : Dev nD) (vs : Vs F c) (vt : Vt F c) : sProp 𝕄 :=
  iprop((((c : Thread nD τ).loc main_v14) ↦{fullShare} vs) ∗ (((c : Thread nD τ).loc main_v15) ↦{fullShare} vt)
    ∗ Pipeline.ownSems0 osem0 c ∗ Pipeline.scopedRest (cfg0.spec) c)

theorem rings_of_held (c : Dev nD) (vs : Vs F c) (vt : Vt F c) : held c vs vt ⊢ (rings c vs vt : sProp 𝕄) := by
  unfold held rings sfree tfree vfree ofree yfree
  rw [ownSems00_eq, scopedRest0_eq, scell_0, scell_1, scell_2, tcell_0, tcell_1, vcell_0, vcell_1, ocell_0, ocell_1, ycell_0, ycell_1]
  iintro ⟨Hs, Ht, ⟨Q0, Q1, Q2, Q3, Q4, Q5, Q6, Q7, Q8, Q9, Q10⟩, ⟨B0, B2, B4, B6, B8⟩⟩
  ihave Hs := shares_split c vs $$ Hs
  icases Hs with ⟨Hs0, Hs1, Hs2⟩
  ihave Ht := quarters_split c vt $$ Ht
  icases Ht with ⟨⟨Ht0, Ht1⟩, Hv0, Hv1⟩
  ihave B0 := sslot_split c $$ B0
  icases B0 with ⟨S0, S1, S2⟩
  ihave B2 := tslot_split c $$ B2
  icases B2 with ⟨T0, T1⟩
  ihave B4 := vslot_split c $$ B4
  icases B4 with ⟨V0, V1⟩
  ihave B6 := oslot_split c $$ B6
  icases B6 with ⟨O0, O1⟩
  ihave B8 := yslot_split c $$ B8
  icases B8 with ⟨Y0, Y1⟩
  isplitl [Q0 S0 Hs0 Q1 S1 Hs1 Q2 S2 Hs2]
  · isplitl [Q0 S0 Hs0]
    · isplitl [Q0]; · iexact Q0
      isplitl [S0]; · iexact S0
      iexact Hs0
    isplitl [Q1 S1 Hs1]
    · isplitl [Q1]; · iexact Q1
      isplitl [S1]; · iexact S1
      iexact Hs1
    isplitl [Q2]; · iexact Q2
    isplitl [S2]; · iexact S2
    iexact Hs2
  isplitl [Q3 T0 Ht0 Q4 T1 Ht1]
  · isplitl [Q3 T0 Ht0]
    · isplitl [Q3]; · iexact Q3
      isplitl [T0]; · iexact T0
      iexact Ht0
    isplitl [Q4]; · iexact Q4
    isplitl [T1]; · iexact T1
    iexact Ht1
  isplitl [Q5 V0 Hv0 Q6 V1 Hv1]
  · isplitl [Q5 V0 Hv0]
    · isplitl [Q5]; · iexact Q5
      isplitl [V0]; · iexact V0
      iexact Hv0
    isplitl [Q6]; · iexact Q6
    isplitl [V1]; · iexact V1
    iexact Hv1
  isplitl [Q7 O0 Q8 O1]
  · isplitl [Q7 O0]
    · isplitl [Q7]; · iexact Q7
      iexact O0
    isplitl [Q8]; · iexact Q8
    iexact O1
  isplitl [Q9 Y0]
  · isplitl [Q9]; · iexact Q9
    iexact Y0
  isplitl [Q10]; · iexact Q10
  iexact Y1

theorem held_of_rings (c : Dev nD) (vs : Vs F c) (vt : Vt F c) : rings c vs vt ⊢ (held c vs vt : sProp 𝕄) := by
  unfold held rings sfree tfree vfree ofree yfree
  rw [ownSems00_eq, scopedRest0_eq, scell_0, scell_1, scell_2, tcell_0, tcell_1, vcell_0, vcell_1, ocell_0, ocell_1, ycell_0, ycell_1]
  iintro ⟨⟨⟨Q0, S0, Hs0⟩, ⟨Q1, S1, Hs1⟩, ⟨Q2, S2, Hs2⟩⟩, ⟨⟨Q3, T0, Ht0⟩, ⟨Q4, T1, Ht1⟩⟩, ⟨⟨Q5, V0, Hv0⟩, ⟨Q6, V1, Hv1⟩⟩, ⟨⟨Q7, O0⟩, ⟨Q8, O1⟩⟩, ⟨⟨Q9, Y0⟩, ⟨Q10, Y1⟩⟩⟩
  isplitl [Hs0 Hs1 Hs2]
  · iapply (shares_join c vs)
    isplitl [Hs0]; · iexact Hs0
    isplitl [Hs1]; · iexact Hs1
    iexact Hs2
  isplitl [Ht0 Ht1 Hv0 Hv1]
  · iapply (quarters_join c vt)
    isplitl [Ht0 Ht1]
    · isplitl [Ht0]; · iexact Ht0
      iexact Ht1
    isplitl [Hv0]; · iexact Hv0
    iexact Hv1
  isplitl [Q0 Q1 Q2 Q3 Q4 Q5 Q6 Q7 Q8 Q9 Q10]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    iexact Q10
  isplitl [S0 S1 S2]
  · iapply (sslot_join c)
    isplitl [S0]; · iexact S0
    isplitl [S1]; · iexact S1
    iexact S2
  isplitl [T0 T1]
  · iapply (tslot_join c)
    isplitl [T0]; · iexact T0
    iexact T1
  isplitl [V0 V1]
  · iapply (vslot_join c)
    isplitl [V0]; · iexact V0
    iexact V1
  isplitl [O0 O1]
  · iapply (oslot_join c)
    isplitl [O0]; · iexact O0
    iexact O1
  iapply (yslot_join c)
  isplitl [Y0]; · iexact Y0
  iexact Y1

/-! ## The launch -/

/-- The operands as the call finds them; -/
abbrev opS (c : Dev nD) : Vs F c := V m c main_v14
abbrev opT (c : Dev nD) : Vt F c := V m c main_v15
/-- the results as it leaves them. -/
def resNew (c : Dev nD) : S8x64x64x128.Idx → Elt F .f32 := newArr (newOf c (opS m c) (opT m c))
def resOut (c : Dev nD) : S8x64x128.Idx → Elt F .f32 := outArr (outOf c (opS m c) (opT m c))

/-- Every buffer after the call. -/
def after (c : Dev nD) : (b : Ref sig .tc) → Buf (Elt F) ((c.tc : Thread nD τ).loc b) :=
  Function.update (Function.update (V m c) main_v16_0 (resNew m c)) main_v16_1 (resOut m c)
theorem after_s (c : Dev nD) : after m c main_v14 = opS m c := by
  unfold after
  rw [Function.update_of_ne (by decide), Function.update_of_ne (by decide)]
theorem after_t (c : Dev nD) : after m c main_v15 = opT m c := by
  unfold after
  rw [Function.update_of_ne (by decide), Function.update_of_ne (by decide)]
theorem after_new (c : Dev nD) : after m c main_v16_0 = resNew m c := by
  unfold after
  rw [Function.update_of_ne (by decide), Function.update_self]
theorem after_out (c : Dev nD) : after m c main_v16_1 = resOut m c := by
  unfold after
  rw [Function.update_self]

/-- Around the one grid point: what the call is handed, then what it gives back. -/
def dats (_ : Fin 1) (c : Dev nD) : Dat τ (Elt F) Unit ℕ (Pipeline.UC sig nD τ) ℕ cfg0 c where
  A w := w.elim0
  after w _ := w.elim0
  Φ t := Pipeline.Ends (cfg0.spec) osem0 routes c (if t.val = 0 then V m c else after m c)
  q _ := fullShare
  owed _ := 0

def bodyPre (c : Dev nD) : sProp 𝕄 :=
  iprop(Pipeline.Ends (cfg0.spec) osem0 routes c (V m c) ∗ ∃ W, owes (c : Thread nD τ) 0 W)
def bodyPost (c : Dev nD) : sProp 𝕄 :=
  iprop(Pipeline.Ends (cfg0.spec) osem0 routes c (after m c) ∗ ∃ W, owes (c : Thread nD τ) 0 W)

theorem sound_body (c : Dev nD) (t : Fin cfg0.N) :
    bodyPre m c ⊢ wp frame (wpE (defs₀ (F := F)) Variants.none c none) Set.univ (bodyAt0 t) (fun _ => bodyPost m c) := by
  unfold bodyPre bodyPost bodyAt0 Pipeline.Ends
  rw [routed_eq, routed_eq, after_s, after_t, after_new, after_out]
  iintro ⟨⟨⟨Hs, Ht, Ho, Hy⟩, Hq, Hb, Hr⟩, ⟨%W, HW⟩⟩
  ihave HR := rings_of_held c (opS m c) (opT m c) $$ [Hs Ht Hq Hb]
  · unfold held
    isplitl [Hs]; · iexact Hs
    isplitl [Ht]; · iexact Ht
    isplitl [Hq]; · iexact Hq
    iexact Hb
  ihave Ho := oblk_split c _ $$ Ho
  ihave Hy := yblk_split c _ $$ Hy
  iapply (wp_wand_r Idealize.ShloMosaic.frame (wpE (defs₀ (F := F)) Variants.none (c : Thread nD τ) none) Set.univ)
  isplitl [HR Ho Hy HW]
  · iapply (kernel_run c (opS m c) (opT m c) W)
    isplitl [HR]; · iexact HR
    isplitl [Ho]; · iexact Ho
    isplitl [Hy]; · iexact Hy
    iexact HW
  iintro %u ⟨HR, Ho, Hy, HW⟩
  ihave HH := held_of_rings c (opS m c) (opT m c) $$ HR
  ihave Ho := oblk_join c _ $$ Ho
  ihave Hy := yblk_join c _ $$ Hy
  unfold held
  icases HH with ⟨Hs, Ht, Hq, Hb⟩
  isplitr [HW]
  · isplitl [Hs Ht Ho Hy]
    · isplitl [Hs]; · iexact Hs
      isplitl [Ht]; · iexact Ht
      isplitl [Ho]; · iexact Ho
      iexact Hy
    isplitl [Hq]; · iexact Hq
    isplitl [Hb]; · iexact Hb
    iexact Hr
  · iexact HW

end Cert.KernelIdeal.Decode

end
-- ==== Proof.Run.lean ====
/-
  The decode program's run, over any float values: it terminates, its arguments end as they began, its two results end at
  the blocks' arrays, and every semaphore ends at zero.
-/
module

public import proofs.«01_k».proof.Proof.Launch

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]
variable (m : (ℓ : Loc nD τ sig) → Buf (Elt F) ℓ) (ρ : Dev nD → PrngReg)

local notation "𝕄" => MT nD τ sig Unit (Elt F) ℕ (Pipeline.UC sig nD τ) ℕ

theorem defs₀_row (t : Fin cfg0.N) :
    defs₀ (F := F) .tc cfg0.body (cfg0.bodyArgs t (cfg0.slots t)) = bodyAt0 t := by
  unfold defs₀; rw [Defs.onTc_tc]

theorem pre_of (c : Dev nD) (t : Fin cfg0.N) : iprop((dats m 0 c).Φ t.castSucc ∗ (dats m 0 c).owesAt () t.castSucc) ⊢ (bodyPre m c : sProp 𝕄) := by
  rw [fin_N0 t, show (dats m 0 c).Φ t0_0.castSucc = Pipeline.Ends (cfg0.spec) osem0 routes c (V m c) from rfl]
  unfold Dat.owesAt Pipeline.owesWithin bodyPre
  iintro ⟨H, ⟨%W, -, HW⟩⟩
  isplitl [H]; · iexact H
  iexists W
  iexact HW

theorem post_of (c : Dev nD) (t : Fin cfg0.N) : bodyPost m c ⊢ (iprop((dats m 0 c).Φ t.succ ∗ (dats m 0 c).owesAt () t.succ) : sProp 𝕄) := by
  rw [fin_N0 t, show (dats m 0 c).Φ t0_0.succ = Pipeline.Ends (cfg0.spec) osem0 routes c (after m c) from rfl]
  unfold Dat.owesAt Pipeline.owesWithin bodyPost
  iintro ⟨H, ⟨%W, HW⟩⟩
  isplitl [H]; · iexact H
  iexists W
  isplitr
  · ipureintro; exact fun _ _ => Or.inl trivial
  iexact HW

theorem body_obligation (c : Dev nD) : BodyObligation (dats (F := F) m 0 c) (defs₀ (F := F)) Variants.none () Set.univ := fun t => by
  rw [defs₀_row]
  iintro ⟨H, HO, -⟩
  ihave HP := pre_of m c t $$ [H HO]
  · isplitl [H]; · iexact H
    iexact HO
  iapply (wp_wand_r Idealize.ShloMosaic.frame (wpE (defs₀ (F := F)) Variants.none (c : Thread nD τ) none) Set.univ)
  isplitl [HP]
  · iapply (sound_body m c t)
    iexact HP
  iintro %u HP
  ihave HP := post_of m c t $$ HP
  icases HP with ⟨H, HO⟩
  isplitl [H]; · iexact H
  isplitl [HO]; · iexact HO
  rw [show (Finset.univ : Finset (Fin cfg0.W)) = ∅ from rfl, bigSep_empty]
  iempintro

theorem hmain_uc : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

/-- What the run ends with. -/
def RunPost (r : PUnit × MemSt nD τ sig (Elt F)) : Prop :=
  (∀ c : Dev nD,
      r.2.mem ((c.tc : Thread nD τ).loc main_v16_0) = resNew m c
      ∧ r.2.mem ((c.tc : Thread nD τ).loc main_v16_1) = resOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0

theorem runPost_of (r : PUnit × MemSt nD τ sig (Elt F)) (h : Pipeline.RoutedPost cfgs (dats m) 0 routes (V m) (after m) r ∧ r.2.sem = fun _ => 0) :
    RunPost m r := by
  refine ⟨fun c => ?_, h.2⟩
  obtain ⟨-, hR, hS⟩ := h.1 c
  exact ⟨(hR main_v16_0 (by decide)).trans (after_new m c), (hR main_v16_1 (by decide)).trans (after_out m c),
    (hS main_arg0 (by decide)).trans (V_main_arg0 m c), (hS main_arg1 (by decide)).trans (V_main_arg1 m c),
    (hS main_arg2 (by decide)).trans (V_main_arg2 m c), (hS main_arg3 (by decide)).trans (V_main_arg3 m c),
    (hS main_arg4 (by decide)).trans (V_main_arg4 m c), (hS main_arg5 (by decide)).trans (V_main_arg5 m c),
    (hS main_arg6 (by decide)).trans (V_main_arg6 m c)⟩

set_option backward.isDefEq.respectTransparency.types false in
theorem run_main : θ_run defs (onTc (τ := τ) (main (F := F))) (s₀ m ρ) (RunPost m) :=
  Pipeline.θ_run_frame_routed cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain_uc m) (hA := fun _ w => w.elim0)
    (R := routes) (hR := routes_sub) (Y := after m) (hin := fun _ => .rfl) (hout := fun _ => .rfl)
    (Q' := RunPost m) (hQ' := runPost_of m)

end Cert.KernelIdeal.Decode

end
-- ==== Proof.Value.lean ====
/-
  The decode program's two results at the ideal instance, element by element: the new state and the output that the
  reference's formula gives.
-/
module

public import proofs.«01_k».proof.Proof.Run
public import Idealize.ShloMosaic.Lib.Pointwise
public import Idealize.ShloMosaic.Lib.Claim

@[expose] public section

set_option maxRecDepth 16384

noncomputable section

namespace Cert.KernelIdeal.Decode

open Idealize.ShloMosaic Idealize.ShloMosaic.TcCoe Idealize.ShloMosaic.Tactic
open Cert.KernelIdeal.Gen

section Rows

variable (S : S1x64x64x128.Idx → Elt Ideal .f32) (T : S6x1x64x128.Idx → Elt Ideal .f32) (V : S1x1x64x128.Idx → Elt Ideal .f32)

/-- A window of an array at an index. -/
theorem srow_apply (i j : Fin 64) (n : Fin 128) :
    win S ![0, i.val, 0, 0] S1x1x64x128.size (srow_inb i) (ix4 (0 : Fin 1) (0 : Fin 1) j n) = S (ix4 (0 : Fin 1) i j n) := by
  refine congrArg S (funext fun a => Fin.ext ?_)
  fin_cases a
  · rfl
  · rfl
  · show 0 + 1 * j.val = j.val; omega
  · show 0 + 1 * n.val = n.val; omega
theorem vrow_apply (i : Fin 64) (n : Fin 128) :
    win V ![0, 0, i.val, 0] S1x1x1x128.size (vrow_inb i) (ix4 (0 : Fin 1) (0 : Fin 1) (0 : Fin 1) n) = V (ix4 (0 : Fin 1) (0 : Fin 1) i n) := by
  refine congrArg V (funext fun a => Fin.ext ?_)
  fin_cases a
  · rfl
  · rfl
  · rfl
  · show 0 + 1 * n.val = n.val; omega
theorem tvec_apply (r : Fin 6) (inb) (j : Fin 64) (n : Fin 128) :
    win T ![r.val, 0, 0, 0] S1x1x64x128.size inb (ix4 (0 : Fin 1) (0 : Fin 1) j n) = T (ix4 r (0 : Fin 1) j n) := by
  refine congrArg T (funext fun a => Fin.ext ?_)
  fin_cases a
  · rfl
  · rfl
  · show 0 + 1 * j.val = j.val; omega
  · show 0 + 1 * n.val = n.val; omega

theorem pay11_apply (w bb k s : FVec Ideal S64x128 .f32) (v sa : FVec Ideal S1x128 .f32) (j : Fin 64) (n : Fin 128) :
    k0_pay11 w bb k s v sa (ix4 (0 : Fin 1) (0 : Fin 1) j n)
      = s (ix2 j n) * w (ix2 j n) + sa (ix2 (0 : Fin 1) n) * bb (ix2 j n) + v (ix2 (0 : Fin 1) n) * k (ix2 j n) := by
  pointwise [k0_pay11]

theorem newRow_apply (i j : Fin 64) (n : Fin 128) :
    newRow S T V i (ix4 (0 : Fin 1) (0 : Fin 1) j n)
      = S (ix4 (0 : Fin 1) i j n) * T (ix4 (2 : Fin 6) (0 : Fin 1) j n)
        + (∑ l : Fin 64, S (ix4 (0 : Fin 1) i l n) * T (ix4 (0 : Fin 6) (0 : Fin 1) l n)) * T (ix4 (3 : Fin 6) (0 : Fin 1) j n)
        + V (ix4 (0 : Fin 1) (0 : Fin 1) i n) * T (ix4 (4 : Fin 6) (0 : Fin 1) j n) := by
  simp only [← srow_apply S, ← vrow_apply V, ← tvec_apply T 2 inb_S6x1x64x128_S1x1x64x128_2_0_0_0,
    ← tvec_apply T 0 inb_S6x1x64x128_S1x1x64x128_0_0_0_0, ← tvec_apply T 3 inb_S6x1x64x128_S1x1x64x128_3_0_0_0,
    ← tvec_apply T 4 inb_S6x1x64x128_S1x1x64x128_4_0_0_0]
  unfold newRow
  generalize (win S ![0, i.val, 0, 0] S1x1x64x128.size (srow_inb i) : Vec Ideal S1x1x64x128 .f32) = s
  rw [pay11_apply]
  pointwise [k0_pay1, k0_pay3, k0_pay4, k0_pay5, k0_pay6, k0_pay7, k0_pay8]

theorem outRow_apply (i : Fin 64) (n : Fin 128) :
    outRow S T i (ix3 (0 : Fin 1) (0 : Fin 1) n) = ∑ l : Fin 64, S (ix4 (0 : Fin 1) i l n) * T (ix4 (1 : Fin 6) (0 : Fin 1) l n) := by
  simp only [← srow_apply S, ← tvec_apply T 1 inb_S6x1x64x128_S1x1x64x128_1_0_0_0]
  unfold outRow
  pointwise [k0_pay2, k0_pay6, k0_pay9, k0_pay10]

end Rows

variable (m : (ℓ : Loc nD τ sig) → Buf (Elt Ideal) ℓ) (c : Dev nD)

/-- The state's operand at an index: head, row, column, batch. -/
theorem opS_apply (h : Fin 8) (i j : Fin 64) (n : Fin 128) :
    (opS m c : S8x64x64x128.Idx → EReal) (ix4 h i j n) = (m ((c : Thread nD τ).loc main_arg0) : S1x128x8x64x64.Idx → EReal) (ix5 (0 : Fin 1) n h i j) := by
  unfold opS
  entry_read
  pointwise

/-- A coordinate of a head, as a coordinate of the 512 features. -/
abbrev feat (h : Fin 8) (j : Fin 64) : Fin 512 := ⟨h.val * 64 + j.val, by have := h.isLt; have := j.isLt; omega⟩

/-- One vector of the six, as a row of the stack. -/
def lane (x : S128x512.Idx → Elt Ideal .f32) : S1x512x128.Idx → Elt Ideal .f32 :=
  broadcastInDim S1x512x128 ![1, 2] bcast_S512x128_S1x512x128_1_2 (transpose S512x128 [1, 0] x transposes_S128x512_S512x128_1_0)
/-- The six vectors stacked and cut into heads. -/
def stack (x0 x1 x2 x3 x4 x5 : S128x512.Idx → Elt Ideal .f32) : S6x8x64x128.Idx → Elt Ideal .f32 :=
  shapeCast S6x8x64x128 (concatenate S6x512x128 0 [⟨S1x512x128, lane x0⟩, ⟨S1x512x128, lane x1⟩, ⟨S1x512x128, lane x2⟩, ⟨S1x512x128, lane x3⟩,
    ⟨S1x512x128, lane x4⟩, ⟨S1x512x128, lane x5⟩] concatenates_S1x512x128_S1x512x128_S1x512x128_S1x512x128_S1x512x128_S1x512x128_S6x512x128_d0) shapeCasts_S6x512x128_S6x8x64x128

theorem lane_apply (x : S128x512.Idx → Elt Ideal .f32) (k : Fin 512) (n : Fin 128) : lane x (ix3 (0 : Fin 1) k n) = x (ix2 n k) := by
  pointwise [lane]

theorem stack_apply (x0 x1 x2 x3 x4 x5 : S128x512.Idx → Elt Ideal .f32) (h : Fin 8) (j : Fin 64) (n : Fin 128) :
    stack x0 x1 x2 x3 x4 x5 (ix4 (0 : Fin 6) h j n) = x0 (ix2 n (feat h j)) ∧ stack x0 x1 x2 x3 x4 x5 (ix4 (1 : Fin 6) h j n) = x1 (ix2 n (feat h j))
    ∧ stack x0 x1 x2 x3 x4 x5 (ix4 (2 : Fin 6) h j n) = x2 (ix2 n (feat h j)) ∧ stack x0 x1 x2 x3 x4 x5 (ix4 (3 : Fin 6) h j n) = x3 (ix2 n (feat h j))
    ∧ stack x0 x1 x2 x3 x4 x5 (ix4 (4 : Fin 6) h j n) = x4 (ix2 n (feat h j)) ∧ stack x0 x1 x2 x3 x4 x5 (ix4 (5 : Fin 6) h j n) = x5 (ix2 n (feat h j)) := by
  unfold stack
  refine ⟨?_, ?_, ?_, ?_, ?_, ?_⟩
  all_goals
    pointwise
    exact lane_apply _ _ _

/-- The operand of the six vectors at an index: vector, head, coordinate, batch. -/
theorem opT_apply (h : Fin 8) (j : Fin 64) (n : Fin 128) :
    ((opT m c : S6x8x64x128.Idx → EReal) (ix4 (0 : Fin 6) h j n) = (m ((c : Thread nD τ).loc main_arg1) : S128x512.Idx → EReal) (ix2 n (feat h j)))
    ∧ ((opT m c : S6x8x64x128.Idx → EReal) (ix4 (1 : Fin 6) h j n) = (m ((c : Thread nD τ).loc main_arg2) : S128x512.Idx → EReal) (ix2 n (feat h j)))
    ∧ ((opT m c : S6x8x64x128.Idx → EReal) (ix4 (2 : Fin 6) h j n) = (m ((c : Thread nD τ).loc main_arg3) : S128x512.Idx → EReal) (ix2 n (feat h j)))
    ∧ ((opT m c : S6x8x64x128.Idx → EReal) (ix4 (3 : Fin 6) h j n) = (m ((c : Thread nD τ).loc main_arg4) : S128x512.Idx → EReal) (ix2 n (feat h j)))
    ∧ ((opT m c : S6x8x64x128.Idx → EReal) (ix4 (4 : Fin 6) h j n) = (m ((c : Thread nD τ).loc main_arg5) : S128x512.Idx → EReal) (ix2 n (feat h j)))
    ∧ ((opT m c : S6x8x64x128.Idx → EReal) (ix4 (5 : Fin 6) h j n) = (m ((c : Thread nD τ).loc main_arg6) : S128x512.Idx → EReal) (ix2 n (feat h j))) := by
  have e : (opT m c : S6x8x64x128.Idx → EReal) = stack (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
    show StableHlo.after hostOps0 (fun b => m (c, b)) main_v15 = _
    after_results <;> rfl
  rw [e]
  exact stack_apply _ _ _ _ _ _ h j n

theorem sdat_apply (vs : Vs Ideal c) (b : Fin 8) (i j : Fin 64) (n : Fin 128) :
    sdat c vs b (ix4 (0 : Fin 1) i j n) = (vs : S8x64x64x128.Idx → EReal) (ix4 b i j n) := by
  refine congrArg (vs : S8x64x64x128.Idx → EReal) (funext fun a => Fin.ext ?_)
  fin_cases a
  · rfl
  · show 0 + 1 * i.val = i.val; omega
  · show 0 + 1 * j.val = j.val; omega
  · show 0 + 1 * n.val = n.val; omega
theorem tdat_apply (vt : Vt Ideal c) (b : Fin 8) (r : Fin 6) (j : Fin 64) (n : Fin 128) :
    tdat c vt b (ix4 r (0 : Fin 1) j n) = (vt : S6x8x64x128.Idx → EReal) (ix4 r b j n) := by
  refine congrArg (vt : S6x8x64x128.Idx → EReal) (funext fun a => Fin.ext ?_)
  fin_cases a
  · show 0 + 1 * r.val = r.val; omega
  · rfl
  · show 0 + 1 * j.val = j.val; omega
  · show 0 + 1 * n.val = n.val; omega
theorem vdat_apply (vt : Vt Ideal c) (b : Fin 8) (j : Fin 64) (n : Fin 128) :
    vdat c vt b (ix4 (0 : Fin 1) (0 : Fin 1) j n) = (vt : S6x8x64x128.Idx → EReal) (ix4 (5 : Fin 6) b j n) := by
  refine congrArg (vt : S6x8x64x128.Idx → EReal) (funext fun a => Fin.ext ?_)
  fin_cases a
  · rfl
  · rfl
  · show 0 + 1 * j.val = j.val; omega
  · show 0 + 1 * n.val = n.val; omega

theorem newArr_at (G : Fin 8 → S1x64x64x128.Idx → EReal) (h : Fin 8) (i j : Fin 64) (n : Fin 128) :
    newArr (F := Ideal) G (ix4 h i j n) = G h (ix4 (0 : Fin 1) i j n) := by
  refine congrArg (G h) (funext fun a => Fin.ext ?_)
  fin_cases a <;> rfl
theorem outArr_at (G : Fin 8 → S1x64x128.Idx → EReal) (h : Fin 8) (i : Fin 64) (n : Fin 128) :
    outArr (F := Ideal) G (ix3 h i n) = G h (ix3 (0 : Fin 1) i n) := by
  refine congrArg (G h) (funext fun a => Fin.ext ?_)
  fin_cases a <;> rfl
theorem newBlk_at (S : S1x64x64x128.Idx → Elt Ideal .f32) (T : S6x1x64x128.Idx → Elt Ideal .f32) (V : S1x1x64x128.Idx → Elt Ideal .f32)
    (i j : Fin 64) (n : Fin 128) : newBlk S T V (ix4 (0 : Fin 1) i j n) = newRow S T V i (ix4 (0 : Fin 1) (0 : Fin 1) j n) := by
  refine congrArg (newRow S T V i) (funext fun a => Fin.ext ?_)
  fin_cases a <;> rfl
theorem outBlk_at (S : S1x64x64x128.Idx → Elt Ideal .f32) (T : S6x1x64x128.Idx → Elt Ideal .f32)
    (i : Fin 64) (n : Fin 128) : outBlk S T (ix3 (0 : Fin 1) i n) = outRow S T i (ix3 (0 : Fin 1) (0 : Fin 1) n) := by
  refine congrArg (outRow S T i) (funext fun a => Fin.ext ?_)
  fin_cases a <;> rfl

/-- The step's formula over the arguments: the new state at (head, row, column, batch); -/
def stateAt (s : S1x128x8x64x64.Idx → EReal) (aa w bb k v : S128x512.Idx → EReal) (h : Fin 8) (i j : Fin 64) (n : Fin 128) : EReal :=
  s (ix5 (0 : Fin 1) n h i j) * w (ix2 n (feat h j))
    + (∑ l : Fin 64, s (ix5 (0 : Fin 1) n h i l) * aa (ix2 n (feat h l))) * bb (ix2 n (feat h j))
    + v (ix2 n (feat h i)) * k (ix2 n (feat h j))
/-- the output at (head, row, batch). -/
def outAt (s : S1x128x8x64x64.Idx → EReal) (q : S128x512.Idx → EReal) (h : Fin 8) (i : Fin 64) (n : Fin 128) : EReal :=
  ∑ l : Fin 64, s (ix5 (0 : Fin 1) n h i l) * q (ix2 n (feat h l))

theorem resNew_at (h : Fin 8) (i j : Fin 64) (n : Fin 128) :
    (resNew m c : S8x64x64x128.Idx → EReal) (ix4 h i j n)
      = stateAt (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) h i j n := by
  unfold resNew
  rw [newArr_at]
  unfold newOf
  rw [newBlk_at, newRow_apply]
  simp only [sdat_apply, tdat_apply, vdat_apply, (opT_apply m c h _ n).1, (opT_apply m c h _ n).2.2.1, (opT_apply m c h _ n).2.2.2.1,
    (opT_apply m c h _ n).2.2.2.2.1, (opT_apply m c h _ n).2.2.2.2.2]
  unfold stateAt
  rw [opS_apply m c h i j n, Finset.sum_congr rfl fun l _ => congrArg (fun x : EReal => x * _) (opS_apply m c h i l n)]

theorem resOut_at (h : Fin 8) (i : Fin 64) (n : Fin 128) :
    (resOut m c : S8x64x128.Idx → EReal) (ix3 h i n)
      = outAt (m ((c : Thread nD τ).loc main_arg0)) (m ((c : Thread nD τ).loc main_arg2)) h i n := by
  unfold resOut
  rw [outArr_at]
  unfold outOf
  rw [outBlk_at, outRow_apply]
  simp only [sdat_apply, tdat_apply, (opT_apply m c h _ n).2.1]
  exact Finset.sum_congr rfl fun l _ => congrArg (fun x : EReal => x * _) (opS_apply m c h i l n)

end Cert.KernelIdeal.Decode
-- ==== Proof.Answer.lean ====
/-
  The reference's run read back, and its two results equal to the step's formula.
-/
module

public import proofs.«01_k».proof.Proof.Value
public import proofs.«01_k».proof.Proof.Gen.ReferenceIdeal.Run

@[expose] public section

set_option maxRecDepth 16384

noncomputable section

namespace Cert.ReferenceIdeal.Decode

open Idealize.ShloMosaic Idealize.ShloMosaic.TcCoe Idealize.ShloMosaic.Tactic Idealize.SL.Sem
open Cert.ReferenceIdeal Cert.ReferenceIdeal.Gen
open Cert.KernelIdeal.Decode (stateAt outAt resNew resOut resNew_at resOut_at)

variable (s : FVec Ideal S1x128x8x64x64 .f32) (aa q w bb k v : FVec Ideal S128x512 .f32)

/-- The reference's new state, over the arguments; -/
def refNew : FVec Ideal S8x64x64x128 .f32 :=
  transpose S8x64x64x128 [1, 2, 3, 0] (addf (addf (mulf (shapeCast _ s shapeCasts_S1x128x8x64x64_S128x8x64x64) (broadcastInDim S128x8x64x64 ![0, 1, 2, 3]
    bcast_S128x8x1x64_S128x8x64x64_0_1_2_3 (broadcastInDim S128x8x1x64 ![0, 1, 3] bcast_S128x8x64_S128x8x1x64_0_1_3 (shapeCast _ w
    shapeCasts_S128x512_S128x8x64)))) (mulf (broadcastInDim S128x8x64x64 ![0, 1, 2, 3] bcast_S128x8x64x1_S128x8x64x64_0_1_2_3 (broadcastInDim S128x8x64x1
    ![0, 1, 2] bcast_S128x8x64_S128x8x64x1_0_1_2 (Host.dotGeneral dot_S128x8x64x64_S128x8x64_S128x8x64_3_2_2_n_01_01 none (shapeCast _ s
    shapeCasts_S1x128x8x64x64_S128x8x64x64) (shapeCast _ aa shapeCasts_S128x512_S128x8x64)))) (broadcastInDim S128x8x64x64 ![0, 1, 2, 3]
    bcast_S128x8x1x64_S128x8x64x64_0_1_2_3 (broadcastInDim S128x8x1x64 ![0, 1, 3] bcast_S128x8x64_S128x8x1x64_0_1_3 (shapeCast _ bb
    shapeCasts_S128x512_S128x8x64))))) (mulf (broadcastInDim S128x8x64x64 ![0, 1, 2, 3] bcast_S128x8x64x1_S128x8x64x64_0_1_2_3 (broadcastInDim S128x8x64x1
    ![0, 1, 2] bcast_S128x8x64_S128x8x64x1_0_1_2 (shapeCast _ v shapeCasts_S128x512_S128x8x64))) (broadcastInDim S128x8x64x64 ![0, 1, 2, 3]
    bcast_S128x8x1x64_S128x8x64x64_0_1_2_3 (broadcastInDim S128x8x1x64 ![0, 1, 3] bcast_S128x8x64_S128x8x1x64_0_1_3 (shapeCast _ k
    shapeCasts_S128x512_S128x8x64))))) transposes_S128x8x64x64_S8x64x64x128_1_2_3_0
/-- its output. -/
def refOut : FVec Ideal S8x64x128 .f32 :=
  transpose S8x64x128 [1, 2, 0] (Host.dotGeneral dot_S128x8x64x64_S128x8x64_S128x8x64_3_2_2_n_01_01 none (shapeCast _ s
    shapeCasts_S1x128x8x64x64_S128x8x64x64) (shapeCast _ q shapeCasts_S128x512_S128x8x64)) transposes_S128x8x64_S8x64x128_1_2_0

theorem refNew_at (h : Fin 8) (i j : Fin 64) (n : Fin 128) : refNew s aa w bb k v (ix4 h i j n) = stateAt s aa w bb k v h i j n := by
  pointwise [refNew, stateAt]

theorem refOut_at (h : Fin 8) (i : Fin 64) (n : Fin 128) : refOut s q (ix3 h i n) = outAt s q h i n := by
  pointwise [refOut, outAt]

/-- The kernel's new state is the reference's; -/
theorem resNew_eq (m : (ℓ : Loc Cert.KernelIdeal.nD Cert.KernelIdeal.τ Cert.KernelIdeal.sig) → Buf (Elt Ideal) ℓ) (c : Dev Cert.KernelIdeal.nD) :
    resNew m c = refNew (m (c.tc.loc Cert.KernelIdeal.main_arg0)) (m (c.tc.loc Cert.KernelIdeal.main_arg1)) (m (c.tc.loc Cert.KernelIdeal.main_arg3))
      (m (c.tc.loc Cert.KernelIdeal.main_arg4)) (m (c.tc.loc Cert.KernelIdeal.main_arg5)) (m (c.tc.loc Cert.KernelIdeal.main_arg6)) := by
  refine funext fun y => ?_
  rw [eq_ix4 y]
  exact (resNew_at m c (y 0) (y 1) (y 2) (y 3)).trans (refNew_at _ _ _ _ _ _ (y 0) (y 1) (y 2) (y 3)).symm
/-- the kernel's output is the reference's. -/
theorem resOut_eq (m : (ℓ : Loc Cert.KernelIdeal.nD Cert.KernelIdeal.τ Cert.KernelIdeal.sig) → Buf (Elt Ideal) ℓ) (c : Dev Cert.KernelIdeal.nD) :
    resOut m c = refOut (m (c.tc.loc Cert.KernelIdeal.main_arg0)) (m (c.tc.loc Cert.KernelIdeal.main_arg2)) := by
  refine funext fun y => ?_
  rw [eq_ix3 y]
  exact (resOut_at m c (y 0) (y 1) (y 2)).trans (refOut_at _ _ (y 0) (y 1) (y 2)).symm

end Cert.ReferenceIdeal.Decode
-- ==== Proof.MlpRows.lean ====
/- One row block of the output projection and MLP call: what the body leaves in the prompt's output block. -/
module

public import proofs.«01_k».proof.Proof.Gen.Kernel2Ideal.Frame
public import proofs.«01_k».proof.Proof.Gen.Kernel2Ideal.Skeleton
public import Idealize.ShloMosaic.Lib.WholeRead
public import Idealize.ShloMosaic.Lib.VecWindow

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The part of an array's contents that a load takes. -/
def part {s : Shape} {e : EltTy} (X : Vec F s e) (B : LoadRect s) : Vec F B.shape e := fun y => X (B.idx y)

/-- A load of a whole buffer that holds `X` takes that part of `X`. -/
theorem load_eq {s : Shape} {e : EltTy} {m : Memref sig .tc .vmem s e} (h : m.IsWhole) (X : Vec F s e) (B : LoadRect s) :
    View.readAt (Elt F) m.view B (h.unread X) = part X B := funext fun y => h.readAt_unread X B y

/-- A buffer stored whole reads what was stored. -/
theorem read_full {s : Shape} {e : EltTy} (v : View sig .tc .vmem s e) (f : v.ty.Contents (Elt F)) {off : Fin s.rank → ℕ}
    (inb : ∀ a, off a + s.size a ≤ s.size a) (x : s.Idx → Elt F e) :
    v.read (Elt F) (v.writes (Elt F) f [⟨Rect.unit (s := s) off s.size inb, x⟩]) = x := by
  funext y
  have h := View.read_writes_cons_emb v f (Rect.unit (s := s) off s.size inb) x [] y
  rwa [Rect.emb_unit_full] at h

/-! ## The weights, block by block -/

/-- The top half of the output projection's matrix: the pooled channels' rows. -/
abbrev woTop (w : Vec F S1024x1024 .bf16) : Vec F S512x1024 .bf16 := part w (Rect.unit (s := S1024x1024) ![0, 0] S512x1024.size inb_S1024x1024_S512x1024_0_0).toLoadRect
/-- Its bottom half: the recurrence's rows. -/
abbrev woBot (w : Vec F S1024x1024 .bf16) : Vec F S512x1024 .bf16 := part w (Rect.unit (s := S1024x1024) ![512, 0] S512x1024.size inb_S1024x1024_S512x1024_512_0).toLoadRect
/-- The MLP's hidden channels 0 to 1023: columns of the first matrix, -/
abbrev up0 (w : Vec F S1024x4096 .bf16) : Vec F S1024x1024 .bf16 := part w (Rect.unit (s := S1024x4096) ![0, 0] S1024x1024.size inb_S1024x4096_S1024x1024_0_0).toLoadRect
/-- and rows of the second. -/
abbrev dn0 (w : Vec F S4096x1024 .bf16) : Vec F S1024x1024 .bf16 := part w (Rect.unit (s := S4096x1024) ![0, 0] S1024x1024.size inb_S4096x1024_S1024x1024_0_0).toLoadRect
/-- The MLP's hidden channels 1024 to 2047: columns of the first matrix, -/
abbrev up1 (w : Vec F S1024x4096 .bf16) : Vec F S1024x1024 .bf16 := part w (Rect.unit (s := S1024x4096) ![0, 1024] S1024x1024.size inb_S1024x4096_S1024x1024_0_1024).toLoadRect
/-- and rows of the second. -/
abbrev dn1 (w : Vec F S4096x1024 .bf16) : Vec F S1024x1024 .bf16 := part w (Rect.unit (s := S4096x1024) ![1024, 0] S1024x1024.size inb_S4096x1024_S1024x1024_1024_0).toLoadRect
/-- The MLP's hidden channels 2048 to 3071: columns of the first matrix, -/
abbrev up2 (w : Vec F S1024x4096 .bf16) : Vec F S1024x1024 .bf16 := part w (Rect.unit (s := S1024x4096) ![0, 2048] S1024x1024.size inb_S1024x4096_S1024x1024_0_2048).toLoadRect
/-- and rows of the second. -/
abbrev dn2 (w : Vec F S4096x1024 .bf16) : Vec F S1024x1024 .bf16 := part w (Rect.unit (s := S4096x1024) ![2048, 0] S1024x1024.size inb_S4096x1024_S1024x1024_2048_0).toLoadRect
/-- The MLP's hidden channels 3072 to 4095: columns of the first matrix, -/
abbrev up3 (w : Vec F S1024x4096 .bf16) : Vec F S1024x1024 .bf16 := part w (Rect.unit (s := S1024x4096) ![0, 3072] S1024x1024.size inb_S1024x4096_S1024x1024_0_3072).toLoadRect
/-- and rows of the second. -/
abbrev dn3 (w : Vec F S4096x1024 .bf16) : Vec F S1024x1024 .bf16 := part w (Rect.unit (s := S4096x1024) ![3072, 0] S1024x1024.size inb_S4096x1024_S1024x1024_3072_0).toLoadRect

/-! ## A row block -/

/-- The residual stream after the MLP, a block of 1024 tokens. -/
def rowSum (x : Vec F S1024x1024 .f32) (po rw : Vec F S1024x512 .bf16) (wo : Vec F S1024x1024 .bf16) (g2 : Vec F S1x1024 .f32) (wu : Vec F S1024x4096 .bf16) (wd : Vec F S4096x1024 .bf16) : FVec F S1024x1024 .f32 :=
  k0_pay10 (k0_pay5 (part x (Rect.unit (s := S1024x1024) ![0, 0] S1024x1024.size inb_S1024x1024_S1024x1024_0_0).toLoadRect) (part po (Rect.unit (s := S1024x512) ![0, 0] S1024x512.size inb_S1024x512_S1024x512_0_0).toLoadRect) (part rw (Rect.unit (s := S1024x512) ![0, 0] S1024x512.size inb_S1024x512_S1024x512_0_0).toLoadRect) (woTop wo) (woBot wo))
    (k0_pay6 (k0_pay1 (part g2 (Rect.unit (s := S1x1024) ![0, 0] S1x1024.size inb_S1x1024_S1x1024_0_0).toLoadRect)) (part x (Rect.unit (s := S1024x1024) ![0, 0] S1024x1024.size inb_S1024x1024_S1024x1024_0_0).toLoadRect) (part po (Rect.unit (s := S1024x512) ![0, 0] S1024x512.size inb_S1024x512_S1024x512_0_0).toLoadRect) (part rw (Rect.unit (s := S1024x512) ![0, 0] S1024x512.size inb_S1024x512_S1024x512_0_0).toLoadRect) (woTop wo) (woBot wo))
    k0_pay7 (k0_pay8 (k0_pay1 (part g2 (Rect.unit (s := S1x1024) ![0, 0] S1x1024.size inb_S1x1024_S1x1024_0_0).toLoadRect)) (part x (Rect.unit (s := S1024x1024) ![0, 0] S1024x1024.size inb_S1024x1024_S1024x1024_0_0).toLoadRect) (part po (Rect.unit (s := S1024x512) ![0, 0] S1024x512.size inb_S1024x512_S1024x512_0_0).toLoadRect) (part rw (Rect.unit (s := S1024x512) ![0, 0] S1024x512.size inb_S1024x512_S1024x512_0_0).toLoadRect) (woTop wo) (woBot wo) (up0 wu))
    (k0_pay9 (dn0 wd)) (constant S1024x1024 .f32 0x00000000#32) (up1 wu) (dn1 wd) (up2 wu) (dn2 wd) (up3 wu) (dn3 wd)

/-- Its sum of squares, token by token. -/
def rowSq (x : Vec F S1024x1024 .f32) (po rw : Vec F S1024x512 .bf16) (wo : Vec F S1024x1024 .bf16) (g2 : Vec F S1x1024 .f32) (wu : Vec F S1024x4096 .bf16) (wd : Vec F S4096x1024 .bf16) : FVec F S1024 .f32 :=
  k0_pay11 (k0_pay5 (part x (Rect.unit (s := S1024x1024) ![0, 0] S1024x1024.size inb_S1024x1024_S1024x1024_0_0).toLoadRect) (part po (Rect.unit (s := S1024x512) ![0, 0] S1024x512.size inb_S1024x512_S1024x512_0_0).toLoadRect) (part rw (Rect.unit (s := S1024x512) ![0, 0] S1024x512.size inb_S1024x512_S1024x512_0_0).toLoadRect) (woTop wo) (woBot wo))
    (k0_pay6 (k0_pay1 (part g2 (Rect.unit (s := S1x1024) ![0, 0] S1x1024.size inb_S1x1024_S1x1024_0_0).toLoadRect)) (part x (Rect.unit (s := S1024x1024) ![0, 0] S1024x1024.size inb_S1024x1024_S1024x1024_0_0).toLoadRect) (part po (Rect.unit (s := S1024x512) ![0, 0] S1024x512.size inb_S1024x512_S1024x512_0_0).toLoadRect) (part rw (Rect.unit (s := S1024x512) ![0, 0] S1024x512.size inb_S1024x512_S1024x512_0_0).toLoadRect) (woTop wo) (woBot wo))
    k0_pay7 (k0_pay8 (k0_pay1 (part g2 (Rect.unit (s := S1x1024) ![0, 0] S1x1024.size inb_S1x1024_S1x1024_0_0).toLoadRect)) (part x (Rect.unit (s := S1024x1024) ![0, 0] S1024x1024.size inb_S1024x1024_S1024x1024_0_0).toLoadRect) (part po (Rect.unit (s := S1024x512) ![0, 0] S1024x512.size inb_S1024x512_S1024x512_0_0).toLoadRect) (part rw (Rect.unit (s := S1024x512) ![0, 0] S1024x512.size inb_S1024x512_S1024x512_0_0).toLoadRect) (woTop wo) (woBot wo) (up0 wu))
    (k0_pay9 (dn0 wd)) (constant S1024x1024 .f32 0x00000000#32) (up1 wu) (dn1 wd) (up2 wu) (dn2 wd) (up3 wu) (dn3 wd)

/-- The block of results: the residual stream normalized. -/
def rowOut (x : Vec F S1024x1024 .f32) (po rw : Vec F S1024x512 .bf16) (wo : Vec F S1024x1024 .bf16) (g2 : Vec F S1x1024 .f32) (wu : Vec F S1024x4096 .bf16) (wd : Vec F S4096x1024 .bf16) (gf : Vec F S1x1024 .f32) : FVec F S1024x1024 .f32 :=
  k0_pay3 (part gf (Rect.unit (s := S1x1024) ![0, 0] S1x1024.size inb_S1x1024_S1x1024_0_0).toLoadRect) (rowSum x po rw wo g2 wu wd) (rowSq x po rw wo g2 wu wd)

variable (a1 : Memref sig .tc .vmem S1024x1024 .f32) (ha1 : a1.IsWhole)
  (a2 : Memref sig .tc .vmem S1024x512 .bf16) (ha2 : a2.IsWhole)
  (a3 : Memref sig .tc .vmem S1024x512 .bf16) (ha3 : a3.IsWhole)
  (a4 : Memref sig .tc .vmem S128x1x1024 .f32) (ha4 : a4.IsWhole)
  (a5 : Memref sig .tc .vmem S128x512 .bf16) (ha5 : a5.IsWhole)
  (a6 : Memref sig .tc .vmem S512x128 .f32) (ha6 : a6.IsWhole)
  (a7 : Memref sig .tc .vmem S5x128x512 .f32) (ha7 : a7.IsWhole)
  (a8 : Memref sig .tc .vmem S1x512 .f32) (ha8 : a8.IsWhole)
  (a9 : Memref sig .tc .vmem S1x512 .f32) (ha9 : a9.IsWhole)
  (a10 : Memref sig .tc .vmem S1x512 .f32) (ha10 : a10.IsWhole)
  (a11 : Memref sig .tc .vmem S256x256 .bf16) (ha11 : a11.IsWhole)
  (a12 : Memref sig .tc .vmem S1024x1024 .bf16) (ha12 : a12.IsWhole)
  (a13 : Memref sig .tc .vmem S1x1024 .f32) (ha13 : a13.IsWhole)
  (a14 : Memref sig .tc .vmem S1024x4096 .bf16) (ha14 : a14.IsWhole)
  (a15 : Memref sig .tc .vmem S4096x1024 .bf16) (ha15 : a15.IsWhole)
  (a16 : Memref sig .tc .vmem S1x1024 .f32) (ha16 : a16.IsWhole)
  (a17 : Memref sig .tc .vmem S1024x1024 .f32) (ha17 : a17.IsWhole)
  (a18 : Memref sig .tc .vmem S128x1x1024 .f32) (ha18 : a18.IsWhole)

set_option maxHeartbeats 2000000 in
/-- At a point below the last the body reads a block of the prompt and the weights and leaves the results' block. -/
theorem run_rows (c : Dev nD) (i : grid0.Coords) (hc0 : k0_cond1 i = 1#1) (hc1 : ¬k0_cond2 i = 1#1)
    (x : Vec F S1024x1024 .f32) (po rw : Vec F S1024x512 .bf16) (wo : Vec F S1024x1024 .bf16) (g2 : Vec F S1x1024 .f32) (wu : Vec F S1024x4096 .bf16) (wd : Vec F S4096x1024 .bf16) (gf : Vec F S1x1024 .f32)
    (E : Set ℕ) (K : PUnit → sProp 𝕄) :
    iprop(owns (c : Thread nD τ) a1 fullShare x ∗ owns (c : Thread nD τ) a2 fullShare po ∗ owns (c : Thread nD τ) a3 fullShare rw
        ∗ owns (c : Thread nD τ) a12 fullShare wo ∗ owns (c : Thread nD τ) a13 fullShare g2 ∗ owns (c : Thread nD τ) a14 fullShare wu
        ∗ owns (c : Thread nD τ) a15 fullShare wd ∗ owns (c : Thread nD τ) a16 fullShare gf ∗ (∃ d, owns (c : Thread nD τ) a17 fullShare d)
        ∗ (iprop(owns (c : Thread nD τ) a1 fullShare x ∗ owns (c : Thread nD τ) a2 fullShare po ∗ owns (c : Thread nD τ) a3 fullShare rw
            ∗ owns (c : Thread nD τ) a12 fullShare wo ∗ owns (c : Thread nD τ) a13 fullShare g2 ∗ owns (c : Thread nD τ) a14 fullShare wu
            ∗ owns (c : Thread nD τ) a15 fullShare wd ∗ owns (c : Thread nD τ) a16 fullShare gf
            ∗ owns (c : Thread nD τ) a17 fullShare (rowOut x po rw wo g2 wu wd gf)) -∗ K ⟨⟩))
      ⊢ wp frame (wpE (defs₀ (F := F)) Variants.none c none) E (cc0_outproj_mlp i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18) K := by
  simp only [cc0_outproj_mlp_eq_skeleton]; unfold cc0_outproj_mlp_skel
  simp only [k0_part1_eq_skeleton, k0_part2_eq_skeleton]
  unfold owns
  iintro ⟨⟨%f1, %hf1, H1⟩, ⟨%f2, %hf2, H2⟩, ⟨%f3, %hf3, H3⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  obtain rfl := ha1.eq_unread hf1
  obtain rfl := ha2.eq_unread hf2
  obtain rfl := ha3.eq_unread hf3
  obtain rfl := ha12.eq_unread hf12
  obtain rfl := ha13.eq_unread hf13
  obtain rfl := ha14.eq_unread hf14
  obtain rfl := ha15.eq_unread hf15
  obtain rfl := ha16.eq_unread hf16
  sl_exec (disch := first | sl_exact hc0 | sl_exact hc1)
  sl_step
  iapply Hk
  isplitl [H1]
  · iexists _; isplitr; · ipureintro; exact ha1.read_unread _
    iexact H1
  isplitl [H2]
  · iexists _; isplitr; · ipureintro; exact ha2.read_unread _
    iexact H2
  isplitl [H3]
  · iexists _; isplitr; · ipureintro; exact ha3.read_unread _
    iexact H3
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  iexists _; isplitr
  swap; · iexact H17
  ipureintro
  sl_unfold_run_names
  simp only [load_eq]
  exact read_full (s := S1024x1024) _ _ _ _

end Cert.Kernel2Ideal.Mlp

end
-- ==== Proof.MlpTok.lean ====
/- The last point of the output projection and MLP call: what the body leaves in the sampled tokens' output. -/
module

public import proofs.«01_k».proof.Proof.MlpRows
public import proofs.«01_k».proof.Proof.Gen.Kernel2Ideal.Skeleton
public import Idealize.ShloMosaic.Lib.WholeRead
public import Idealize.ShloMosaic.Lib.VecWindow

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Vector 0 of the five stacked ones. -/
abbrev vec0 (vec : Vec F S5x128x512 .f32) : Vec F S1x128x512 .f32 := part vec (Rect.unit (s := S5x128x512) ![0, 0, 0] S1x128x512.size inb_S5x128x512_S1x128x512_0_0_0).toLoadRect
/-- Vector 1 of the five stacked ones. -/
abbrev vec1 (vec : Vec F S5x128x512 .f32) : Vec F S1x128x512 .f32 := part vec (Rect.unit (s := S5x128x512) ![1, 0, 0] S1x128x512.size inb_S5x128x512_S1x128x512_1_0_0).toLoadRect
/-- Vector 2 of the five stacked ones. -/
abbrev vec2 (vec : Vec F S5x128x512 .f32) : Vec F S1x128x512 .f32 := part vec (Rect.unit (s := S5x128x512) ![2, 0, 0] S1x128x512.size inb_S5x128x512_S1x128x512_2_0_0).toLoadRect
/-- Vector 3 of the five stacked ones. -/
abbrev vec3 (vec : Vec F S5x128x512 .f32) : Vec F S1x128x512 .f32 := part vec (Rect.unit (s := S5x128x512) ![3, 0, 0] S1x128x512.size inb_S5x128x512_S1x128x512_3_0_0).toLoadRect
/-- Vector 4 of the five stacked ones. -/
abbrev vec4 (vec : Vec F S5x128x512 .f32) : Vec F S1x128x512 .f32 := part vec (Rect.unit (s := S5x128x512) ![4, 0, 0] S1x128x512.size inb_S5x128x512_S1x128x512_4_0_0).toLoadRect

/-- The sampled tokens' residual stream after the output projection. -/
def tokMix (y0 : Vec F S512x128 .f32) (vec : Vec F S5x128x512 .f32) (rk lg lb : Vec F S1x512 .f32) (bo : Vec F S256x256 .bf16) (xs : Vec F S128x1x1024 .f32) (pos : Vec F S128x512 .bf16) (wo : Vec F S1024x1024 .bf16) : FVec F S128x1024 .f32 :=
  k0_pay19 (k0_pay12 (part y0 (Rect.unit (s := S512x128) ![0, 0] S512x128.size inb_S512x128_S512x128_0_0).toLoadRect) (vec0 vec)) (k0_pay13 (vec4 vec)) (k0_pay14 (part lg (Rect.unit (s := S1x512) ![0, 0] S1x512.size inb_S1x512_S1x512_0_0).toLoadRect)) (k0_pay15 (part lb (Rect.unit (s := S1x512) ![0, 0] S1x512.size inb_S1x512_S1x512_0_0).toLoadRect)) (k0_pay16 (part bo (Rect.unit (s := S256x256) ![0, 0] S256x256.size inb_S256x256_S256x256_0_0).toLoadRect))
    (k0_pay17 (vec1 vec) (vec2 vec) (vec3 vec) (part rk (Rect.unit (s := S1x512) ![0, 0] S1x512.size inb_S1x512_S1x512_0_0).toLoadRect) (part bo (Rect.unit (s := S256x256) ![0, 0] S256x256.size inb_S256x256_S256x256_0_0).toLoadRect)) (k0_pay18 (part y0 (Rect.unit (s := S512x128) ![0, 0] S512x128.size inb_S512x128_S512x128_0_0).toLoadRect) (vec0 vec)) (part xs (Rect.unit (s := S128x1x1024) ![0, 0, 0] S128x1x1024.size inb_S128x1x1024_S128x1x1024_0_0_0).toLoadRect) (part pos (Rect.unit (s := S128x512) ![0, 0] S128x512.size inb_S128x512_S128x512_0_0).toLoadRect) (woTop wo) (woBot wo)

/-- The sampled tokens' results, from their residual stream after the output projection. -/
def tokMlp (x1 : FVec F S128x1024 .f32) (g2 : Vec F S1x1024 .f32) (wu : Vec F S1024x4096 .bf16) (wd : Vec F S4096x1024 .bf16) (gf : Vec F S1x1024 .f32) : FVec F S128x1x1024 .f32 :=
  k0_pay4 (part gf (Rect.unit (s := S1x1024) ![0, 0] S1x1024.size inb_S1x1024_S1x1024_0_0).toLoadRect) x1 (k0_pay20 (k0_pay1 (part g2 (Rect.unit (s := S1x1024) ![0, 0] S1x1024.size inb_S1x1024_S1x1024_0_0).toLoadRect)) x1) (k0_pay21 (k0_pay1 (part g2 (Rect.unit (s := S1x1024) ![0, 0] S1x1024.size inb_S1x1024_S1x1024_0_0).toLoadRect)) x1 (up0 wu) (dn0 wd) (up1 wu) (dn1 wd))
    (k0_pay22 (k0_pay1 (part g2 (Rect.unit (s := S1x1024) ![0, 0] S1x1024.size inb_S1x1024_S1x1024_0_0).toLoadRect)) x1 (up2 wu)) (dn2 wd) (up3 wu) (dn3 wd)

/-- The sampled tokens' results. -/
def tokOut (y0 : Vec F S512x128 .f32) (vec : Vec F S5x128x512 .f32) (rk lg lb : Vec F S1x512 .f32) (bo : Vec F S256x256 .bf16) (xs : Vec F S128x1x1024 .f32) (pos : Vec F S128x512 .bf16) (wo : Vec F S1024x1024 .bf16) (g2 : Vec F S1x1024 .f32) (wu : Vec F S1024x4096 .bf16) (wd : Vec F S4096x1024 .bf16) (gf : Vec F S1x1024 .f32) : FVec F S128x1x1024 .f32 :=
  tokMlp (tokMix y0 vec rk lg lb bo xs pos wo) g2 wu wd gf

variable (a1 : Memref sig .tc .vmem S1024x1024 .f32) (ha1 : a1.IsWhole)
  (a2 : Memref sig .tc .vmem S1024x512 .bf16) (ha2 : a2.IsWhole)
  (a3 : Memref sig .tc .vmem S1024x512 .bf16) (ha3 : a3.IsWhole)
  (a4 : Memref sig .tc .vmem S128x1x1024 .f32) (ha4 : a4.IsWhole)
  (a5 : Memref sig .tc .vmem S128x512 .bf16) (ha5 : a5.IsWhole)
  (a6 : Memref sig .tc .vmem S512x128 .f32) (ha6 : a6.IsWhole)
  (a7 : Memref sig .tc .vmem S5x128x512 .f32) (ha7 : a7.IsWhole)
  (a8 : Memref sig .tc .vmem S1x512 .f32) (ha8 : a8.IsWhole)
  (a9 : Memref sig .tc .vmem S1x512 .f32) (ha9 : a9.IsWhole)
  (a10 : Memref sig .tc .vmem S1x512 .f32) (ha10 : a10.IsWhole)
  (a11 : Memref sig .tc .vmem S256x256 .bf16) (ha11 : a11.IsWhole)
  (a12 : Memref sig .tc .vmem S1024x1024 .bf16) (ha12 : a12.IsWhole)
  (a13 : Memref sig .tc .vmem S1x1024 .f32) (ha13 : a13.IsWhole)
  (a14 : Memref sig .tc .vmem S1024x4096 .bf16) (ha14 : a14.IsWhole)
  (a15 : Memref sig .tc .vmem S4096x1024 .bf16) (ha15 : a15.IsWhole)
  (a16 : Memref sig .tc .vmem S1x1024 .f32) (ha16 : a16.IsWhole)
  (a17 : Memref sig .tc .vmem S1024x1024 .f32) (ha17 : a17.IsWhole)
  (a18 : Memref sig .tc .vmem S128x1x1024 .f32) (ha18 : a18.IsWhole)

set_option maxHeartbeats 2000000 in
/-- At the last point the body reads the sampled tokens and the weights and leaves the tokens' results. -/
theorem run_tok (c : Dev nD) (i : grid0.Coords) (hc0 : ¬k0_cond1 i = 1#1) (hc1 : k0_cond2 i = 1#1)
    (y0 : Vec F S512x128 .f32) (vec : Vec F S5x128x512 .f32) (rk lg lb : Vec F S1x512 .f32) (bo : Vec F S256x256 .bf16) (xs : Vec F S128x1x1024 .f32) (pos : Vec F S128x512 .bf16) (wo : Vec F S1024x1024 .bf16) (g2 : Vec F S1x1024 .f32) (wu : Vec F S1024x4096 .bf16) (wd : Vec F S4096x1024 .bf16) (gf : Vec F S1x1024 .f32)
    (E : Set ℕ) (K : PUnit → sProp 𝕄) :
    iprop(owns (c : Thread nD τ) a4 fullShare xs ∗ owns (c : Thread nD τ) a5 fullShare pos ∗ owns (c : Thread nD τ) a6 fullShare y0 ∗ owns (c : Thread nD τ) a7 fullShare vec ∗ owns (c : Thread nD τ) a8 fullShare rk ∗ owns (c : Thread nD τ) a9 fullShare lg ∗ owns (c : Thread nD τ) a10 fullShare lb ∗ owns (c : Thread nD τ) a11 fullShare bo ∗ owns (c : Thread nD τ) a12 fullShare wo ∗ owns (c : Thread nD τ) a13 fullShare g2 ∗ owns (c : Thread nD τ) a14 fullShare wu ∗ owns (c : Thread nD τ) a15 fullShare wd ∗ owns (c : Thread nD τ) a16 fullShare gf ∗ (∃ d, owns (c : Thread nD τ) a18 fullShare d)
        ∗ (iprop(owns (c : Thread nD τ) a4 fullShare xs ∗ owns (c : Thread nD τ) a5 fullShare pos ∗ owns (c : Thread nD τ) a6 fullShare y0 ∗ owns (c : Thread nD τ) a7 fullShare vec ∗ owns (c : Thread nD τ) a8 fullShare rk ∗ owns (c : Thread nD τ) a9 fullShare lg ∗ owns (c : Thread nD τ) a10 fullShare lb ∗ owns (c : Thread nD τ) a11 fullShare bo ∗ owns (c : Thread nD τ) a12 fullShare wo ∗ owns (c : Thread nD τ) a13 fullShare g2 ∗ owns (c : Thread nD τ) a14 fullShare wu ∗ owns (c : Thread nD τ) a15 fullShare wd ∗ owns (c : Thread nD τ) a16 fullShare gf
            ∗ owns (c : Thread nD τ) a18 fullShare (tokOut y0 vec rk lg lb bo xs pos wo g2 wu wd gf)) -∗ K ⟨⟩))
      ⊢ wp frame (wpE (defs₀ (F := F)) Variants.none c none) E (cc0_outproj_mlp i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18) K := by
  simp only [cc0_outproj_mlp_eq_skeleton]; unfold cc0_outproj_mlp_skel
  simp only [k0_part3_eq_skeleton, k0_part4_eq_skeleton, k0_part5_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d18, %f18, -, H18⟩, Hk⟩
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  obtain rfl := ha11.eq_unread hf11
  obtain rfl := ha12.eq_unread hf12
  obtain rfl := ha13.eq_unread hf13
  obtain rfl := ha14.eq_unread hf14
  obtain rfl := ha15.eq_unread hf15
  obtain rfl := ha16.eq_unread hf16
  sl_exec (disch := first | sl_exact hc0 | sl_exact hc1)
  sl_step
  iapply Hk
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr; · ipureintro; exact ha11.read_unread _
    iexact H11
  isplitl [H12]
  · iexists _; isplitr; · ipureintro; exact ha12.read_unread _
    iexact H12
  isplitl [H13]
  · iexists _; isplitr; · ipureintro; exact ha13.read_unread _
    iexact H13
  isplitl [H14]
  · iexists _; isplitr; · ipureintro; exact ha14.read_unread _
    iexact H14
  isplitl [H15]
  · iexists _; isplitr; · ipureintro; exact ha15.read_unread _
    iexact H15
  isplitl [H16]
  · iexists _; isplitr; · ipureintro; exact ha16.read_unread _
    iexact H16
  iexists _; isplitr
  swap; · iexact H18
  ipureintro
  sl_unfold_run_names
  simp only [load_eq]
  exact read_full (s := S128x1x1024) _ _ _ _

end Cert.Kernel2Ideal.Mlp

end
-- ==== Proof.MlpMath.lean ====
/- One token of the output projection and MLP, over the extended reals, and the sums the kernel cuts in blocks. -/
module

public import Idealize.ShloMosaic.Lib.Pointwise

@[expose] public section

noncomputable section

namespace Cert.Mlp

open Idealize.ShloMosaic

/-- The residual stream after the output projection, channel `d`: the token, its pooled channels and its recurrence's
    through the top and the bottom half of the matrix. -/
def mix (x : Fin 1024 → EReal) (p q : Fin 512 → EReal) (w : Fin 1024 → Fin 1024 → EReal) (d : Fin 1024) : EReal :=
  x d + (∑ j : Fin 512, p j * w ⟨j.val, by omega⟩ d + ∑ j : Fin 512, q j * w ⟨512 + j.val, by omega⟩ d)

/-- A token divided by its root mean square, with a gain. -/
def rmsn (v g : Fin 1024 → EReal) (d : Fin 1024) : EReal :=
  v d * Ideal.rsqrt (Ideal.div (∑ k : Fin 1024, v k * v k) (Ideal.ofBits FTy.f32 0x44800000#32) + Ideal.ofBits FTy.f32 0x358637BD#32) * g d

/-- Hidden channel `j` of the MLP, before its square. -/
def hid (h : Fin 1024 → EReal) (wu : Fin 1024 → Fin 4096 → EReal) (j : Fin 4096) : EReal :=
  max (∑ k : Fin 1024, h k * wu k j) 0

/-- The residual stream after the MLP. -/
def res (x : Fin 1024 → EReal) (g : Fin 1024 → EReal) (wu : Fin 1024 → Fin 4096 → EReal) (wd : Fin 4096 → Fin 1024 → EReal)
    (d : Fin 1024) : EReal :=
  x d + ∑ j : Fin 4096, hid (rmsn x g) wu j * hid (rmsn x g) wu j * wd j d

/-- A token's result. -/
def out (x : Fin 1024 → EReal) (p q : Fin 512 → EReal) (w : Fin 1024 → Fin 1024 → EReal) (g : Fin 1024 → EReal)
    (wu : Fin 1024 → Fin 4096 → EReal) (wd : Fin 4096 → Fin 1024 → EReal) (gf : Fin 1024 → EReal) (d : Fin 1024) : EReal :=
  rmsn (res (mix x p q w) g wu wd) gf d

/-- A sum over 4096 channels is its four blocks', added in order from zero. -/
theorem sum_blocks (f : Fin 4096 → EReal) :
    ∑ j, f j = 0 + ∑ j : Fin 1024, f ⟨j.val, by omega⟩ + ∑ j : Fin 1024, f ⟨1024 + j.val, by omega⟩
      + ∑ j : Fin 1024, f ⟨2048 + j.val, by omega⟩ + ∑ j : Fin 1024, f ⟨3072 + j.val, by omega⟩ := by
  rw [zero_add]
  refine (Fin.sum_univ_add (a := 1024 + 1024 + 1024) (b := 1024) f).trans ?_
  rw [Fin.sum_univ_add (a := 1024 + 1024) (b := 1024), Fin.sum_univ_add (a := 1024) (b := 1024)]
  rfl

/-- A sum over 1024 channels is its two halves'. -/
theorem sum_halves (f : Fin 1024 → EReal) :
    ∑ j, f j = ∑ j : Fin 512, f ⟨j.val, by omega⟩ + ∑ j : Fin 512, f ⟨512 + j.val, by omega⟩ :=
  Fin.sum_univ_add (a := 512) (b := 512) f

/-- The same residual stream with the recurrence's channels in two halves. -/
theorem mix_cut (x : Fin 1024 → EReal) (p q : Fin 512 → EReal) (w : Fin 1024 → Fin 1024 → EReal) (d : Fin 1024) :
    mix x p q w d = x d + (∑ j : Fin 512, p j * w ⟨j.val, by omega⟩ d
      + (∑ j : Fin 256, q ⟨j.val, by omega⟩ * w ⟨512 + j.val, by omega⟩ d
        + ∑ j : Fin 256, q ⟨256 + j.val, by omega⟩ * w ⟨512 + (256 + j.val), by omega⟩ d)) := by
  unfold mix
  rw [Fin.sum_univ_add (a := 256) (b := 256) fun j : Fin 512 => q j * w ⟨512 + j.val, by omega⟩ d]
  rfl

/-- The channels of channel `f`'s head: its 64. -/
def head (f : Fin 512) (l : Fin 64) : Fin 512 := ⟨f.val / 64 * 64 + l.val, by omega⟩

/-- A product with the matrix of ones inside each head sums the head. -/
theorem sum_head (u : Fin 256 → EReal) (n : Fin 256) :
    ∑ k : Fin 256, u k * (if k.val / 64 = n.val / 64 then 1 else 0)
      = ∑ l : Fin 64, u ⟨n.val / 64 * 64 + l.val, by omega⟩ := by
  have e : ∑ k : Fin 256, u k * (if k.val / 64 = n.val / 64 then (1 : EReal) else 0)
      = ∑ a : Fin 4, ∑ l : Fin 64, u ⟨a.val * 64 + l.val, by omega⟩ * (if a.val = n.val / 64 then 1 else 0) := by
    rw [← (finProdFinEquiv (m := 4) (n := 64)).sum_comp, Fintype.sum_prod_type]
    refine Finset.sum_congr rfl fun a _ => Finset.sum_congr rfl fun l _ => ?_
    have h : (finProdFinEquiv (a, l)).val = a.val * 64 + l.val := by
      rw [finProdFinEquiv_apply_val, Nat.mul_comm, Nat.add_comm]
    rw [show (finProdFinEquiv (a, l) : Fin (4 * 64)) = (⟨a.val * 64 + l.val, by omega⟩ : Fin 256) from Fin.ext h]
    congr 2
    exact propext (by simp only; omega)
  rw [e, Finset.sum_eq_single (⟨n.val / 64, by omega⟩ : Fin 4)]
  · exact Finset.sum_congr rfl fun l _ => by rw [if_pos rfl, mul_one]
  · intro a _ ha
    refine Finset.sum_eq_zero fun l _ => ?_
    rw [if_neg (fun h => ha (Fin.ext h)), mul_zero]
  · exact fun h => absurd (Finset.mem_univ _) h

/-- A head's sum, at each of its channels. -/
def headSum (u : Fin 512 → EReal) (f : Fin 512) : EReal := ∑ l : Fin 64, u (head f l)

/-- Through the matrix of ones inside each head: the lower four heads', -/
theorem headSum_lo (u : Fin 512 → EReal) (n : Fin 256) (h : n.val < 512) :
    headSum u ⟨n.val, h⟩ = ∑ k : Fin 256, u ⟨k.val, by omega⟩ * (if k.val / 64 = n.val / 64 then 1 else 0) :=
  (sum_head (fun k => u ⟨k.val, by omega⟩) n).symm
/-- the upper four's. -/
theorem headSum_hi (u : Fin 512 → EReal) (n : Fin 256) (h : 256 + n.val < 512) :
    headSum u ⟨256 + n.val, h⟩ = ∑ k : Fin 256, u ⟨256 + k.val, by omega⟩ * (if k.val / 64 = n.val / 64 then 1 else 0) := by
  rw [sum_head (fun k => u ⟨256 + k.val, by omega⟩) n]
  unfold headSum head
  refine Finset.sum_congr rfl fun l _ => congrArg u (Fin.ext ?_)
  show (256 + n.val) / 64 * 64 + l.val = 256 + (n.val / 64 * 64 + l.val)
  omega

/-- It is the same at every channel of the head. -/
theorem headSum_head (u : Fin 512 → EReal) (f : Fin 512) (l : Fin 64) : headSum u (head f l) = headSum u f := by
  unfold headSum
  refine Finset.sum_congr rfl fun k _ => congrArg u (Fin.ext ?_)
  show (f.val / 64 * 64 + l.val) / 64 * 64 + k.val = f.val / 64 * 64 + k.val
  omega

/-- A channel minus its head's mean. -/
def cent (y : Fin 512 → EReal) (f : Fin 512) : EReal := y f - headSum y f * Ideal.ofBits FTy.f32 0x3C800000#32

/-- The recurrence's output of a sampled token: group norm, bonus, gate. -/
def rwkv (y r k v g rk lg lb : Fin 512 → EReal) (f : Fin 512) : EReal :=
  (cent y f * Ideal.rsqrt (headSum (fun j => cent y j * cent y j) f * Ideal.ofBits FTy.f32 0x3C800000#32 + Ideal.ofBits FTy.f32 0x3A27C5AC#32)
      * lg f + lb f + headSum (fun j => r j * k j * rk j) f * v f) * g f

/-- Divided by 64 is times its reciprocal, at every extended real. -/
theorem div_64 (x : EReal) : Ideal.div x (Ideal.ofBits FTy.f32 0x42800000#32) = x * Ideal.ofBits FTy.f32 0x3C800000#32 := by
  have h64 : Ideal.ofBits FTy.f32 0x42800000#32 = ((64 : ℝ) : EReal) := by
    simp [Ideal.ofBits, Ideal.ieee, -EReal.coe_mul]; norm_num
  have h1 : Ideal.ofBits FTy.f32 0x3C800000#32 = ((1 / 64 : ℝ) : EReal) := by
    simp [Ideal.ofBits, Ideal.ieee, -EReal.coe_mul]; norm_num
  rw [h64, h1, Ideal.div_coe (by norm_num)]

end Cert.Mlp

end
-- ==== Proof.MlpBlk.lean ====
/- What the output projection and MLP call computes at an element, over the extended reals: a block of the prompt. -/
module

public import proofs.«01_k».proof.Proof.MlpTok
public import proofs.«01_k».proof.Proof.MlpMath

@[expose] public section

set_option maxRecDepth 16384

noncomputable section

namespace Cert.Kernel2Ideal.Mlp

open Cert.Kernel2Ideal Cert.Kernel2Ideal.Gen Cert.Mlp
open Idealize.ShloMosaic Idealize.ShloMosaic.TcCoe Idealize.ShloMosaic.Tactic

section Rows

variable (x : Vec Ideal S1024x1024 .f32) (po rw' : Vec Ideal S1024x512 .bf16) (wo : Vec Ideal S1024x1024 .bf16) (g2 : Vec Ideal S1x1024 .f32)
  (wu : Vec Ideal S1024x4096 .bf16) (wd : Vec Ideal S4096x1024 .bf16) (gf : Vec Ideal S1x1024 .f32)

/-- A matrix's entries, by row and column. -/
abbrev ent {a b : ℕ} (w : (⟨2, ![a, b]⟩ : Shape).Idx → EReal) (j : Fin a) (d : Fin b) : EReal := w (ix2 j d)

/-- A load of a whole buffer takes all of it. -/
theorem part_full {s : Shape} {e : EltTy} (X : Vec Ideal s e) {off : Fin s.rank → ℕ} (inb : ∀ a, off a + s.size a ≤ s.size a) :
    part X (Rect.unit (s := s) off s.size inb).toLoadRect = X :=
  funext fun y => congrArg X (Rect.emb_unit_full inb y)

theorem pay5_at (r d : Fin 1024) :
    k0_pay5 x
      po
      rw' (woTop wo) (woBot wo) (ix2 r d)
      = mix (ent x r) (ent po r) (ent rw' r) (ent wo) d := by
  pointwise [k0_pay5, part, woTop, woBot, mix, ent]

theorem pay6_at (r d : Fin 1024) :
    k0_pay6 (k0_pay1 g2)
      x
      po
      rw' (woTop wo) (woBot wo) (ix2 r d)
      = rmsn (mix (ent x r) (ent po r) (ent rw' r) (ent wo)) (ent g2 0) d := by
  pointwise [k0_pay6, k0_pay1]
  simp only [pay5_at]
  rfl

theorem rowSum_at (r d : Fin 1024) :
    rowSum x po rw' wo g2 wu wd (ix2 r d) = res (mix (ent x r) (ent po r) (ent rw' r) (ent wo)) (ent g2 0) (ent wu) (ent wd) d := by
  unfold res
  rw [sum_blocks]
  unfold rowSum
  simp -proj only [part_full]
  pointwise [k0_pay10, k0_pay7, k0_pay8, k0_pay9]
  simp only [pay5_at, pay6_at]
  pointwise [part, up0, up1, up2, up3, dn0, dn1, dn2, dn3, hid, ent]

theorem rowOut_at (r d : Fin 1024) :
    rowOut x po rw' wo g2 wu wd gf (ix2 r d)
      = out (ent x r) (ent po r) (ent rw' r) (ent wo) (ent g2 0) (ent wu) (ent wd) (ent gf 0) d := by
  have hs : ∀ r : Fin 1024, rowSq x po rw' wo g2 wu wd (ix1 r)
      = ∑ k : Fin 1024, rowSum x po rw' wo g2 wu wd (ix2 r k) * rowSum x po rw' wo g2 wu wd (ix2 r k) := by
    intro r
    unfold rowSq rowSum
    pointwise [k0_pay11]
  unfold rowOut
  simp -proj only [part_full]
  pointwise [k0_pay3, k0_pay2]
  rw [hs]
  simp only [rowSum_at]
  pointwise [out, part, ent]
  rfl

end Rows

end Cert.Kernel2Ideal.Mlp

end
-- ==== Proof.MlpLast.lean ====
/- What the output projection and MLP call computes at an element, over the extended reals: the sampled tokens. -/
module

public import proofs.«01_k».proof.Proof.MlpBlk

@[expose] public section

set_option maxRecDepth 16384

noncomputable section

namespace Cert.Kernel2Ideal.Mlp

open Cert.Kernel2Ideal Cert.Kernel2Ideal.Gen Cert.Mlp
open Idealize.ShloMosaic Idealize.ShloMosaic.TcCoe Idealize.ShloMosaic.Tactic

variable (y0 : Vec Ideal S512x128 .f32) (vec : Vec Ideal S5x128x512 .f32) (rk lg lb : Vec Ideal S1x512 .f32) (bo : Vec Ideal S256x256 .bf16)
  (xs : Vec Ideal S128x1x1024 .f32) (pos : Vec Ideal S128x512 .bf16) (wo : Vec Ideal S1024x1024 .bf16) (g2 : Vec Ideal S1x1024 .f32)
  (wu : Vec Ideal S1024x4096 .bf16) (wd : Vec Ideal S4096x1024 .bf16) (gf : Vec Ideal S1x1024 .f32)

/-- The matrix of ones inside each head. -/
def Ones : Prop := ∀ k l : Fin 256, ent bo k l = if k.val / 64 = l.val / 64 then 1 else 0

/-- The bonus of token `n` at channel `f`. -/
theorem pay17_at (hb : Ones bo) (n : Fin 128) (f : Fin 512) :
    k0_pay17 (vec1 vec) (vec2 vec) (vec3 vec) rk bo (ix2 n f)
      = headSum (fun j => vec (ix3 (1 : Fin 5) n j) * vec (ix3 (2 : Fin 5) n j) * rk (ix2 (0 : Fin 1) j)) f * vec (ix3 (3 : Fin 5) n f) := by
  have hb' : ∀ k l : Fin 256, bo (ix2 k l) = if k.val / 64 = l.val / 64 then 1 else 0 := hb
  pointwise [k0_pay17, k0_pay16, vec1, vec2, vec3, part]
  simp only [hb']
  by_cases h : f.val < 256
  · rw [dif_pos h]
    exact congrArg (· * _) (headSum_lo (fun j => vec (ix3 (1 : Fin 5) n j) * vec (ix3 (2 : Fin 5) n j) * rk (ix2 (0 : Fin 1) j)) ⟨f.val, h⟩ f.isLt).symm
  · rw [dif_neg h]
    have hf : f = ⟨256 + (f.val - 256), by omega⟩ := Fin.ext (by simp only; omega)
    refine congrArg (· * _) ?_
    conv_rhs => rw [hf]
    exact (headSum_hi (fun j => vec (ix3 (1 : Fin 5) n j) * vec (ix3 (2 : Fin 5) n j) * rk (ix2 (0 : Fin 1) j)) ⟨f.val - 256, by omega⟩ (by simp only; omega)).symm

theorem tokMix_at (hb : Ones bo) (n : Fin 128) (d : Fin 1024) :
    tokMix y0 vec rk lg lb bo xs pos wo (ix2 n d)
      = mix (fun d => xs (ix3 n (0 : Fin 1) d)) (ent pos n)
          (rwkv (fun f => y0 (ix2 f n) + vec (ix3 (0 : Fin 5) n f)) (fun f => vec (ix3 (1 : Fin 5) n f)) (fun f => vec (ix3 (2 : Fin 5) n f))
            (fun f => vec (ix3 (3 : Fin 5) n f)) (fun f => vec (ix3 (4 : Fin 5) n f)) (ent rk 0) (ent lg 0) (ent lb 0)) (ent wo) d := by
  have hb' : ∀ k l : Fin 256, bo (ix2 k l) = if k.val / 64 = l.val / 64 then 1 else 0 := hb
  unfold tokMix
  simp -proj only [part_full]
  pointwise [k0_pay19, k0_pay18, k0_pay13, k0_pay14, k0_pay15, k0_pay16]
  simp only [pay17_at vec rk bo hb, hb']
  pointwise [k0_pay12, vec0, vec4, part, woTop, woBot]
  rw [mix_cut]
  simp only [rwkv, cent, headSum_lo, headSum_hi]

theorem tokMlp_at (x1 : FVec Ideal S128x1024 .f32) (n : Fin 128) (d : Fin 1024) :
    tokMlp x1 g2 wu wd gf (ix3 n (0 : Fin 1) d) = rmsn (res (ent x1 n) (ent g2 0) (ent wu) (ent wd)) (ent gf 0) d := by
  unfold tokMlp
  simp -proj only [part_full]
  pointwise [k0_pay4, k0_pay2, k0_pay21, k0_pay22, k0_pay20, k0_pay1]
  rw [show ∀ v g : Fin 1024 → EReal, rmsn v g d = v d * Ideal.rsqrt (Ideal.div (∑ k, v k * v k) (Ideal.ofBits FTy.f32 0x44800000#32)
    + Ideal.ofBits FTy.f32 0x358637BD#32) * g d from fun _ _ => rfl]
  have hr : ∀ d, res (ent x1 n) (ent g2 0) (ent wu) (ent wd) d = x1 (ix2 n d) + ∑ j : Fin 4096, hid (rmsn (ent x1 n) (ent g2 0)) (ent wu) j
      * hid (rmsn (ent x1 n) (ent g2 0)) (ent wu) j * ent wd j d := fun _ => rfl
  simp only [hr, sum_blocks, zero_add]
  pointwise [part, up0, up1, up2, up3, dn0, dn1, dn2, dn3, hid, ent, rmsn]

theorem tokOut_at (hb : Ones bo) (n : Fin 128) (d : Fin 1024) :
    tokOut y0 vec rk lg lb bo xs pos wo g2 wu wd gf (ix3 n (0 : Fin 1) d)
      = out (fun d => xs (ix3 n (0 : Fin 1) d)) (ent pos n)
          (rwkv (fun f => y0 (ix2 f n) + vec (ix3 (0 : Fin 5) n f)) (fun f => vec (ix3 (1 : Fin 5) n f)) (fun f => vec (ix3 (2 : Fin 5) n f))
            (fun f => vec (ix3 (3 : Fin 5) n f)) (fun f => vec (ix3 (4 : Fin 5) n f)) (ent rk 0) (ent lg 0) (ent lb 0)) (ent wo)
          (ent g2 0) (ent wu) (ent wd) (ent gf 0) d := by
  unfold tokOut
  rw [tokMlp_at, show ent (tokMix y0 vec rk lg lb bo xs pos wo) n = _ from funext fun d => tokMix_at y0 vec rk lg lb bo xs pos wo hb n d]
  rfl

end Cert.Kernel2Ideal.Mlp

end
-- ==== Proof.MlpRun.lean ====
/- The output projection and MLP call's pipeline: what each buffer holds point by point, the body at every point, the run. -/
module

public import proofs.«01_k».proof.Proof.MlpTok
public import Idealize.ShloMosaic.Lib.Pipeline.TableIdle
public import Idealize.ShloMosaic.Lib.Pipeline.ValueKit.Geometry

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The body computes a block of the prompt below the last point, -/
theorem cond1_iff : ∀ t : Fin cfg0.N, k0_cond1 (grid0.coords t) = 1#1 ↔ t.val < 16 :=
  (by decide +kernel : ∀ t : Fin grid0.N, k0_cond1 (grid0.coords t) = 1#1 ↔ t.val < 16)
/-- the sampled tokens at it. -/
theorem cond2_iff : ∀ t : Fin cfg0.N, k0_cond2 (grid0.coords t) = 1#1 ↔ t.val = 16 :=
  (by decide +kernel : ∀ t : Fin grid0.N, k0_cond2 (grid0.coords t) = 1#1 ↔ t.val = 16)
/-- The prompt's output block is idle at the last point only, -/
theorem idle_16 : ∀ t : Fin cfg0.N, cfg0.idle 16 (grid0.coords t) = decide (t.val = 16) := by decide +kernel
/-- the sampled tokens' everywhere else. -/
theorem idle_17 : ∀ t : Fin cfg0.N, cfg0.idle 17 (grid0.coords t) = decide (t.val < 16) := by decide +kernel
/-- The prompt's output block is written back at every point but the last but one: the last point's block is that one's. -/
theorem flush_16 : ∀ t : Fin cfg0.N, (cfg0.win 16).flush t = decide (t.val ≠ 15) := fun t => by
  rw [Window.flush_eq_flushF]; revert t; decide +kernel
/-- The sampled tokens' is written back at the end. -/
theorem flush_17 : ∀ t : Fin cfg0.N, (cfg0.win 17).flush t = decide (t.val = 16) := fun t => by
  rw [Window.flush_eq_flushF]; revert t; decide +kernel

/-- What the prompt's output buffer holds when the last point begins was stored. -/
theorem fresh_16 : ∀ n, n ≤ cfg0.N → cfg0.fresh 16 n = decide (n ≠ 16) :=
  Cfg.fresh_tab cfg0 16 (fun n => decide (n ≠ 16)) rfl fun t => by
    rw [flush_16, idle_16]
    have ht : t.val < 17 := lt_of_lt_of_eq t.isLt (show cfg0.N = 17 from N_0)
    have hc : ∀ n : Fin 17, (decide (n.val ≠ 15) || (decide (n.val = 16) && decide (n.val ≠ 16))) = decide (n.val + 1 ≠ 16) := by decide
    exact (hc ⟨t.val, ht⟩).symm

/-! ## What the buffers hold -/

/-- The point whose block of the prompt the output buffer holds after point `t`: the last point keeps the one before. -/
def at15 (t : Fin cfg0.N) : Fin cfg0.N := if t.val < 16 then t else ⟨15, by rw [show cfg0.N = 17 from N_0]; omega⟩

theorem at15_lt (t : Fin cfg0.N) (h : t.val < 16) : at15 t = t := if_pos h
theorem at15_last (t : Fin cfg0.N) (h : t.val = 16) : at15 t = at15 ⟨t.val - 1, by omega⟩ := by
  rw [at15, at15, if_neg (by omega), if_pos (by simp only; omega)]; exact Fin.ext (by simp only; omega)

/-- The prompt's results of point `t`. -/
def yAt (c : Dev nD) (t : Fin cfg0.N) : Vec F S1024x1024 .f32 :=
  rowOut (iblk m c 0 t) (iblk m c 1 t) (iblk m c 2 t) (iblk m c 11 t) (iblk m c 12 t) (iblk m c 13 t) (iblk m c 14 t) (iblk m c 15 t)

/-- The sampled tokens' results. -/
def sAt (c : Dev nD) (t : Fin cfg0.N) : Vec F S128x1x1024 .f32 :=
  tokOut (iblk m c 5 t) (iblk m c 6 t) (iblk m c 7 t) (iblk m c 8 t) (iblk m c 9 t) (iblk m c 10 t) (iblk m c 3 t) (iblk m c 4 t)
    (iblk m c 11 t) (iblk m c 12 t) (iblk m c 13 t) (iblk m c 14 t) (iblk m c 15 t)

/-- The pipeline's proof data: each input's buffer keeps its block, the outputs' hold the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => yAt m c (at15 t)
    | ⟨17, _⟩ => sAt m c t
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_16 (c : Dev nD) (t : Fin cfg0.N) : (dats m 0 c).after 16 t = yAt m c (at15 t) := by dsimp only [dats]
theorem after_17 (c : Dev nD) (t : Fin cfg0.N) : (dats m 0 c).after 17 t = sAt m c t := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d

/-- The prompt's output buffer at the last point: the results of the point before. -/
theorem before_16 (c : Dev nD) (t : Fin cfg0.N) (ht : t.val = 16) (d) : (dats m 0 c).before 16 t d = yAt m c (at15 t) := by
  rw [(dats m 0 c).before_out_traj 16 rfl (fun _ _ => rfl)
    (fun s hs hi _ => by
      rw [idle_16, decide_eq_true_eq] at hi
      rw [after_16, after_16, at15_last s hi]) t.val t rfl d,
    fresh_16 t.val t.isLt.le, if_neg (by simp [ht]), after_16, at15_last t ht]

/-! ## The body at a point -/

abbrev st0 (t : Fin cfg0.N) : Memref sig .tc .vmem S1024x1024 .f32 := win0_0.stage (cfg0.slots t 0)
abbrev st1 (t : Fin cfg0.N) : Memref sig .tc .vmem S1024x512 .bf16 := win0_1.stage (cfg0.slots t 1)
abbrev st2 (t : Fin cfg0.N) : Memref sig .tc .vmem S1024x512 .bf16 := win0_2.stage (cfg0.slots t 2)
abbrev st3 (t : Fin cfg0.N) : Memref sig .tc .vmem S128x1x1024 .f32 := win0_3.stage (cfg0.slots t 3)
abbrev st4 (t : Fin cfg0.N) : Memref sig .tc .vmem S128x512 .bf16 := win0_4.stage (cfg0.slots t 4)
abbrev st5 (t : Fin cfg0.N) : Memref sig .tc .vmem S512x128 .f32 := win0_5.stage (cfg0.slots t 5)
abbrev st6 (t : Fin cfg0.N) : Memref sig .tc .vmem S5x128x512 .f32 := win0_6.stage (cfg0.slots t 6)
abbrev st7 (t : Fin cfg0.N) : Memref sig .tc .vmem S1x512 .f32 := win0_7.stage (cfg0.slots t 7)
abbrev st8 (t : Fin cfg0.N) : Memref sig .tc .vmem S1x512 .f32 := win0_8.stage (cfg0.slots t 8)
abbrev st9 (t : Fin cfg0.N) : Memref sig .tc .vmem S1x512 .f32 := win0_9.stage (cfg0.slots t 9)
abbrev st10 (t : Fin cfg0.N) : Memref sig .tc .vmem S256x256 .bf16 := win0_10.stage (cfg0.slots t 10)
abbrev st11 (t : Fin cfg0.N) : Memref sig .tc .vmem S1024x1024 .bf16 := win0_11.stage (cfg0.slots t 11)
abbrev st12 (t : Fin cfg0.N) : Memref sig .tc .vmem S1x1024 .f32 := win0_12.stage (cfg0.slots t 12)
abbrev st13 (t : Fin cfg0.N) : Memref sig .tc .vmem S1024x4096 .bf16 := win0_13.stage (cfg0.slots t 13)
abbrev st14 (t : Fin cfg0.N) : Memref sig .tc .vmem S4096x1024 .bf16 := win0_14.stage (cfg0.slots t 14)
abbrev st15 (t : Fin cfg0.N) : Memref sig .tc .vmem S1x1024 .f32 := win0_15.stage (cfg0.slots t 15)
abbrev st16 (t : Fin cfg0.N) : Memref sig .tc .vmem S1024x1024 .f32 := win0_16.stage (cfg0.slots t 16)
abbrev st17 (t : Fin cfg0.N) : Memref sig .tc .vmem S128x1x1024 .f32 := win0_17.stage (cfg0.slots t 17)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d))
    ∗ (∃ d, owns (c : Thread nD τ) (st17 t) fullShare ((dats m 0 c).before 17 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

/-- A window stored at a point leaves what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So does one written back. -/
theorem leaves_flush (c : Dev nD) (w : Fin cfg0.W) (t : Fin cfg0.N) (h : cfg0.idle w (grid0.coords t) = true)
    (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 3200000 in
/-- The body at any point: a block of the prompt below the last one, the sampled tokens at it. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_live m c 11 t rfl, after_11]
  rw [leaves_live m c 12 t rfl, after_12]
  rw [leaves_live m c 13 t rfl, after_13]
  rw [leaves_live m c 14 t rfl, after_14]
  rw [leaves_live m c 15 t rfl, after_15]
  simp only [before_0, before_1, before_2, before_3, before_4, before_5, before_6, before_7, before_8, before_9, before_10, before_11, before_12, before_13, before_14, before_15]
  have hN : t.val < 17 := lt_of_lt_of_eq t.isLt (show cfg0.N = 17 from N_0)
  by_cases ht : t.val = 16
  · have h16 : cfg0.idle 16 (grid0.coords t) = true := by rw [idle_16, decide_eq_true_eq]; exact ht
    have h16f : (cfg0.win 16).flush t = true := by rw [flush_16, decide_eq_true_eq]; omega
    have h17 : cfg0.idle 17 (grid0.coords t) = false := by rw [idle_17, decide_eq_false_iff_not]; omega
    rw [leaves_flush m c 16 t h16 h16f, leaves_live m c 17 t h17, after_16, after_17]
    simp only [before_16 m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (run_tok _ _ _ _ _ _ _ _ _ _ _ _ _ _ _ _ _ _ _ _ _ _ _ _ _ _ _ _ _ _ _ _ _ _ _ _ c (grid0.coords t) (fun h => absurd ((cond1_iff t).mp h) (by omega)) ((cond2_iff t).mpr ht)
      (iblk m c 5 t) (iblk m c 6 t) (iblk m c 7 t) (iblk m c 8 t) (iblk m c 9 t) (iblk m c 10 t) (iblk m c 3 t) (iblk m c 4 t)
      (iblk m c 11 t) (iblk m c 12 t) (iblk m c 13 t) (iblk m c 14 t) (iblk m c 15 t) Set.univ _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexists _; iexact H17
    iintro ⟨H3, H4, H5, H6, H7, H8, H9, H10, H11, H12, H13, H14, H15, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · have hl : t.val < 16 := by omega
    have h16 : cfg0.idle 16 (grid0.coords t) = false := by rw [idle_16, decide_eq_false_iff_not]; exact ht
    have h17 : cfg0.idle 17 (grid0.coords t) = true := by rw [idle_17, decide_eq_true_eq]; exact hl
    have h17f : (cfg0.win 17).flush t = false := by rw [flush_17, decide_eq_false_iff_not]; exact ht
    rw [leaves_live m c 16 t h16, Dat.leavesExact_idle (dats m 0 c) 17 t h17 h17f, after_16, at15_lt t hl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (run_rows _ _ _ _ _ _ _ _ _ _ _ _ _ _ _ _ _ _ _ _ _ _ _ _ _ _ _ _ _ _ _ _ _ _ _ _ c (grid0.coords t) ((cond1_iff t).mpr hl) (fun h => ht ((cond2_iff t).mp h))
      (iblk m c 0 t) (iblk m c 1 t) (iblk m c 2 t) (iblk m c 11 t) (iblk m c 12 t) (iblk m c 13 t) (iblk m c 14 t) (iblk m c 15 t) Set.univ _)
    isplitl [H0]; · iexact H0
    isplitl [H1]; · iexact H1
    isplitl [H2]; · iexact H2
    isplitl [H11]; · iexact H11
    isplitl [H12]; · iexact H12
    isplitl [H13]; · iexact H13
    isplitl [H14]; · iexact H14
    isplitl [H15]; · iexact H15
    isplitl [H16]; · iexists _; iexact H16
    iintro ⟨H0, H1, H2, H11, H12, H13, H14, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexists _; iexact H17

/-- The body the pipeline calls at point `t` is the kernel's at the point's buffers. -/
theorem body_row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- Every run ends with each array at what the proof data computes, and every semaphore at zero. -/
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Such a state's arguments are as launched: an input's array is never written, and no window stages the others. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨(h.rest_eq c main_arg0 (Pipeline.mem_restRefs_of main_arg0 (by decide) (by decide))).trans (V_main_arg0 m c),
    (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c),
    (h.in_eq c 3 rfl).trans ((A_eq m c 3).trans (V_main_arg3 m c)),
    (h.rest_eq c main_arg4 (Pipeline.mem_restRefs_of main_arg4 (by decide) (by decide))).trans (V_main_arg4 m c),
    (h.in_eq c 5 rfl).trans ((A_eq m c 5).trans (V_main_arg5 m c)),
    (h.rest_eq c main_arg6 (Pipeline.mem_restRefs_of main_arg6 (by decide) (by decide))).trans (V_main_arg6 m c),
    (h.rest_eq c main_arg7 (Pipeline.mem_restRefs_of main_arg7 (by decide) (by decide))).trans (V_main_arg7 m c),
    (h.rest_eq c main_arg8 (Pipeline.mem_restRefs_of main_arg8 (by decide) (by decide))).trans (V_main_arg8 m c),
    (h.rest_eq c main_arg9 (Pipeline.mem_restRefs_of main_arg9 (by decide) (by decide))).trans (V_main_arg9 m c),
    (h.rest_eq c main_arg10 (Pipeline.mem_restRefs_of main_arg10 (by decide) (by decide))).trans (V_main_arg10 m c),
    (h.rest_eq c main_arg11 (Pipeline.mem_restRefs_of main_arg11 (by decide) (by decide))).trans (V_main_arg11 m c),
    (h.rest_eq c main_arg12 (Pipeline.mem_restRefs_of main_arg12 (by decide) (by decide))).trans (V_main_arg12 m c),
    (h.rest_eq c main_arg13 (Pipeline.mem_restRefs_of main_arg13 (by decide) (by decide))).trans (V_main_arg13 m c),
    (h.rest_eq c main_arg14 (Pipeline.mem_restRefs_of main_arg14 (by decide) (by decide))).trans (V_main_arg14 m c),
    (h.rest_eq c main_arg15 (Pipeline.mem_restRefs_of main_arg15 (by decide) (by decide))).trans (V_main_arg15 m c),
    (h.rest_eq c main_arg16 (Pipeline.mem_restRefs_of main_arg16 (by decide) (by decide))).trans (V_main_arg16 m c),
    (h.rest_eq c main_arg17 (Pipeline.mem_restRefs_of main_arg17 (by decide) (by decide))).trans (V_main_arg17 m c),
    (h.rest_eq c main_arg18 (Pipeline.mem_restRefs_of main_arg18 (by decide) (by decide))).trans (V_main_arg18 m c)⟩

/-- Every run ends with the two results at what the proof data computes, the arguments as launched and every semaphore at zero. -/
theorem run_main : θ_run defs (onTc (τ := τ) (main (F := F))) ⟨m, fun _ => 0, ρ⟩ (fun r => (∀ c : Dev nD,
      r.2.mem ((c.tc : Thread nD τ).loc main_v38_0) = (dats m 0 c).arrAt 16 cfg0.N
      ∧ r.2.mem ((c.tc : Thread nD τ).loc main_v38_1) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => ⟨h.1.out_eq c 16, h.1.out_eq c 17, args_kept m r h.1 c⟩, h.2⟩) (run_all m ρ)

end Cert.Kernel2Ideal.Mlp

end
-- ==== Proof.MlpHost.lean ====
/- The output projection and MLP call's operands, over the call's arguments. -/
module

public import proofs.«01_k».proof.Proof.MlpLast
public import proofs.«01_k».proof.Proof.MlpRun
public import Idealize.ShloMosaic.Lib.Pipeline.ValueKit.Geometry

@[expose] public section

set_option maxRecDepth 16384

noncomputable section

namespace Cert.Kernel2Ideal.Mlp

open Cert.Kernel2Ideal Cert.Kernel2Ideal.Gen Cert.Mlp
open Idealize.ShloMosaic Idealize.ShloMosaic.TcCoe Idealize.ShloMosaic.Tactic

variable (m : (ℓ : Loc nD τ sig) → Buf (Elt Ideal) ℓ) (c : Dev nD)

/-- The prompt's row `R` is row `R % 2048` of batch `R / 2048`. -/
def bat (R : Fin 16384) : Fin 8 := ⟨R.val / 2048, by omega⟩
def row (R : Fin 16384) : Fin 2048 := ⟨R.val % 2048, by omega⟩

/-- The prompt's rows, -/
def hX (a : FVec Ideal S8x2048x1024 .f32) : FVec Ideal S16384x1024 .f32 := shapeCast S16384x1024 a shapeCasts_S8x2048x1024_S16384x1024
/-- its pooled or recurrent channels, -/
def hP (a : FVec Ideal S8x2048x512 .f32) : FVec Ideal S16384x512 .bf16 :=
  shapeCast S16384x512 (truncf .bf16 a bitsLt_bf16_f32) shapeCasts_S8x2048x512_S16384x512
/-- the five vectors, one above the other, -/
def hVec (a b d e f : FVec Ideal S128x512 .f32) : FVec Ideal S5x128x512 .f32 :=
  concatenate S5x128x512 0 [⟨S1x128x512, broadcastInDim S1x128x512 ![1, 2] bcast_S128x512_S1x128x512_1_2 a⟩,
    ⟨S1x128x512, broadcastInDim S1x128x512 ![1, 2] bcast_S128x512_S1x128x512_1_2 b⟩, ⟨S1x128x512, broadcastInDim S1x128x512 ![1, 2] bcast_S128x512_S1x128x512_1_2 d⟩,
    ⟨S1x128x512, broadcastInDim S1x128x512 ![1, 2] bcast_S128x512_S1x128x512_1_2 e⟩, ⟨S1x128x512, broadcastInDim S1x128x512 ![1, 2] bcast_S128x512_S1x128x512_1_2 f⟩]
    concatenates_S1x128x512_S1x128x512_S1x128x512_S1x128x512_S1x128x512_S5x128x512_d0
/-- the bonus weights, -/
def hRk (a : FVec Ideal S1x8x64 .f32) : FVec Ideal S1x512 .f32 := shapeCast S1x512 (shapeCast S8x64 a shapeCasts_S1x8x64_S8x64) shapeCasts_S8x64_S1x512
/-- a gain or shift, -/
def hLn (a : FVec Ideal S1x512 .f32) : FVec Ideal S1x512 .f32 := shapeCast S1x512 (shapeCast S512 a shapeCasts_S1x512_S512) shapeCasts_S512_S1x512
/-- the ones inside each head, -/
def hOnes : FVec Ideal S256x256 .bf16 :=
  truncf .bf16 (shapeCast S256x256 (broadcastInDim S4x64x4x64 ![0, 1, 2, 3] bcast_S4x1x4x1_S4x64x4x64_0_1_2_3 (broadcastInDim S4x1x4x1 ![0, 2] bcast_S4x4_S4x1x4x1_0_2
    (uitofp (F := Ideal) .f32 (cmpi .eq (broadcastInDim S4x4 ![0, 1] bcast_S4x1_S4x4_0_1 (broadcastInDim S4x1 ![0] bcast_S4_S4x1_0 (iotaInDim S4 32 0)))
      (broadcastInDim S4x4 ![0, 1] bcast_S1x4_S4x4_0_1 (broadcastInDim S1x4 ![1] bcast_S4_S1x4_1 (iotaInDim S4 32 0))))))) shapeCasts_S4x64x4x64_S256x256) bitsLt_bf16_f32
/-- the weights. -/
def hW (a : FVec Ideal S1x1024x1024 .f32) : FVec Ideal S1024x1024 .bf16 := truncf .bf16 (shapeCast S1024x1024 a shapeCasts_S1x1024x1024_S1024x1024) bitsLt_bf16_f32
def hG (a : FVec Ideal S1x1024 .f32) : FVec Ideal S1x1024 .f32 := shapeCast S1x1024 (shapeCast S1024 a shapeCasts_S1x1024_S1024) shapeCasts_S1024_S1x1024
def hU (a : FVec Ideal S1x1024x4096 .f32) : FVec Ideal S1024x4096 .bf16 := truncf .bf16 (shapeCast S1024x4096 a shapeCasts_S1x1024x4096_S1024x4096) bitsLt_bf16_f32
def hD (a : FVec Ideal S1x4096x1024 .f32) : FVec Ideal S4096x1024 .bf16 := truncf .bf16 (shapeCast S4096x1024 a shapeCasts_S1x4096x1024_S4096x1024) bitsLt_bf16_f32
def hF (a : FVec Ideal S1024 .f32) : FVec Ideal S1x1024 .f32 := shapeCast S1x1024 a shapeCasts_S1024_S1x1024

theorem hX_at (a : FVec Ideal S8x2048x1024 .f32) (R : Fin 16384) (d : Fin 1024) : hX a (ix2 R d) = a (ix3 (bat R) (row R) d) := by
  pointwise [hX]
  rfl
theorem hP_at (a : FVec Ideal S8x2048x512 .f32) (R : Fin 16384) (d : Fin 512) : hP a (ix2 R d) = a (ix3 (bat R) (row R) d) := by
  pointwise [hP]
  rfl
theorem hVec_at (a b d e f : FVec Ideal S128x512 .f32) (n : Fin 128) (j : Fin 512) :
    hVec a b d e f (ix3 (0 : Fin 5) n j) = a (ix2 n j) ∧ hVec a b d e f (ix3 (1 : Fin 5) n j) = b (ix2 n j) ∧ hVec a b d e f (ix3 (2 : Fin 5) n j) = d (ix2 n j)
    ∧ hVec a b d e f (ix3 (3 : Fin 5) n j) = e (ix2 n j) ∧ hVec a b d e f (ix3 (4 : Fin 5) n j) = f (ix2 n j) := by
  refine ⟨?_, ?_, ?_, ?_, ?_⟩ <;> pointwise [hVec]
theorem hRk_at (a : FVec Ideal S1x8x64 .f32) (j : Fin 512) :
    hRk a (ix2 (0 : Fin 1) j) = a (ix3 (0 : Fin 1) (⟨j.val / 64, by omega⟩ : Fin 8) (⟨j.val % 64, by omega⟩ : Fin 64)) := by
  pointwise [hRk]
theorem hLn_at (a : FVec Ideal S1x512 .f32) (j : Fin 512) : hLn a (ix2 (0 : Fin 1) j) = a (ix2 (0 : Fin 1) j) := by
  pointwise [hLn]
theorem hOnes_at : Ones hOnes := by
  intro k l
  have h : ∀ a b : Fin 4, IntOp.cmpi CmpIPredicate.eq (BitVec.ofNat 32 a.val) (BitVec.ofNat 32 b.val) = if a.val = b.val then 1#1 else 0#1 := by decide
  pointwise [hOnes, ent]
  rw [h ⟨k.val / 64, by omega⟩ ⟨l.val / 64, by omega⟩]
  by_cases e : k.val / 64 = l.val / 64
  · rw [if_pos e, if_pos e]
    show ((((1#1 : BitVec 1).toNat : ℝ)) : EReal) = 1
    norm_num
  · rw [if_neg e, if_neg e]
    show ((((0#1 : BitVec 1).toNat : ℝ)) : EReal) = 0
    norm_num
theorem hW_at (a : FVec Ideal S1x1024x1024 .f32) (j d : Fin 1024) : hW a (ix2 j d) = a (ix3 (0 : Fin 1) j d) := by
  pointwise [hW]
theorem hG_at (a : FVec Ideal S1x1024 .f32) (j : Fin 1024) : hG a (ix2 (0 : Fin 1) j) = a (ix2 (0 : Fin 1) j) := by
  pointwise [hG]
theorem hU_at (a : FVec Ideal S1x1024x4096 .f32) (j : Fin 1024) (d : Fin 4096) : hU a (ix2 j d) = a (ix3 (0 : Fin 1) j d) := by
  pointwise [hU]
theorem hD_at (a : FVec Ideal S1x4096x1024 .f32) (j : Fin 4096) (d : Fin 1024) : hD a (ix2 j d) = a (ix3 (0 : Fin 1) j d) := by
  pointwise [hD]
theorem hF_at (a : FVec Ideal S1024 .f32) (j : Fin 1024) : hF a (ix2 (0 : Fin 1) j) = a (ix1 j) := by
  pointwise [hF]

/-! The region finds them in the windows' arrays. -/

theorem V_v0 : V m c main_v0 = hX (m ((c : Thread nD τ).loc main_arg0)) := by
  show StableHlo.after hostOps0 (fun b => m (c, b)) main_v0 = _
  after_results <;> rfl
theorem V_v2 : V m c main_v2 = hP (m ((c : Thread nD τ).loc main_arg1)) := by
  show StableHlo.after hostOps0 (fun b => m (c, b)) main_v2 = _
  after_results <;> rfl
theorem V_v4 : V m c main_v4 = hP (m ((c : Thread nD τ).loc main_arg2)) := by
  show StableHlo.after hostOps0 (fun b => m (c, b)) main_v4 = _
  after_results <;> rfl
theorem V_v5 : V m c main_v5 = (truncf (F := Ideal) .bf16 (m ((c : Thread nD τ).loc main_arg4) : FVec Ideal S128x512 .f32) bitsLt_bf16_f32 : FVec Ideal S128x512 .bf16) := by
  show StableHlo.after hostOps0 (fun b => m (c, b)) main_v5 = _
  after_results <;> rfl
theorem V_v11 : V m c main_v11 = hVec (m ((c : Thread nD τ).loc main_arg6)) (m ((c : Thread nD τ).loc main_arg7)) (m ((c : Thread nD τ).loc main_arg8))
    (m ((c : Thread nD τ).loc main_arg9)) (m ((c : Thread nD τ).loc main_arg10)) := by
  show StableHlo.after hostOps0 (fun b => m (c, b)) main_v11 = _
  after_results <;> rfl
theorem V_v13 : V m c main_v13 = hRk (m ((c : Thread nD τ).loc main_arg11)) := by
  show StableHlo.after hostOps0 (fun b => m (c, b)) main_v13 = _
  after_results <;> rfl
theorem V_v15 : V m c main_v15 = hLn (m ((c : Thread nD τ).loc main_arg12)) := by
  show StableHlo.after hostOps0 (fun b => m (c, b)) main_v15 = _
  after_results <;> rfl
theorem V_v17 : V m c main_v17 = hLn (m ((c : Thread nD τ).loc main_arg13)) := by
  show StableHlo.after hostOps0 (fun b => m (c, b)) main_v17 = _
  after_results <;> rfl
theorem V_v28 : V m c main_v28 = hOnes := by
  show StableHlo.after hostOps0 (fun b => m (c, b)) main_v28 = _
  after_results <;> rfl
theorem V_v30 : V m c main_v30 = hW (m ((c : Thread nD τ).loc main_arg14)) := by
  show StableHlo.after hostOps0 (fun b => m (c, b)) main_v30 = _
  after_results <;> rfl
theorem V_v32 : V m c main_v32 = hG (m ((c : Thread nD τ).loc main_arg15)) := by
  show StableHlo.after hostOps0 (fun b => m (c, b)) main_v32 = _
  after_results <;> rfl
theorem V_v34 : V m c main_v34 = hU (m ((c : Thread nD τ).loc main_arg16)) := by
  show StableHlo.after hostOps0 (fun b => m (c, b)) main_v34 = _
  after_results <;> rfl
theorem V_v36 : V m c main_v36 = hD (m ((c : Thread nD τ).loc main_arg17)) := by
  show StableHlo.after hostOps0 (fun b => m (c, b)) main_v36 = _
  after_results <;> rfl
theorem V_v37 : V m c main_v37 = hF (m ((c : Thread nD τ).loc main_arg18)) := by
  show StableHlo.after hostOps0 (fun b => m (c, b)) main_v37 = _
  after_results <;> rfl

/-! The windows' blocks. -/

theorem index_0 : ∀ t : Fin cfg0.N, win0_0.index t = ![(at15 t).val, 0] := (by decide +kernel : ∀ t : Fin grid0.N, win0_0.index t = ![(at15 t).val, 0])
theorem index_1 : ∀ t : Fin cfg0.N, win0_1.index t = ![(at15 t).val, 0] := (by decide +kernel : ∀ t : Fin grid0.N, win0_1.index t = ![(at15 t).val, 0])
theorem index_2 : ∀ t : Fin cfg0.N, win0_2.index t = ![(at15 t).val, 0] := (by decide +kernel : ∀ t : Fin grid0.N, win0_2.index t = ![(at15 t).val, 0])
theorem index_3 : ∀ t : Fin cfg0.N, win0_3.index t = ![0, 0, 0] := (by decide +kernel : ∀ t : Fin grid0.N, win0_3.index t = ![0, 0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_6 : ∀ t : Fin cfg0.N, win0_6.index t = ![0, 0, 0] := (by decide +kernel : ∀ t : Fin grid0.N, win0_6.index t = ![0, 0, 0])
theorem index_7 : ∀ t : Fin cfg0.N, win0_7.index t = ![0, 0] := (by decide +kernel : ∀ t : Fin grid0.N, win0_7.index t = ![0, 0])
theorem index_8 : ∀ t : Fin cfg0.N, win0_8.index t = ![0, 0] := (by decide +kernel : ∀ t : Fin grid0.N, win0_8.index t = ![0, 0])
theorem index_9 : ∀ t : Fin cfg0.N, win0_9.index t = ![0, 0] := (by decide +kernel : ∀ t : Fin grid0.N, win0_9.index t = ![0, 0])
theorem index_10 : ∀ t : Fin cfg0.N, win0_10.index t = ![0, 0] := (by decide +kernel : ∀ t : Fin grid0.N, win0_10.index t = ![0, 0])
theorem index_11 : ∀ t : Fin cfg0.N, win0_11.index t = ![0, 0] := (by decide +kernel : ∀ t : Fin grid0.N, win0_11.index t = ![0, 0])
theorem index_12 : ∀ t : Fin cfg0.N, win0_12.index t = ![0, 0] := (by decide +kernel : ∀ t : Fin grid0.N, win0_12.index t = ![0, 0])
theorem index_13 : ∀ t : Fin cfg0.N, win0_13.index t = ![0, 0] := (by decide +kernel : ∀ t : Fin grid0.N, win0_13.index t = ![0, 0])
theorem index_14 : ∀ t : Fin cfg0.N, win0_14.index t = ![0, 0] := (by decide +kernel : ∀ t : Fin grid0.N, win0_14.index t = ![0, 0])
theorem index_15 : ∀ t : Fin cfg0.N, win0_15.index t = ![0, 0] := (by decide +kernel : ∀ t : Fin grid0.N, win0_15.index t = ![0, 0])
theorem index_16 : ∀ t : Fin cfg0.N, win0_16.index t = ![(at15 t).val, 0] := (by decide +kernel : ∀ t : Fin grid0.N, win0_16.index t = ![(at15 t).val, 0])
theorem at15_le : ∀ t : Fin cfg0.N, (at15 t).val < 16 := (by decide +kernel : ∀ t : Fin grid0.N, (at15 t).val < 16)
theorem at15_at15 : ∀ t : Fin cfg0.N, at15 (at15 t) = at15 t := (by decide +kernel : ∀ t : Fin grid0.N, at15 (at15 t) = at15 t)

/-- Row `r` of the block at point `t` is this row of the prompt. -/
def rowOf (t : Fin cfg0.N) (r : Fin 1024) : Fin 16384 := ⟨(at15 t).val * 1024 + r.val, by have := at15_le t; omega⟩

theorem iblk_0 (t : Fin cfg0.N) (r d : Fin 1024) : (iblk m c 0 t : S1024x1024.Idx → EReal) (ix2 r d) = (V m c main_v0 : S16384x1024.Idx → EReal) (ix2 (rowOf t r) d) := by
  blk_simp [iblk]
  refine congrArg _ ?_
  blk_ext [index_0, rowOf]
theorem iblk_1 (t : Fin cfg0.N) (r : Fin 1024) (d : Fin 512) : (iblk m c 1 t : S1024x512.Idx → EReal) (ix2 r d) = (V m c main_v2 : S16384x512.Idx → EReal) (ix2 (rowOf t r) d) := by
  blk_simp [iblk]
  refine congrArg _ ?_
  blk_ext [index_1, rowOf]
theorem iblk_2 (t : Fin cfg0.N) (r : Fin 1024) (d : Fin 512) : (iblk m c 2 t : S1024x512.Idx → EReal) (ix2 r d) = (V m c main_v4 : S16384x512.Idx → EReal) (ix2 (rowOf t r) d) := by
  blk_simp [iblk]
  refine congrArg _ ?_
  blk_ext [index_2, rowOf]
theorem iblk_3 (t : Fin cfg0.N) : (iblk m c 3 t : S128x1x1024.Idx → EReal) = (V m c main_arg3 : S128x1x1024.Idx → EReal) := by
  funext y
  blk_simp [iblk]
  refine congrArg _ ?_
  blk_ext [index_3]
theorem iblk_4 (t : Fin cfg0.N) : (iblk m c 4 t : S128x512.Idx → EReal) = (V m c main_v5 : S128x512.Idx → EReal) := by
  funext y
  blk_simp [iblk]
  refine congrArg _ ?_
  blk_ext [index_4]
theorem iblk_5 (t : Fin cfg0.N) : (iblk m c 5 t : S512x128.Idx → EReal) = (V m c main_arg5 : S512x128.Idx → EReal) := by
  funext y
  blk_simp [iblk]
  refine congrArg _ ?_
  blk_ext [index_5]
theorem iblk_6 (t : Fin cfg0.N) : (iblk m c 6 t : S5x128x512.Idx → EReal) = (V m c main_v11 : S5x128x512.Idx → EReal) := by
  funext y
  blk_simp [iblk]
  refine congrArg _ ?_
  blk_ext [index_6]
theorem iblk_7 (t : Fin cfg0.N) : (iblk m c 7 t : S1x512.Idx → EReal) = (V m c main_v13 : S1x512.Idx → EReal) := by
  funext y
  blk_simp [iblk]
  refine congrArg _ ?_
  blk_ext [index_7]
theorem iblk_8 (t : Fin cfg0.N) : (iblk m c 8 t : S1x512.Idx → EReal) = (V m c main_v15 : S1x512.Idx → EReal) := by
  funext y
  blk_simp [iblk]
  refine congrArg _ ?_
  blk_ext [index_8]
theorem iblk_9 (t : Fin cfg0.N) : (iblk m c 9 t : S1x512.Idx → EReal) = (V m c main_v17 : S1x512.Idx → EReal) := by
  funext y
  blk_simp [iblk]
  refine congrArg _ ?_
  blk_ext [index_9]
theorem iblk_10 (t : Fin cfg0.N) : (iblk m c 10 t : S256x256.Idx → EReal) = (V m c main_v28 : S256x256.Idx → EReal) := by
  funext y
  blk_simp [iblk]
  refine congrArg _ ?_
  blk_ext [index_10]
theorem iblk_11 (t : Fin cfg0.N) : (iblk m c 11 t : S1024x1024.Idx → EReal) = (V m c main_v30 : S1024x1024.Idx → EReal) := by
  funext y
  blk_simp [iblk]
  refine congrArg _ ?_
  blk_ext [index_11]
theorem iblk_12 (t : Fin cfg0.N) : (iblk m c 12 t : S1x1024.Idx → EReal) = (V m c main_v32 : S1x1024.Idx → EReal) := by
  funext y
  blk_simp [iblk]
  refine congrArg _ ?_
  blk_ext [index_12]
theorem iblk_13 (t : Fin cfg0.N) : (iblk m c 13 t : S1024x4096.Idx → EReal) = (V m c main_v34 : S1024x4096.Idx → EReal) := by
  funext y
  blk_simp [iblk]
  refine congrArg _ ?_
  blk_ext [index_13]
theorem iblk_14 (t : Fin cfg0.N) : (iblk m c 14 t : S4096x1024.Idx → EReal) = (V m c main_v36 : S4096x1024.Idx → EReal) := by
  funext y
  blk_simp [iblk]
  refine congrArg _ ?_
  blk_ext [index_14]
theorem iblk_15 (t : Fin cfg0.N) : (iblk m c 15 t : S1x1024.Idx → EReal) = (V m c main_v37 : S1x1024.Idx → EReal) := by
  funext y
  blk_simp [iblk]
  refine congrArg _ ?_
  blk_ext [index_15]

end Cert.Kernel2Ideal.Mlp

end
-- ==== Proof.MlpEnd.lean ====
/- The output projection and MLP call's two results, over the call's arguments. -/
module

public import proofs.«01_k».proof.Proof.MlpHost

@[expose] public section

set_option maxRecDepth 16384

noncomputable section

namespace Cert.Mlp

open Idealize.ShloMosaic Idealize.ShloMosaic.Tactic

/-- The prompt's result at batch `b`, row `r`, channel `d`, over the arguments. -/
def yOut (x : (⟨3, ![8, 2048, 1024]⟩ : Shape).Idx → EReal) (p q : (⟨3, ![8, 2048, 512]⟩ : Shape).Idx → EReal) (w : (⟨3, ![1, 1024, 1024]⟩ : Shape).Idx → EReal)
    (g : (⟨2, ![1, 1024]⟩ : Shape).Idx → EReal) (wu : (⟨3, ![1, 1024, 4096]⟩ : Shape).Idx → EReal) (wd : (⟨3, ![1, 4096, 1024]⟩ : Shape).Idx → EReal)
    (gf : (⟨1, ![1024]⟩ : Shape).Idx → EReal) (b : Fin 8) (r : Fin 2048) (d : Fin 1024) : EReal :=
  out (fun d => x (ix3 b r d)) (fun j => p (ix3 b r j)) (fun j => q (ix3 b r j)) (fun j d => w (ix3 (0 : Fin 1) j d)) (fun j => g (ix2 (0 : Fin 1) j))
    (fun j d => wu (ix3 (0 : Fin 1) j d)) (fun j d => wd (ix3 (0 : Fin 1) j d)) (fun j => gf (ix1 j)) d

/-- The sampled tokens' result at token `n`, channel `d`, over the arguments. -/
def sOut (xs : (⟨3, ![128, 1, 1024]⟩ : Shape).Idx → EReal) (po : (⟨2, ![128, 512]⟩ : Shape).Idx → EReal) (y0 : (⟨2, ![512, 128]⟩ : Shape).Idx → EReal)
    (yv r k v gt : (⟨2, ![128, 512]⟩ : Shape).Idx → EReal) (rk : (⟨3, ![1, 8, 64]⟩ : Shape).Idx → EReal) (lg lb : (⟨2, ![1, 512]⟩ : Shape).Idx → EReal)
    (w : (⟨3, ![1, 1024, 1024]⟩ : Shape).Idx → EReal)
    (g : (⟨2, ![1, 1024]⟩ : Shape).Idx → EReal) (wu : (⟨3, ![1, 1024, 4096]⟩ : Shape).Idx → EReal) (wd : (⟨3, ![1, 4096, 1024]⟩ : Shape).Idx → EReal)
    (gf : (⟨1, ![1024]⟩ : Shape).Idx → EReal) (n : Fin 128) (d : Fin 1024) : EReal :=
  out (fun d => xs (ix3 n (0 : Fin 1) d)) (fun j => po (ix2 n j))
    (rwkv (fun f => y0 (ix2 f n) + yv (ix2 n f)) (fun f => r (ix2 n f)) (fun f => k (ix2 n f)) (fun f => v (ix2 n f)) (fun f => gt (ix2 n f))
      (fun j => rk (ix3 (0 : Fin 1) (⟨j.val / 64, by omega⟩ : Fin 8) (⟨j.val % 64, by omega⟩ : Fin 64))) (fun j => lg (ix2 (0 : Fin 1) j)) (fun j => lb (ix2 (0 : Fin 1) j)))
    (fun j d => w (ix3 (0 : Fin 1) j d)) (fun j => g (ix2 (0 : Fin 1) j))
    (fun j d => wu (ix3 (0 : Fin 1) j d)) (fun j d => wd (ix3 (0 : Fin 1) j d)) (fun j => gf (ix1 j)) d

end Cert.Mlp

namespace Cert.Kernel2Ideal.Mlp

open Cert.Kernel2Ideal Cert.Kernel2Ideal.Gen Cert.Mlp
open Idealize.ShloMosaic Idealize.ShloMosaic.TcCoe Idealize.ShloMosaic.Tactic Idealize.SL.Sem

variable (m : (ℓ : Loc nD τ sig) → Buf (Elt Ideal) ℓ) (c : Dev nD)

/-- The prompt's result, row by row; -/
def resY : Buf (Elt Ideal) ((c : Thread nD τ).loc main_v38_0) := (fun i => yOut (m ((c : Thread nD τ).loc main_arg0)) (m ((c : Thread nD τ).loc main_arg1))
  (m ((c : Thread nD τ).loc main_arg2)) (m ((c : Thread nD τ).loc main_arg14)) (m ((c : Thread nD τ).loc main_arg15)) (m ((c : Thread nD τ).loc main_arg16))
  (m ((c : Thread nD τ).loc main_arg17)) (m ((c : Thread nD τ).loc main_arg18)) (bat (i 0)) (row (i 0)) (i 1) : S16384x1024.Idx → EReal)
/-- the sampled tokens'. -/
def resS : Buf (Elt Ideal) ((c : Thread nD τ).loc main_v38_1) := (fun i => sOut (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11)) (m ((c : Thread nD τ).loc main_arg12))
  (m ((c : Thread nD τ).loc main_arg13)) (m ((c : Thread nD τ).loc main_arg14)) (m ((c : Thread nD τ).loc main_arg15)) (m ((c : Thread nD τ).loc main_arg16))
  (m ((c : Thread nD τ).loc main_arg17)) (m ((c : Thread nD τ).loc main_arg18)) (i 0) (i 2) : S128x1x1024.Idx → EReal)

theorem rowOf_at15 (t : Fin cfg0.N) (r : Fin 1024) : rowOf (at15 t) r = rowOf t r := Fin.ext (by
  show (at15 (at15 t)).val * 1024 + r.val = (at15 t).val * 1024 + r.val
  rw [at15_at15])

theorem yAt_at (t : Fin cfg0.N) (r d : Fin 1024) : yAt m c (at15 t) (ix2 r d) = (resY m c : S16384x1024.Idx → EReal) (ix2 (rowOf t r) d) := by
  unfold yAt
  have e0 : ent (iblk m c 0 (at15 t) : S1024x1024.Idx → EReal) r = fun d => (m ((c : Thread nD τ).loc main_arg0) : S8x2048x1024.Idx → EReal) (ix3 (bat (rowOf t r)) (row (rowOf t r)) d) := by
    funext d
    refine (iblk_0 m c (at15 t) r d).trans ?_
    rw [rowOf_at15, V_v0]
    exact hX_at _ _ _
  have e1 : ent (iblk m c 1 (at15 t) : S1024x512.Idx → EReal) r = fun d => (m ((c : Thread nD τ).loc main_arg1) : S8x2048x512.Idx → EReal) (ix3 (bat (rowOf t r)) (row (rowOf t r)) d) := by
    funext d
    refine (iblk_1 m c (at15 t) r d).trans ?_
    rw [rowOf_at15, V_v2]
    exact hP_at _ _ _
  have e2 : ent (iblk m c 2 (at15 t) : S1024x512.Idx → EReal) r = fun d => (m ((c : Thread nD τ).loc main_arg2) : S8x2048x512.Idx → EReal) (ix3 (bat (rowOf t r)) (row (rowOf t r)) d) := by
    funext d
    refine (iblk_2 m c (at15 t) r d).trans ?_
    rw [rowOf_at15, V_v4]
    exact hP_at _ _ _
  refine (rowOut_at _ _ _ _ _ _ _ _ r d).trans ?_
  rw [e0, e1, e2, iblk_11, iblk_12, iblk_13, iblk_14, iblk_15, V_v30, V_v32, V_v34, V_v36, V_v37]
  have f11 : ent (hW (m ((c : Thread nD τ).loc main_arg14))) = fun j d => (m ((c : Thread nD τ).loc main_arg14) : S1x1024x1024.Idx → EReal) (ix3 (0 : Fin 1) j d) :=
    funext fun j => funext fun d => hW_at _ j d
  have f12 : ent (hG (m ((c : Thread nD τ).loc main_arg15))) 0 = fun j => (m ((c : Thread nD τ).loc main_arg15) : S1x1024.Idx → EReal) (ix2 (0 : Fin 1) j) :=
    funext fun j => hG_at _ j
  have f13 : ent (hU (m ((c : Thread nD τ).loc main_arg16))) = fun j d => (m ((c : Thread nD τ).loc main_arg16) : S1x1024x4096.Idx → EReal) (ix3 (0 : Fin 1) j d) :=
    funext fun j => funext fun d => hU_at _ j d
  have f14 : ent (hD (m ((c : Thread nD τ).loc main_arg17))) = fun j d => (m ((c : Thread nD τ).loc main_arg17) : S1x4096x1024.Idx → EReal) (ix3 (0 : Fin 1) j d) :=
    funext fun j => funext fun d => hD_at _ j d
  have f15 : ent (hF (m ((c : Thread nD τ).loc main_arg18))) 0 = fun j => (m ((c : Thread nD τ).loc main_arg18) : S1024.Idx → EReal) (ix1 j) :=
    funext fun j => hF_at _ j
  rw [f11, f12, f13, f14, f15]
  rfl

theorem sAt_at (t : Fin cfg0.N) (n : Fin 128) (d : Fin 1024) : sAt m c t (ix3 n (0 : Fin 1) d) = (resS m c : S128x1x1024.Idx → EReal) (ix3 n (0 : Fin 1) d) := by
  unfold sAt
  rw [iblk_3, iblk_4, iblk_5, iblk_6, iblk_7, iblk_8, iblk_9, iblk_10, iblk_11, iblk_12, iblk_13, iblk_14, iblk_15,
    V_v5, V_v11, V_v13, V_v15, V_v17, V_v28, V_v30, V_v32, V_v34, V_v36, V_v37, V_main_arg3, V_main_arg5]
  refine (tokOut_at _ _ _ _ _ _ _ _ _ _ _ _ _ hOnes_at n d).trans ?_
  have v := hVec_at (m ((c : Thread nD τ).loc main_arg6)) (m ((c : Thread nD τ).loc main_arg7)) (m ((c : Thread nD τ).loc main_arg8))
    (m ((c : Thread nD τ).loc main_arg9)) (m ((c : Thread nD τ).loc main_arg10)) n
  have f7 : ent (hRk (m ((c : Thread nD τ).loc main_arg11))) 0 = fun j => (m ((c : Thread nD τ).loc main_arg11) : S1x8x64.Idx → EReal)
      (ix3 (0 : Fin 1) (⟨j.val / 64, by omega⟩ : Fin 8) (⟨j.val % 64, by omega⟩ : Fin 64)) :=
    funext fun j => hRk_at _ j
  have f8 : ent (hLn (m ((c : Thread nD τ).loc main_arg12))) 0 = fun j => (m ((c : Thread nD τ).loc main_arg12) : S1x512.Idx → EReal) (ix2 (0 : Fin 1) j) :=
    funext fun j => hLn_at _ j
  have f9 : ent (hLn (m ((c : Thread nD τ).loc main_arg13))) 0 = fun j => (m ((c : Thread nD τ).loc main_arg13) : S1x512.Idx → EReal) (ix2 (0 : Fin 1) j) :=
    funext fun j => hLn_at _ j
  have f11 : ent (hW (m ((c : Thread nD τ).loc main_arg14))) = fun j d => (m ((c : Thread nD τ).loc main_arg14) : S1x1024x1024.Idx → EReal) (ix3 (0 : Fin 1) j d) :=
    funext fun j => funext fun d => hW_at _ j d
  have f12 : ent (hG (m ((c : Thread nD τ).loc main_arg15))) 0 = fun j => (m ((c : Thread nD τ).loc main_arg15) : S1x1024.Idx → EReal) (ix2 (0 : Fin 1) j) :=
    funext fun j => hG_at _ j
  have f13 : ent (hU (m ((c : Thread nD τ).loc main_arg16))) = fun j d => (m ((c : Thread nD τ).loc main_arg16) : S1x1024x4096.Idx → EReal) (ix3 (0 : Fin 1) j d) :=
    funext fun j => funext fun d => hU_at _ j d
  have f14 : ent (hD (m ((c : Thread nD τ).loc main_arg17))) = fun j d => (m ((c : Thread nD τ).loc main_arg17) : S1x4096x1024.Idx → EReal) (ix3 (0 : Fin 1) j d) :=
    funext fun j => funext fun d => hD_at _ j d
  have f15 : ent (hF (m ((c : Thread nD τ).loc main_arg18))) 0 = fun j => (m ((c : Thread nD τ).loc main_arg18) : S1024.Idx → EReal) (ix1 j) :=
    funext fun j => hF_at _ j
  rw [f7, f8, f9, f11, f12, f13, f14, f15, funext fun f => (v f).2.1, funext fun f => (v f).2.2.1, funext fun f => (v f).2.2.2.1, funext fun f => (v f).2.2.2.2]
  simp only [(v _).1]
  rfl

theorem final_y : (dats m 0 c).arrAt 16 cfg0.N = resY m c := by
  refine (dats m 0 c).arrAt_eq_of_covers 16 _ (by decide +kernel) fun t _ y => ?_
  blk_simp
  rw [after_16]
  obtain ⟨r, d, rfl⟩ : ∃ r d : Fin 1024, y = ix2 r d := ⟨_, _, eq_ix2 y⟩
  refine (yAt_at m c t r d).trans (congrArg (resY m c : S16384x1024.Idx → EReal) ?_)
  blk_ext [index_16, rowOf]

theorem final_s : (dats m 0 c).arrAt 17 cfg0.N = resS m c := by
  refine (dats m 0 c).arrAt_eq_of_after_last 17 ⟨16, by decide⟩ (by decide +kernel) _ fun y => ?_
  blk_simp
  refine (congrFun (after_17 m c _) _).trans ?_
  obtain ⟨n, z, d, rfl⟩ : ∃ (n : Fin 128) (z : Fin 1) (d : Fin 1024), y = ix3 n z d := ⟨_, _, _, eq_ix3 y⟩
  obtain rfl : z = 0 := Subsingleton.elim _ _
  exact sAt_at m c _ n d

end Cert.Kernel2Ideal.Mlp

end
-- ==== Proof.MlpRef.lean ====
/- The reference of the output projection and MLP call, at an element. -/
module

public import proofs.«01_k».proof.Proof.MlpEnd
public import proofs.«01_k».proof.Proof.Gen.Reference2Ideal.Run

@[expose] public section

set_option maxRecDepth 16384

noncomputable section

namespace Cert.Reference2Ideal.Mlp

open Cert.Reference2Ideal Cert.Reference2Ideal.Gen Cert.Reference2Ideal.Value Cert.Mlp
open Idealize.ShloMosaic Idealize.ShloMosaic.TcCoe Idealize.ShloMosaic.Tactic Idealize.ShloMosaic.StableHlo Idealize.SL.Sem

variable (V0 : Valuation τ sig (Elt Ideal))

/-- A gain without its leading axis. -/
def gain (g : FVec Ideal S1x1024 .f32) : FVec Ideal S1024 .f32 := shapeCast _ g shapeCasts_S1x1024_S1024
theorem gain_at (g : FVec Ideal S1x1024 .f32) (j : Fin 1024) : gain g (ix1 j) = g (ix2 (0 : Fin 1) j) := by
  pointwise [gain]

section Prompt

variable (x : FVec Ideal S8x2048x1024 .f32) (p q : FVec Ideal S8x2048x512 .f32) (w : FVec Ideal S1x1024x1024 .f32) (g : FVec Ideal S1x1024 .f32)
  (wu : FVec Ideal S1x1024x4096 .f32) (wd : FVec Ideal S1x4096x1024 .f32) (gf : FVec Ideal S1024 .f32) (b : Fin 8) (r : Fin 2048)

/-- The residual stream after the projection, -/
def rX : FVec Ideal S8x2048x1024 .f32 :=
  addf x (Host.dotGeneral dot_S8x2048x1024_S1024x1024_S8x2048x1024_2_0_01_1_n_n none (concatenate S8x2048x1024 2 [⟨S8x2048x512, p⟩, ⟨S8x2048x512, q⟩]
    concatenates_S8x2048x512_S8x2048x512_S8x2048x1024_d2) (shapeCast _ w shapeCasts_S1x1024x1024_S1024x1024))
theorem rX_at (d : Fin 1024) : rX x p q w (ix3 b r d)
    = mix (fun d => x (ix3 b r d)) (fun j => p (ix3 b r j)) (fun j => q (ix3 b r j)) (fun j d => w (ix3 (0 : Fin 1) j d)) d := by
  pointwise [rX]
  rfl

/-- normalized by its root mean square, -/
def rN (u : FVec Ideal S8x2048x1024 .f32) (v : FVec Ideal S1024 .f32) : FVec Ideal S8x2048x1024 .f32 :=
  mulf (mulf u (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf u u) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 v))
theorem rN_at (u : FVec Ideal S8x2048x1024 .f32) (v : FVec Ideal S1024 .f32) (d : Fin 1024) : rN u v (ix3 b r d) = rmsn (fun d => u (ix3 b r d)) (fun j => v (ix1 j)) d := by
  pointwise [rN, rmsn]
/-- the hidden channels, -/
def rH (u : FVec Ideal S8x2048x1024 .f32) : FVec Ideal S8x2048x4096 .f32 :=
  maximumf (Host.dotGeneral dot_S8x2048x1024_S1024x4096_S8x2048x4096_2_0_01_1_n_n none u (shapeCast _ wu shapeCasts_S1x1024x4096_S1024x4096)) (broadcastInDim S8x2048x4096 ![] bcast_S_S8x2048x4096 (constant S_ .f32 0x00000000#32))
theorem rH_at (u : FVec Ideal S8x2048x1024 .f32) (j : Fin 4096) : rH wu u (ix3 b r j) = hid (fun d => u (ix3 b r d)) (fun j d => wu (ix3 (0 : Fin 1) j d)) j := by
  pointwise [rH, hid]
/-- and the stream after the block. -/
def rO (u : FVec Ideal S8x2048x1024 .f32) (h : FVec Ideal S8x2048x4096 .f32) : FVec Ideal S8x2048x1024 .f32 :=
  addf u (Host.dotGeneral dot_S8x2048x4096_S4096x1024_S8x2048x1024_2_0_01_1_n_n none (mulf h h) (shapeCast _ wd shapeCasts_S1x4096x1024_S4096x1024))
theorem rO_at (u : FVec Ideal S8x2048x1024 .f32) (h : FVec Ideal S8x2048x4096 .f32) (d : Fin 1024) :
    rO wd u h (ix3 b r d) = u (ix3 b r d) + ∑ j : Fin 4096, h (ix3 b r j) * h (ix3 b r j) * wd (ix3 (0 : Fin 1) j d) := by
  pointwise [rO]

/-- The prompt's result. -/
def rY : FVec Ideal S16384x1024 .f32 :=
  shapeCast _ (rN (rO wd (rX x p q w) (rH wu (rN (rX x p q w) (gain g)))) gf) shapeCasts_S8x2048x1024_S16384x1024

theorem rY_at (R : Fin 16384) (d : Fin 1024) : rY x p q w g wu wd gf (ix2 R d)
    = yOut x p q w g wu wd gf (Cert.Kernel2Ideal.Mlp.bat R) (Cert.Kernel2Ideal.Mlp.row R) d := by
  have h : rY x p q w g wu wd gf (ix2 R d) = rN (rO wd (rX x p q w) (rH wu (rN (rX x p q w) (gain g)))) gf
      (ix3 (Cert.Kernel2Ideal.Mlp.bat R) (Cert.Kernel2Ideal.Mlp.row R) d) := by
    pointwise [rY]
    rfl
  rw [h]
  simp only [rN_at, rO_at, rH_at, rX_at, gain_at]
  rfl

end Prompt

section Sample

variable (xs : FVec Ideal S128x1x1024 .f32) (po : FVec Ideal S128x512 .f32) (y0 : FVec Ideal S512x128 .f32) (yv r k v gt : FVec Ideal S128x512 .f32)
  (rk : FVec Ideal S1x8x64 .f32) (lg lb : FVec Ideal S1x512 .f32) (w : FVec Ideal S1x1024x1024 .f32) (g : FVec Ideal S1x1024 .f32)
  (wu : FVec Ideal S1x1024x4096 .f32) (wd : FVec Ideal S1x4096x1024 .f32) (gf : FVec Ideal S1024 .f32) (n : Fin 128)

/-- The recurrence's output, in heads, -/
def sHeads : FVec Ideal S128x1x8x64 .f32 := shapeCast S128x1x8x64 (addf (transpose S128x512 [1, 0] y0 transposes_S512x128_S128x512_1_0) yv) shapeCasts_S128x512_S128x1x8x64
/-- each head's mean, -/
def sMean (u : FVec Ideal S128x1x8x64 .f32) : FVec Ideal S128x1x8x1 .f32 :=
  Host.divf (broadcastInDim S128x1x8x1 ![0, 1, 2] bcast_S128x1x8_S128x1x8x1_0_1_2 (Host.reduceAdd u (constant S_ .f32 0x00000000#32) reducesTo_S128x1x8x64_S128x1x8_d3 h_S_)) (broadcastInDim S128x1x8x1 ![] bcast_S_S128x1x8x1 (constant S_ .f32 0x42800000#32))
/-- less its mean, -/
def sCent (u : FVec Ideal S128x1x8x64 .f32) : FVec Ideal S128x1x8x64 .f32 :=
  subf u (broadcastInDim S128x1x8x64 ![0, 1, 2, 3] bcast_S128x1x8x1_S128x1x8x64_0_1_2_3 (sMean u))
/-- over its deviation, -/
def sNorm (u : FVec Ideal S128x1x8x64 .f32) : FVec Ideal S128x1x512 .f32 :=
  shapeCast S128x1x512 (mulf (subf u (broadcastInDim S128x1x8x64 ![0, 1, 2, 3] bcast_S128x1x8x1_S128x1x8x64_0_1_2_3 (sMean u))) (broadcastInDim S128x1x8x64 ![0, 1, 2, 3] bcast_S128x1x8x1_S128x1x8x64_0_1_2_3 (Host.rsqrt (addf (sMean (mulf (sCent u) (sCent u))) (broadcastInDim S128x1x8x1 ![] bcast_S_S128x1x8x1 (constant S_ .f32 0x3A27C5AC#32)))))) shapeCasts_S128x1x8x64_S128x1x512
/-- the bonus, -/
def sBonus : FVec Ideal S128x1x512 .f32 :=
  shapeCast S128x1x512 (mulf (broadcastInDim S128x1x8x64 ![0, 1, 2, 3] bcast_S128x1x8x1_S128x1x8x64_0_1_2_3 (broadcastInDim S128x1x8x1 ![0, 1, 2] bcast_S128x1x8_S128x1x8x1_0_1_2 (Host.reduceAdd (mulf (mulf (shapeCast S128x1x8x64 r shapeCasts_S128x512_S128x1x8x64) (shapeCast S128x1x8x64 k shapeCasts_S128x512_S128x1x8x64)) (broadcastInDim S128x1x8x64 ![0, 1, 2, 3] bcast_S1x1x8x64_S128x1x8x64_0_1_2_3 (broadcastInDim S1x1x8x64 ![2, 3] bcast_S8x64_S1x1x8x64_2_3 (shapeCast S8x64 rk shapeCasts_S1x8x64_S8x64)))) (constant S_ .f32 0x00000000#32) reducesTo_S128x1x8x64_S128x1x8_d3 h_S_))) (shapeCast S128x1x8x64 v shapeCasts_S128x512_S128x1x8x64)) shapeCasts_S128x1x8x64_S128x1x512
/-- the gated output. -/
def sRwkv : FVec Ideal S128x1x512 .f32 :=
  mulf (addf (addf (mulf (sNorm (sHeads y0 yv)) (broadcastInDim S128x1x512 ![0, 1, 2] bcast_S1x1x512_S128x1x512_0_1_2 (broadcastInDim S1x1x512 ![2] bcast_S512_S1x1x512_2 (shapeCast S512 lg shapeCasts_S1x512_S512)))) (broadcastInDim S128x1x512 ![0, 1, 2] bcast_S1x1x512_S128x1x512_0_1_2 (broadcastInDim S1x1x512 ![2] bcast_S512_S1x1x512_2 (shapeCast S512 lb shapeCasts_S1x512_S512)))) (sBonus r k v rk)) (broadcastInDim S128x1x512 ![0, 2] bcast_S128x512_S128x1x512_0_2 gt)

theorem sHeads_at (f : Fin 512) (l : Fin 64) : sHeads y0 yv (ix4 n (0 : Fin 1) (⟨f.val / 64, by omega⟩ : Fin 8) l) = y0 (ix2 (head f l) n) + yv (ix2 n (head f l)) := by
  pointwise [sHeads]
  rfl
theorem sMean_at (u : FVec Ideal S128x1x8x64 .f32) (h : Fin 8) :
    sMean u (ix4 n (0 : Fin 1) h (0 : Fin 1)) = (∑ l : Fin 64, u (ix4 n (0 : Fin 1) h l)) * Ideal.ofBits FTy.f32 0x3C800000#32 := by
  pointwise [sMean]
  exact div_64 _
theorem sCent_at (u : FVec Ideal S128x1x8x64 .f32) (h : Fin 8) (l : Fin 64) :
    sCent u (ix4 n (0 : Fin 1) h l) = u (ix4 n (0 : Fin 1) h l) - (∑ l : Fin 64, u (ix4 n (0 : Fin 1) h l)) * Ideal.ofBits FTy.f32 0x3C800000#32 := by
  pointwise [sCent]
  rw [sMean_at]
theorem sNorm_at (u : FVec Ideal S128x1x8x64 .f32) (f : Fin 512) :
    sNorm u (ix3 n (0 : Fin 1) f) = sCent u (ix4 n (0 : Fin 1) (⟨f.val / 64, by omega⟩ : Fin 8) (⟨f.val % 64, by omega⟩ : Fin 64))
      * Ideal.rsqrt ((∑ l : Fin 64, sCent u (ix4 n (0 : Fin 1) (⟨f.val / 64, by omega⟩ : Fin 8) l) * sCent u (ix4 n (0 : Fin 1) (⟨f.val / 64, by omega⟩ : Fin 8) l))
        * Ideal.ofBits FTy.f32 0x3C800000#32 + Ideal.ofBits FTy.f32 0x3A27C5AC#32) := by
  pointwise [sNorm]
  rw [sMean_at, sMean_at, ← sCent_at]
  rfl
theorem sBonus_at (f : Fin 512) : sBonus r k v rk (ix3 n (0 : Fin 1) f)
    = headSum (fun j => r (ix2 n j) * k (ix2 n j) * rk (ix3 (0 : Fin 1) (⟨j.val / 64, by omega⟩ : Fin 8) (⟨j.val % 64, by omega⟩ : Fin 64))) f * v (ix2 n f) := by
  pointwise [sBonus]
  refine congrArg (· * _) (Finset.sum_congr rfl fun l _ => ?_)
  show _ = _ * _ * rk (ix3 (0 : Fin 1) (⟨(f.val / 64 * 64 + l.val) / 64, by omega⟩ : Fin 8) (⟨(f.val / 64 * 64 + l.val) % 64, by omega⟩ : Fin 64))
  rw [show (⟨(f.val / 64 * 64 + l.val) / 64, by omega⟩ : Fin 8) = ⟨f.val / 64, by omega⟩ from Fin.ext (by simp only; omega),
    show (⟨(f.val / 64 * 64 + l.val) % 64, by omega⟩ : Fin 64) = l from Fin.ext (by simp only; omega)]
  rfl
theorem sRwkv_at (f : Fin 512) : sRwkv y0 yv r k v gt rk lg lb (ix3 n (0 : Fin 1) f)
    = rwkv (fun f => y0 (ix2 f n) + yv (ix2 n f)) (fun f => r (ix2 n f)) (fun f => k (ix2 n f)) (fun f => v (ix2 n f)) (fun f => gt (ix2 n f))
      (fun j => rk (ix3 (0 : Fin 1) (⟨j.val / 64, by omega⟩ : Fin 8) (⟨j.val % 64, by omega⟩ : Fin 64))) (fun j => lg (ix2 (0 : Fin 1) j)) (fun j => lb (ix2 (0 : Fin 1) j)) f := by
  pointwise [sRwkv]
  have hv : ∀ y : Fin 512 → EReal, headSum (fun j => cent y j * cent y j) f = ∑ l : Fin 64, (y (head f l) - (∑ l : Fin 64, y (head f l)) * Ideal.ofBits FTy.f32 0x3C800000#32)
      * (y (head f l) - (∑ l : Fin 64, y (head f l)) * Ideal.ofBits FTy.f32 0x3C800000#32) := by
    intro y
    refine Finset.sum_congr rfl fun l _ => ?_
    show cent y (head f l) * cent y (head f l) = _
    unfold cent
    rw [headSum_head]
    rfl
  have hf : head f ⟨f.val % 64, by omega⟩ = f := Fin.ext (by show f.val / 64 * 64 + f.val % 64 = f.val; omega)
  rw [sNorm_at, sBonus_at]
  simp only [sCent_at, sHeads_at, hf]
  unfold rwkv
  rw [hv]
  rfl

/-- The residual stream after the projection, -/
def sX (u : FVec Ideal S128x1x512 .f32) : FVec Ideal S128x1x1024 .f32 :=
  addf xs (Host.dotGeneral dot_S128x1x1024_S1024x1024_S128x1x1024_2_0_01_1_n_n none (concatenate S128x1x1024 2 [⟨S128x1x512, (broadcastInDim S128x1x512 ![0, 2] bcast_S128x512_S128x1x512_0_2 po)⟩, ⟨S128x1x512, u⟩] concatenates_S128x1x512_S128x1x512_S128x1x1024_d2) (shapeCast _ w shapeCasts_S1x1024x1024_S1024x1024))
theorem sX_at (u : FVec Ideal S128x1x512 .f32) (d : Fin 1024) : sX xs po w u (ix3 n (0 : Fin 1) d)
    = mix (fun d => xs (ix3 n (0 : Fin 1) d)) (fun j => po (ix2 n j)) (fun j => u (ix3 n (0 : Fin 1) j)) (fun j d => w (ix3 (0 : Fin 1) j d)) d := by
  pointwise [sX]
  rfl
/-- normalized by its root mean square, -/
def sN (u : FVec Ideal S128x1x1024 .f32) (v : FVec Ideal S1024 .f32) : FVec Ideal S128x1x1024 .f32 :=
  mulf (mulf u (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf u u) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 v))
theorem sN_at (u : FVec Ideal S128x1x1024 .f32) (v : FVec Ideal S1024 .f32) (d : Fin 1024) : sN u v (ix3 n (0 : Fin 1) d) = rmsn (fun d => u (ix3 n (0 : Fin 1) d)) (fun j => v (ix1 j)) d := by
  pointwise [sN, rmsn]
/-- the hidden channels, -/
def sH (u : FVec Ideal S128x1x1024 .f32) : FVec Ideal S128x1x4096 .f32 :=
  maximumf (Host.dotGeneral dot_S128x1x1024_S1024x4096_S128x1x4096_2_0_01_1_n_n none u (shapeCast _ wu shapeCasts_S1x1024x4096_S1024x4096)) (broadcastInDim S128x1x4096 ![] bcast_S_S128x1x4096 (constant S_ .f32 0x00000000#32))
theorem sH_at (u : FVec Ideal S128x1x1024 .f32) (j : Fin 4096) : sH wu u (ix3 n (0 : Fin 1) j) = hid (fun d => u (ix3 n (0 : Fin 1) d)) (fun j d => wu (ix3 (0 : Fin 1) j d)) j := by
  pointwise [sH, hid]
/-- and the stream after the block. -/
def sO (u : FVec Ideal S128x1x1024 .f32) (h : FVec Ideal S128x1x4096 .f32) : FVec Ideal S128x1x1024 .f32 :=
  addf u (Host.dotGeneral dot_S128x1x4096_S4096x1024_S128x1x1024_2_0_01_1_n_n none (mulf h h) (shapeCast _ wd shapeCasts_S1x4096x1024_S4096x1024))
theorem sO_at (u : FVec Ideal S128x1x1024 .f32) (h : FVec Ideal S128x1x4096 .f32) (d : Fin 1024) :
    sO wd u h (ix3 n (0 : Fin 1) d) = u (ix3 n (0 : Fin 1) d) + ∑ j : Fin 4096, h (ix3 n (0 : Fin 1) j) * h (ix3 n (0 : Fin 1) j) * wd (ix3 (0 : Fin 1) j d) := by
  pointwise [sO]

/-- The sampled tokens' result. -/
def sY : FVec Ideal S128x1x1024 .f32 :=
  sN (sO wd (sX xs po w (sRwkv y0 yv r k v gt rk lg lb)) (sH wu (sN (sX xs po w (sRwkv y0 yv r k v gt rk lg lb)) (gain g)))) gf
theorem sY_at (d : Fin 1024) : sY xs po y0 yv r k v gt rk lg lb w g wu wd gf (ix3 n (0 : Fin 1) d) = sOut xs po y0 yv r k v gt rk lg lb w g wu wd gf n d := by
  unfold sY
  simp only [sN_at, sO_at, sH_at, sX_at, sRwkv_at, gain_at]
  rfl

end Sample

theorem v84_eq : (shapeCast _ (rN (res_main_v70 V0) (V0 (Proc.devRef .tc main_arg18))) shapeCasts_S8x2048x1024_S16384x1024 : FVec Ideal S16384x1024 .f32)
    = rY (V0 (Proc.devRef .tc main_arg0)) (V0 (Proc.devRef .tc main_arg1)) (V0 (Proc.devRef .tc main_arg2)) (V0 (Proc.devRef .tc main_arg14)) (V0 (Proc.devRef .tc main_arg15))
      (V0 (Proc.devRef .tc main_arg16)) (V0 (Proc.devRef .tc main_arg17)) (V0 (Proc.devRef .tc main_arg18)) := rfl
theorem v123_eq : sN (res_main_v110 V0) (V0 (Proc.devRef .tc main_arg18))
    = sY (V0 (Proc.devRef .tc main_arg3)) (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) (V0 (Proc.devRef .tc main_arg11)) (V0 (Proc.devRef .tc main_arg12))
      (V0 (Proc.devRef .tc main_arg13)) (V0 (Proc.devRef .tc main_arg14)) (V0 (Proc.devRef .tc main_arg15))
      (V0 (Proc.devRef .tc main_arg16)) (V0 (Proc.devRef .tc main_arg17)) (V0 (Proc.devRef .tc main_arg18)) := rfl

variable (m : (ℓ : Loc nD τ sig) → Buf (Elt Ideal) ℓ) (c : Dev nD)

/-- The reference's first result is the prompt's formula of the arguments, -/
theorem resY_eq : (shapeCast _ (rN (res_main_v70 (launchContents m c)) (launchContents m c (Proc.devRef .tc main_arg18))) shapeCasts_S8x2048x1024_S16384x1024 : FVec Ideal S16384x1024 .f32)
    = fun i => yOut (m ((c.tc : Thread nD τ).loc main_arg0)) (m ((c.tc : Thread nD τ).loc main_arg1)) (m ((c.tc : Thread nD τ).loc main_arg2)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
        (Cert.Kernel2Ideal.Mlp.bat (i 0)) (Cert.Kernel2Ideal.Mlp.row (i 0)) (i 1) := by
  rw [v84_eq]
  funext i
  obtain ⟨R, d, rfl⟩ : ∃ (R : Fin 16384) (d : Fin 1024), i = ix2 R d := ⟨_, _, eq_ix2 i⟩
  exact rY_at _ _ _ _ _ _ _ _ R d
/-- its second the sampled tokens'. -/
theorem resS_eq : sN (res_main_v110 (launchContents m c)) (launchContents m c (Proc.devRef .tc main_arg18))
    = fun i => sOut (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
        (i 0) (i 2) := by
  rw [v123_eq]
  funext i
  obtain ⟨n, z, d, rfl⟩ : ∃ (n : Fin 128) (z : Fin 1) (d : Fin 1024), i = ix3 n z d := ⟨_, _, _, eq_ix3 i⟩
  obtain rfl : z = 0 := Subsingleton.elim _ _
  exact sY_at _ _ _ _ _ _ _ _ _ _ _ _ _ _ _ _ n d

end Cert.Reference2Ideal.Mlp

end
-- ==== Proof.PoolBody.lean ====
/- One point of the input projection and pooling call: what the body leaves in each output and in the rows it carries over. -/
module

public import proofs.«01_k».proof.Proof.Gen.Kernel3Ideal.Frame
public import proofs.«01_k».proof.Proof.Gen.Kernel3Ideal.Skeleton
public import Idealize.ShloMosaic.Lib.WholeRead
public import Idealize.ShloMosaic.Lib.VecWindow
public import Idealize.ShloMosaic.Lib.Pointwise

@[expose] public section

set_option maxRecDepth 16384

noncomputable section

namespace Cert.Kernel3Ideal.Pool

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The part of an array's contents that a load takes. -/
def part {α : Type} {s : Shape} (X : s.Idx → α) (B : LoadRect s) : B.shape.Idx → α := fun y => X (B.idx y)

/-- A load takes that part of what the buffer reads. -/
theorem load_any {s : Shape} {e : EltTy} (m : Memref sig .tc .vmem s e) (f : m.view.ty.Contents (Elt F)) (B : LoadRect s) :
    View.readAt (Elt F) m.view B f = part (m.view.read (Elt F) f) B := rfl

/-- A store over earlier ones leaves what those left, with the stored values put there. -/
theorem read_put {s : Shape} {e : EltTy} (v : View sig .tc .vmem s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L))
      = VecWindow.put (v.read (Elt F) (v.writes (Elt F) f L)) off size w := View.read_writes_cons_put v f inb w L rfl

/-- A buffer stored whole reads what was stored. -/
theorem put_full {α : Type} {s : Shape} (X : s.Idx → α) {off : Fin s.rank → ℕ} (h0 : ∀ a, off a = 0) (w : s.Idx → α) :
    VecWindow.put X off s.size w = w := by
  funext y
  unfold VecWindow.put
  rw [dif_pos (fun a => ⟨by rw [h0 a]; exact Nat.zero_le _, by rw [h0 a, Nat.zero_add]; exact (y a).isLt⟩)]
  exact congrArg w (funext fun a => Fin.ext (by rw [Rect.unitLocal_val, h0 a]; rfl))

/-- No offset, two axes, -/
theorem zero2 : ∀ a : Fin 2, (![0, 0] : Fin 2 → ℕ) a = 0 := by decide
/-- three axes. -/
theorem zero3 : ∀ a : Fin 3, (![0, 0, 0] : Fin 3 → ℕ) a = 0 := by decide

/-- A load that earlier stores cover takes that part of what those left. -/
theorem load_cov {s : Shape} {e : EltTy} (v : View sig .tc .vmem s e) (L : List (View.Piece (Elt F) s e)) (B : LoadRect s) :
    v.readCov L B = part (v.read (Elt F) (v.writes (Elt F) v.junk L)) B := rfl

/-- The projection's matrix, stored whole. -/
theorem put_w {α : Type} (X : S1024x2304.Idx → α) (w : S1024x2304.Idx → α) : VecWindow.put X ![0, 0] ![1024, 2304] w = w := put_full X zero2 w
/-- Output 9's buffer, stored whole. -/
theorem put_11 {α : Type} (X : S1x1024x1792.Idx → α) (w : S1x1024x1792.Idx → α) : VecWindow.put X ![0, 0, 0] ![1, 1024, 1792] w = w := put_full X zero3 w
/-- Output 10's buffer, stored whole. -/
theorem put_12 {α : Type} (X : S1x1024x512.Idx → α) (w : S1x1024x512.Idx → α) : VecWindow.put X ![0, 0, 0] ![1, 1024, 512] w = w := put_full X zero3 w
/-- Output 11's buffer, stored whole. -/
theorem put_13 {α : Type} (X : S1x1x1792.Idx → α) (w : S1x1x1792.Idx → α) : VecWindow.put X ![0, 0, 0] ![1, 1, 1792] w = w := put_full X zero3 w
/-- Output 12's buffer, stored whole. -/
theorem put_14 {α : Type} (X : S1x16x512.Idx → α) (w : S1x16x512.Idx → α) : VecWindow.put X ![0, 0, 0] ![1, 16, 512] w = w := put_full X zero3 w
/-- Output 14's buffer, stored whole. -/
theorem put_16 {α : Type} (X : S64x1024.Idx → α) (w : S64x1024.Idx → α) : VecWindow.put X ![0, 0] ![64, 1024] w = w := put_full X zero2 w
/-- Output 15's buffer, stored whole. -/
theorem put_17 {α : Type} (X : S64x4096.Idx → α) (w : S64x4096.Idx → α) : VecWindow.put X ![0, 0] ![64, 4096] w = w := put_full X zero2 w
/-- Output 16's buffer, stored whole. -/
theorem put_18 {α : Type} (X : S256x1024.Idx → α) (w : S256x1024.Idx → α) : VecWindow.put X ![0, 0] ![256, 1024] w = w := put_full X zero2 w
/-- The row buffer, stored whole. -/
theorem put_p {α : Type} (X : S8x1792.Idx → α) (w : S8x1792.Idx → α) : VecWindow.put X ![0, 0] ![8, 1792] w = w := put_full X zero2 w

/-- The extended block from its first sixteen rows and the rest. -/
def extRows {α : Type} (z : S16x512.Idx → α) (u : S1024x512.Idx → α) : S1040x512.Idx → α :=
  VecWindow.put (VecWindow.put (fun _ => z (ix2 ⟨0, by decide⟩ ⟨0, by decide⟩)) ![0, 0] ![16, 512] z) ![16, 0] ![1024, 512] u

/-- Its two parts cover the buffer. -/
theorem put_two {α : Type} (A : S1040x512.Idx → α) (z : S16x512.Idx → α) (u : S1024x512.Idx → α) :
    VecWindow.put (VecWindow.put A ![0, 0] ![16, 512] z) ![16, 0] ![1024, 512] u = extRows z u := by
  funext y
  unfold extRows VecWindow.put
  by_cases h : ∀ a : Fin 2, (![16, 0] : Fin 2 → ℕ) a ≤ (y a).val ∧ (y a).val < (![16, 0] : Fin 2 → ℕ) a + (![1024, 512] : Fin 2 → ℕ) a
  · rw [dif_pos h, dif_pos h]
  · have h1 : ∀ a : Fin 2, (![0, 0] : Fin 2 → ℕ) a ≤ (y a).val ∧ (y a).val < (![0, 0] : Fin 2 → ℕ) a + (![16, 512] : Fin 2 → ℕ) a :=
      Fin.forall_fin_two.mpr ⟨⟨Nat.zero_le _, by
        by_contra hh
        have hh' : ¬ (y 0).val < 16 := fun q => hh (by show (y 0).val < 0 + 16; omega)
        have hy : (y 0).val < 1040 := (y 0).isLt
        exact h (Fin.forall_fin_two.mpr ⟨⟨show 16 ≤ (y 0).val by omega, show (y 0).val < 16 + 1024 by omega⟩,
          ⟨Nat.zero_le _, by show (y 1).val < 0 + 512; rw [Nat.zero_add]; exact (y 1).isLt⟩⟩)⟩,
        ⟨Nat.zero_le _, by show (y 1).val < 0 + 512; rw [Nat.zero_add]; exact (y 1).isLt⟩⟩
    rw [dif_neg h, dif_neg h, dif_pos h1, dif_pos h1]

/-- The last sixteen rows of the extended block are the block's own. -/
theorem last_put {α : Type} (A : S1040x512.Idx → α) (u : S1024x512.Idx → α) :
    part (VecWindow.put A ![16, 0] ![1024, 512] u) (Rect.unit (s := S1040x512) ![1024, 0] ![16, 512] inb_S1040x512_S16x512_1024_0).toLoadRect
      = part (extRows (fun _ => u (ix2 ⟨0, by decide⟩ ⟨0, by decide⟩)) u) (Rect.unit (s := S1040x512) ![1024, 0] ![16, 512] inb_S1040x512_S16x512_1024_0).toLoadRect := by
  unfold extRows
  have h := fun B => VecWindow.window_put_of_inside (s := S1040x512) B ![16, 0] ![1024, 512] ![1024, 0] ![16, 512] inb_S1040x512_S16x512_1024_0 u (by decide)
  exact (h A).trans (h _).symm

/-! ## The values -/

/-- Whether the point starts a sequence: its block is the sequence's first. -/
abbrev first (i : grid0.Coords) : Prop := Scalar.cmpi .ne (Scalar.extui (Scalar.cmpi .eq (BitVec.ofNat 32 (i 1).val) 0#32)) 0#32 = 1#1

/-- The projected block: the pooled channels, -/
def uOut (x : Vec F S1x1024x1024 .f32) (g : Vec F S1x1024 .f32) (W : Vec F S1024x2304 .bf16) : FVec F S1024x512 .f32 :=
  k0_pay13 (k0_pay9 (part x (Rect.unit (s := S1x1024x1024) ![0, 0, 0] S1x1024x1024.size inb_S1x1024x1024_S1x1024x1024_0_0_0).toLoadRect)) (k0_pay10 (part g (Rect.unit (s := S1x1024) ![0, 0] S1x1024.size inb_S1x1024_S1x1024_0_0).toLoadRect)) (k0_pay11 (part x (Rect.unit (s := S1x1024x1024) ![0, 0, 0] S1x1024x1024.size inb_S1x1024x1024_S1x1024x1024_0_0_0).toLoadRect)) (part W (Rect.unit (s := S1024x2304) ![0, 0] S1024x2304.size inb_S1024x2304_S1024x2304_0_0).toLoadRect)
/-- and the rest. -/
def pOut (x : Vec F S1x1024x1024 .f32) (g : Vec F S1x1024 .f32) (W : Vec F S1024x2304 .bf16) : FVec F S1024x1792 .f32 :=
  k0_pay16 (k0_pay9 (part x (Rect.unit (s := S1x1024x1024) ![0, 0, 0] S1x1024x1024.size inb_S1x1024x1024_S1x1024x1024_0_0_0).toLoadRect)) (k0_pay10 (part g (Rect.unit (s := S1x1024) ![0, 0] S1x1024.size inb_S1x1024_S1x1024_0_0).toLoadRect)) (k0_pay11 (part x (Rect.unit (s := S1x1024x1024) ![0, 0, 0] S1x1024x1024.size inb_S1x1024x1024_S1x1024x1024_0_0_0).toLoadRect)) (part W (Rect.unit (s := S1024x2304) ![0, 0] S1024x2304.size inb_S1024x2304_S1024x2304_0_0).toLoadRect)
/-- The pooled channels behind the sixteen rows before the block. -/
def extOut (x : Vec F S1x1024x1024 .f32) (g : Vec F S1x1024 .f32) (W : Vec F S1024x2304 .bf16) (X : Vec F S1040x512 .f32) : Vec F S1040x512 .f32 :=
  VecWindow.put X ![16, 0] S1024x512.size (k0_pay14 (k0_pay9 (part x (Rect.unit (s := S1x1024x1024) ![0, 0, 0] S1x1024x1024.size inb_S1x1024x1024_S1x1024x1024_0_0_0).toLoadRect)) (k0_pay10 (part g (Rect.unit (s := S1x1024) ![0, 0] S1x1024.size inb_S1x1024_S1x1024_0_0).toLoadRect)) (k0_pay11 (part x (Rect.unit (s := S1x1024x1024) ![0, 0, 0] S1x1024x1024.size inb_S1x1024x1024_S1x1024x1024_0_0_0).toLoadRect)) (part W (Rect.unit (s := S1024x2304) ![0, 0] S1024x2304.size inb_S1024x2304_S1024x2304_0_0).toLoadRect))
/-- The last sixteen rows of the pooled channels. -/
def ulOut (x : Vec F S1x1024x1024 .f32) (g : Vec F S1x1024 .f32) (W : Vec F S1024x2304 .bf16) : FVec F S1x16x512 .f32 :=
  k0_pay15 (k0_pay9 (part x (Rect.unit (s := S1x1024x1024) ![0, 0, 0] S1x1024x1024.size inb_S1x1024x1024_S1x1024x1024_0_0_0).toLoadRect)) (k0_pay10 (part g (Rect.unit (s := S1x1024) ![0, 0] S1x1024.size inb_S1x1024_S1x1024_0_0).toLoadRect)) (k0_pay11 (part x (Rect.unit (s := S1x1024x1024) ![0, 0, 0] S1x1024x1024.size inb_S1x1024x1024_S1x1024x1024_0_0_0).toLoadRect)) (part W (Rect.unit (s := S1024x2304) ![0, 0] S1024x2304.size inb_S1024x2304_S1024x2304_0_0).toLoadRect)
/-- The rest mixed with the token before. -/
def shOut (x : Vec F S1x1024x1024 .f32) (g : Vec F S1x1024 .f32) (W : Vec F S1024x2304 .bf16) (P : Vec F S8x1792 .f32) (mu : Vec F S1x1792 .f32) : FVec F S1x1024x1792 .f32 :=
  k0_pay17 (k0_pay9 (part x (Rect.unit (s := S1x1024x1024) ![0, 0, 0] S1x1024x1024.size inb_S1x1024x1024_S1x1024x1024_0_0_0).toLoadRect)) (k0_pay10 (part g (Rect.unit (s := S1x1024) ![0, 0] S1x1024.size inb_S1x1024_S1x1024_0_0).toLoadRect)) (k0_pay11 (part x (Rect.unit (s := S1x1024x1024) ![0, 0, 0] S1x1024x1024.size inb_S1x1024x1024_S1x1024x1024_0_0_0).toLoadRect)) (part W (Rect.unit (s := S1024x2304) ![0, 0] S1024x2304.size inb_S1024x2304_S1024x2304_0_0).toLoadRect) (part P (Rect.unit (s := S8x1792) ![0, 0] S1x1792.size inb_S8x1792_S1x1792_0_0).toLoadRect) (part mu (Rect.unit (s := S1x1792) ![0, 0] S1x1792.size inb_S1x1792_S1x1792_0_0).toLoadRect)
/-- 128 columns of the extended block. -/
abbrev col0 (E : Vec F S1040x512 .f32) : Vec F S1040x128 .f32 := part E (Rect.unit (s := S1040x512) ![0, 0] S1040x128.size inb_S1040x512_S1040x128_0_0).toLoadRect
/-- The next 128. -/
abbrev col1 (E : Vec F S1040x512 .f32) : Vec F S1040x128 .f32 := part E (Rect.unit (s := S1040x512) ![0, 128] S1040x128.size inb_S1040x512_S1040x128_0_128).toLoadRect
/-- The next 128. -/
abbrev col2 (E : Vec F S1040x512 .f32) : Vec F S1040x128 .f32 := part E (Rect.unit (s := S1040x512) ![0, 256] S1040x128.size inb_S1040x512_S1040x128_0_256).toLoadRect
/-- The last 128. -/
abbrev col3 (E : Vec F S1040x512 .f32) : Vec F S1040x128 .f32 := part E (Rect.unit (s := S1040x512) ![0, 384] S1040x128.size inb_S1040x512_S1040x128_0_384).toLoadRect
/-- The mixing matrix of window 0, -/
abbrev mix0 (pw : Vec F S4x128x128 .f32) : Vec F S1x128x128 .f32 := part pw (Rect.unit (s := S4x128x128) ![0, 0, 0] S1x128x128.size inb_S4x128x128_S1x128x128_0_0_0).toLoadRect
/-- of window 1, -/
abbrev mix1 (pw : Vec F S4x128x128 .f32) : Vec F S1x128x128 .f32 := part pw (Rect.unit (s := S4x128x128) ![1, 0, 0] S1x128x128.size inb_S4x128x128_S1x128x128_1_0_0).toLoadRect
/-- of window 2, -/
abbrev mix2 (pw : Vec F S4x128x128 .f32) : Vec F S1x128x128 .f32 := part pw (Rect.unit (s := S4x128x128) ![2, 0, 0] S1x128x128.size inb_S4x128x128_S1x128x128_2_0_0).toLoadRect
/-- of window 3. -/
abbrev mix3 (pw : Vec F S4x128x128 .f32) : Vec F S1x128x128 .f32 := part pw (Rect.unit (s := S4x128x128) ![3, 0, 0] S1x128x128.size inb_S4x128x128_S1x128x128_3_0_0).toLoadRect
/-- The pooled and mixed block. -/
def poOut (a : BitVec 32) (u : FVec F S1024x512 .f32) (E : Vec F S1040x512 .f32) (pw : Vec F S4x128x128 .f32) (ps : Vec F S1x512 .f32) : FVec F S1x1024x512 .bf16 :=
  k0_pay1 u (k0_pay20 a) (k0_pay21 a u (col0 E) (mix0 pw)) (k0_pay24 u (k0_pay22 (col1 E)) (k0_pay23 a) (mix1 pw))
    (k0_pay25 u (k0_pay20 a) (col2 E) (mix2 pw)) (k0_pay26 (col3 E)) 4#32 (mix3 pw) (part ps (Rect.unit (s := S1x512) ![0, 0] S1x512.size inb_S1x512_S1x512_0_0).toLoadRect)
/-- The extended block, its last sixteen rows copied to the front for the next block. -/
def extCarry (E : Vec F S1040x512 .f32) : Vec F S1040x512 .f32 :=
  VecWindow.put E ![0, 0] S16x512.size (k0_pay2 (part E (Rect.unit (s := S1040x512) ![1024, 0] S16x512.size inb_S1040x512_S16x512_1024_0).toLoadRect))
/-- The row buffer after the block's last row went in. -/
def rowCarry (p : FVec F S1024x1792 .f32) (P : Vec F S8x1792 .f32) : Vec F S8x1792 .f32 := VecWindow.put P ![0, 0] S1x1792.size (k0_pay18 p)

variable (a2 : Memref sig .tc .vmem S1x1024x1024 .f32) (ha2 : a2.IsWhole)
  (a3 : Memref sig .tc .vmem S1x1024 .f32) (ha3 : a3.IsWhole)
  (a4 : Memref sig .tc .vmem S1024x2304 .f32) (ha4 : a4.IsWhole)
  (a5 : Memref sig .tc .vmem S4x128x128 .f32) (ha5 : a5.IsWhole)
  (a6 : Memref sig .tc .vmem S1x512 .f32) (ha6 : a6.IsWhole)
  (a7 : Memref sig .tc .vmem S1x1792 .f32) (ha7 : a7.IsWhole)
  (a8 : Memref sig .tc .vmem S64x1024 .f32) (ha8 : a8.IsWhole)
  (a9 : Memref sig .tc .vmem S64x4096 .f32) (ha9 : a9.IsWhole)
  (a10 : Memref sig .tc .vmem S256x1024 .f32) (ha10 : a10.IsWhole)
  (a11 : Memref sig .tc .vmem S1x1024x1792 .f32) (ha11 : a11.IsWhole)
  (a12 : Memref sig .tc .vmem S1x1024x512 .bf16) (ha12 : a12.IsWhole)
  (a13 : Memref sig .tc .vmem S1x1x1792 .f32) (ha13 : a13.IsWhole)
  (a14 : Memref sig .tc .vmem S1x16x512 .f32) (ha14 : a14.IsWhole)
  (a15 : Memref sig .tc .vmem S1024x2304 .bf16) (ha15 : a15.IsWhole)
  (a16 : Memref sig .tc .vmem S64x1024 .bf16) (ha16 : a16.IsWhole)
  (a17 : Memref sig .tc .vmem S64x4096 .bf16) (ha17 : a17.IsWhole)
  (a18 : Memref sig .tc .vmem S256x1024 .bf16) (ha18 : a18.IsWhole)
  (a19 : Memref sig .tc .vmem S1040x512 .f32) (ha19 : a19.IsWhole)
  (a20 : Memref sig .tc .vmem S8x1792 .f32) (ha20 : a20.IsWhole)

set_option maxHeartbeats 2000000 in
/-- The body at any point: the first point casts the projection's matrix, a point that starts a sequence clears the carried rows. -/
theorem run_body (c : Dev nD) (i : grid0.Coords)
    (x : Vec F S1x1024x1024 .f32) (g : Vec F S1x1024 .f32) (w : Vec F S1024x2304 .f32) (pw : Vec F S4x128x128 .f32) (ps : Vec F S1x512 .f32) (mu : Vec F S1x1792 .f32) (wo : Vec F S64x1024 .f32) (wu : Vec F S64x4096 .f32) (wd : Vec F S256x1024 .f32) (W : Vec F S1024x2304 .bf16) (X : Vec F S1040x512 .f32) (P : Vec F S8x1792 .f32)
    (W1 : Vec F S1024x2304 .bf16) (X1 : Vec F S1040x512 .f32) (P1 : Vec F S8x1792 .f32)
    (hW : k0_cond1 i = 1#1 ∧ W1 = k0_pay6 (part w (Rect.unit (s := S1024x2304) ![0, 0] S1024x2304.size inb_S1024x2304_S1024x2304_0_0).toLoadRect) ∨ ¬k0_cond1 i = 1#1 ∧ W1 = W)
    (hX : first i ∧ X1 = VecWindow.put X ![0, 0] S16x512.size (k0_pay7 (F := F)) ∧ P1 = k0_pay8 ∨ ¬first i ∧ X1 = X ∧ P1 = P)
    (E : Set ℕ) (K : PUnit → sProp 𝕄) :
    iprop(owns (c : Thread nD τ) a2 fullShare x ∗ owns (c : Thread nD τ) a3 fullShare g ∗ owns (c : Thread nD τ) a4 fullShare w ∗ owns (c : Thread nD τ) a5 fullShare pw ∗ owns (c : Thread nD τ) a6 fullShare ps ∗ owns (c : Thread nD τ) a7 fullShare mu ∗ owns (c : Thread nD τ) a8 fullShare wo ∗ owns (c : Thread nD τ) a9 fullShare wu ∗ owns (c : Thread nD τ) a10 fullShare wd ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ owns (c : Thread nD τ) a15 fullShare W ∗ (∃ d, owns (c : Thread nD τ) a16 fullShare d) ∗ (∃ d, owns (c : Thread nD τ) a17 fullShare d) ∗ (∃ d, owns (c : Thread nD τ) a18 fullShare d) ∗ owns (c : Thread nD τ) a19 fullShare X ∗ owns (c : Thread nD τ) a20 fullShare P
        ∗ (iprop(owns (c : Thread nD τ) a2 fullShare x ∗ owns (c : Thread nD τ) a3 fullShare g ∗ owns (c : Thread nD τ) a4 fullShare w ∗ owns (c : Thread nD τ) a5 fullShare pw ∗ owns (c : Thread nD τ) a6 fullShare ps ∗ owns (c : Thread nD τ) a7 fullShare mu ∗ owns (c : Thread nD τ) a8 fullShare wo ∗ owns (c : Thread nD τ) a9 fullShare wu ∗ owns (c : Thread nD τ) a10 fullShare wd ∗ owns (c : Thread nD τ) a11 fullShare (shOut x g W1 P1 mu) ∗ owns (c : Thread nD τ) a12 fullShare (poOut (BitVec.ofNat 32 (i 1).val) (uOut x g W1) (extOut x g W1 X1) pw ps) ∗ owns (c : Thread nD τ) a13 fullShare (k0_pay19 (pOut x g W1)) ∗ owns (c : Thread nD τ) a14 fullShare (ulOut x g W1) ∗ owns (c : Thread nD τ) a15 fullShare W1 ∗ owns (c : Thread nD τ) a16 fullShare (k0_pay3 (part wo (Rect.unit (s := S64x1024) ![0, 0] S64x1024.size inb_S64x1024_S64x1024_0_0).toLoadRect)) ∗ owns (c : Thread nD τ) a17 fullShare (k0_pay4 (part wu (Rect.unit (s := S64x4096) ![0, 0] S64x4096.size inb_S64x4096_S64x4096_0_0).toLoadRect)) ∗ owns (c : Thread nD τ) a18 fullShare (k0_pay5 (part wd (Rect.unit (s := S256x1024) ![0, 0] S256x1024.size inb_S256x1024_S256x1024_0_0).toLoadRect)) ∗ owns (c : Thread nD τ) a19 fullShare (extCarry (extOut x g W1 X1)) ∗ owns (c : Thread nD τ) a20 fullShare (rowCarry (pOut x g W1) P1)) -∗ K ⟨⟩))
      ⊢ wp frame (wpE (defs₀ (F := F)) Variants.none c none) E (cc0_inproj_pool i a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20) K := by
  simp only [cc0_inproj_pool_eq_skeleton]; unfold cc0_inproj_pool_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, ⟨%d17, %f17, -, H17⟩, ⟨%d18, %f18, -, H18⟩, ⟨%f19, %hf19, H19⟩, ⟨%f20, %hf20, H20⟩, Hk⟩
  obtain rfl := ha2.eq_unread hf2
  obtain rfl := ha3.eq_unread hf3
  obtain rfl := ha4.eq_unread hf4
  obtain rfl := ha5.eq_unread hf5
  obtain rfl := ha6.eq_unread hf6
  obtain rfl := ha7.eq_unread hf7
  obtain rfl := ha8.eq_unread hf8
  obtain rfl := ha9.eq_unread hf9
  obtain rfl := ha10.eq_unread hf10
  obtain rfl := ha15.eq_unread hf15
  obtain rfl := ha19.eq_unread hf19
  obtain rfl := ha20.eq_unread hf20
  rcases hW with ⟨hc1, rfl⟩ | ⟨hc1, rfl⟩ <;> rcases hX with ⟨hc2, rfl, rfl⟩ | ⟨hc2, rfl, rfl⟩
  all_goals
    sl_exec (disch := first | sl_exact hc1 | sl_exact hc2)
    sl_step
    iapply Hk
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]
    · iexists _; isplitr; · ipureintro; exact ha7.read_unread _
      iexact H7
    isplitl [H8]
    · iexists _; isplitr; · ipureintro; exact ha8.read_unread _
      iexact H8
    isplitl [H9]
    · iexists _; isplitr; · ipureintro; exact ha9.read_unread _
      iexact H9
    isplitl [H10]
    · iexists _; isplitr; · ipureintro; exact ha10.read_unread _
      iexact H10
    isplitl [H11]
    · iexists _; isplitr
      swap; · iexact H11
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    isplitl [H12]
    · iexists _; isplitr
      swap; · iexact H12
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    isplitl [H13]
    · iexists _; isplitr
      swap; · iexact H13
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    isplitl [H14]
    · iexists _; isplitr
      swap; · iexact H14
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    isplitl [H15]
    · iexists _; isplitr
      swap; · iexact H15
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    isplitl [H16]
    · iexists _; isplitr
      swap; · iexact H16
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    isplitl [H17]
    · iexists _; isplitr
      swap; · iexact H17
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    isplitl [H18]
    · iexists _; isplitr
      swap; · iexact H18
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    isplitl [H19]
    · iexists _; isplitr
      swap; · iexact H19
      ipureintro
      sl_unfold_run_names
      simp only [load_any, load_cov, read_put, View.writes_nil, put_w, put_p, put_11, put_12, put_13, put_14, put_16, put_17, put_18, put_two, last_put, Memref.IsWhole.read_unread, shOut, poOut, pOut, uOut, extOut, ulOut, extCarry, rowCarry]
    iexists _; isplitr
    swap; · iexact H20
    ipureintro
    sl_unfold_run_names
    simp only [load_any, load_cov, read_put, View.writes_nil, put_w, put_p, put_11, put_12, put_13, put_14, put_16, put_17, put_18, put_two, last_put, Memref.IsWhole.read_unread, shOut, poOut, pOut, uOut, extOut, ulOut, extCarry, rowCarry]

end Cert.Kernel3Ideal.Pool

end
-- ==== Proof.PoolRun.lean ====
/- The input projection and pooling call's pipeline: what each buffer holds point by point, the body at every point, the run. -/
module

public import proofs.«01_k».proof.Proof.PoolBody
public import Idealize.ShloMosaic.Lib.Pipeline.TableIdle
public import Idealize.ShloMosaic.Lib.Pipeline.ValueKit.Geometry

@[expose] public section

set_option maxRecDepth 16384

noncomputable section

namespace Cert.Kernel3Ideal.Pool

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The projection's matrix is cast at the first point. -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- Every other point starts a sequence. -/
theorem first_iff : ∀ t : Fin cfg0.N, first (grid0.coords t) ↔ t.val % 2 = 0 :=
  (by decide +kernel : ∀ t : Fin grid0.N, first (grid0.coords t) ↔ t.val % 2 = 0)
/-- The cast matrix's buffer is idle after the first point, -/
theorem idle_13 : ∀ t : Fin cfg0.N, cfg0.idle 13 (grid0.coords t) = decide (t.val ≠ 0) := by decide +kernel
/-- and written back at the last. -/
theorem flush_13 (t : Fin cfg0.N) : (cfg0.win 13).flush t = decide (t.val = 15) := by
  have ht : t.val < 16 := lt_of_lt_of_eq t.isLt (show cfg0.N = 16 from N_0)
  have h := flush0_13 t
  by_cases hf : (cfg0.win 13).flush t = true
  · rw [hf, eq_comm, decide_eq_true_eq]; have := h.mp hf; omega
  · rw [Bool.eq_false_of_not_eq_true hf, eq_comm, decide_eq_false_iff_not]; intro e; exact hf (h.mpr (by omega))

/-- What the cast matrix's buffer holds when a later point begins was stored. -/
theorem fresh_13 : ∀ n, n ≤ cfg0.N → cfg0.fresh 13 n = decide (n = 0 ∨ n = 16) :=
  Cfg.fresh_tab cfg0 13 (fun n => decide (n = 0 ∨ n = 16)) rfl fun t => by
    rw [flush_13, idle_13]
    have ht : t.val < 16 := lt_of_lt_of_eq t.isLt (show cfg0.N = 16 from N_0)
    have hc : ∀ n : Fin 16, (decide (n.val = 15) || (decide (n.val ≠ 0) && decide (n.val = 0 ∨ n.val = 16))) = decide (n.val + 1 = 0 ∨ n.val + 1 = 16) := by decide
    exact (hc ⟨t.val, ht⟩).symm

/-! ## What the buffers hold -/

/-- The point before. -/
def prev (t : Fin cfg0.N) : Fin cfg0.N := ⟨t.val - 1, by omega⟩

/-- The cast matrix. -/
def wAt (c : Dev nD) : Vec F S1024x2304 .bf16 := k0_pay6 (part (iblk m c 2 t0_0) (Rect.unit (s := S1024x2304) ![0, 0] S1024x2304.size inb_S1024x2304_S1024x2304_0_0).toLoadRect)
/-- The pooled channels of point `t`, -/
def uAt (c : Dev nD) (t : Fin cfg0.N) : FVec F S1024x512 .f32 := uOut (iblk m c 0 t) (iblk m c 1 t) (wAt m c)
/-- as stored, -/
def vAt (c : Dev nD) (t : Fin cfg0.N) : FVec F S1024x512 .f32 :=
  k0_pay14 (k0_pay9 (part (iblk m c 0 t) (Rect.unit (s := S1x1024x1024) ![0, 0, 0] S1x1024x1024.size inb_S1x1024x1024_S1x1024x1024_0_0_0).toLoadRect)) (k0_pay10 (part (iblk m c 1 t) (Rect.unit (s := S1x1024) ![0, 0] S1x1024.size inb_S1x1024_S1x1024_0_0).toLoadRect)) (k0_pay11 (part (iblk m c 0 t) (Rect.unit (s := S1x1024x1024) ![0, 0, 0] S1x1024x1024.size inb_S1x1024x1024_S1x1024x1024_0_0_0).toLoadRect)) (part (wAt m c) (Rect.unit (s := S1024x2304) ![0, 0] S1024x2304.size inb_S1024x2304_S1024x2304_0_0).toLoadRect)
/-- and the rest. -/
def pAt (c : Dev nD) (t : Fin cfg0.N) : FVec F S1024x1792 .f32 := pOut (iblk m c 0 t) (iblk m c 1 t) (wAt m c)
/-- The extended block of a point that starts a sequence. -/
def headAt (c : Dev nD) (t : Fin cfg0.N) : Vec F S1040x512 .f32 := extRows k0_pay7 (vAt m c t)
/-- The extended block of point `t`. -/
def eAt (c : Dev nD) (t : Fin cfg0.N) : Vec F S1040x512 .f32 :=
  if t.val % 2 = 0 then headAt m c t else VecWindow.put (extCarry (headAt m c (prev t))) ![16, 0] S1024x512.size (vAt m c t)
/-- The carried row when point `t` reads it. -/
def rAt (c : Dev nD) (t : Fin cfg0.N) : Vec F S8x1792 .f32 :=
  if t.val % 2 = 0 then k0_pay8 else rowCarry (pAt m c (prev t)) k0_pay8
/-- The results of point `t`: the mixed rows, -/
def shAt (c : Dev nD) (t : Fin cfg0.N) : FVec F S1x1024x1792 .f32 := shOut (iblk m c 0 t) (iblk m c 1 t) (wAt m c) (rAt m c t) (iblk m c 5 t)
/-- and the pooled ones. -/
def poAt (c : Dev nD) (t : Fin cfg0.N) : FVec F S1x1024x512 .bf16 :=
  poOut (BitVec.ofNat 32 (grid0.coords t 1).val) (uAt m c t) (eAt m c t) (iblk m c 3 t) (iblk m c 4 t)

/-- What the scratch buffers hold between points: within a sequence, the carried rows. -/
def Carry (c : Dev nD) (n : ℕ) (X : Vec F S1040x512 .f32) (P : Vec F S8x1792 .f32) : Prop :=
  n % 2 = 1 → ∀ t : Fin cfg0.N, t.val + 1 = n → X = extCarry (headAt m c t) ∧ P = rowCarry (pAt m c t) k0_pay8

/-- The invariant between points. -/
def inv (c : Dev nD) (n : ℕ) : sProp 𝕄 :=
  iprop((∃ X P, owns (c : Thread nD τ) (Memref.whole cc0_scratch0) fullShare X ∗ owns (c : Thread nD τ) (Memref.whole cc0_scratch1) fullShare P ∗ ⌜Carry m c n X P⌝)
    ∗ ∃ r, prngReg c r)

/-- The pipeline's proof data: each input's buffer keeps its block, the outputs' hold the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => shAt m c t
    | ⟨10, _⟩ => poAt m c t
    | ⟨11, _⟩ => k0_pay19 (pAt m c t)
    | ⟨12, _⟩ => ulOut (iblk m c 0 t) (iblk m c 1 t) (wAt m c)
    | ⟨13, _⟩ => wAt m c
    | ⟨14, _⟩ => k0_pay3 (part (iblk m c 6 t) (Rect.unit (s := S64x1024) ![0, 0] S64x1024.size inb_S64x1024_S64x1024_0_0).toLoadRect)
    | ⟨15, _⟩ => k0_pay4 (part (iblk m c 7 t) (Rect.unit (s := S64x4096) ![0, 0] S64x4096.size inb_S64x4096_S64x4096_0_0).toLoadRect)
    | ⟨16, _⟩ => k0_pay5 (part (iblk m c 8 t) (Rect.unit (s := S256x1024) ![0, 0] S256x1024.size inb_S256x1024_S256x1024_0_0).toLoadRect)
    | ⟨_ + 17, h⟩ => absurd h (Nat.not_lt.2 (Nat.le_add_left _ _))
  Φ n := inv m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = shAt m c t := by dsimp only [dats]
theorem after_10 (c : Dev nD) (t : Fin cfg0.N) : (dats m 0 c).after 10 t = poAt m c t := by dsimp only [dats]
theorem after_11 (c : Dev nD) (t : Fin cfg0.N) : (dats m 0 c).after 11 t = k0_pay19 (pAt m c t) := by dsimp only [dats]
theorem after_12 (c : Dev nD) (t : Fin cfg0.N) : (dats m 0 c).after 12 t = ulOut (iblk m c 0 t) (iblk m c 1 t) (wAt m c) := by dsimp only [dats]
theorem after_13 (c : Dev nD) (t : Fin cfg0.N) : (dats m 0 c).after 13 t = wAt m c := by dsimp only [dats]
theorem after_14 (c : Dev nD) (t : Fin cfg0.N) : (dats m 0 c).after 14 t = k0_pay3 (part (iblk m c 6 t) (Rect.unit (s := S64x1024) ![0, 0] S64x1024.size inb_S64x1024_S64x1024_0_0).toLoadRect) := by dsimp only [dats]
theorem after_15 (c : Dev nD) (t : Fin cfg0.N) : (dats m 0 c).after 15 t = k0_pay4 (part (iblk m c 7 t) (Rect.unit (s := S64x4096) ![0, 0] S64x4096.size inb_S64x4096_S64x4096_0_0).toLoadRect) := by dsimp only [dats]
theorem after_16 (c : Dev nD) (t : Fin cfg0.N) : (dats m 0 c).after 16 t = k0_pay5 (part (iblk m c 8 t) (Rect.unit (s := S256x1024) ![0, 0] S256x1024.size inb_S256x1024_S256x1024_0_0).toLoadRect) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The cast matrix's buffer after the first point. -/
theorem before_13 (c : Dev nD) (t : Fin cfg0.N) (ht : t.val ≠ 0) (d) : (dats m 0 c).before 13 t d = wAt m c := by
  have hN : t.val < 16 := lt_of_lt_of_eq t.isLt (show cfg0.N = 16 from N_0)
  rw [(dats m 0 c).before_out_traj 13 rfl (fun _ _ => rfl) (fun s hs hi _ => by rw [after_13, after_13]) t.val t rfl d,
    fresh_13 t.val t.isLt.le, if_neg (by simp only [decide_eq_true_eq]; omega), after_13]

/-! ## The body at a point -/

abbrev st0 (t : Fin cfg0.N) : Memref sig .tc .vmem S1x1024x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1024x2304 .f32 := win0_2.stage (cfg0.slots t 2)
abbrev st3 (t : Fin cfg0.N) : Memref sig .tc .vmem S4x128x128 .f32 := win0_3.stage (cfg0.slots t 3)
abbrev st4 (t : Fin cfg0.N) : Memref sig .tc .vmem S1x512 .f32 := win0_4.stage (cfg0.slots t 4)
abbrev st5 (t : Fin cfg0.N) : Memref sig .tc .vmem S1x1792 .f32 := win0_5.stage (cfg0.slots t 5)
abbrev st6 (t : Fin cfg0.N) : Memref sig .tc .vmem S64x1024 .f32 := win0_6.stage (cfg0.slots t 6)
abbrev st7 (t : Fin cfg0.N) : Memref sig .tc .vmem S64x4096 .f32 := win0_7.stage (cfg0.slots t 7)
abbrev st8 (t : Fin cfg0.N) : Memref sig .tc .vmem S256x1024 .f32 := win0_8.stage (cfg0.slots t 8)
abbrev st9 (t : Fin cfg0.N) : Memref sig .tc .vmem S1x1024x1792 .f32 := win0_9.stage (cfg0.slots t 9)
abbrev st10 (t : Fin cfg0.N) : Memref sig .tc .vmem S1x1024x512 .bf16 := win0_10.stage (cfg0.slots t 10)
abbrev st11 (t : Fin cfg0.N) : Memref sig .tc .vmem S1x1x1792 .f32 := win0_11.stage (cfg0.slots t 11)
abbrev st12 (t : Fin cfg0.N) : Memref sig .tc .vmem S1x16x512 .f32 := win0_12.stage (cfg0.slots t 12)
abbrev st13 (t : Fin cfg0.N) : Memref sig .tc .vmem S1024x2304 .bf16 := win0_13.stage (cfg0.slots t 13)
abbrev st14 (t : Fin cfg0.N) : Memref sig .tc .vmem S64x1024 .bf16 := win0_14.stage (cfg0.slots t 14)
abbrev st15 (t : Fin cfg0.N) : Memref sig .tc .vmem S64x4096 .bf16 := win0_15.stage (cfg0.slots t 15)
abbrev st16 (t : Fin cfg0.N) : Memref sig .tc .vmem S256x1024 .bf16 := win0_16.stage (cfg0.slots t 16)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- A window stored at a point leaves what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So does one written back. -/
theorem leaves_flush (c : Dev nD) (w : Fin cfg0.W) (t : Fin cfg0.N) (h : cfg0.idle w (grid0.coords t) = true)
    (hf : (cfg0.win w).flush t = true) :
    (dats m 0 c).leavesExact w t = owns (c : Thread nD τ) ((cfg0.win w).stage (cfg0.slots t w)) fullShare ((dats m 0 c).after w t) := by
  unfold Dat.leavesExact; rw [h, hf]

/-- The matrix cast at the first point is every point's. -/
theorem wAt_eq (c : Dev nD) (t : Fin cfg0.N) (ht : t.val = 0) : wAt m c = k0_pay6 (part (iblk m c 2 t) (Rect.unit (s := S1024x2304) ![0, 0] S1024x2304.size inb_S1024x2304_S1024x2304_0_0).toLoadRect) := by
  obtain rfl : t = t0_0 := Fin.ext ht
  rfl

/-- The extended block, from what the scratch buffer held. -/
theorem eAt_first (c : Dev nD) (t : Fin cfg0.N) (ht : t.val % 2 = 0) (X : Vec F S1040x512 .f32) :
    extOut (iblk m c 0 t) (iblk m c 1 t) (wAt m c) (VecWindow.put X ![0, 0] S16x512.size (k0_pay7 (F := F))) = eAt m c t := by
  unfold eAt; rw [if_pos ht]; exact put_two X k0_pay7 _

theorem eAt_later (c : Dev nD) (t : Fin cfg0.N) (ht : t.val % 2 = 1) :
    extOut (iblk m c 0 t) (iblk m c 1 t) (wAt m c) (extCarry (headAt m c (prev t))) = eAt m c t := by
  unfold eAt; rw [if_neg (by omega)]; rfl

/-- The carried rows a point starts from, and those it leaves. -/
theorem carried (c : Dev nD) (t : Fin cfg0.N) (X : Vec F S1040x512 .f32) (P : Vec F S8x1792 .f32) (h : Carry m c t.val X P) :
    ∃ X1 P1, (first (grid0.coords t) ∧ X1 = VecWindow.put X ![0, 0] S16x512.size (k0_pay7 (F := F)) ∧ P1 = k0_pay8 ∨ ¬first (grid0.coords t) ∧ X1 = X ∧ P1 = P)
      ∧ extOut (iblk m c 0 t) (iblk m c 1 t) (wAt m c) X1 = eAt m c t ∧ P1 = rAt m c t := by
  by_cases ht : t.val % 2 = 0
  · exact ⟨_, _, .inl ⟨(first_iff t).mpr ht, rfl, rfl⟩, eAt_first m c t ht X, by unfold rAt; rw [if_pos ht]⟩
  · have h1 : t.val % 2 = 1 := by omega
    obtain ⟨rfl, rfl⟩ := h h1 (prev t) (by show t.val - 1 + 1 = t.val; omega)
    exact ⟨_, _, .inr ⟨fun q => ht ((first_iff t).mp q), rfl, rfl⟩, eAt_later m c t h1, by unfold rAt; rw [if_neg ht]⟩

theorem carry_next (c : Dev nD) (t : Fin cfg0.N) : Carry m c (t.val + 1) (extCarry (eAt m c t)) (rowCarry (pAt m c t) (rAt m c t)) := by
  intro hn s hs
  obtain rfl : s = t := Fin.ext (by omega)
  have ht : s.val % 2 = 0 := by omega
  unfold eAt rAt
  rw [if_pos ht, if_pos ht]
  exact ⟨rfl, rfl⟩

/-- The cast matrix's buffer before a point, read or not. -/
theorem matrix (c : Dev nD) (t : Fin cfg0.N) (d) :
    k0_cond1 (grid0.coords t) = 1#1 ∧ wAt m c = k0_pay6 (part (iblk m c 2 t) (Rect.unit (s := S1024x2304) ![0, 0] S1024x2304.size inb_S1024x2304_S1024x2304_0_0).toLoadRect)
      ∨ ¬k0_cond1 (grid0.coords t) = 1#1 ∧ wAt m c = (dats m 0 c).before 13 t d := by
  by_cases ht : t.val = 0
  · exact .inl ⟨(cond1_iff t).mpr ht, wAt_eq m c t ht⟩
  · exact .inr ⟨fun q => ht ((cond1_iff t).mp q), (before_13 m c t ht d).symm⟩

/-- It leaves the cast matrix. -/
theorem leaves_13 (c : Dev nD) (t : Fin cfg0.N) : owns (c : Thread nD τ) (st13 t) fullShare (wAt m c) ⊢ (dats m 0 c).leavesExact 13 t := by
  by_cases ht : t.val = 0
  · rw [leaves_live m c 13 t (by rw [idle_13, decide_eq_false_iff_not]; omega), after_13]
  · have hi : cfg0.idle 13 (grid0.coords t) = true := by rw [idle_13, decide_eq_true_eq]; exact ht
    by_cases hl : t.val = 15
    · rw [leaves_flush m c 13 t hi (by rw [flush_13, decide_eq_true_eq]; exact hl), after_13]
    · rw [Dat.leavesExact_idle (dats m 0 c) 13 t hi (by rw [flush_13, decide_eq_false_iff_not]; exact hl)]
      simp only [before_13 m c t ht]
      iintro H
      iexists (fun _ => wAt m c (fun a => ⟨0, by revert a; decide⟩))
      iexact H

set_option maxHeartbeats 3200000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = inv m c (t.val + 1) from rfl, show (dats m 0 c).Φ t.castSucc = inv m c t.val from rfl,
    show (dats m 0 c).owesAt () t.succ = (dats m 0 c).owesAt () t.castSucc from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 10 t rfl, after_10]
  rw [leaves_live m c 11 t rfl, after_11]
  rw [leaves_live m c 12 t rfl, after_12]
  rw [leaves_live m c 14 t rfl, after_14]
  rw [leaves_live m c 15 t rfl, after_15]
  rw [leaves_live m c 16 t rfl, after_16]
  simp only [before_0, before_1, before_2, before_3, before_4, before_5, before_6, before_7, before_8]
  unfold inv
  iintro ⟨⟨⟨%X, %P, HX, HP, %hc⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨X1, P1, hX, hE, hP⟩ := carried m c t X P hc
  iapply (run_body _ _ _ _ _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) _ X P (wAt m c) X1 P1 (matrix m c t d13) hX Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexact H13
  isplitl [H14]; · iexists _; iexact H14
  isplitl [H15]; · iexists _; iexact H15
  isplitl [H16]; · iexists _; iexact H16
  isplitl [HX]; · iexact HX
  isplitl [HP]; · iexact HP
  rw [hE, hP]
  iintro ⟨H0, H1, H2, H3, H4, H5, H6, H7, H8, H9, H10, H11, H12, H13, H14, H15, H16, HX, HP⟩
  isplitl [HX HP Hr]
  · isplitl [HX HP]
    · iexists _, _
      isplitl [HX]; · iexact HX
      isplitl [HP]; · iexact HP
      ipureintro
      exact carry_next m c t
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (leaves_13 m c t); iexact H13
  isplitl [H14]; · iexact H14
  isplitl [H15]; · iexact H15
  iexact H16

/-- The body the pipeline calls at point `t` is the kernel's at the point's buffers. -/
theorem body_row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

/-- A whole buffer at some contents. -/
theorem some_of (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  iintro ⟨%f, H⟩
  iexists f
  rw [owns_whole_eq]
  iexists f
  isplitr; · ipureintro; rfl
  iexact H

theorem of_some (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  rw [owns_whole_eq]
  iintro ⟨%f, -, H⟩
  iexists f
  iexact H

/-- Before the first point the scratch buffers hold anything, -/
theorem inv_in (c : Dev nD) : (Pipeline.ΦA spec0 c : sProp 𝕄) ⊢ inv m c 0 := by
  unfold Pipeline.ΦA inv
  rw [scopedRest0_eq]
  refine Laws.sep_mono ((Laws.sep_mono (some_of c cc0_scratch0) (some_of c cc0_scratch1)).trans ?_) .rfl
  iintro ⟨⟨%X, H0⟩, ⟨%P, H1⟩⟩
  iexists X, P
  isplitl [H0]; · iexact H0
  isplitl [H1]; · iexact H1
  ipureintro
  intro h; exact absurd h (by decide)

/-- and after the last one it is forgotten what they hold. -/
theorem inv_out (c : Dev nD) (n : ℕ) : inv m c n ⊢ (Pipeline.ΦA spec0 c : sProp 𝕄) := by
  unfold Pipeline.ΦA inv
  rw [scopedRest0_eq]
  refine Laws.sep_mono ?_ .rfl
  iintro ⟨%X, %P, H0, H1, -⟩
  isplitl [H0]
  · iapply (of_some c cc0_scratch0 X); iexact H0
  · iapply (of_some c cc0_scratch1 P); iexact H1

set_option backward.isDefEq.respectTransparency.types false in
/-- Every run ends with each array at what the proof data computes, and every semaphore at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => inv_in m c) (hout := fun c => inv_out m c _)

/-- Such a state's arguments are as launched: an input's array is never written, and no window stages the others. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.in_eq c 0 rfl).trans ((A_eq m c 0).trans (V_main_arg0 m c)),
    (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c),
    (h.rest_eq c main_arg3 (Pipeline.mem_restRefs_of main_arg3 (by decide) (by decide))).trans (V_main_arg3 m c),
    (h.rest_eq c main_arg4 (Pipeline.mem_restRefs_of main_arg4 (by decide) (by decide))).trans (V_main_arg4 m c),
    (h.rest_eq c main_arg5 (Pipeline.mem_restRefs_of main_arg5 (by decide) (by decide))).trans (V_main_arg5 m c),
    (h.rest_eq c main_arg6 (Pipeline.mem_restRefs_of main_arg6 (by decide) (by decide))).trans (V_main_arg6 m c),
    (h.rest_eq c main_arg7 (Pipeline.mem_restRefs_of main_arg7 (by decide) (by decide))).trans (V_main_arg7 m c),
    (h.rest_eq c main_arg8 (Pipeline.mem_restRefs_of main_arg8 (by decide) (by decide))).trans (V_main_arg8 m c)⟩

/-- Every run ends with the four results at what the proof data computes, the arguments as launched and every semaphore at zero. -/
theorem run_main : θ_run defs (onTc (τ := τ) (main (F := F))) ⟨m, fun _ => 0, ρ⟩ (fun r => (∀ c : Dev nD,
      r.2.mem ((c.tc : Thread nD τ).loc main_v11_0) = (dats m 0 c).arrAt 9 cfg0.N
      ∧ r.2.mem ((c.tc : Thread nD τ).loc main_v11_1) = (dats m 0 c).arrAt 10 cfg0.N
      ∧ r.2.mem ((c.tc : Thread nD τ).loc main_v11_2) = (dats m 0 c).arrAt 11 cfg0.N
      ∧ r.2.mem ((c.tc : Thread nD τ).loc main_v11_3) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨h.1.out_eq c 9, h.1.out_eq c 10, h.1.out_eq c 11, h.1.out_eq c 12, args_kept m r h.1 c⟩, h.2⟩) (run_all m ρ)

end Cert.Kernel3Ideal.Pool

end
-- ==== Proof.PoolMath.lean ====
/- The input projection, the token shift and the causal window means, over the extended reals. -/
module

public import proofs.«01_k».proof.Proof.MlpMath

@[expose] public section

noncomputable section

namespace Cert.Pool

open Idealize.ShloMosaic Idealize.ShloMosaic.Tactic Cert.Mlp

/-- Channel `d` of the projection of row `r` of batch `b`: the row divided by its root mean square, through the matrix. -/
def proj (x : (⟨3, ![8, 2048, 1024]⟩ : Shape).Idx → EReal) (g : (⟨2, ![1, 1024]⟩ : Shape).Idx → EReal) (w : (⟨3, ![1, 1024, 2304]⟩ : Shape).Idx → EReal)
    (b : Fin 8) (r : Fin 2048) (d : Fin 2304) : EReal :=
  ∑ k : Fin 1024, rmsn (fun j => x (ix3 b r j)) (fun j => g (ix2 (0 : Fin 1) j)) k * w (ix3 (0 : Fin 1) k d)

/-- A sequence's value `i` rows before row `n`, and zero before its start. -/
def back (U : Fin 2048 → EReal) (n i : ℕ) : EReal := if h : i ≤ n ∧ n < 2048 then U ⟨n - i, by omega⟩ else 0

/-- The sum of the last `k` values at row `n`. -/
def win (k : ℕ) (U : Fin 2048 → EReal) (n : ℕ) : EReal := ∑ i ∈ Finset.range k, back U n i

/-- How many values it has: the window or, near the start, the rows so far. -/
def cnt (k : BitVec 32) (n : ℕ) : EReal := FloatOps.sitofp (F := Ideal) FTy.f32 (IntOp.minsi k (IntOp.addi (BitVec.ofNat 32 n) 1#32))

/-- The mean of the last `k` values less the value itself. -/
def dev (k : ℕ) (U : Fin 2048 → EReal) (n : Fin 2048) : EReal := Ideal.div (win k U n.val) (cnt (BitVec.ofNat 32 k) n.val) - U n

/-- The channels the projection hands to the shift, mixed with the row before. -/
def shifted (x : (⟨3, ![8, 2048, 1024]⟩ : Shape).Idx → EReal) (g : (⟨2, ![1, 1024]⟩ : Shape).Idx → EReal) (w : (⟨3, ![1, 1024, 2304]⟩ : Shape).Idx → EReal)
    (mu : (⟨2, ![1, 1792]⟩ : Shape).Idx → EReal) (b : Fin 8) (r : Fin 2048) (d : Fin 1792) : EReal :=
  proj x g w b r ⟨512 + d.val, by omega⟩
    + (back (fun s => proj x g w b s ⟨512 + d.val, by omega⟩) r.val 1 - proj x g w b r ⟨512 + d.val, by omega⟩) * mu (ix2 (0 : Fin 1) d)

/-- One window's channels through its matrix. -/
def group (k : ℕ) (x : (⟨3, ![8, 2048, 1024]⟩ : Shape).Idx → EReal) (g : (⟨2, ![1, 1024]⟩ : Shape).Idx → EReal) (w : (⟨3, ![1, 1024, 2304]⟩ : Shape).Idx → EReal)
    (pw : (⟨4, ![1, 4, 128, 128]⟩ : Shape).Idx → EReal) (b : Fin 8) (r : Fin 2048) (q : Fin 4) (l : Fin 128) : EReal :=
  ∑ j : Fin 128, dev k (fun s => proj x g w b s ⟨128 * q.val + j.val, by omega⟩) r * pw (ix4 (0 : Fin 1) q j l)

/-- The pooled result at channel `128 q + l`: windows of 2, 4, 8 and 16 rows. -/
def pooled (x : (⟨3, ![8, 2048, 1024]⟩ : Shape).Idx → EReal) (g : (⟨2, ![1, 1024]⟩ : Shape).Idx → EReal) (w : (⟨3, ![1, 1024, 2304]⟩ : Shape).Idx → EReal)
    (pw : (⟨4, ![1, 4, 128, 128]⟩ : Shape).Idx → EReal) (ps : (⟨2, ![1, 512]⟩ : Shape).Idx → EReal) (b : Fin 8) (r : Fin 2048) (q : Fin 4) (l : Fin 128) : EReal :=
  group (![2, 4, 8, 16] q) x g w pw b r q l * ps (ix2 (0 : Fin 1) (⟨128 * q.val + l.val, by omega⟩ : Fin 512))

/-- The doubling sums: two, -/
theorem dbl2 (f : ℕ → EReal) (n : ℕ) : f n + f (n - 1) = ∑ i ∈ Finset.range 2, f (n - i) := by
  simp only [Finset.sum_range_succ, Finset.sum_range_zero, zero_add, Nat.sub_zero]
/-- four, -/
theorem dbl4 (f : ℕ → EReal) (n : ℕ) : f n + f (n - 1) + (f (n - 2) + f (n - 2 - 1)) = ∑ i ∈ Finset.range 4, f (n - i) := by
  simp only [Finset.sum_range_succ, Finset.sum_range_zero, zero_add, Nat.sub_zero, Nat.sub_sub, add_assoc]
/-- eight -/
theorem dbl8 (f : ℕ → EReal) (n : ℕ) : f n + f (n - 1) + (f (n - 2) + f (n - 2 - 1))
    + (f (n - 4) + f (n - 4 - 1) + (f (n - 4 - 2) + f (n - 4 - 2 - 1))) = ∑ i ∈ Finset.range 8, f (n - i) := by
  simp only [Finset.sum_range_succ, Finset.sum_range_zero, zero_add, Nat.sub_zero, Nat.sub_sub, Nat.reduceAdd, add_assoc]
/-- and sixteen values. -/
theorem dbl16 (f : ℕ → EReal) (n : ℕ) : f n + f (n - 1) + (f (n - 2) + f (n - 2 - 1))
    + (f (n - 4) + f (n - 4 - 1) + (f (n - 4 - 2) + f (n - 4 - 2 - 1)))
    + (f (n - 8) + f (n - 8 - 1) + (f (n - 8 - 2) + f (n - 8 - 2 - 1))
      + (f (n - 8 - 4) + f (n - 8 - 4 - 1) + (f (n - 8 - 4 - 2) + f (n - 8 - 4 - 2 - 1)))) = ∑ i ∈ Finset.range 16, f (n - i) := by
  simp only [Finset.sum_range_succ, Finset.sum_range_zero, zero_add, Nat.sub_zero, Nat.sub_sub, Nat.reduceAdd, add_assoc]

/-- A block's count is the row's. -/
theorem cnt_block (k : BitVec 32) (j r : ℕ) : FloatOps.sitofp (F := Ideal) FTy.f32
    (IntOp.minsi k (IntOp.addi (IntOp.addi (Scalar.muli (BitVec.ofNat 32 j) 1024#32) (BitVec.ofNat 32 r)) 1#32)) = cnt k (j * 1024 + r) := by
  have h : IntOp.addi (Scalar.muli (BitVec.ofNat 32 j) 1024#32) (BitVec.ofNat 32 r) = BitVec.ofNat 32 (j * 1024 + r) := by
    rw [BitVec.ofNat_add, BitVec.ofNat_mul]
    rfl
  rw [h]
  rfl

end Cert.Pool

end
-- ==== Proof.PoolBlk.lean ====
/- The blocks the input projection and pooling call stores, at an element. -/
module

public import proofs.«01_k».proof.Proof.PoolRun
public import proofs.«01_k».proof.Proof.PoolMath

@[expose] public section

set_option maxRecDepth 16384

noncomputable section

namespace Cert.Kernel3Ideal.Pool

open Cert.Kernel3Ideal Cert.Kernel3Ideal.Gen Cert.Mlp Cert.Pool
open Idealize.ShloMosaic Idealize.ShloMosaic.TcCoe Idealize.ShloMosaic.Tactic

/-- A load of a whole buffer takes all of it. -/
theorem part_full {α : Type} {s : Shape} (X : s.Idx → α) {off : Fin s.rank → ℕ} (inb : ∀ a, off a + s.size a ≤ s.size a) :
    part X (Rect.unit (s := s) off s.size inb).toLoadRect = X :=
  funext fun y => congrArg X (Rect.emb_unit_full inb y)

variable (x : Vec Ideal S1x1024x1024 .f32) (g : Vec Ideal S1x1024 .f32) (W : Vec Ideal S1024x2304 .bf16) (E : Vec Ideal S1040x512 .f32)
  (u : FVec Ideal S1024x512 .f32) (pw : Vec Ideal S4x128x128 .f32) (a : BitVec 32)

/-! ## The projection -/

theorem pay12_at (r : Fin 1024) (d : Fin 2304) : k0_pay12 (k0_pay9 x) (k0_pay10 g) (k0_pay11 x) W (ix2 r d)
    = ∑ k : Fin 1024, rmsn (fun j => x (ix3 (0 : Fin 1) r j)) (fun j => g (ix2 (0 : Fin 1) j)) k * W (ix2 k d) := by
  pointwise [k0_pay12, k0_pay9, k0_pay10, k0_pay11, rmsn]

theorem uOut_at (r : Fin 1024) (d : Fin 512) : uOut x g W (ix2 r d)
    = ∑ k : Fin 1024, rmsn (fun j => x (ix3 (0 : Fin 1) r j)) (fun j => g (ix2 (0 : Fin 1) j)) k * W (ix2 k (⟨d.val, by omega⟩ : Fin 2304)) := by
  unfold uOut
  simp -proj only [part_full]
  pointwise [k0_pay13]
  exact pay12_at x g W r _
theorem pOut_at (r : Fin 1024) (d : Fin 1792) : pOut x g W (ix2 r d)
    = ∑ k : Fin 1024, rmsn (fun j => x (ix3 (0 : Fin 1) r j)) (fun j => g (ix2 (0 : Fin 1) j)) k * W (ix2 k (⟨512 + d.val, by omega⟩ : Fin 2304)) := by
  unfold pOut
  simp -proj only [part_full]
  pointwise [k0_pay16]
  exact pay12_at x g W r _
theorem ulOut_at (r : Fin 16) (d : Fin 512) : ulOut x g W (ix3 (0 : Fin 1) r d) = uOut x g W (ix2 (⟨1008 + r.val, by omega⟩ : Fin 1024) d) := by
  unfold ulOut uOut
  simp -proj only [part_full]
  pointwise [k0_pay15]
theorem pay19_at (p : FVec Ideal S1024x1792 .f32) (d : Fin 1792) : k0_pay19 p (ix3 (0 : Fin 1) (0 : Fin 1) d) = p (ix2 (1023 : Fin 1024) d) := by
  pointwise [k0_pay19]
theorem pay18_at (p : FVec Ideal S1024x1792 .f32) (d : Fin 1792) : k0_pay18 p (ix2 (0 : Fin 1) d) = p (ix2 (1023 : Fin 1024) d) := by
  pointwise [k0_pay18]

/-- The row number is compared with zero. -/
theorem row_zero (r : Fin 1024) : IntOp.cmpi CmpIPredicate.eq (BitVec.ofNat 32 r.val) 0#32 = if r.val = 0 then 1#1 else 0#1 := by
  revert r
  decide +kernel

theorem shOut_at (P : Vec Ideal S8x1792 .f32) (mu : Vec Ideal S1x1792 .f32) (r : Fin 1024) (d : Fin 1792) : shOut x g W P mu (ix3 (0 : Fin 1) r d)
    = pOut x g W (ix2 r d) + ((if r.val = 0 then P (ix2 (0 : Fin 8) d) else pOut x g W (ix2 (⟨r.val - 1, by omega⟩ : Fin 1024) d)) - pOut x g W (ix2 r d)) * mu (ix2 (0 : Fin 1) d) := by
  unfold shOut pOut
  simp -proj only [part_full]
  pointwise [k0_pay17, part]
  rw [row_zero]
  by_cases h : r.val = 0
  · rw [if_pos h, if_pos h]
    rfl
  · rw [if_neg h, if_neg h, show (⟨(r.val + 1024 - 1) % 1024, Nat.mod_lt _ (by decide)⟩ : Fin 1024) = ⟨r.val - 1, by omega⟩ from Fin.ext (by simp only; omega)]
    rfl

/-! ## The window sums -/

/-- `X` reads `f`, row by row, from row `lo` on, in column `l`. -/
def Reads (X : FVec Ideal S1040x128 .f32) (lo : ℕ) (f : ℕ → EReal) (l : Fin 128) : Prop := ∀ q : Fin 1040, lo ≤ q.val → X (ix2 q l) = f q.val

/-- Rolled by `s` rows and added. -/
def roll (s : BitVec 32) (X : FVec Ideal S1040x128 .f32) : FVec Ideal S1040x128 .f32 := addf X (dynamicRotate 0 s none X rotates_S1040x128_d0)

theorem roll_1 (X : FVec Ideal S1040x128 .f32) (lo : ℕ) (f : ℕ → EReal) (l : Fin 128) (h : Reads X lo f l) :
    Reads (roll 1#32 X) (lo + 1) (fun n => f n + f (n - 1)) l := by
  intro q hq
  have e : (⟨(q.val + 1040 - 1) % 1040, Nat.mod_lt _ (by decide)⟩ : Fin 1040) = ⟨q.val - 1, by omega⟩ := Fin.ext (by simp only; omega)
  have r : roll 1#32 X (ix2 q l) = X (ix2 q l) + X (ix2 (⟨(q.val + 1040 - 1) % 1040, Nat.mod_lt _ (by decide)⟩ : Fin 1040) l) := by
    pointwise [roll]
  rw [r, e, h q (by omega), h ⟨q.val - 1, by omega⟩ (by show lo ≤ q.val - 1; omega)]
theorem roll_2 (X : FVec Ideal S1040x128 .f32) (lo : ℕ) (f : ℕ → EReal) (l : Fin 128) (h : Reads X lo f l) :
    Reads (roll 2#32 X) (lo + 2) (fun n => f n + f (n - 2)) l := by
  intro q hq
  have e : (⟨(q.val + 1040 - 2) % 1040, Nat.mod_lt _ (by decide)⟩ : Fin 1040) = ⟨q.val - 2, by omega⟩ := Fin.ext (by simp only; omega)
  have r : roll 2#32 X (ix2 q l) = X (ix2 q l) + X (ix2 (⟨(q.val + 1040 - 2) % 1040, Nat.mod_lt _ (by decide)⟩ : Fin 1040) l) := by
    pointwise [roll]
  rw [r, e, h q (by omega), h ⟨q.val - 2, by omega⟩ (by show lo ≤ q.val - 2; omega)]
theorem roll_4 (X : FVec Ideal S1040x128 .f32) (lo : ℕ) (f : ℕ → EReal) (l : Fin 128) (h : Reads X lo f l) :
    Reads (roll 4#32 X) (lo + 4) (fun n => f n + f (n - 4)) l := by
  intro q hq
  have e : (⟨(q.val + 1040 - 4) % 1040, Nat.mod_lt _ (by decide)⟩ : Fin 1040) = ⟨q.val - 4, by omega⟩ := Fin.ext (by simp only; omega)
  have r : roll 4#32 X (ix2 q l) = X (ix2 q l) + X (ix2 (⟨(q.val + 1040 - 4) % 1040, Nat.mod_lt _ (by decide)⟩ : Fin 1040) l) := by
    pointwise [roll]
  rw [r, e, h q (by omega), h ⟨q.val - 4, by omega⟩ (by show lo ≤ q.val - 4; omega)]
theorem roll_8 (X : FVec Ideal S1040x128 .f32) (lo : ℕ) (f : ℕ → EReal) (l : Fin 128) (h : Reads X lo f l) :
    Reads (roll 8#32 X) (lo + 8) (fun n => f n + f (n - 8)) l := by
  intro q hq
  have e : (⟨(q.val + 1040 - 8) % 1040, Nat.mod_lt _ (by decide)⟩ : Fin 1040) = ⟨q.val - 8, by omega⟩ := Fin.ext (by simp only; omega)
  have r : roll 8#32 X (ix2 q l) = X (ix2 q l) + X (ix2 (⟨(q.val + 1040 - 8) % 1040, Nat.mod_lt _ (by decide)⟩ : Fin 1040) l) := by
    pointwise [roll]
  rw [r, e, h q (by omega), h ⟨q.val - 8, by omega⟩ (by show lo ≤ q.val - 8; omega)]

/-- A column of the extended block, row by row. -/
def colE (c : Fin 512) (n : ℕ) : EReal := if h : n < 1040 then E (ix2 (⟨n, h⟩ : Fin 1040) c) else 0

theorem reads_0 (l : Fin 128) : Reads (col0 E) 0 (colE E ⟨0 + l.val, by omega⟩) l := by
  intro q _
  unfold colE
  rw [dif_pos q.isLt]
  pointwise [part, col0]
theorem reads_1 (l : Fin 128) : Reads (col1 E) 0 (colE E ⟨128 + l.val, by omega⟩) l := by
  intro q _
  unfold colE
  rw [dif_pos q.isLt]
  pointwise [part, col1]
theorem reads_2 (l : Fin 128) : Reads (col2 E) 0 (colE E ⟨256 + l.val, by omega⟩) l := by
  intro q _
  unfold colE
  rw [dif_pos q.isLt]
  pointwise [part, col2]
theorem reads_3 (l : Fin 128) : Reads (col3 E) 0 (colE E ⟨384 + l.val, by omega⟩) l := by
  intro q _
  unfold colE
  rw [dif_pos q.isLt]
  pointwise [part, col3]

/-- One window: the sums over the counts, less the values, through the window's matrix. -/
def grp (S : FVec Ideal S1024x128 .f32) (c : IVec S1024x1 32) (w : BitVec 32) (U : FVec Ideal S1024x128 .f32) (M : Vec Ideal S1x128x128 .f32) : FVec Ideal S1024x128 .f32 :=
  matmul dot_S1024x128_S128x128_S1024x128_1_0_0_1_n_n none
    (truncf .bf16 (subf (divf S (broadcastTo S1024x128 (sitofp .f32 (minsi (broadcast S1024x1 w) (addi c (broadcast S1024x1 1#32)))) broadcasts_S1024x1_S1024x128)) U) bitsLt_bf16_f32)
    (truncf .bf16 (shapeCast S128x128 M shapeCasts_S1x128x128_S128x128) bitsLt_bf16_f32) (constant S1024x128 .f32 0x00000000#32)
theorem grp_at (S : FVec Ideal S1024x128 .f32) (c : IVec S1024x1 32) (w : BitVec 32) (U : FVec Ideal S1024x128 .f32) (M : Vec Ideal S1x128x128 .f32) (r : Fin 1024) (l : Fin 128) :
    grp S c w U M (ix2 r l) = ∑ j : Fin 128, (Ideal.div (S (ix2 r j)) (FloatOps.sitofp (F := Ideal) FTy.f32 (IntOp.minsi w (IntOp.addi (c (ix2 r (0 : Fin 1))) 1#32))) - U (ix2 r j))
      * M (ix3 (0 : Fin 1) j l) := by
  pointwise [grp]

/-- The rows the block keeps. -/
def low (X : FVec Ideal S1040x128 .f32) : FVec Ideal S1024x128 .f32 := extractStridedSlice S1024x128 ![16, 0] X slices_S1040x128_o16_0_S1024x128
theorem low_at (X : FVec Ideal S1040x128 .f32) (lo : ℕ) (f : ℕ → EReal) (l : Fin 128) (h : Reads X lo f l) (hl : lo ≤ 16) (r : Fin 1024) :
    low X (ix2 r l) = f (16 + r.val) := by
  have e : low X (ix2 r l) = X (ix2 (⟨16 + r.val, by omega⟩ : Fin 1040) l) := by pointwise [low]
  rw [e]
  exact h ⟨16 + r.val, by omega⟩ (by show lo ≤ 16 + r.val; omega)

theorem pay20_at (r : Fin 1024) : k0_pay20 a (ix2 r (0 : Fin 1)) = IntOp.addi (Scalar.muli a 1024#32) (BitVec.ofNat 32 r.val) := by
  pointwise [k0_pay20]

/-- Columns 0 to 127 of the block. -/
def usl0 : FVec Ideal S1024x128 .f32 := extractStridedSlice S1024x128 ![0, 0] u slices_S1024x512_o0_0_S1024x128
theorem usl0_at (r : Fin 1024) (j : Fin 128) : usl0 u (ix2 r j) = u (ix2 r (⟨0 + j.val, by omega⟩ : Fin 512)) := by
  pointwise [usl0]
/-- Columns 128 to 255 of the block. -/
def usl1 : FVec Ideal S1024x128 .f32 := extractStridedSlice S1024x128 ![0, 128] u slices_S1024x512_o0_128_S1024x128
theorem usl1_at (r : Fin 1024) (j : Fin 128) : usl1 u (ix2 r j) = u (ix2 r (⟨128 + j.val, by omega⟩ : Fin 512)) := by
  pointwise [usl1]
/-- Columns 256 to 383 of the block. -/
def usl2 : FVec Ideal S1024x128 .f32 := extractStridedSlice S1024x128 ![0, 256] u slices_S1024x512_o0_256_S1024x128
theorem usl2_at (r : Fin 1024) (j : Fin 128) : usl2 u (ix2 r j) = u (ix2 r (⟨256 + j.val, by omega⟩ : Fin 512)) := by
  pointwise [usl2]
/-- Columns 384 to 511 of the block. -/
def usl3 : FVec Ideal S1024x128 .f32 := extractStridedSlice S1024x128 ![0, 384] u slices_S1024x512_o0_384_S1024x128
theorem usl3_at (r : Fin 1024) (j : Fin 128) : usl3 u (ix2 r j) = u (ix2 r (⟨384 + j.val, by omega⟩ : Fin 512)) := by
  pointwise [usl3]

/-- The four windows' blocks: -/
def gr0 : FVec Ideal S1024x128 .f32 := grp (low (roll 1#32 (col0 E))) (k0_pay20 a) 2#32 (usl0 u) (mix0 pw)
def gr1 : FVec Ideal S1024x128 .f32 := grp (low (roll 2#32 (roll 1#32 (col1 E)))) (k0_pay20 a) 4#32 (usl1 u) (mix1 pw)
def gr2 : FVec Ideal S1024x128 .f32 := grp (low (roll 4#32 (roll 2#32 (roll 1#32 (col2 E))))) (k0_pay20 a) 8#32 (usl2 u) (mix2 pw)
def gr3 : FVec Ideal S1024x128 .f32 := grp (low (roll 8#32 (roll 4#32 (roll 2#32 (roll 1#32 (col3 E)))))) (k0_pay20 a) 16#32 (usl3 u) (mix3 pw)
theorem gr0_at (r : Fin 1024) (l : Fin 128) : gr0 E u pw a (ix2 r l)
    = ∑ j : Fin 128, (Ideal.div (∑ i ∈ Finset.range 2, colE E ⟨0 + j.val, by omega⟩ (16 + r.val - i))
        (FloatOps.sitofp (F := Ideal) FTy.f32 (IntOp.minsi 2#32 (IntOp.addi (IntOp.addi (Scalar.muli a 1024#32) (BitVec.ofNat 32 r.val)) 1#32)))
      - u (ix2 r (⟨0 + j.val, by omega⟩ : Fin 512))) * pw (ix3 (0 : Fin 4) j l) := by
  unfold gr0
  rw [grp_at, pay20_at]
  refine Finset.sum_congr rfl fun j _ => ?_
  have hs := low_at _ _ _ j (roll_1 _ _ _ j (reads_0 E j)) (by decide) r
  rw [hs, usl0_at]
  have hm : mix0 pw (ix3 (0 : Fin 1) j l) = pw (ix3 (0 : Fin 4) j l) := by pointwise [part, mix0]
  rw [hm]
  exact congrArg (fun z => (Ideal.div z _ - _) * _) (dbl2 (colE E ⟨0 + j.val, by omega⟩) (16 + r.val))
theorem gr1_at (r : Fin 1024) (l : Fin 128) : gr1 E u pw a (ix2 r l)
    = ∑ j : Fin 128, (Ideal.div (∑ i ∈ Finset.range 4, colE E ⟨128 + j.val, by omega⟩ (16 + r.val - i))
        (FloatOps.sitofp (F := Ideal) FTy.f32 (IntOp.minsi 4#32 (IntOp.addi (IntOp.addi (Scalar.muli a 1024#32) (BitVec.ofNat 32 r.val)) 1#32)))
      - u (ix2 r (⟨128 + j.val, by omega⟩ : Fin 512))) * pw (ix3 (1 : Fin 4) j l) := by
  unfold gr1
  rw [grp_at, pay20_at]
  refine Finset.sum_congr rfl fun j _ => ?_
  have hs := low_at _ _ _ j (roll_2 _ _ _ j (roll_1 _ _ _ j (reads_1 E j))) (by decide) r
  rw [hs, usl1_at]
  have hm : mix1 pw (ix3 (0 : Fin 1) j l) = pw (ix3 (1 : Fin 4) j l) := by pointwise [part, mix1]
  rw [hm]
  exact congrArg (fun z => (Ideal.div z _ - _) * _) (dbl4 (colE E ⟨128 + j.val, by omega⟩) (16 + r.val))
theorem gr2_at (r : Fin 1024) (l : Fin 128) : gr2 E u pw a (ix2 r l)
    = ∑ j : Fin 128, (Ideal.div (∑ i ∈ Finset.range 8, colE E ⟨256 + j.val, by omega⟩ (16 + r.val - i))
        (FloatOps.sitofp (F := Ideal) FTy.f32 (IntOp.minsi 8#32 (IntOp.addi (IntOp.addi (Scalar.muli a 1024#32) (BitVec.ofNat 32 r.val)) 1#32)))
      - u (ix2 r (⟨256 + j.val, by omega⟩ : Fin 512))) * pw (ix3 (2 : Fin 4) j l) := by
  unfold gr2
  rw [grp_at, pay20_at]
  refine Finset.sum_congr rfl fun j _ => ?_
  have hs := low_at _ _ _ j (roll_4 _ _ _ j (roll_2 _ _ _ j (roll_1 _ _ _ j (reads_2 E j)))) (by decide) r
  rw [hs, usl2_at]
  have hm : mix2 pw (ix3 (0 : Fin 1) j l) = pw (ix3 (2 : Fin 4) j l) := by pointwise [part, mix2]
  rw [hm]
  exact congrArg (fun z => (Ideal.div z _ - _) * _) (dbl8 (colE E ⟨256 + j.val, by omega⟩) (16 + r.val))
theorem gr3_at (r : Fin 1024) (l : Fin 128) : gr3 E u pw a (ix2 r l)
    = ∑ j : Fin 128, (Ideal.div (∑ i ∈ Finset.range 16, colE E ⟨384 + j.val, by omega⟩ (16 + r.val - i))
        (FloatOps.sitofp (F := Ideal) FTy.f32 (IntOp.minsi 16#32 (IntOp.addi (IntOp.addi (Scalar.muli a 1024#32) (BitVec.ofNat 32 r.val)) 1#32)))
      - u (ix2 r (⟨384 + j.val, by omega⟩ : Fin 512))) * pw (ix3 (3 : Fin 4) j l) := by
  unfold gr3
  rw [grp_at, pay20_at]
  refine Finset.sum_congr rfl fun j _ => ?_
  have hs := low_at _ _ _ j (roll_8 _ _ _ j (roll_4 _ _ _ j (roll_2 _ _ _ j (roll_1 _ _ _ j (reads_3 E j))))) (by decide) r
  rw [hs, usl3_at]
  have hm : mix3 pw (ix3 (0 : Fin 1) j l) = pw (ix3 (3 : Fin 4) j l) := by pointwise [part, mix3]
  rw [hm]
  exact congrArg (fun z => (Ideal.div z _ - _) * _) (dbl16 (colE E ⟨384 + j.val, by omega⟩) (16 + r.val))

/-- The four side by side, scaled. -/
def scaled (A B C D : FVec Ideal S1024x128 .f32) (ps : Vec Ideal S1x512 .f32) : FVec Ideal S1x1024x512 .bf16 :=
  shapeCast S1x1024x512 (truncf .bf16 (mulf (concatenate S1024x512 1 [⟨S1024x128, A⟩, ⟨S1024x128, B⟩, ⟨S1024x128, C⟩, ⟨S1024x128, D⟩] concatenates_S1024x128_S1024x128_S1024x128_S1024x128_S1024x512_d1)
    (broadcastTo S1024x512 (shapeCast S1x512 ps shapeCasts_S1x512_S1x512) broadcasts_S1x512_S1024x512)) bitsLt_bf16_f32) shapeCasts_S1024x512_S1x1024x512

theorem poOut_eq (ps : Vec Ideal S1x512 .f32) : poOut a u E pw ps = scaled (gr0 E u pw a) (gr1 E u pw a) (gr2 E u pw a) (gr3 E u pw a) ps := by
  unfold poOut
  rw [part_full]
  rfl

theorem scaled_0 (A B C D : FVec Ideal S1024x128 .f32) (ps : Vec Ideal S1x512 .f32) (r : Fin 1024) (l : Fin 128) :
    scaled A B C D ps (ix3 (0 : Fin 1) r (⟨0 + l.val, by omega⟩ : Fin 512)) = A (ix2 r l) * ps (ix2 (0 : Fin 1) (⟨0 + l.val, by omega⟩ : Fin 512)) := by
  pointwise [scaled]
theorem scaled_1 (A B C D : FVec Ideal S1024x128 .f32) (ps : Vec Ideal S1x512 .f32) (r : Fin 1024) (l : Fin 128) :
    scaled A B C D ps (ix3 (0 : Fin 1) r (⟨128 + l.val, by omega⟩ : Fin 512)) = B (ix2 r l) * ps (ix2 (0 : Fin 1) (⟨128 + l.val, by omega⟩ : Fin 512)) := by
  pointwise [scaled]
theorem scaled_2 (A B C D : FVec Ideal S1024x128 .f32) (ps : Vec Ideal S1x512 .f32) (r : Fin 1024) (l : Fin 128) :
    scaled A B C D ps (ix3 (0 : Fin 1) r (⟨256 + l.val, by omega⟩ : Fin 512)) = C (ix2 r l) * ps (ix2 (0 : Fin 1) (⟨256 + l.val, by omega⟩ : Fin 512)) := by
  pointwise [scaled]
  rw [dif_neg (by omega), dif_neg (by omega), dif_pos (by omega)]
  exact congrArg (fun z => C (ix2 r z) * _) (Fin.ext (by show 256 + l.val - 128 - 128 = l.val; omega))
theorem scaled_3 (A B C D : FVec Ideal S1024x128 .f32) (ps : Vec Ideal S1x512 .f32) (r : Fin 1024) (l : Fin 128) :
    scaled A B C D ps (ix3 (0 : Fin 1) r (⟨384 + l.val, by omega⟩ : Fin 512)) = D (ix2 r l) * ps (ix2 (0 : Fin 1) (⟨384 + l.val, by omega⟩ : Fin 512)) := by
  pointwise [scaled]
  rw [dif_neg (by omega), dif_neg (by omega), dif_neg (by omega)]
  exact congrArg (fun z => D (ix2 r z) * _) (Fin.ext (by show 384 + l.val - 128 - 128 - 128 = l.val; omega))

end Cert.Kernel3Ideal.Pool

end
-- ==== Proof.PoolHost.lean ====
/- The input projection and pooling call's operands and blocks, over the call's arguments. -/
module

public import proofs.«01_k».proof.Proof.PoolBlk
public import Idealize.ShloMosaic.Lib.Pipeline.ValueKit.Geometry

@[expose] public section

set_option maxRecDepth 16384

noncomputable section

namespace Cert.Kernel3Ideal.Pool

open Cert.Kernel3Ideal Cert.Kernel3Ideal.Gen Cert.Mlp Cert.Pool
open Idealize.ShloMosaic Idealize.ShloMosaic.TcCoe Idealize.ShloMosaic.Tactic

variable (m : (ℓ : Loc nD τ sig) → Buf (Elt Ideal) ℓ) (c : Dev nD)

/-- A gain, -/
def hG (a : FVec Ideal S1x1024 .f32) : FVec Ideal S1x1024 .f32 := shapeCast S1x1024 (shapeCast S1024 a shapeCasts_S1x1024_S1024) shapeCasts_S1024_S1x1024
/-- the projection's matrix, -/
def hW (a : FVec Ideal S1x1024x2304 .f32) : FVec Ideal S1024x2304 .f32 := shapeCast S1024x2304 a shapeCasts_S1x1024x2304_S1024x2304
/-- the windows' matrices, -/
def hM (a : FVec Ideal S1x4x128x128 .f32) : FVec Ideal S4x128x128 .f32 := shapeCast S4x128x128 a shapeCasts_S1x4x128x128_S4x128x128
/-- the pooled channels' scale, -/
def hS (a : FVec Ideal S1x512 .f32) : FVec Ideal S1x512 .f32 := shapeCast S1x512 (shapeCast S512 a shapeCasts_S1x512_S512) shapeCasts_S512_S1x512
/-- the shift's weights. -/
def hMu (a : FVec Ideal S1x1792 .f32) : FVec Ideal S1x1792 .f32 := shapeCast S1x1792 (shapeCast S1792 a shapeCasts_S1x1792_S1792) shapeCasts_S1792_S1x1792

theorem hG_at (a : FVec Ideal S1x1024 .f32) (j : Fin 1024) : hG a (ix2 (0 : Fin 1) j) = a (ix2 (0 : Fin 1) j) := by
  pointwise [hG]
theorem hW_at (a : FVec Ideal S1x1024x2304 .f32) (k : Fin 1024) (d : Fin 2304) : hW a (ix2 k d) = a (ix3 (0 : Fin 1) k d) := by
  pointwise [hW]
theorem hM_at (a : FVec Ideal S1x4x128x128 .f32) (q : Fin 4) (j l : Fin 128) : hM a (ix3 q j l) = a (ix4 (0 : Fin 1) q j l) := by
  pointwise [hM]
theorem hS_at (a : FVec Ideal S1x512 .f32) (j : Fin 512) : hS a (ix2 (0 : Fin 1) j) = a (ix2 (0 : Fin 1) j) := by
  pointwise [hS]
theorem hMu_at (a : FVec Ideal S1x1792 .f32) (j : Fin 1792) : hMu a (ix2 (0 : Fin 1) j) = a (ix2 (0 : Fin 1) j) := by
  pointwise [hMu]

theorem V_v1 : V m c main_v1 = hG (m ((c : Thread nD τ).loc main_arg1)) := by
  show StableHlo.after hostOps0 (fun b => m (c, b)) main_v1 = _
  after_results <;> rfl
theorem V_v2 : V m c main_v2 = hW (m ((c : Thread nD τ).loc main_arg2)) := by
  show StableHlo.after hostOps0 (fun b => m (c, b)) main_v2 = _
  after_results <;> rfl
theorem V_v3 : V m c main_v3 = hM (m ((c : Thread nD τ).loc main_arg4)) := by
  show StableHlo.after hostOps0 (fun b => m (c, b)) main_v3 = _
  after_results <;> rfl
theorem V_v5 : V m c main_v5 = hS (m ((c : Thread nD τ).loc main_arg5)) := by
  show StableHlo.after hostOps0 (fun b => m (c, b)) main_v5 = _
  after_results <;> rfl
theorem V_v7 : V m c main_v7 = hMu (m ((c : Thread nD τ).loc main_arg3)) := by
  show StableHlo.after hostOps0 (fun b => m (c, b)) main_v7 = _
  after_results <;> rfl

/-! The windows' blocks. -/

theorem index_0 : ∀ t : Fin cfg0.N, win0_0.index t = ![t.val / 2, t.val % 2, 0] := (by decide +kernel : ∀ t : Fin grid0.N, win0_0.index t = ![t.val / 2, t.val % 2, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![0, 0, 0] := (by decide +kernel : ∀ t : Fin grid0.N, win0_3.index t = ![0, 0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_9 : ∀ t : Fin cfg0.N, win0_9.index t = ![t.val / 2, t.val % 2, 0] := (by decide +kernel : ∀ t : Fin grid0.N, win0_9.index t = ![t.val / 2, t.val % 2, 0])
theorem index_10 : ∀ t : Fin cfg0.N, win0_10.index t = ![t.val / 2, t.val % 2, 0] := (by decide +kernel : ∀ t : Fin grid0.N, win0_10.index t = ![t.val / 2, t.val % 2, 0])
theorem index_11 : ∀ t : Fin cfg0.N, win0_11.index t = ![t.val / 2, 0, 0] := (by decide +kernel : ∀ t : Fin grid0.N, win0_11.index t = ![t.val / 2, 0, 0])
theorem index_12 : ∀ t : Fin cfg0.N, win0_12.index t = ![t.val / 2, 0, 0] := (by decide +kernel : ∀ t : Fin grid0.N, win0_12.index t = ![t.val / 2, 0, 0])
theorem block_of : ∀ t : Fin cfg0.N, (grid0.coords t 1).val = t.val % 2 := (by decide +kernel : ∀ t : Fin grid0.N, (grid0.coords t 1).val = t.val % 2)
theorem lt_16 (t : Fin cfg0.N) : t.val < 16 := lt_of_lt_of_eq t.isLt (show cfg0.N = 16 from N_0)

/-- The batch of point `t`, -/
def bat (t : Fin cfg0.N) : Fin 8 := ⟨t.val / 2, by have := lt_16 t; omega⟩
/-- and its row `r` within the batch. -/
def row (t : Fin cfg0.N) (r : Fin 1024) : Fin 2048 := ⟨t.val % 2 * 1024 + r.val, by omega⟩

theorem iblk_0 (t : Fin cfg0.N) (r d : Fin 1024) : (iblk m c 0 t : S1x1024x1024.Idx → EReal) (ix3 (0 : Fin 1) r d)
    = (m ((c : Thread nD τ).loc main_arg0) : S8x2048x1024.Idx → EReal) (ix3 (bat t) (row t r) d) := by
  have h : (iblk m c 0 t : S1x1024x1024.Idx → EReal) (ix3 (0 : Fin 1) r d) = (V m c main_arg0 : S8x2048x1024.Idx → EReal) (ix3 (bat t) (row t r) d) := by
    blk_simp [iblk]
    refine congrArg _ ?_
    blk_ext [index_0, bat, row]
  rw [h, V_main_arg0]
theorem iblk_1 (t : Fin cfg0.N) : (iblk m c 1 t : S1x1024.Idx → EReal) = (V m c main_v1 : S1x1024.Idx → EReal) := by
  funext y
  blk_simp [iblk]
  refine congrArg _ ?_
  blk_ext [index_1]
theorem iblk_2 (t : Fin cfg0.N) : (iblk m c 2 t : S1024x2304.Idx → EReal) = (V m c main_v2 : S1024x2304.Idx → EReal) := by
  funext y
  blk_simp [iblk]
  refine congrArg _ ?_
  blk_ext [index_2]
theorem iblk_3 (t : Fin cfg0.N) : (iblk m c 3 t : S4x128x128.Idx → EReal) = (V m c main_v3 : S4x128x128.Idx → EReal) := by
  funext y
  blk_simp [iblk]
  refine congrArg _ ?_
  blk_ext [index_3]
theorem iblk_4 (t : Fin cfg0.N) : (iblk m c 4 t : S1x512.Idx → EReal) = (V m c main_v5 : S1x512.Idx → EReal) := by
  funext y
  blk_simp [iblk]
  refine congrArg _ ?_
  blk_ext [index_4]
theorem iblk_5 (t : Fin cfg0.N) : (iblk m c 5 t : S1x1792.Idx → EReal) = (V m c main_v7 : S1x1792.Idx → EReal) := by
  funext y
  blk_simp [iblk]
  refine congrArg _ ?_
  blk_ext [index_5]

/-! ## The blocks' values -/

/-- The projection over the launch's arguments. -/
def prj (b : Fin 8) (r : Fin 2048) (d : Fin 2304) : EReal :=
  proj (m ((c : Thread nD τ).loc main_arg0)) (m ((c : Thread nD τ).loc main_arg1)) (m ((c : Thread nD τ).loc main_arg2)) b r d

theorem wAt_at (k : Fin 1024) (d : Fin 2304) : (wAt m c : S1024x2304.Idx → EReal) (ix2 k d) = (m ((c : Thread nD τ).loc main_arg2) : S1x1024x2304.Idx → EReal) (ix3 (0 : Fin 1) k d) := by
  unfold wAt
  rw [show part (iblk m c 2 t0_0) (Rect.unit (s := S1024x2304) ![0, 0] S1024x2304.size inb_S1024x2304_S1024x2304_0_0).toLoadRect = hW (m ((c : Thread nD τ).loc main_arg2)) from
    (part_full (s := S1024x2304) _ _).trans ((iblk_2 m c t0_0).trans (V_v2 m c))]
  have h : ∀ X : FVec Ideal S1024x2304 .f32, (k0_pay6 (F := Ideal) X : S1024x2304.Idx → EReal) (ix2 k d) = X (ix2 k d) := by
    intro X
    pointwise [k0_pay6]
  rw [h]
  exact hW_at _ k d

theorem prj_eq (t : Fin cfg0.N) (r : Fin 1024) (d : Fin 2304) :
    ∑ k : Fin 1024, rmsn (fun j => (iblk m c 0 t : S1x1024x1024.Idx → EReal) (ix3 (0 : Fin 1) r j)) (fun j => (iblk m c 1 t : S1x1024.Idx → EReal) (ix2 (0 : Fin 1) j)) k
        * wAt m c (ix2 k d) = prj m c (bat t) (row t r) d := by
  unfold prj proj
  have e0 : (fun j => (iblk m c 0 t : S1x1024x1024.Idx → EReal) (ix3 (0 : Fin 1) r j)) = fun j => (m ((c : Thread nD τ).loc main_arg0) : S8x2048x1024.Idx → EReal) (ix3 (bat t) (row t r) j) :=
    funext fun j => iblk_0 m c t r j
  have e1 : (fun j => (iblk m c 1 t : S1x1024.Idx → EReal) (ix2 (0 : Fin 1) j)) = fun j => (m ((c : Thread nD τ).loc main_arg1) : S1x1024.Idx → EReal) (ix2 (0 : Fin 1) j) := by
    funext j
    rw [iblk_1, V_v1]
    exact hG_at _ j
  rw [e0, e1]
  exact Finset.sum_congr rfl fun k _ => congrArg _ (wAt_at m c k d)

theorem uAt_at (t : Fin cfg0.N) (r : Fin 1024) (d : Fin 512) : uAt m c t (ix2 r d) = prj m c (bat t) (row t r) ⟨d.val, by omega⟩ :=
  (uOut_at _ _ _ r d).trans (prj_eq m c t r _)
theorem pAt_at (t : Fin cfg0.N) (r : Fin 1024) (d : Fin 1792) : pAt m c t (ix2 r d) = prj m c (bat t) (row t r) ⟨512 + d.val, by omega⟩ :=
  (pOut_at _ _ _ r d).trans (prj_eq m c t r _)
theorem vAt_at (t : Fin cfg0.N) (r : Fin 1024) (d : Fin 512) : vAt m c t (ix2 r d) = prj m c (bat t) (row t r) ⟨d.val, by omega⟩ := by
  refine Eq.trans ?_ (uAt_at m c t r d)
  unfold vAt uAt uOut
  pointwise [k0_pay14]

/-- The block before, within a sequence. -/
theorem bat_prev (t : Fin cfg0.N) (h : t.val % 2 = 1) : bat (prev t) = bat t := Fin.ext (by show (t.val - 1) / 2 = t.val / 2; omega)
theorem row_prev (t : Fin cfg0.N) (h : t.val % 2 = 1) (r : Fin 1024) : row (prev t) r = ⟨r.val, by omega⟩ :=
  Fin.ext (by show (t.val - 1) % 2 * 1024 + r.val = r.val; omega)

/-! ## The carried rows -/

/-- A row stored above the block's start is the stored rows', -/
theorem put_low {α : Type} (A : S1040x512.Idx → α) (u : S1024x512.Idx → α) (q : Fin 1040) (d : Fin 512) (h : 16 ≤ q.val) :
    VecWindow.put A ![16, 0] ![1024, 512] u (ix2 q d) = u (ix2 (⟨q.val - 16, by omega⟩ : Fin 1024) d) := by
  unfold VecWindow.put
  rw [dif_pos (Fin.forall_fin_two.mpr ⟨⟨h, by show q.val < 16 + 1024; omega⟩, ⟨Nat.zero_le _, by show d.val < 0 + 512; omega⟩⟩)]
  refine congrArg u ?_
  funext a
  match a with
  | ⟨0, _⟩ => rfl
  | ⟨1, _⟩ => exact Fin.ext (Nat.sub_zero _)
theorem put_up {α : Type} (A : S1040x512.Idx → α) (u : S1024x512.Idx → α) (q : Fin 1040) (d : Fin 512) (h : q.val < 16) :
    VecWindow.put A ![16, 0] ![1024, 512] u (ix2 q d) = A (ix2 q d) := by
  unfold VecWindow.put
  rw [dif_neg]
  intro hh
  have := (hh 0).1
  have h16 : 16 ≤ q.val := this
  omega
/-- and a row of the first sixteen theirs. -/
theorem put_head {α : Type} (A : S1040x512.Idx → α) (z : S16x512.Idx → α) (q : Fin 1040) (d : Fin 512) (h : q.val < 16) :
    VecWindow.put A ![0, 0] ![16, 512] z (ix2 q d) = z (ix2 (⟨q.val, h⟩ : Fin 16) d) := by
  unfold VecWindow.put
  rw [dif_pos (Fin.forall_fin_two.mpr ⟨⟨Nat.zero_le _, by show q.val < 0 + 16; omega⟩, ⟨Nat.zero_le _, by show d.val < 0 + 512; omega⟩⟩)]
  refine congrArg z ?_
  funext a
  match a with
  | ⟨0, _⟩ => exact Fin.ext (Nat.sub_zero _)
  | ⟨1, _⟩ => exact Fin.ext (Nat.sub_zero _)
/-- The row buffer's first row is the row stored. -/
theorem put_row {α : Type} (A : S8x1792.Idx → α) (z : S1x1792.Idx → α) (d : Fin 1792) :
    VecWindow.put A ![0, 0] ![1, 1792] z (ix2 (0 : Fin 8) d) = z (ix2 (0 : Fin 1) d) := by
  unfold VecWindow.put
  rw [dif_pos (Fin.forall_fin_two.mpr ⟨⟨Nat.zero_le _, by show 0 < 0 + 1; omega⟩, ⟨Nat.zero_le _, by show d.val < 0 + 1792; omega⟩⟩)]
  refine congrArg z ?_
  funext a
  match a with
  | ⟨0, _⟩ => rfl
  | ⟨1, _⟩ => exact Fin.ext (Nat.sub_zero _)

theorem pay7_at (r : Fin 16) (d : Fin 512) : (k0_pay7 : FVec Ideal S16x512 .f32) (ix2 r d) = 0 := by
  pointwise [k0_pay7]
theorem pay8_at (d : Fin 1792) : (k0_pay8 : FVec Ideal S8x1792 .f32) (ix2 (0 : Fin 8) d) = 0 := by
  pointwise [k0_pay8]

/-- The carried row is the row before the block, or zero at a sequence's start. -/
theorem rAt_at (t : Fin cfg0.N) (d : Fin 1792) :
    rAt m c t (ix2 (0 : Fin 8) d) = back (fun s => prj m c (bat t) s ⟨512 + d.val, by omega⟩) (t.val % 2 * 1024) 1 := by
  unfold rAt back
  by_cases h : t.val % 2 = 0
  · rw [if_pos h, dif_neg (by omega), pay8_at]
  · have h1 : t.val % 2 = 1 := by omega
    rw [if_neg h, dif_pos (by omega)]
    refine (put_row _ _ d).trans ?_
    rw [pay18_at, pAt_at, bat_prev t h1, row_prev t h1]
    refine congrArg (fun z => prj m c (bat t) z _) (Fin.ext ?_)
    show 1023 = t.val % 2 * 1024 - 1
    omega

/-- The extended block holds the sequence up to fifteen rows back. -/
theorem eAt_at (t : Fin cfg0.N) (r : Fin 1024) (d : Fin 512) (i : ℕ) (hi : i < 16) :
    colE (eAt m c t) d (16 + r.val - i) = back (fun s => prj m c (bat t) s ⟨d.val, by omega⟩) (row t r).val i := by
  have hr : (row t r).val = t.val % 2 * 1024 + r.val := rfl
  unfold colE
  rw [dif_pos (by omega)]
  by_cases hq : 16 ≤ 16 + r.val - i
  · have hl : eAt m c t (ix2 (⟨16 + r.val - i, by omega⟩ : Fin 1040) d) = vAt m c t (ix2 (⟨16 + r.val - i - 16, by omega⟩ : Fin 1024) d) := by
      unfold eAt headAt extRows
      by_cases h : t.val % 2 = 0
      · rw [if_pos h]; exact put_low _ _ _ _ hq
      · rw [if_neg h]; exact put_low _ _ _ _ hq
    rw [hl, vAt_at]
    unfold back
    rw [dif_pos (by omega)]
    refine congrArg (fun z => prj m c (bat t) z _) (Fin.ext ?_)
    show t.val % 2 * 1024 + (16 + r.val - i - 16) = (row t r).val - i
    omega
  · by_cases h : t.val % 2 = 0
    · have hl : eAt m c t (ix2 (⟨16 + r.val - i, by omega⟩ : Fin 1040) d) = 0 := by
        unfold eAt headAt extRows
        rw [if_pos h]
        refine (put_up _ _ _ _ (by show 16 + r.val - i < 16; omega)).trans ?_
        exact (put_head _ _ _ _ (by show 16 + r.val - i < 16; omega)).trans (pay7_at _ _)
      rw [hl]
      unfold back
      rw [dif_neg (by omega)]
    · have h1 : t.val % 2 = 1 := by omega
      have hl : eAt m c t (ix2 (⟨16 + r.val - i, by omega⟩ : Fin 1040) d) = vAt m c (prev t) (ix2 (⟨1024 + r.val - i, by omega⟩ : Fin 1024) d) := by
        unfold eAt extCarry
        rw [if_neg h]
        refine (put_up _ _ _ _ (by show 16 + r.val - i < 16; omega)).trans ?_
        refine (put_head _ _ _ _ (by show 16 + r.val - i < 16; omega)).trans ?_
        have e : ∀ B : FVec Ideal S1040x512 .f32, k0_pay2 (part B (Rect.unit (s := S1040x512) ![1024, 0] S16x512.size inb_S1040x512_S16x512_1024_0).toLoadRect)
            (ix2 (⟨16 + r.val - i, by omega⟩ : Fin 16) d) = B (ix2 (⟨1024 + (16 + r.val - i), by omega⟩ : Fin 1040) d) := by
          intro B
          pointwise [k0_pay2, part]
        refine (e _).trans ?_
        unfold headAt extRows
        refine (put_low _ _ _ _ (by show 16 ≤ 1024 + (16 + r.val - i); omega)).trans ?_
        refine congrArg (fun z => vAt m c (prev t) (ix2 z d)) (Fin.ext ?_)
        show 1024 + (16 + r.val - i) - 16 = 1024 + r.val - i
        omega
      rw [hl, vAt_at, bat_prev t h1, row_prev t h1]
      unfold back
      rw [dif_pos (by omega)]
      refine congrArg (fun z => prj m c (bat t) z _) (Fin.ext ?_)
      show 1024 + r.val - i = (row t r).val - i
      omega

end Cert.Kernel3Ideal.Pool

end
-- ==== Proof.PoolEnd.lean ====
/- The arrays the input projection and pooling call leaves. -/
module

public import proofs.«01_k».proof.Proof.PoolHost

@[expose] public section

set_option maxRecDepth 16384

noncomputable section

namespace Cert.Kernel3Ideal.Pool

open Cert.Kernel3Ideal Cert.Kernel3Ideal.Gen Cert.Mlp Cert.Pool
open Idealize.ShloMosaic Idealize.ShloMosaic.TcCoe Idealize.ShloMosaic.Tactic

variable (m : (ℓ : Loc nD τ sig) → Buf (Elt Ideal) ℓ) (c : Dev nD)

/-- The shifted channels of a block. -/
theorem shAt_at (t : Fin cfg0.N) (r : Fin 1024) (d : Fin 1792) : shAt m c t (ix3 (0 : Fin 1) r d)
    = shifted (m ((c : Thread nD τ).loc main_arg0)) (m ((c : Thread nD τ).loc main_arg1)) (m ((c : Thread nD τ).loc main_arg2)) (m ((c : Thread nD τ).loc main_arg3)) (bat t) (row t r) d := by
  have hb : (if r.val = 0 then rAt m c t (ix2 (0 : Fin 8) d) else pAt m c t (ix2 (⟨r.val - 1, by omega⟩ : Fin 1024) d))
      = back (fun s => prj m c (bat t) s ⟨512 + d.val, by omega⟩) (row t r).val 1 := by
    have hr : (row t r).val = t.val % 2 * 1024 + r.val := rfl
    by_cases h : r.val = 0
    · rw [if_pos h, rAt_at, hr, h, Nat.add_zero]
    · rw [if_neg h, pAt_at]
      unfold back
      rw [dif_pos (by omega)]
      refine congrArg (fun z => prj m c (bat t) z _) (Fin.ext ?_)
      show t.val % 2 * 1024 + (r.val - 1) = (row t r).val - 1
      omega
  have hm : (iblk m c 5 t : S1x1792.Idx → EReal) (ix2 (0 : Fin 1) d) = (m ((c : Thread nD τ).loc main_arg3) : S1x1792.Idx → EReal) (ix2 (0 : Fin 1) d) := by
    rw [iblk_5, V_v7]
    exact hMu_at _ d
  refine (shOut_at _ _ _ _ _ r d).trans ?_
  exact congrArg₂ (· + ·) (pAt_at m c t r d) (congrArg₂ (· * ·) (congrArg₂ (· - ·) hb (pAt_at m c t r d)) hm)

/-- A window's mean less the value, of a block. -/
theorem dev_at (k : ℕ) (hk : k ≤ 16) (t : Fin cfg0.N) (r : Fin 1024) (d : Fin 512) :
    Ideal.div (∑ i ∈ Finset.range k, colE (eAt m c t) d (16 + r.val - i))
      (FloatOps.sitofp (F := Ideal) FTy.f32 (IntOp.minsi (BitVec.ofNat 32 k) (IntOp.addi (IntOp.addi (Scalar.muli (BitVec.ofNat 32 (grid0.coords t 1).val) 1024#32) (BitVec.ofNat 32 r.val)) 1#32)))
      - uAt m c t (ix2 r d) = dev k (fun s => prj m c (bat t) s ⟨d.val, by omega⟩) (row t r) := by
  rw [cnt_block, block_of, uAt_at]
  unfold dev win
  exact congrArg₂ (· - ·) (congrArg₂ Ideal.div (Finset.sum_congr rfl fun i hi => eAt_at m c t r d i (by have := Finset.mem_range.mp hi; omega)) rfl) rfl

theorem pw_at (t : Fin cfg0.N) (q : Fin 4) (j l : Fin 128) : (iblk m c 3 t : S4x128x128.Idx → EReal) (ix3 q j l)
    = (m ((c : Thread nD τ).loc main_arg4) : S1x4x128x128.Idx → EReal) (ix4 (0 : Fin 1) q j l) := by
  rw [iblk_3, V_v3]
  exact hM_at _ q j l
theorem ps_at (t : Fin cfg0.N) (j : Fin 512) : (iblk m c 4 t : S1x512.Idx → EReal) (ix2 (0 : Fin 1) j)
    = (m ((c : Thread nD τ).loc main_arg5) : S1x512.Idx → EReal) (ix2 (0 : Fin 1) j) := by
  rw [iblk_4, V_v5]
  exact hS_at _ j

/-- The pooled value over the launch's arguments. -/
def pol (b : Fin 8) (r : Fin 2048) (q : Fin 4) (l : Fin 128) : EReal :=
  pooled (m ((c : Thread nD τ).loc main_arg0)) (m ((c : Thread nD τ).loc main_arg1)) (m ((c : Thread nD τ).loc main_arg2)) (m ((c : Thread nD τ).loc main_arg4)) (m ((c : Thread nD τ).loc main_arg5)) b r q l

theorem poAt_0 (t : Fin cfg0.N) (r : Fin 1024) (l : Fin 128) : (poAt m c t : S1x1024x512.Idx → EReal) (ix3 (0 : Fin 1) r (⟨0 + l.val, by omega⟩ : Fin 512)) = pol m c (bat t) (row t r) 0 l := by
  unfold poAt
  rw [poOut_eq]
  refine (scaled_0 _ _ _ _ _ r l).trans ?_
  exact congrArg₂ (· * ·) ((gr0_at _ _ _ _ r l).trans (Finset.sum_congr rfl fun j _ => congrArg₂ (· * ·) (dev_at m c 2 (by decide) t r _) (pw_at m c t 0 j l))) (ps_at m c t _)
theorem poAt_1 (t : Fin cfg0.N) (r : Fin 1024) (l : Fin 128) : (poAt m c t : S1x1024x512.Idx → EReal) (ix3 (0 : Fin 1) r (⟨128 + l.val, by omega⟩ : Fin 512)) = pol m c (bat t) (row t r) 1 l := by
  unfold poAt
  rw [poOut_eq]
  refine (scaled_1 _ _ _ _ _ r l).trans ?_
  exact congrArg₂ (· * ·) ((gr1_at _ _ _ _ r l).trans (Finset.sum_congr rfl fun j _ => congrArg₂ (· * ·) (dev_at m c 4 (by decide) t r _) (pw_at m c t 1 j l))) (ps_at m c t _)
theorem poAt_2 (t : Fin cfg0.N) (r : Fin 1024) (l : Fin 128) : (poAt m c t : S1x1024x512.Idx → EReal) (ix3 (0 : Fin 1) r (⟨256 + l.val, by omega⟩ : Fin 512)) = pol m c (bat t) (row t r) 2 l := by
  unfold poAt
  rw [poOut_eq]
  refine (scaled_2 _ _ _ _ _ r l).trans ?_
  exact congrArg₂ (· * ·) ((gr2_at _ _ _ _ r l).trans (Finset.sum_congr rfl fun j _ => congrArg₂ (· * ·) (dev_at m c 8 (by decide) t r _) (pw_at m c t 2 j l))) (ps_at m c t _)
theorem poAt_3 (t : Fin cfg0.N) (r : Fin 1024) (l : Fin 128) : (poAt m c t : S1x1024x512.Idx → EReal) (ix3 (0 : Fin 1) r (⟨384 + l.val, by omega⟩ : Fin 512)) = pol m c (bat t) (row t r) 3 l := by
  unfold poAt
  rw [poOut_eq]
  refine (scaled_3 _ _ _ _ _ r l).trans ?_
  exact congrArg₂ (· * ·) ((gr3_at _ _ _ _ r l).trans (Finset.sum_congr rfl fun j _ => congrArg₂ (· * ·) (dev_at m c 16 (by decide) t r _) (pw_at m c t 3 j l))) (ps_at m c t _)
/-- The pooled channels of a block. -/
theorem poAt_q (t : Fin cfg0.N) (r : Fin 1024) (q : Fin 4) (l : Fin 128) :
    (poAt m c t : S1x1024x512.Idx → EReal) (ix3 (0 : Fin 1) r (⟨128 * q.val + l.val, by omega⟩ : Fin 512)) = pol m c (bat t) (row t r) q l := by
  match q with
  | 0 => exact poAt_0 m c t r l
  | 1 => exact poAt_1 m c t r l
  | 2 => exact poAt_2 m c t r l
  | 3 => exact poAt_3 m c t r l
theorem poAt_at (t : Fin cfg0.N) (r : Fin 1024) (d : Fin 512) : (poAt m c t : S1x1024x512.Idx → EReal) (ix3 (0 : Fin 1) r d)
    = pol m c (bat t) (row t r) ⟨d.val / 128, by omega⟩ ⟨d.val % 128, by omega⟩ := by
  have e := poAt_q m c t r ⟨d.val / 128, by omega⟩ ⟨d.val % 128, by omega⟩
  rwa [show (⟨128 * (d.val / 128) + d.val % 128, by omega⟩ : Fin 512) = d from Fin.ext (Nat.div_add_mod ..)] at e

/-! ## The four results -/

/-- The shifted channels, -/
def resSh : Buf (Elt Ideal) ((c : Thread nD τ).loc main_v11_0) := fun i : S8x2048x1792.Idx =>
  shifted (m ((c : Thread nD τ).loc main_arg0)) (m ((c : Thread nD τ).loc main_arg1)) (m ((c : Thread nD τ).loc main_arg2)) (m ((c : Thread nD τ).loc main_arg3)) (i 0) (i 1) (i 2)
/-- the pooled ones, -/
def resPo : Buf (Elt Ideal) ((c : Thread nD τ).loc main_v11_1) := fun i : S8x2048x512.Idx =>
  pol m c (i 0) (i 1) ⟨(i 2).val / 128, Nat.div_lt_of_lt_mul (i 2).isLt⟩ ⟨(i 2).val % 128, Nat.mod_lt _ (by decide)⟩
/-- the last row of the shift's input, -/
def resPl : Buf (Elt Ideal) ((c : Thread nD τ).loc main_v11_2) := fun i : S8x1x1792.Idx =>
  prj m c (i 0) ⟨2047, by decide⟩ ⟨512 + (i 2).val, Nat.add_lt_add_left (i 2).isLt 512⟩
/-- and the last sixteen of the pooling's. -/
def resUl : Buf (Elt Ideal) ((c : Thread nD τ).loc main_v11_3) := fun i : S8x16x512.Idx =>
  prj m c (i 0) ⟨2032 + (i 1).val, Nat.add_lt_add_left (i 1).isLt 2032⟩ ⟨(i 2).val, (i 2).isLt.trans (by decide)⟩

theorem resSh_at (b : Fin 8) (r : Fin 2048) (d : Fin 1792) : (resSh m c : S8x2048x1792.Idx → EReal) (ix3 b r d)
    = shifted (m ((c : Thread nD τ).loc main_arg0)) (m ((c : Thread nD τ).loc main_arg1)) (m ((c : Thread nD τ).loc main_arg2)) (m ((c : Thread nD τ).loc main_arg3)) b r d := by
  unfold resSh
  rfl
theorem resPo_at (b : Fin 8) (r : Fin 2048) (d : Fin 512) : (resPo m c : S8x2048x512.Idx → EReal) (ix3 b r d)
    = pol m c b r ⟨d.val / 128, by omega⟩ ⟨d.val % 128, by omega⟩ := by
  unfold resPo
  rfl

theorem final_9 : (dats m 0 c).arrAt 9 cfg0.N = resSh m c := by
  refine (dats m 0 c).arrAt_eq_of_covers 9 _ (by decide +kernel) fun t hf y => ?_
  clear hf
  blk_simp
  rw [after_9]
  obtain ⟨z, r, d, rfl⟩ : ∃ (z : Fin 1) (r : Fin 1024) (d : Fin 1792), y = ix3 z r d := ⟨_, _, _, eq_ix3 y⟩
  obtain rfl : z = 0 := Subsingleton.elim _ _
  refine ((shAt_at m c t r d).trans (resSh_at m c _ _ _).symm).trans (congrArg (resSh m c : S8x2048x1792.Idx → EReal) (?_ : ix3 (bat t) (row t r) d = _))
  blk_ext [index_9, bat, row]

theorem final_10 : (dats m 0 c).arrAt 10 cfg0.N = resPo m c := by
  refine (dats m 0 c).arrAt_eq_of_covers 10 _ (by decide +kernel) fun t hf y => ?_
  clear hf
  blk_simp
  rw [after_10]
  obtain ⟨z, r, d, rfl⟩ : ∃ (z : Fin 1) (r : Fin 1024) (d : Fin 512), y = ix3 z r d := ⟨_, _, _, eq_ix3 y⟩
  obtain rfl : z = 0 := Subsingleton.elim _ _
  refine ((poAt_at m c t r d).trans (resPo_at m c _ _ _).symm).trans (congrArg (resPo m c : S8x2048x512.Idx → EReal) (?_ : ix3 (bat t) (row t r) d = _))
  blk_ext [index_10, bat, row]

/-- The last point of a sequence writes its last rows. -/
theorem row_last (t : Fin cfg0.N) (h1 : t.val % 2 = 1) (r : Fin 1024) : row t r = ⟨1024 + r.val, by omega⟩ :=
  Fin.ext (by show t.val % 2 * 1024 + r.val = 1024 + r.val; omega)
theorem pl_at (t : Fin cfg0.N) (h1 : t.val % 2 = 1) (d : Fin 1792) :
    k0_pay19 (pAt m c t) (ix3 (0 : Fin 1) (0 : Fin 1) d) = prj m c (bat t) ⟨2047, by decide⟩ ⟨512 + d.val, by omega⟩ := by
  rw [pay19_at, pAt_at, row_last t h1]
  rfl
theorem ul_at (t : Fin cfg0.N) (h1 : t.val % 2 = 1) (r : Fin 16) (d : Fin 512) :
    ulOut (iblk m c 0 t) (iblk m c 1 t) (wAt m c) (ix3 (0 : Fin 1) r d) = prj m c (bat t) ⟨2032 + r.val, by omega⟩ ⟨d.val, by omega⟩ := by
  refine (ulOut_at _ _ _ r d).trans ((uAt_at m c t _ d).trans ?_)
  rw [row_last t h1]
  exact congrArg (fun z => prj m c (bat t) z _) (Fin.ext (by show 1024 + (1008 + r.val) = 2032 + r.val; omega))

theorem final_11 : (dats m 0 c).arrAt 11 cfg0.N = resPl m c := by
  refine (dats m 0 c).arrAt_eq_of_covers 11 _ (by decide +kernel) fun t hf y => ?_
  have h1 : t.val % 2 = 1 := (flush0_11 t).mp hf
  clear hf
  blk_simp
  rw [after_11]
  obtain ⟨z, r, d, rfl⟩ : ∃ (z : Fin 1) (r : Fin 1) (d : Fin 1792), y = ix3 z r d := ⟨_, _, _, eq_ix3 y⟩
  obtain rfl : z = 0 := Subsingleton.elim _ _
  obtain rfl : r = 0 := Subsingleton.elim _ _
  refine (pl_at m c t h1 d).trans (congrArg (resPl m c : S8x1x1792.Idx → EReal) (?_ : ix3 (bat t) (0 : Fin 1) d = _))
  blk_ext [index_11, bat]

theorem final_12 : (dats m 0 c).arrAt 12 cfg0.N = resUl m c := by
  refine (dats m 0 c).arrAt_eq_of_covers 12 _ (by decide +kernel) fun t hf y => ?_
  have h1 : t.val % 2 = 1 := (flush0_12 t).mp hf
  clear hf
  blk_simp
  rw [after_12]
  obtain ⟨z, r, d, rfl⟩ : ∃ (z : Fin 1) (r : Fin 16) (d : Fin 512), y = ix3 z r d := ⟨_, _, _, eq_ix3 y⟩
  obtain rfl : z = 0 := Subsingleton.elim _ _
  refine (ul_at m c t h1 r d).trans (congrArg (resUl m c : S8x16x512.Idx → EReal) (?_ : ix3 (bat t) r d = _))
  blk_ext [index_12, bat]

end Cert.Kernel3Ideal.Pool

end
-- ==== Proof.PoolRef.lean ====
/- The reference of the input projection and pooling call, at an element. -/
module

public import proofs.«01_k».proof.Proof.PoolMath
public import proofs.«01_k».proof.Proof.Gen.Reference3Ideal.Run

@[expose] public section

set_option maxRecDepth 16384

noncomputable section

namespace Cert.Reference3Ideal.Pool

open Cert.Reference3Ideal Cert.Reference3Ideal.Gen Cert.Reference3Ideal.Value Cert.Mlp Cert.Pool
open Idealize.ShloMosaic Idealize.ShloMosaic.TcCoe Idealize.ShloMosaic.Tactic Idealize.ShloMosaic.StableHlo Idealize.SL.Sem

variable (x : FVec Ideal S8x2048x1024 .f32) (g : FVec Ideal S1x1024 .f32) (w : FVec Ideal S1x1024x2304 .f32) (mu : FVec Ideal S1x1792 .f32)
  (pw : FVec Ideal S1x4x128x128 .f32) (ps : FVec Ideal S1x512 .f32) (b : Fin 8) (r : Fin 2048)

/-- The rows over their root mean square, -/
def rN : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))
theorem rN_at (d : Fin 1024) : rN x g (ix3 b r d) = rmsn (fun d => x (ix3 b r d)) (fun j => g (ix2 (0 : Fin 1) j)) d := by
  pointwise [rN, rmsn]
/-- projected: -/
def rP : FVec Ideal S8x2048x2304 .f32 := Host.dotGeneral dot_S8x2048x1024_S1024x2304_S8x2048x2304_2_0_01_1_n_n none (rN x g) (shapeCast _ w shapeCasts_S1x1024x2304_S1024x2304)
theorem rP_at (d : Fin 2304) : rP x g w (ix3 b r d) = proj x g w b r d := by
  pointwise [rP]
  exact Finset.sum_congr rfl fun k _ => congrArg (· * _) (rN_at x g b r k)
/-- the pooled channels -/
def rU : FVec Ideal S8x2048x512 .f32 := extractStridedSlice S8x2048x512 ![0, 0, 0] (rP x g w) slices_S8x2048x2304_S8x2048x512_0_0_0
theorem rU_at (d : Fin 512) : rU x g w (ix3 b r d) = proj x g w b r ⟨d.val, by omega⟩ := by
  pointwise [rU]
  exact rP_at x g w b r _
/-- and the shifted ones, -/
def rV : FVec Ideal S8x2048x1792 .f32 := extractStridedSlice S8x2048x1792 ![0, 0, 512] (rP x g w) slices_S8x2048x2304_S8x2048x1792_0_0_512
theorem rV_at (d : Fin 1792) : rV x g w (ix3 b r d) = proj x g w b r ⟨512 + d.val, by omega⟩ := by
  pointwise [rV]
  exact rP_at x g w b r _

/-! ## The shift -/

/-- The rows moved down by one, -/
def down (p : FVec Ideal S8x2048x1792 .f32) : FVec Ideal S8x2048x1792 .f32 :=
  concatenate S8x2048x1792 1 [⟨S8x1x1792, (broadcastInDim S8x1x1792 ![] bcast_S_S8x1x1792 (constant S_ .f32 0x00000000#32))⟩, ⟨S8x2047x1792, (extractStridedSlice S8x2047x1792 ![0, 0, 0] p slices_S8x2048x1792_S8x2047x1792_0_0_0)⟩] concatenates_S8x1x1792_S8x2047x1792_S8x2048x1792_d1
theorem down_at (p : FVec Ideal S8x2048x1792 .f32) (d : Fin 1792) : down p (ix3 b r d) = back (fun s => p (ix3 b s d)) r.val 1 := by
  pointwise [down]
  unfold back
  by_cases h : r.val = 0
  · rw [dif_pos (by omega), dif_neg (by omega)]
  · rw [dif_neg (by omega), dif_pos (by omega)]

/-- mixed. -/
def rSh : FVec Ideal S8x2048x1792 .f32 :=
  addf (rV x g w) (mulf (subf (down (rV x g w)) (rV x g w)) (broadcastInDim S8x2048x1792 ![0, 1, 2] bcast_S1x1x1792_S8x2048x1792_0_1_2 (broadcastInDim S1x1x1792 ![2] bcast_S1792_S1x1x1792_2 (shapeCast _ mu shapeCasts_S1x1792_S1792))))
theorem rSh_at (d : Fin 1792) : rSh x g w mu (ix3 b r d) = shifted x g w mu b r d := by
  pointwise [rSh]
  rw [down_at]
  simp only [rV_at]
  rfl

/-! ## The windows -/

/-- The sequence behind fifteen rows of zeros. -/
def ext (u : FVec Ideal S8x2048x512 .f32) : FVec Ideal S8x2063x512 .f32 :=
  concatenate S8x2063x512 1 [⟨S8x15x512, (broadcastInDim S8x15x512 ![] bcast_S_S8x15x512 (constant S_ .f32 0x00000000#32))⟩, ⟨S8x2048x512, u⟩] concatenates_S8x15x512_S8x2048x512_S8x2063x512_d1
theorem ext_at (u : FVec Ideal S8x2048x512 .f32) (i : ℕ) (hi : i < 16) (q : Fin 2063) (hq : q.val = 15 - i + r.val) (d : Fin 512) :
    ext u (ix3 b q d) = back (fun s => u (ix3 b s d)) r.val i := by
  pointwise [ext]
  unfold back
  by_cases h : i ≤ r.val
  · rw [dif_neg (by omega), dif_pos (by omega)]
    exact congrArg (fun z => u (ix3 b z d)) (Fin.ext (by show q.val - 15 = r.val - i; omega))
  · rw [dif_pos (by omega), dif_neg (by omega)]

/-- The sum of the last 2 rows, -/
def sum0 (e : FVec Ideal S8x2063x512 .f32) : FVec Ideal S8x2048x128 .f32 :=
  addf (addf (broadcastInDim S8x2048x128 ![] bcast_S_S8x2048x128 (constant S_ .f32 0x00000000#32)) (extractStridedSlice S8x2048x128 ![0, 15, 0] e slices_S8x2063x512_S8x2048x128_0_15_0)) (extractStridedSlice S8x2048x128 ![0, 14, 0] e slices_S8x2063x512_S8x2048x128_0_14_0)
theorem sum0_at (u : FVec Ideal S8x2048x512 .f32) (j : Fin 128) : sum0 (ext u) (ix3 b r j) = win 2 (fun s => u (ix3 b s (⟨j.val, by omega⟩ : Fin 512))) r.val := by
  have e : ∀ i (hi : i < 16) (q : Fin 2063) (hq : q.val = 15 - i + r.val), ext u (ix3 b q (⟨j.val, by omega⟩ : Fin 512))
      = back (fun s => u (ix3 b s (⟨j.val, by omega⟩ : Fin 512))) r.val i := fun i hi q hq => ext_at b r u i hi q hq _
  generalize ext u = E at *
  unfold win
  simp only [Finset.sum_range_succ, Finset.sum_range_zero]
  pointwise [sum0]
  simp only [e 0 (by decide) (⟨15 + r.val, by omega⟩ : Fin 2063) rfl, e 1 (by decide) (⟨14 + r.val, by omega⟩ : Fin 2063) rfl]
/-- The sum of the last 4 rows, -/
def sum1 (e : FVec Ideal S8x2063x512 .f32) : FVec Ideal S8x2048x128 .f32 :=
  addf (addf (addf (addf (broadcastInDim S8x2048x128 ![] bcast_S_S8x2048x128 (constant S_ .f32 0x00000000#32)) (extractStridedSlice S8x2048x128 ![0, 15, 128] e slices_S8x2063x512_S8x2048x128_0_15_128)) (extractStridedSlice S8x2048x128 ![0, 14, 128] e slices_S8x2063x512_S8x2048x128_0_14_128)) (extractStridedSlice S8x2048x128 ![0, 13, 128] e slices_S8x2063x512_S8x2048x128_0_13_128)) (extractStridedSlice S8x2048x128 ![0, 12, 128] e slices_S8x2063x512_S8x2048x128_0_12_128)
theorem sum1_at (u : FVec Ideal S8x2048x512 .f32) (j : Fin 128) : sum1 (ext u) (ix3 b r j) = win 4 (fun s => u (ix3 b s (⟨128 + j.val, by omega⟩ : Fin 512))) r.val := by
  have e : ∀ i (hi : i < 16) (q : Fin 2063) (hq : q.val = 15 - i + r.val), ext u (ix3 b q (⟨128 + j.val, by omega⟩ : Fin 512))
      = back (fun s => u (ix3 b s (⟨128 + j.val, by omega⟩ : Fin 512))) r.val i := fun i hi q hq => ext_at b r u i hi q hq _
  generalize ext u = E at *
  unfold win
  simp only [Finset.sum_range_succ, Finset.sum_range_zero]
  pointwise [sum1]
  simp only [e 0 (by decide) (⟨15 + r.val, by omega⟩ : Fin 2063) rfl, e 1 (by decide) (⟨14 + r.val, by omega⟩ : Fin 2063) rfl, e 2 (by decide) (⟨13 + r.val, by omega⟩ : Fin 2063) rfl, e 3 (by decide) (⟨12 + r.val, by omega⟩ : Fin 2063) rfl]
/-- The sum of the last 8 rows, -/
def sum2 (e : FVec Ideal S8x2063x512 .f32) : FVec Ideal S8x2048x128 .f32 :=
  addf (addf (addf (addf (addf (addf (addf (addf (broadcastInDim S8x2048x128 ![] bcast_S_S8x2048x128 (constant S_ .f32 0x00000000#32)) (extractStridedSlice S8x2048x128 ![0, 15, 256] e slices_S8x2063x512_S8x2048x128_0_15_256)) (extractStridedSlice S8x2048x128 ![0, 14, 256] e slices_S8x2063x512_S8x2048x128_0_14_256)) (extractStridedSlice S8x2048x128 ![0, 13, 256] e slices_S8x2063x512_S8x2048x128_0_13_256)) (extractStridedSlice S8x2048x128 ![0, 12, 256] e slices_S8x2063x512_S8x2048x128_0_12_256)) (extractStridedSlice S8x2048x128 ![0, 11, 256] e slices_S8x2063x512_S8x2048x128_0_11_256)) (extractStridedSlice S8x2048x128 ![0, 10, 256] e slices_S8x2063x512_S8x2048x128_0_10_256)) (extractStridedSlice S8x2048x128 ![0, 9, 256] e slices_S8x2063x512_S8x2048x128_0_9_256)) (extractStridedSlice S8x2048x128 ![0, 8, 256] e slices_S8x2063x512_S8x2048x128_0_8_256)
theorem sum2_at (u : FVec Ideal S8x2048x512 .f32) (j : Fin 128) : sum2 (ext u) (ix3 b r j) = win 8 (fun s => u (ix3 b s (⟨256 + j.val, by omega⟩ : Fin 512))) r.val := by
  have e : ∀ i (hi : i < 16) (q : Fin 2063) (hq : q.val = 15 - i + r.val), ext u (ix3 b q (⟨256 + j.val, by omega⟩ : Fin 512))
      = back (fun s => u (ix3 b s (⟨256 + j.val, by omega⟩ : Fin 512))) r.val i := fun i hi q hq => ext_at b r u i hi q hq _
  generalize ext u = E at *
  unfold win
  simp only [Finset.sum_range_succ, Finset.sum_range_zero]
  pointwise [sum2]
  simp only [e 0 (by decide) (⟨15 + r.val, by omega⟩ : Fin 2063) rfl, e 1 (by decide) (⟨14 + r.val, by omega⟩ : Fin 2063) rfl, e 2 (by decide) (⟨13 + r.val, by omega⟩ : Fin 2063) rfl, e 3 (by decide) (⟨12 + r.val, by omega⟩ : Fin 2063) rfl, e 4 (by decide) (⟨11 + r.val, by omega⟩ : Fin 2063) rfl, e 5 (by decide) (⟨10 + r.val, by omega⟩ : Fin 2063) rfl, e 6 (by decide) (⟨9 + r.val, by omega⟩ : Fin 2063) rfl, e 7 (by decide) (⟨8 + r.val, by omega⟩ : Fin 2063) rfl]
/-- The sum of the last 16 rows, -/
def sum3 (e : FVec Ideal S8x2063x512 .f32) : FVec Ideal S8x2048x128 .f32 :=
  addf (addf (addf (addf (addf (addf (addf (addf (addf (addf (addf (addf (addf (addf (addf (addf (broadcastInDim S8x2048x128 ![] bcast_S_S8x2048x128 (constant S_ .f32 0x00000000#32)) (extractStridedSlice S8x2048x128 ![0, 15, 384] e slices_S8x2063x512_S8x2048x128_0_15_384)) (extractStridedSlice S8x2048x128 ![0, 14, 384] e slices_S8x2063x512_S8x2048x128_0_14_384)) (extractStridedSlice S8x2048x128 ![0, 13, 384] e slices_S8x2063x512_S8x2048x128_0_13_384)) (extractStridedSlice S8x2048x128 ![0, 12, 384] e slices_S8x2063x512_S8x2048x128_0_12_384)) (extractStridedSlice S8x2048x128 ![0, 11, 384] e slices_S8x2063x512_S8x2048x128_0_11_384)) (extractStridedSlice S8x2048x128 ![0, 10, 384] e slices_S8x2063x512_S8x2048x128_0_10_384)) (extractStridedSlice S8x2048x128 ![0, 9, 384] e slices_S8x2063x512_S8x2048x128_0_9_384)) (extractStridedSlice S8x2048x128 ![0, 8, 384] e slices_S8x2063x512_S8x2048x128_0_8_384)) (extractStridedSlice S8x2048x128 ![0, 7, 384] e slices_S8x2063x512_S8x2048x128_0_7_384)) (extractStridedSlice S8x2048x128 ![0, 6, 384] e slices_S8x2063x512_S8x2048x128_0_6_384)) (extractStridedSlice S8x2048x128 ![0, 5, 384] e slices_S8x2063x512_S8x2048x128_0_5_384)) (extractStridedSlice S8x2048x128 ![0, 4, 384] e slices_S8x2063x512_S8x2048x128_0_4_384)) (extractStridedSlice S8x2048x128 ![0, 3, 384] e slices_S8x2063x512_S8x2048x128_0_3_384)) (extractStridedSlice S8x2048x128 ![0, 2, 384] e slices_S8x2063x512_S8x2048x128_0_2_384)) (extractStridedSlice S8x2048x128 ![0, 1, 384] e slices_S8x2063x512_S8x2048x128_0_1_384)) (extractStridedSlice S8x2048x128 ![0, 0, 384] e slices_S8x2063x512_S8x2048x128_0_0_384)
theorem sum3_at (u : FVec Ideal S8x2048x512 .f32) (j : Fin 128) : sum3 (ext u) (ix3 b r j) = win 16 (fun s => u (ix3 b s (⟨384 + j.val, by omega⟩ : Fin 512))) r.val := by
  have e : ∀ i (hi : i < 16) (q : Fin 2063) (hq : q.val = 15 - i + r.val), ext u (ix3 b q (⟨384 + j.val, by omega⟩ : Fin 512))
      = back (fun s => u (ix3 b s (⟨384 + j.val, by omega⟩ : Fin 512))) r.val i := fun i hi q hq => ext_at b r u i hi q hq _
  generalize ext u = E at *
  unfold win
  simp only [Finset.sum_range_succ, Finset.sum_range_zero]
  pointwise [sum3]
  simp only [e 0 (by decide) (⟨15 + r.val, by omega⟩ : Fin 2063) rfl, e 1 (by decide) (⟨14 + r.val, by omega⟩ : Fin 2063) rfl, e 2 (by decide) (⟨13 + r.val, by omega⟩ : Fin 2063) rfl, e 3 (by decide) (⟨12 + r.val, by omega⟩ : Fin 2063) rfl, e 4 (by decide) (⟨11 + r.val, by omega⟩ : Fin 2063) rfl, e 5 (by decide) (⟨10 + r.val, by omega⟩ : Fin 2063) rfl, e 6 (by decide) (⟨9 + r.val, by omega⟩ : Fin 2063) rfl, e 7 (by decide) (⟨8 + r.val, by omega⟩ : Fin 2063) rfl, e 8 (by decide) (⟨7 + r.val, by omega⟩ : Fin 2063) rfl, e 9 (by decide) (⟨6 + r.val, by omega⟩ : Fin 2063) rfl, e 10 (by decide) (⟨5 + r.val, by omega⟩ : Fin 2063) rfl, e 11 (by decide) (⟨4 + r.val, by omega⟩ : Fin 2063) rfl, e 12 (by decide) (⟨3 + r.val, by omega⟩ : Fin 2063) rfl, e 13 (by decide) (⟨2 + r.val, by omega⟩ : Fin 2063) rfl, e 14 (by decide) (⟨1 + r.val, by omega⟩ : Fin 2063) rfl, e 15 (by decide) (⟨r.val, by omega⟩ : Fin 2063) (by show r.val = 15 - 15 + r.val; omega)]

/-- How many rows each sum has. -/
def rCnt (k : BitVec 32) : FVec Ideal S8x2048x128 .f32 :=
  broadcastInDim S8x2048x128 ![0, 1, 2] bcast_S1x2048x1_S8x2048x128_0_1_2 (broadcastInDim S1x2048x1 ![1] bcast_S2048_S1x2048x1_1 (sitofp .f32 (minsi (broadcastInDim S2048 ![] bcast_S_S2048 (constantI S_ 32 k)) (addi (iotaInDim S2048 32 0) (broadcastInDim S2048 ![] bcast_S_S2048 (constantI S_ 32 1#32))))))
theorem rCnt_at (k : BitVec 32) (j : Fin 128) : rCnt k (ix3 b r j) = cnt k r.val := by
  pointwise [rCnt]
  rfl

/-- The four groups side by side, less the channels. -/
def rDev (A B C D : FVec Ideal S8x2048x128 .f32) (u : FVec Ideal S8x2048x512 .f32) : FVec Ideal S8x2048x512 .f32 :=
  subf (concatenate S8x2048x512 2 [⟨S8x2048x128, A⟩, ⟨S8x2048x128, B⟩, ⟨S8x2048x128, C⟩, ⟨S8x2048x128, D⟩] concatenates_S8x2048x128_S8x2048x128_S8x2048x128_S8x2048x128_S8x2048x512_d2) u

section Groups
variable (A B C D : FVec Ideal S8x2048x128 .f32) (u : FVec Ideal S8x2048x512 .f32)
theorem rDev_0 (j : Fin 128) : rDev A B C D u (ix3 b r (⟨j.val, by omega⟩ : Fin 512)) = A (ix3 b r j) - u (ix3 b r (⟨j.val, by omega⟩ : Fin 512)) := by
  pointwise [rDev]
theorem rDev_1 (j : Fin 128) : rDev A B C D u (ix3 b r (⟨128 + j.val, by omega⟩ : Fin 512)) = B (ix3 b r j) - u (ix3 b r (⟨128 + j.val, by omega⟩ : Fin 512)) := by
  pointwise [rDev]
theorem rDev_2 (j : Fin 128) : rDev A B C D u (ix3 b r (⟨256 + j.val, by omega⟩ : Fin 512)) = C (ix3 b r j) - u (ix3 b r (⟨256 + j.val, by omega⟩ : Fin 512)) := by
  pointwise [rDev]
  rw [dif_neg (by omega), dif_neg (by omega), dif_pos (by omega)]
  exact congrArg (fun z => C (ix3 b r z) - _) (Fin.ext (by show 256 + j.val - 128 - 128 = j.val; omega))
theorem rDev_3 (j : Fin 128) : rDev A B C D u (ix3 b r (⟨384 + j.val, by omega⟩ : Fin 512)) = D (ix3 b r j) - u (ix3 b r (⟨384 + j.val, by omega⟩ : Fin 512)) := by
  pointwise [rDev]
  rw [dif_neg (by omega), dif_neg (by omega), dif_neg (by omega)]
  exact congrArg (fun z => D (ix3 b r z) - _) (Fin.ext (by show 384 + j.val - 128 - 128 - 128 = j.val; omega))
end Groups

/-- Each group through its matrix, -/
def rMix (e : FVec Ideal S8x2048x512 .f32) : FVec Ideal S4x128x8x2048 .f32 :=
  Host.dotGeneral dot_S4x128x128_S8x2048x4x128_S4x128x8x2048_1_3_2_01_0_2 none (shapeCast _ pw shapeCasts_S1x4x128x128_S4x128x128) (shapeCast _ e shapeCasts_S8x2048x512_S8x2048x4x128)
theorem rMix_at (e : FVec Ideal S8x2048x512 .f32) (q : Fin 4) (l : Fin 128) : rMix pw e (ix4 q l b r)
    = ∑ j : Fin 128, e (ix3 b r (⟨128 * q.val + j.val, by omega⟩ : Fin 512)) * pw (ix4 (0 : Fin 1) q j l) := by
  pointwise [rMix]
  refine Finset.sum_congr rfl fun j _ => ?_
  rw [mul_comm]
  refine congrArg (· * _) (congrArg (fun z => e (ix3 b r z)) (Fin.ext ?_))
  simp only
  omega
/-- scaled. -/
def rScale (y : FVec Ideal S4x128x8x2048 .f32) : FVec Ideal S8x2048x512 .bf16 :=
  truncf .bf16 (mulf (shapeCast _ (transpose S8x2048x4x128 [2, 3, 0, 1] y transposes_S4x128x8x2048_S8x2048x4x128_2_3_0_1) shapeCasts_S8x2048x4x128_S8x2048x512) (broadcastInDim S8x2048x512 ![0, 1, 2] bcast_S1x1x512_S8x2048x512_0_1_2 (broadcastInDim S1x1x512 ![2] bcast_S512_S1x1x512_2 (shapeCast _ ps shapeCasts_S1x512_S512)))) bitsLt_bf16_f32
theorem rScale_at (y : FVec Ideal S4x128x8x2048 .f32) (d : Fin 512) : (rScale ps y : S8x2048x512.Idx → EReal) (ix3 b r d)
    = y (ix4 (⟨d.val / 128, by omega⟩ : Fin 4) (⟨d.val % 128, by omega⟩ : Fin 128) b r) * ps (ix2 (0 : Fin 1) d) := by
  pointwise [rScale]

/-- The pooled channels. -/
def rPo : FVec Ideal S8x2048x512 .bf16 :=
  rScale ps (rMix pw (rDev (Host.divf (sum0 (ext (rU x g w))) (rCnt 2#32)) (Host.divf (sum1 (ext (rU x g w))) (rCnt 4#32))
    (Host.divf (sum2 (ext (rU x g w))) (rCnt 8#32)) (Host.divf (sum3 (ext (rU x g w))) (rCnt 16#32)) (rU x g w)))

theorem div_at (A B : FVec Ideal S8x2048x128 .f32) (j : Fin 128) : Host.divf A B (ix3 b r j) = Ideal.div (A (ix3 b r j)) (B (ix3 b r j)) := by
  pointwise []

theorem dev_0 (A B C D : FVec Ideal S8x2048x128 .f32) (hA : A = Host.divf (sum0 (ext (rU x g w))) (rCnt 2#32)) (j : Fin 128) :
    rDev A B C D (rU x g w) (ix3 b r (⟨128 * ((0 : Fin 4)).val + j.val, by have := j.isLt; show 128 * 0 + j.val < 512; omega⟩ : Fin 512))
      = dev 2 (fun s => proj x g w b s ⟨128 * ((0 : Fin 4)).val + j.val, by have := j.isLt; show 128 * 0 + j.val < 2304; omega⟩) r := by
  have e1 : (⟨128 * ((0 : Fin 4)).val + j.val, by have := j.isLt; show 128 * 0 + j.val < 512; omega⟩ : Fin 512) = ⟨j.val, by omega⟩ := Fin.ext (by show 128 * 0 + j.val = _; simp only; omega)
  have e2 : (⟨128 * ((0 : Fin 4)).val + j.val, by have := j.isLt; show 128 * 0 + j.val < 2304; omega⟩ : Fin 2304) = ⟨j.val, by omega⟩ := Fin.ext (by show 128 * 0 + j.val = _; simp only; omega)
  rw [e1, e2, rDev_0, hA, div_at, sum0_at, rCnt_at]
  simp only [rU_at]
  rfl
theorem dev_1 (A B C D : FVec Ideal S8x2048x128 .f32) (hB : B = Host.divf (sum1 (ext (rU x g w))) (rCnt 4#32)) (j : Fin 128) :
    rDev A B C D (rU x g w) (ix3 b r (⟨128 * ((1 : Fin 4)).val + j.val, by have := j.isLt; show 128 * 1 + j.val < 512; omega⟩ : Fin 512))
      = dev 4 (fun s => proj x g w b s ⟨128 * ((1 : Fin 4)).val + j.val, by have := j.isLt; show 128 * 1 + j.val < 2304; omega⟩) r := by
  have e1 : (⟨128 * ((1 : Fin 4)).val + j.val, by have := j.isLt; show 128 * 1 + j.val < 512; omega⟩ : Fin 512) = ⟨128 + j.val, by omega⟩ := Fin.ext (by show 128 * 1 + j.val = _; simp only)
  have e2 : (⟨128 * ((1 : Fin 4)).val + j.val, by have := j.isLt; show 128 * 1 + j.val < 2304; omega⟩ : Fin 2304) = ⟨128 + j.val, by omega⟩ := Fin.ext (by show 128 * 1 + j.val = _; simp only)
  rw [e1, e2, rDev_1, hB, div_at, sum1_at, rCnt_at]
  simp only [rU_at]
  rfl
theorem dev_2 (A B C D : FVec Ideal S8x2048x128 .f32) (hC : C = Host.divf (sum2 (ext (rU x g w))) (rCnt 8#32)) (j : Fin 128) :
    rDev A B C D (rU x g w) (ix3 b r (⟨128 * ((2 : Fin 4)).val + j.val, by have := j.isLt; show 128 * 2 + j.val < 512; omega⟩ : Fin 512))
      = dev 8 (fun s => proj x g w b s ⟨128 * ((2 : Fin 4)).val + j.val, by have := j.isLt; show 128 * 2 + j.val < 2304; omega⟩) r := by
  have e1 : (⟨128 * ((2 : Fin 4)).val + j.val, by have := j.isLt; show 128 * 2 + j.val < 512; omega⟩ : Fin 512) = ⟨256 + j.val, by omega⟩ := Fin.ext (by show 128 * 2 + j.val = _; simp only)
  have e2 : (⟨128 * ((2 : Fin 4)).val + j.val, by have := j.isLt; show 128 * 2 + j.val < 2304; omega⟩ : Fin 2304) = ⟨256 + j.val, by omega⟩ := Fin.ext (by show 128 * 2 + j.val = _; simp only)
  rw [e1, e2, rDev_2, hC, div_at, sum2_at, rCnt_at]
  simp only [rU_at]
  rfl
theorem dev_3 (A B C D : FVec Ideal S8x2048x128 .f32) (hD : D = Host.divf (sum3 (ext (rU x g w))) (rCnt 16#32)) (j : Fin 128) :
    rDev A B C D (rU x g w) (ix3 b r (⟨128 * ((3 : Fin 4)).val + j.val, by have := j.isLt; show 128 * 3 + j.val < 512; omega⟩ : Fin 512))
      = dev 16 (fun s => proj x g w b s ⟨128 * ((3 : Fin 4)).val + j.val, by have := j.isLt; show 128 * 3 + j.val < 2304; omega⟩) r := by
  have e1 : (⟨128 * ((3 : Fin 4)).val + j.val, by have := j.isLt; show 128 * 3 + j.val < 512; omega⟩ : Fin 512) = ⟨384 + j.val, by omega⟩ := Fin.ext (by show 128 * 3 + j.val = _; simp only)
  have e2 : (⟨128 * ((3 : Fin 4)).val + j.val, by have := j.isLt; show 128 * 3 + j.val < 2304; omega⟩ : Fin 2304) = ⟨384 + j.val, by omega⟩ := Fin.ext (by show 128 * 3 + j.val = _; simp only)
  rw [e1, e2, rDev_3, hD, div_at, sum3_at, rCnt_at]
  simp only [rU_at]
  rfl
theorem rPo_at (d : Fin 512) : (rPo x g w pw ps : S8x2048x512.Idx → EReal) (ix3 b r d)
    = pooled x g w pw ps b r ⟨d.val / 128, by omega⟩ ⟨d.val % 128, by omega⟩ := by
  unfold rPo
  rw [rScale_at, rMix_at]
  unfold pooled group
  have hd : (⟨128 * (d.val / 128) + d.val % 128, by omega⟩ : Fin 512) = d := Fin.ext (Nat.div_add_mod ..)
  refine congrArg₂ (· * ·) (Finset.sum_congr rfl fun j _ => congrArg (· * _) ?_) (congrArg (fun z => ps (ix2 (0 : Fin 1) z)) hd.symm)
  generalize (⟨d.val / 128, by omega⟩ : Fin 4) = q
  match q with
  | 0 => exact dev_0 x g w b r _ _ _ _ rfl j
  | 1 => exact dev_1 x g w b r _ _ _ _ rfl j
  | 2 => exact dev_2 x g w b r _ _ _ _ rfl j
  | 3 => exact dev_3 x g w b r _ _ _ _ rfl j

/-- The last row of the shift's input -/
def rPl : FVec Ideal S8x1x1792 .f32 := extractStridedSlice S8x1x1792 ![0, 2047, 0] (rV x g w) slices_S8x2048x1792_S8x1x1792_0_2047_0
theorem rPl_at (d : Fin 1792) : rPl x g w (ix3 b (0 : Fin 1) d) = proj x g w b ⟨2047, by decide⟩ ⟨512 + d.val, by omega⟩ := by
  pointwise [rPl]
  exact rV_at x g w b _ d
/-- and the last sixteen of the pooling's. -/
def rUl : FVec Ideal S8x16x512 .f32 := extractStridedSlice S8x16x512 ![0, 2032, 0] (rU x g w) slices_S8x2048x512_S8x16x512_0_2032_0
theorem rUl_at (n : Fin 16) (d : Fin 512) : rUl x g w (ix3 b n d) = proj x g w b ⟨2032 + n.val, by omega⟩ ⟨d.val, by omega⟩ := by
  pointwise [rUl]
  exact rU_at x g w b _ d

/-! ## The results -/

theorem sh_fun : rSh x g w mu = fun i : S8x2048x1792.Idx => shifted x g w mu (i 0) (i 1) (i 2) := by
  funext i
  obtain ⟨b, r, d, rfl⟩ : ∃ (b : Fin 8) (r : Fin 2048) (d : Fin 1792), i = ix3 b r d := ⟨_, _, _, eq_ix3 i⟩
  exact rSh_at x g w mu b r d
theorem po_fun : (rPo x g w pw ps : S8x2048x512.Idx → EReal) = fun i : S8x2048x512.Idx =>
    pooled x g w pw ps (i 0) (i 1) ⟨(i 2).val / 128, Nat.div_lt_of_lt_mul (i 2).isLt⟩ ⟨(i 2).val % 128, Nat.mod_lt _ (by decide)⟩ := by
  funext i
  obtain ⟨b, r, d, rfl⟩ : ∃ (b : Fin 8) (r : Fin 2048) (d : Fin 512), i = ix3 b r d := ⟨_, _, _, eq_ix3 i⟩
  exact rPo_at x g w pw ps b r d
theorem pl_fun : rPl x g w = fun i : S8x1x1792.Idx => proj x g w (i 0) ⟨2047, by decide⟩ ⟨512 + (i 2).val, Nat.add_lt_add_left (i 2).isLt 512⟩ := by
  funext i
  obtain ⟨b, z, d, rfl⟩ : ∃ (b : Fin 8) (z : Fin 1) (d : Fin 1792), i = ix3 b z d := ⟨_, _, _, eq_ix3 i⟩
  obtain rfl : z = 0 := Subsingleton.elim _ _
  exact rPl_at x g w b d
theorem ul_fun : rUl x g w = fun i : S8x16x512.Idx => proj x g w (i 0) ⟨2032 + (i 1).val, Nat.add_lt_add_left (i 1).isLt 2032⟩ ⟨(i 2).val, (i 2).isLt.trans (by decide)⟩ := by
  funext i
  obtain ⟨b, n, d, rfl⟩ : ∃ (b : Fin 8) (n : Fin 16) (d : Fin 512), i = ix3 b n d := ⟨_, _, _, eq_ix3 i⟩
  exact rUl_at x g w b n d

variable (m : (ℓ : Loc nD τ sig) → Buf (Elt Ideal) ℓ) (c : Dev nD)
/-- The run's pooled term is this one. -/
theorem res_po : res_main_v137 m c = rPo (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  unfold res_main_v137
  rfl

end Cert.Reference3Ideal.Pool

end
-- ==== Proof.lean ====
/-
  The proof of `Cert.Claim`: each of the three kernels and its idealization run to the end with their arguments unchanged and every
  semaphore at zero, so do the references, and over the extended reals each kernel's results are its reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Run
public import proofs.«01_k».proof.Proof.Answer
public import proofs.«01_k».proof.Proof.MlpEnd
public import proofs.«01_k».proof.Proof.MlpRef
public import proofs.«01_k».proof.Proof.PoolEnd
public import proofs.«01_k».proof.Proof.PoolRef
public import Idealize.ShloMosaic.Lib.Quiescent

@[expose] public section

set_option maxRecDepth 16384

noncomputable section

namespace Cert.Proof

open Idealize.ShloMosaic Idealize.ShloMosaic.TcCoe Idealize.SL.Sem
open Cert.KernelIdeal.Decode (run_main)
open Cert.ReferenceIdeal.Decode (resNew_eq resOut_eq)

theorem frame_kernelIdeal : Cert.quiescent_KernelIdeal := fun m g _ =>
  (θ_run Cert.KernelIdeal.defs _ _).mono (fun _ h => ⟨fun c => (h.1 c).2.2, h.2⟩) (run_main m g)

set_option maxHeartbeats 8000000 in
/-- The kernel's text is its idealization's, read over the machine's floats. -/
theorem frame_kernel : Cert.quiescent_Kernel := fun m g _ =>
  (θ_run Cert.KernelIdeal.defs _ _).mono (fun _ h => ⟨fun c => (h.1 c).2.2, h.2⟩) (run_main (F := Bits) m g)

theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

theorem algebraic : Cert.algebraic_KernelIdeal_ReferenceIdeal := fun m g m' g' _ hag =>
  ⟨fun c => Cert.KernelIdeal.Decode.resNew m c, fun c => Cert.KernelIdeal.Decode.resOut m c,
    (θ_run Cert.KernelIdeal.defs _ _).mono (fun _ h => h.1) (run_main m g),
    (θ_run Cert.ReferenceIdeal.defs _ _).mono (fun r h c => by
      obtain ⟨h0, h1, hargs⟩ := h c
      obtain ⟨a0, a1, a2, a3, a4, a5, a6⟩ := hag c
      refine ⟨h0.trans ?_, h1.trans ?_, hargs⟩
      · rw [a0, a1, a3, a4, a5, a6]
        exact (resNew_eq m c).symm
      · rw [a0, a2]
        exact (resOut_eq m c).symm) (Cert.ReferenceIdeal.Value.run m' g')⟩

theorem frame_kernel2Ideal : Cert.quiescent_Kernel2Ideal := fun m g _ =>
  (θ_run Cert.Kernel2Ideal.defs _ _).mono (fun _ h => ⟨fun c => (h.1 c).2.2, h.2⟩) (Cert.Kernel2Ideal.Mlp.run_main m g)

set_option maxHeartbeats 8000000 in
/-- At the one label the two body tables run the same text. -/
theorem body_eq (t : Fin Cert.Kernel2.grid0.N) (s : (w : Fin 18) → Fin (Cert.Kernel2.win0 w).nbuf) :
    Cert.Kernel2.defs₀ (F := Bits) .tc ⟨0, by decide⟩ (t, s) = Cert.Kernel2Ideal.defs₀ (F := Bits) .tc ⟨0, by decide⟩ (t, s) := rfl

set_option maxHeartbeats 8000000 in
theorem bodies_eq : Cert.Kernel2.defs₀ (F := Bits) = Cert.Kernel2Ideal.defs₀ (F := Bits) := by
  funext k l x
  cases k with
  | tc =>
    match l, x with
    | 0, (t, s) => exact body_eq t s
  | scScalar _ => rfl
  | scVector _ _ => rfl

set_option maxHeartbeats 8000000 in
theorem defs_eq : Cert.Kernel2.defs (F := Bits) = Cert.Kernel2Ideal.defs (F := Bits) :=
  congrArg (Pipeline.defs Cert.Kernel2.pcfgs) bodies_eq

set_option maxHeartbeats 8000000 in
theorem main_eq : Cert.Kernel2.main (F := Bits) = Cert.Kernel2Ideal.main (F := Bits) := rfl

set_option maxHeartbeats 8000000 in
/-- The second kernel's text is its idealization's, read over the machine's floats. -/
theorem frame_kernel2 : Cert.quiescent_Kernel2 := fun m g _ => by
  rw [defs_eq, main_eq]
  exact (θ_run (Cert.Kernel2Ideal.defs (F := Bits)) _ _).mono (fun _ h => ⟨fun c => (h.1 c).2.2, h.2⟩) (Cert.Kernel2Ideal.Mlp.run_main (F := Bits) m g)

theorem frame_reference2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

theorem algebraic2 : Cert.algebraic_Kernel2Ideal_Reference2Ideal := fun m g m' g' _ hag =>
  ⟨fun c => Cert.Kernel2Ideal.Mlp.resY m c, fun c => Cert.Kernel2Ideal.Mlp.resS m c,
    (θ_run Cert.Kernel2Ideal.defs _ _).mono (fun _ h c => by
      obtain ⟨h0, h1, hargs⟩ := h.1 c
      exact ⟨h0.trans (Cert.Kernel2Ideal.Mlp.final_y m c), h1.trans (Cert.Kernel2Ideal.Mlp.final_s m c), hargs⟩) (Cert.Kernel2Ideal.Mlp.run_main m g),
    (θ_run Cert.Reference2Ideal.defs _ _).mono (fun r h c => by
      obtain ⟨h0, h1, hargs⟩ := h c
      obtain ⟨a0, a1, a2, a3, a4, a5, a6, a7, a8, a9, a10, a11, a12, a13, a14, a15, a16, a17, a18⟩ := hag c
      refine ⟨h0.trans ?_, h1.trans ?_, hargs⟩
      · refine (Cert.Reference2Ideal.Mlp.resY_eq m' c).trans ?_
        rw [a0, a1, a2, a14, a15, a16, a17, a18]
        rfl
      · refine (Cert.Reference2Ideal.Mlp.resS_eq m' c).trans ?_
        rw [a3, a4, a5, a6, a7, a8, a9, a10, a11, a12, a13, a14, a15, a16, a17, a18]
        rfl) (Cert.Reference2Ideal.Value.run m' g')⟩

theorem frame_kernel3Ideal : Cert.quiescent_Kernel3Ideal := fun m g _ =>
  (θ_run Cert.Kernel3Ideal.defs _ _).mono (fun _ h => ⟨fun c => (h.1 c).2.2.2.2, h.2⟩) (Cert.Kernel3Ideal.Pool.run_main m g)

set_option maxHeartbeats 8000000 in
/-- At the one label the third kernel's two body tables run the same text. -/
theorem body_eq3 (t : Fin Cert.Kernel3.grid0.N) (s : (w : Fin 17) → Fin (Cert.Kernel3.win0 w).nbuf) :
    Cert.Kernel3.defs₀ (F := Bits) .tc ⟨0, by decide⟩ (t, s) = Cert.Kernel3Ideal.defs₀ (F := Bits) .tc ⟨0, by decide⟩ (t, s) := rfl

set_option maxHeartbeats 8000000 in
theorem bodies_eq3 : Cert.Kernel3.defs₀ (F := Bits) = Cert.Kernel3Ideal.defs₀ (F := Bits) := by
  funext k l x
  cases k with
  | tc =>
    match l, x with
    | 0, (t, s) => exact body_eq3 t s
  | scScalar _ => rfl
  | scVector _ _ => rfl

set_option maxHeartbeats 8000000 in
theorem defs_eq3 : Cert.Kernel3.defs (F := Bits) = Cert.Kernel3Ideal.defs (F := Bits) :=
  congrArg (Pipeline.defs Cert.Kernel3.pcfgs) bodies_eq3

set_option maxHeartbeats 8000000 in
theorem main_eq3 : Cert.Kernel3.main (F := Bits) = Cert.Kernel3Ideal.main (F := Bits) := rfl

set_option maxHeartbeats 8000000 in
/-- The third kernel's text is its idealization's, read over the machine's floats. -/
theorem frame_kernel3 : Cert.quiescent_Kernel3 := fun m g _ => by
  rw [defs_eq3, main_eq3]
  exact (θ_run (Cert.Kernel3Ideal.defs (F := Bits)) _ _).mono (fun _ h => ⟨fun c => (h.1 c).2.2.2.2, h.2⟩) (Cert.Kernel3Ideal.Pool.run_main (F := Bits) m g)

theorem frame_reference3 : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run m g)

theorem algebraic3 : Cert.algebraic_Kernel3Ideal_Reference3Ideal := fun m g m' g' _ hag =>
  ⟨fun c => Cert.Kernel3Ideal.Pool.resSh m c, fun c => Cert.Kernel3Ideal.Pool.resPo m c, fun c => Cert.Kernel3Ideal.Pool.resPl m c,
    fun c => Cert.Kernel3Ideal.Pool.resUl m c,
    (θ_run Cert.Kernel3Ideal.defs _ _).mono (fun _ h c => by
      obtain ⟨h0, h1, h2, h3, hargs⟩ := h.1 c
      exact ⟨h0.trans (Cert.Kernel3Ideal.Pool.final_9 m c), h1.trans (Cert.Kernel3Ideal.Pool.final_10 m c), h2.trans (Cert.Kernel3Ideal.Pool.final_11 m c),
        h3.trans (Cert.Kernel3Ideal.Pool.final_12 m c), hargs⟩) (Cert.Kernel3Ideal.Pool.run_main m g),
    (θ_run Cert.Reference3Ideal.defs _ _).mono (fun r h c => by
      obtain ⟨h0, h1, h2, h3, hargs⟩ := h c
      obtain ⟨a0, a1, a2, a3, a4, a5, a6, a7, a8⟩ := hag c
      refine ⟨h0.trans ?_, h1.trans ?_, h2.trans ?_, h3.trans ?_, hargs⟩
      · refine (Cert.Reference3Ideal.Pool.sh_fun (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))).trans ?_
        rw [a0, a1, a2, a3]
        rfl
      · refine (Cert.Reference3Ideal.Pool.res_po m' c).trans ((Cert.Reference3Ideal.Pool.po_fun (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))).trans ?_)
        rw [a0, a1, a2, a4, a5]
        rfl
      · refine (Cert.Reference3Ideal.Pool.pl_fun (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans ?_
        rw [a0, a1, a2]
        rfl
      · refine (Cert.Reference3Ideal.Pool.ul_fun (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans ?_
        rw [a0, a1, a2]
        rfl) (Cert.Reference3Ideal.Value.run m' g')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    frame_kernel, frame_kernelIdeal, frame_reference, frame_kernel2, frame_kernel2Ideal, frame_reference2,
    frame_kernel3, frame_kernel3Ideal, frame_reference3, trivial, algebraic, trivial, algebraic2, trivial, algebraic3⟩

end Cert.Proof
